-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v2) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_v24) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_1)) (v1 : (c : Dev Cert.Kernel4Ideal.nD) → Buf (Elt Ideal) ((c.tc : Thread Cert.Kernel4Ideal.nD Cert.Kernel4Ideal.τ).loc Cert.Kernel4Ideal.main_v2)) (v2 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_1) = v0 c
          ∧ r.2.mem ((c.tc : Thread Cert.Kernel4Ideal.nD Cert.Kernel4Ideal.τ).loc Cert.Kernel4Ideal.main_v2) = v1 c
          ∧ r.2.mem ((c.tc : Thread Cert.Kernel4Ideal.nD Cert.Kernel4Ideal.τ).loc Cert.Kernel4Ideal.main_v1_1) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_v68) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v30)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v30) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v75) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v9_0)) (v2 : (c : Dev Cert.Kernel7Ideal.nD) → Buf (Elt Ideal) ((c.tc : Thread Cert.Kernel7Ideal.nD Cert.Kernel7Ideal.τ).loc Cert.Kernel7Ideal.main_v9_1)) (v3 : (c : Dev Cert.Kernel7Ideal.nD) → Buf (Elt Ideal) ((c.tc : Thread Cert.Kernel7Ideal.nD Cert.Kernel7Ideal.τ).loc Cert.Kernel7Ideal.main_v9_2)) (v4 : (c : Dev Cert.Kernel7Ideal.nD) → Buf (Elt Ideal) ((c.tc : Thread Cert.Kernel7Ideal.nD Cert.Kernel7Ideal.τ).loc Cert.Kernel7Ideal.main_v9_3)) (v5 : (c : Dev Cert.Kernel7Ideal.nD) → Buf (Elt Ideal) ((c.tc : Thread Cert.Kernel7Ideal.nD Cert.Kernel7Ideal.τ).loc Cert.Kernel7Ideal.main_v9_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v9_0) = v1 c
          ∧ r.2.mem ((c.tc : Thread Cert.Kernel7Ideal.nD Cert.Kernel7Ideal.τ).loc Cert.Kernel7Ideal.main_v9_1) = v2 c
          ∧ r.2.mem ((c.tc : Thread Cert.Kernel7Ideal.nD Cert.Kernel7Ideal.τ).loc Cert.Kernel7Ideal.main_v9_2) = v3 c
          ∧ r.2.mem ((c.tc : Thread Cert.Kernel7Ideal.nD Cert.Kernel7Ideal.τ).loc Cert.Kernel7Ideal.main_v9_3) = v4 c
          ∧ r.2.mem ((c.tc : Thread Cert.Kernel7Ideal.nD Cert.Kernel7Ideal.τ).loc Cert.Kernel7Ideal.main_v9_4) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v126) = v0 c
          ∧ r.2.mem ((c.tc : Thread Cert.Reference7Ideal.nD Cert.Reference7Ideal.τ).loc Cert.Reference7Ideal.main_v127) = v1 c
          ∧ r.2.mem ((c.tc : Thread Cert.Reference7Ideal.nD Cert.Reference7Ideal.τ).loc Cert.Reference7Ideal.main_v128) = v2 c
          ∧ r.2.mem ((c.tc : Thread Cert.Reference7Ideal.nD Cert.Reference7Ideal.τ).loc Cert.Reference7Ideal.main_v130) = v3 c
          ∧ r.2.mem ((c.tc : Thread Cert.Reference7Ideal.nD Cert.Reference7Ideal.τ).loc Cert.Reference7Ideal.main_v125) = v4 c
          ∧ r.2.mem ((c.tc : Thread Cert.Reference7Ideal.nD Cert.Reference7Ideal.τ).loc Cert.Reference7Ideal.main_v77) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v35) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v29)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v29) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite6 : Cert.Pre_finite6.Facts) (hPre_finite7 : Cert.Pre_finite7.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4096x2048 : Shape := ⟨2, ![4096, 2048]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_

variable [Facts]

def fn {F : FTy → Type} [FloatOps F] (main_arg0 : FVec F S4096x2048 .bf16) (main_arg1 : FVec F S5632x2048 .bf16) (main_arg2 : FVec F S5632x2048 .bf16) (main_arg3 : FVec F S5632x2048 .bf16) (main_arg4 : FVec F S4096x2048 .bf16) : IVec S_ 1 × IVec S_ 1 × IVec S_ 1 × IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S5632x2048 .bf16 := Host.absf main_arg2
  let main_cst_0 : FVec F S_ .bf16 := constant S_ .bf16 0x7F80#16
  let main_v5 : FVec F S5632x2048 .bf16 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : FVec F S5632x2048 .bf16 := Host.absf main_arg3
  let main_cst_2 : FVec F S_ .bf16 := constant S_ .bf16 0x7F80#16
  let main_v9 : FVec F S5632x2048 .bf16 := broadcastInDim S5632x2048 ![] bcast_S_S5632x2048 main_cst_2
  let main_v10 : IVec S5632x2048 1 := cmpf .olt main_v8 main_v9
  let main_c_3 : IVec S_ 1 := constantI S_ 1 1#1
  let main_v11 : IVec S_ 1 := (fun x v => Host.reduce IntOp.andi x v reducesTo_S5632x2048_S_d0_1 h_S_) main_v10 main_c_3
  let main_v12 : FVec F S4096x2048 .bf16 := Host.absf main_arg4
  let main_cst_4 : FVec F S_ .bf16 := constant S_ .bf16 0x7F80#16
  let main_v13 : FVec F S4096x2048 .bf16 := broadcastInDim S4096x2048 ![] bcast_S_S4096x2048 main_cst_4
  let main_v14 : IVec S4096x2048 1 := cmpf .olt main_v12 main_v13
  let main_c_5 : IVec S_ 1 := constantI S_ 1 1#1
  let main_v15 : IVec S_ 1 := (fun x v => Host.reduce IntOp.andi x v reducesTo_S4096x2048_S_d0_1 h_S_) main_v14 main_c_5
  (main_v3, main_v7, main_v11, main_v15)
-- ==== Pre_finite10.lean ====
abbrev S4096x3072 : Shape := ⟨2, ![4096, 3072]⟩
abbrev S4096x1024 : Shape := ⟨2, ![4096, 1024]⟩
abbrev S_ : Shape := ⟨0, ![]⟩

class Facts : Prop where
  slices_S4096x3072_S4096x1024_0_2048 : S4096x3072.Slices ![0, 2048] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x3072 .bf16) : IVec S_ 1 :=
  let main_v0 : FVec F S4096x1024 .bf16 := (extractStridedSlice S4096x1024 ![0, 2048] · slices_S4096x3072_S4096x1024_0_2048) main_arg0
  let main_v1 : FVec F S4096x1024 .bf16 := Host.absf main_v0
  let main_cst : FVec F S_ .bf16 := constant S_ .bf16 0x7F80#16
  let main_v2 : FVec F S4096x1024 .bf16 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  main_v4
-- ==== Pre_finite6.lean ====
abbrev S4096x3072 : Shape := ⟨2, ![4096, 3072]⟩
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x3072 .bf16) (main_arg1 : FVec F S4096x1024 .bf16) (main_arg2 : FVec F S4096x1024 .bf16) (main_arg3 : FVec F S4096x1024 .bf16) : IVec S_ 1 :=
  let main_v0 : FVec F S4096x1024 .bf16 := Host.absf main_arg2
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite7.lean ====
abbrev S4096x1024 : Shape := ⟨2, ![4096, 1024]⟩
abbrev S1024 : Shape := ⟨1, ![1024]⟩
abbrev S4096x3072 : Shape := ⟨2, ![4096, 3072]⟩
abbrev S4x256x256 : Shape := ⟨3, ![4, 256, 256]⟩
abbrev S4096x2048 : Shape := ⟨2, ![4096, 2048]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x1024 .f32) (main_arg1 : FVec F S1024 .f32) (main_arg2 : FVec F S4096x1024 .bf16) (main_arg3 : FVec F S4096x3072 .bf16) (main_arg4 : FVec F S1024 .f32) (main_arg5 : FVec F S1024 .f32) (main_arg6 : FVec F S4x256x256 .f32) (main_arg7 : FVec F S1024 .f32) (main_arg8 : FVec F S4096x2048 .bf16) : IVec S_ 1 × IVec S_ 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S4096x2048 .bf16 := Host.absf main_arg8
  let main_cst_0 : FVec F S_ .bf16 := constant S_ .bf16 0x7F80#16
  let main_v5 : FVec F S4096x2048 .bf16 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  (main_v3, main_v7)
-- ==== Kernel.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 10
  | .vmem => 24
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S5632x2048, .bf16⟩
  | .hbm, ⟨3, _⟩ => ⟨S5632x2048, .bf16⟩
  | .hbm, ⟨4, _⟩ => ⟨S4096x2048, .bf16⟩
  | .hbm, ⟨5, _⟩ => ⟨S4096x5632, .bf16⟩
  | .hbm, ⟨6, _⟩ => ⟨S4096x5632, .bf16⟩
  | .hbm, ⟨7, _⟩ => ⟨S4096x5632, .bf16⟩
  | .hbm, ⟨8, _⟩ => ⟨S4096x5632, .bf16⟩
  | .hbm, ⟨9, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x2048, .bf16⟩
  | .local _ .vmem, ⟨13, _⟩ => ⟨S1024x2048, .bf16⟩
  | .local _ .vmem, ⟨14, _⟩ => ⟨S512x2048, .bf16⟩
  | .local _ .vmem, ⟨15, _⟩ => ⟨S512x2048, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S4096x2048 : Shape := ⟨2, ![4096, 2048]⟩
abbrev S5632x2048 : Shape := ⟨2, ![5632, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S5632x2048, .bf16⟩
  | .hbm, ⟨3, _⟩ => ⟨S5632x2048, .bf16⟩
  | .hbm, ⟨4, _⟩ => ⟨S4096x2048, .bf16⟩
  | .hbm, ⟨5, _⟩ => ⟨S4096x2048, .f32⟩
  | .hbm, ⟨6, _⟩ => ⟨S5632x2048, .f32⟩
  | .hbm, ⟨7, _⟩ => ⟨S5632x2048, .f32⟩
  | .hbm, ⟨8, _⟩ => ⟨S5632x2048, .f32⟩
  | .hbm, ⟨9, _⟩ => ⟨S4096x2048, .f32⟩
  | .hbm, ⟨10, _⟩ => ⟨S2048x5632, .f32⟩
  | .hbm, ⟨11, _⟩ => ⟨S4096x5632, .f32⟩
  | .hbm, ⟨12, _⟩ => ⟨S2048x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S_, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .bf16⟩
  | .hbm, ⟨37, _⟩ => ⟨S4096x5632, .bf16⟩
  | .hbm, ⟨38, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v9_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v9_1 : Ref sig .tc := ⟨.hbm, 25, rfl⟩
abbrev main_v9_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== Kernel2.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_16 : BitVec 32 := 0#32
  let v37 : BitVec 1 := Scalar.cmpi .ne v36 c0_i32_16
  v37

def k0_cond2 (i : grid0.Coords) : BitVec 1 :=
  let arg0 : BitVec 32 := BitVec.ofNat 32 (i 0).val
  let c0_i32_17 : BitVec 32 := 0#32
  let v38 : BitVec 1 := Scalar.cmpi .sgt arg0 c0_i32_17
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel3.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_cst : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_21 : BitVec 32 := 0#32
  let v56 : BitVec 1 := Scalar.cmpi .ne v55 c0_i32_21
  v56

def k0_cond2 (i : grid0.Coords) : BitVec 1 :=
  let arg0 : BitVec 32 := BitVec.ofNat 32 (i 0).val
  let c0_i32_22 : BitVec 32 := 0#32
  let v57 : BitVec 1 := Scalar.cmpi .sgt arg0 c0_i32_22
  let v58 : BitVec 32 := Scalar.extui v57
  let c0_i32_23 : BitVec 32 := 0#32
  let v59 : BitVec 1 := Scalar.cmpi .ne v58 c0_i32_23
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | .hbm, ⟨72, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel4.lean ====
abbrev S4096x6144 : Shape := ⟨2, ![4096, 6144]⟩
abbrev S3x2048 : Shape := ⟨2, ![3, 2048]⟩
abbrev S4096x2048 : Shape := ⟨2, ![4096, 2048]⟩
abbrev S1024x512 : Shape := ⟨2, ![1024, 512]⟩
abbrev S8x512 : Shape := ⟨2, ![8, 512]⟩
abbrev S3x512 : Shape := ⟨2, ![3, 512]⟩
abbrev S1032x512 : Shape := ⟨2, ![1032, 512]⟩
abbrev S136x128 : Shape := ⟨2, ![136, 128]⟩
abbrev S128x128 : Shape := ⟨2, ![128, 128]⟩
abbrev S1x128 : Shape := ⟨2, ![1, 128]⟩
abbrev S128 : Shape := ⟨1, ![128]⟩
abbrev S256x6144 : Shape := ⟨2, ![256, 6144]⟩
abbrev S256x2048 : Shape := ⟨2, ![256, 2048]⟩

abbrev nBuf : Space → Nat
  | .hbm => 8
  | .vmem => 51
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S3x2048, .f32⟩
  | .hbm, ⟨7, _⟩ => ⟨S4096x6144, .bf16⟩
  | .local _ .vmem, ⟨0, _⟩ => ⟨S1024x512, .bf16⟩
  | .local _ .vmem, ⟨1, _⟩ => ⟨S1024x512, .bf16⟩
  | .local _ .vmem, ⟨2, _⟩ => ⟨S8x512, .bf16⟩
  | .local _ .vmem, ⟨3, _⟩ => ⟨S8x512, .bf16⟩
  | .local _ .vmem, ⟨4, _⟩ => ⟨S1024x512, .bf16⟩
  | .local _ .vmem, ⟨5, _⟩ => ⟨S1024x512, .bf16⟩
  | .local _ .vmem, ⟨6, _⟩ => ⟨S8x512, .bf16⟩
  | .local _ .vmem, ⟨7, _⟩ => ⟨S8x512, .bf16⟩
  | .local _ .vmem, ⟨8, _⟩ => ⟨S3x512, .f32⟩
  | .local _ .vmem, ⟨9, _⟩ => ⟨S3x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1032x512, .f32⟩
  | .local _ .vmem, ⟨17, _⟩ => ⟨S1024x512, .bf16⟩
  | .local _ .vmem, ⟨18, _⟩ => ⟨S1024x512, .bf16⟩
  | .local _ .vmem, ⟨19, _⟩ => ⟨S8x512, .bf16⟩
  | .local _ .vmem, ⟨20, _⟩ => ⟨S8x512, .bf16⟩
  | .local _ .vmem, ⟨21, _⟩ => ⟨S1024x512, .bf16⟩
  | .local _ .vmem, ⟨22, _⟩ => ⟨S1024x512, .bf16⟩
  | .local _ .vmem, ⟨23, _⟩ => ⟨S8x512, .bf16⟩
  | .local _ .vmem, ⟨24, _⟩ => ⟨S8x512, .bf16⟩
  | .local _ .vmem, ⟨25, _⟩ => ⟨S1024x512, .bf16⟩
  | .local _ .vmem, ⟨26, _⟩ => ⟨S1024x512, .bf16⟩
  | .local _ .vmem, ⟨27, _⟩ => ⟨S8x512, .bf16⟩
  | .local _ .vmem, ⟨28, _⟩ => ⟨S8x512, .bf16⟩
  | .local _ .vmem, ⟨29, _⟩ => ⟨S1024x512, .bf16⟩
  | .local _ .vmem, ⟨30, _⟩ => ⟨S1024x512, .bf16⟩
  | .local _ .vmem, ⟨31, _⟩ => ⟨S8x512, .bf16⟩
  | .local _ .vmem, ⟨32, _⟩ => ⟨S8x512, .bf16⟩
  | .local _ .vmem, ⟨33, _⟩ => ⟨S3x512, .f32⟩
  | .local _ .vmem, ⟨34, _⟩ => ⟨S3x512, .f32⟩
  | .local _ .vmem, ⟨35, _⟩ => ⟨S1024x512, .bf16⟩
  | .local _ .vmem, ⟨36, _⟩ => ⟨S1024x512, .bf16⟩
  | .local _ .vmem, ⟨37, _⟩ => ⟨S3x512, .f32⟩
  | .local _ .vmem, ⟨38, _⟩ => ⟨S3x512, .f32⟩
  | .local _ .vmem, ⟨39, _⟩ => ⟨S1032x512, .f32⟩
  | .local _ .vmem, ⟨40, _⟩ => ⟨S1032x512, .f32⟩
  | .local _ .vmem, ⟨41, _⟩ => ⟨S256x6144, .bf16⟩
  | .local _ .vmem, ⟨42, _⟩ => ⟨S256x6144, .bf16⟩
  | .local _ .vmem, ⟨43, _⟩ => ⟨S256x2048, .bf16⟩
  | .local _ .vmem, ⟨44, _⟩ => ⟨S256x2048, .bf16⟩
  | .local _ .vmem, ⟨45, _⟩ => ⟨S256x2048, .bf16⟩
  | .local _ .vmem, ⟨46, _⟩ => ⟨S256x2048, .bf16⟩
  | .local _ .vmem, ⟨47, _⟩ => ⟨S256x2048, .bf16⟩
  | .local _ .vmem, ⟨48, _⟩ => ⟨S256x2048, .bf16⟩
  | .local _ .vmem, ⟨49, _⟩ => ⟨S256x6144, .bf16⟩
  | .local _ .vmem, ⟨50, _⟩ => ⟨S256x6144, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_scratch0 : Ref sig .tc := ⟨.vmem, 39, rfl⟩
abbrev cc1_scratch1 : Ref sig .tc := ⟨.vmem, 40, rfl⟩
abbrev cc2_stg0_0 : Ref sig .tc := ⟨.vmem, 41, rfl⟩
abbrev cc2_stg0_1 : Ref sig .tc := ⟨.vmem, 42, rfl⟩
abbrev cc2_stg1_0 : Ref sig .tc := ⟨.vmem, 43, rfl⟩
abbrev cc2_stg1_1 : Ref sig .tc := ⟨.vmem, 44, rfl⟩
abbrev cc2_stg2_0 : Ref sig .tc := ⟨.vmem, 45, rfl⟩
abbrev cc2_stg2_1 : Ref sig .tc := ⟨.vmem, 46, rfl⟩
abbrev cc2_stg3_0 : Ref sig .tc := ⟨.vmem, 47, rfl⟩
abbrev cc2_stg3_1 : Ref sig .tc := ⟨.vmem, 48, rfl⟩
abbrev cc2_stg4_0 : Ref sig .tc := ⟨.vmem, 49, rfl⟩
abbrev cc2_stg4_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc2_sem3_0 : DmaSem sig := 44
abbrev cc2_sem3_1 : DmaSem sig := 45
abbrev cc2_sem4_0 : DmaSem sig := 46
abbrev cc2_sem4_1 : DmaSem sig := 47

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let v3 : BitVec 32 := Scalar.addi c0_i32 arg0
  let c0_i32_0 : BitVec 32 := 0#32
  ![v2.toNat, v3.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let v3 : BitVec 32 := Scalar.addi c0_i32 arg0
  let c0_i32_0 : BitVec 32 := 0#32
  ![v2.toNat, v3.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc1_transform_5 (i : grid1.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc1_transform_6 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc1_transform_7 (i : grid1.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S3x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1024x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S3x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x6144 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x6144 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== Reference4Ideal.lean ====
abbrev S4096x6144 : Shape := ⟨2, ![4096, 6144]⟩
abbrev S3x2048 : Shape := ⟨2, ![3, 2048]⟩
abbrev S4096x2048 : Shape := ⟨2, ![4096, 2048]⟩
abbrev S2x2048x2048 : Shape := ⟨3, ![2, 2048, 2048]⟩
abbrev S2x2x2048 : Shape := ⟨3, ![2, 2, 2048]⟩
abbrev S_ : Shape := ⟨0, ![]⟩
abbrev S2x2050x2048 : Shape := ⟨3, ![2, 2050, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 102
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S3x2048, .f32⟩
  | .hbm, ⟨2, _⟩ => ⟨S4096x2048, .bf16⟩
  | .hbm, ⟨3, _⟩ => ⟨S4096x6144, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2x2048x2048, .f32⟩
  | .hbm, ⟨9, _⟩ => ⟨S2x2x2048, .f32⟩
  | .hbm, ⟨10, _⟩ => ⟨S_, .f32⟩
  | .hbm, ⟨11, _⟩ => ⟨S2x2x2048, .f32⟩
  | .hbm, ⟨12, _⟩ => ⟨S2x2050x2048, .f32⟩
  | .hbm, ⟨13, _⟩ => ⟨S_, .f32⟩
  | .hbm, ⟨14, _⟩ => ⟨S2x2x2048, .f32⟩
  | .hbm, ⟨15, _⟩ => ⟨S1x2048, .f32⟩
  | .hbm, ⟨16, _⟩ => ⟨S2048, .f32⟩
  | .hbm, ⟨17, _⟩ => ⟨S2x2048x2048, .f32⟩
  | .hbm, ⟨18, _⟩ => ⟨S1x1x2048, .f32⟩
  | .hbm, ⟨19, _⟩ => ⟨S2x2048x2048, .f32⟩
  | .hbm, ⟨20, _⟩ => ⟨S2x2048x2048, .f32⟩
  | .hbm, ⟨21, _⟩ => ⟨S_, .f32⟩
  | .hbm, ⟨22, _⟩ => ⟨S2x2048x2048, .f32⟩
  | .hbm, ⟨23, _⟩ => ⟨S2x2048x2048, .f32⟩
  | .hbm, ⟨24, _⟩ => ⟨S1x2048, .f32⟩
  | .hbm, ⟨25, _⟩ => ⟨S2048, .f32⟩
  | .hbm, ⟨26, _⟩ => ⟨S2x2048x2048, .f32⟩
  | .hbm, ⟨27, _⟩ => ⟨S1x1x2048, .f32⟩
  | .hbm, ⟨28, _⟩ => ⟨S2x2048x2048, .f32⟩
  | .hbm, ⟨29, _⟩ => ⟨S2x2048x2048, .f32⟩
  | .hbm, ⟨30, _⟩ => ⟨S2x2048x2048, .f32⟩
  | .hbm, ⟨31, _⟩ => ⟨S1x2048, .f32⟩
  | .hbm, ⟨32, _⟩ => ⟨S2048, .f32⟩
  | .hbm, ⟨33, _⟩ => ⟨S2x2048x2048, .f32⟩
  | .hbm, ⟨34, _⟩ => ⟨S1x1x2048, .f32⟩
  | .hbm, ⟨35, _⟩ => ⟨S2x2048x2048, .f32⟩
  | .hbm, ⟨36, _⟩ => ⟨S2x2048x2048, .f32⟩
  | .hbm, ⟨37, _⟩ => ⟨S2x2048x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S2x2048x2048, .f32⟩
  | .hbm, ⟨44, _⟩ => ⟨S2x2048x2048, .f32⟩
  | .hbm, ⟨45, _⟩ => ⟨S2x2048x2048, .f32⟩
  | .hbm, ⟨46, _⟩ => ⟨S2x2048x2048, .f32⟩
  | .hbm, ⟨47, _⟩ => ⟨S_, .f32⟩
  | .hbm, ⟨48, _⟩ => ⟨S2048, .f32⟩
  | .hbm, ⟨49, _⟩ => ⟨S1x1x2048, .f32⟩
  | .hbm, ⟨50, _⟩ => ⟨S_, .f32⟩
  | .hbm, ⟨51, _⟩ => ⟨S2048, .f32⟩
  | .hbm, ⟨52, _⟩ => ⟨S_, .f32⟩
  | .hbm, ⟨53, _⟩ => ⟨S2x2050x2048, .f32⟩
  | .hbm, ⟨54, _⟩ => ⟨S1x2048, .f32⟩
  | .hbm, ⟨55, _⟩ => ⟨S_, .f32⟩
  | .hbm, ⟨56, _⟩ => ⟨S3x2048, .f32⟩
  | .hbm, ⟨57, _⟩ => ⟨S2x2048x2048, .f32⟩
  | .hbm, ⟨58, _⟩ => ⟨S2x2048x2048, .f32⟩
  | .hbm, ⟨59, _⟩ => ⟨S2x2048x2048, .f32⟩
  | .hbm, ⟨60, _⟩ => ⟨S_, .f32⟩
  | .hbm, ⟨61, _⟩ => ⟨S2048, .f32⟩
  | .hbm, ⟨62, _⟩ => ⟨S1x1x2048, .f32⟩
  | .hbm, ⟨63, _⟩ => ⟨S_, .f32⟩
  | .hbm, ⟨64, _⟩ => ⟨S2048, .f32⟩
  | .hbm, ⟨65, _⟩ => ⟨S_, .f32⟩
  | .hbm, ⟨66, _⟩ => ⟨S2x2050x2048, .f32⟩
  | .hbm, ⟨67, _⟩ => ⟨S2x2050x2048, .f32⟩
  | .hbm, ⟨68, _⟩ => ⟨S1x2048, .f32⟩
  | .hbm, ⟨69, _⟩ => ⟨S_, .f32⟩
  | .hbm, ⟨70, _⟩ => ⟨S3x2048, .f32⟩
  | .hbm, ⟨71, _⟩ => ⟨S3x2048, .f32⟩
  | .hbm, ⟨72, _⟩ => ⟨S2x2048x2048, .f32⟩
  | .hbm, ⟨73, _⟩ => ⟨S2x2048x2048, .f32⟩
  | .hbm, ⟨74, _⟩ => ⟨S2x2048x2048, .f32⟩
  | .hbm, ⟨75, _⟩ => ⟨S_, .f32⟩
  | .hbm, ⟨76, _⟩ => ⟨S2048, .f32⟩
  | .hbm, ⟨77, _⟩ => ⟨S1x1x2048, .f32⟩
  | .hbm, ⟨78, _⟩ => ⟨S_, .f32⟩
  | .hbm, ⟨79, _⟩ => ⟨S2048, .f32⟩
  | .hbm, ⟨80, _⟩ => ⟨S_, .f32⟩
  | .hbm, ⟨81, _⟩ => ⟨S2x2050x2048, .f32⟩
  | .hbm, ⟨82, _⟩ => ⟨S2x2050x2048, .f32⟩
  | .hbm, ⟨83, _⟩ => ⟨S1x2048, .f32⟩
  | .hbm, ⟨84, _⟩ => ⟨S_, .f32⟩
  | .hbm, ⟨85, _⟩ => ⟨S3x2048, .f32⟩
  | .hbm, ⟨86, _⟩ => ⟨S3x2048, .f32⟩
  | .hbm, ⟨87, _⟩ => ⟨S2x2x2048, .f32⟩
  | .hbm, ⟨88, _⟩ => ⟨S2x2048x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S_, .f32⟩
  | .hbm, ⟨93, _⟩ => ⟨S4096x6144, .f32⟩
  | .hbm, ⟨94, _⟩ => ⟨S_, .f32⟩
  | .hbm, ⟨95, _⟩ => ⟨S4096x6144, .f32⟩
  | .hbm, ⟨96, _⟩ => ⟨S4096x6144, .f32⟩
  | .hbm, ⟨97, _⟩ => ⟨S_, .f32⟩
  | .hbm, ⟨98, _⟩ => ⟨S4096x6144, .f32⟩
  | .hbm, ⟨99, _⟩ => ⟨S4096x6144, .f32⟩
  | .hbm, ⟨100, _⟩ => ⟨S4096x2048, .bf16⟩
  | .hbm, ⟨101, _⟩ => ⟨S4096x6144, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_14 : Ref sig .tc := ⟨.hbm, 92, rfl⟩
abbrev main_v74 : Ref sig .tc := ⟨.hbm, 93, rfl⟩
abbrev main_cst_15 : Ref sig .tc := ⟨.hbm, 94, rfl⟩
abbrev main_v75 : Ref sig .tc := ⟨.hbm, 95, rfl⟩
abbrev main_v76 : Ref sig .tc := ⟨.hbm, 96, rfl⟩
abbrev main_cst_16 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩

abbrev nD : Nat := 1
abbrev τ : Topo := Topo.v7x

variable {F : FTy → Type} [FloatOps F]
-- ==== Kernel5.lean ====
abbrev S4096x3072 : Shape := ⟨2, ![4096, 3072]⟩
abbrev S31x1024 : Shape := ⟨2, ![31, 1024]⟩
abbrev S4096x1024 : Shape := ⟨2, ![4096, 1024]⟩
abbrev S256x512 : Shape := ⟨2, ![256, 512]⟩
abbrev S32x512 : Shape := ⟨2, ![32, 512]⟩
abbrev S31x512 : Shape := ⟨2, ![31, 512]⟩
abbrev S288x512 : Shape := ⟨2, ![288, 512]⟩
abbrev S96x128 : Shape := ⟨2, ![96, 128]⟩
abbrev S64x128 : Shape := ⟨2, ![64, 128]⟩
abbrev S1x128 : Shape := ⟨2, ![1, 128]⟩
abbrev S128 : Shape := ⟨1, ![128]⟩

abbrev nBuf : Space → Nat
  | .hbm => 5
  | .vmem => 20
  | .smem => 0
  | _ => 0

abbrev bufTy : (tb : Table) → Fin (tcTables nBuf tb) → BufTy
  | .hbm, ⟨0, _⟩ => ⟨S4096x3072, .bf16⟩
  | .hbm, ⟨1, _⟩ => ⟨S31x1024, .f32⟩
  | .hbm, ⟨2, _⟩ => ⟨S4096x1024, .bf16⟩
  | .hbm, ⟨3, _⟩ => ⟨S4096x1024, .bf16⟩
  | .hbm, ⟨4, _⟩ => ⟨S31x1024, .f32⟩
  | .local _ .vmem, ⟨0, _⟩ => ⟨S256x512, .bf16⟩
  | .local _ .vmem, ⟨1, _⟩ => ⟨S256x512, .bf16⟩
  | .local _ .vmem, ⟨2, _⟩ => ⟨S32x512, .bf16⟩
  | .local _ .vmem, ⟨3, _⟩ => ⟨S32x512, .bf16⟩
  | .local _ .vmem, ⟨4, _⟩ => ⟨S256x512, .bf16⟩
  | .local _ .vmem, ⟨5, _⟩ => ⟨S256x512, .bf16⟩
  | .local _ .vmem, ⟨6, _⟩ => ⟨S32x512, .bf16⟩
  | .local _ .vmem, ⟨7, _⟩ => ⟨S32x512, .bf16⟩
  | .local _ .vmem, ⟨8, _⟩ => ⟨S256x512, .bf16⟩
  | .local _ .vmem, ⟨9, _⟩ => ⟨S256x512, .bf16⟩
  | .local _ .vmem, ⟨10, _⟩ => ⟨S32x512, .bf16⟩
  | .local _ .vmem, ⟨11, _⟩ => ⟨S32x512, .bf16⟩
  | .local _ .vmem, ⟨12, _⟩ => ⟨S31x512, .f32⟩
  | .local _ .vmem, ⟨13, _⟩ => ⟨S31x512, .f32⟩
  | .local _ .vmem, ⟨14, _⟩ => ⟨S256x512, .bf16⟩
  | .local _ .vmem, ⟨15, _⟩ => ⟨S256x512, .bf16⟩
  | .local _ .vmem, ⟨16, _⟩ => ⟨S31x512, .f32⟩
  | .local _ .vmem, ⟨17, _⟩ => ⟨S31x512, .f32⟩
  | .local _ .vmem, ⟨18, _⟩ => ⟨S288x512, .f32⟩
  | .local _ .vmem, ⟨19, _⟩ => ⟨S288x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let v3 : BitVec 32 := Scalar.addi c0_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S31x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S31x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S4096x3072 : Shape := ⟨2, ![4096, 3072]⟩
abbrev S31x1024 : Shape := ⟨2, ![31, 1024]⟩
abbrev S4096x1024 : Shape := ⟨2, ![4096, 1024]⟩
abbrev S_ : Shape := ⟨0, ![]⟩
abbrev S2048 : Shape := ⟨1, ![2048]⟩
abbrev S31 : Shape := ⟨1, ![31]⟩
abbrev S1x1x2048 : Shape := ⟨3, ![1, 1, 2048]⟩
abbrev S1x2048x1 : Shape := ⟨3, ![1, 2048, 1]⟩
abbrev S31x1x1 : Shape := ⟨3, ![31, 1, 1]⟩
abbrev S31x2048x1 : Shape := ⟨3, ![31, 2048, 1]⟩
abbrev S31x2048x2048 : Shape := ⟨3, ![31, 2048, 2048]⟩
abbrev S2x2048x1024 : Shape := ⟨3, ![2, 2048, 1024]⟩
abbrev S2x1024x31x2048 : Shape := ⟨4, ![2, 1024, 31, 2048]⟩
abbrev S2x31x2048x1024 : Shape := ⟨4, ![2, 31, 2048, 1024]⟩
abbrev S1x31x1x1024 : Shape := ⟨4, ![1, 31, 1, 1024]⟩
abbrev S2x1024x2048 : Shape := ⟨3, ![2, 1024, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S31x1024, .f32⟩
  | .hbm, ⟨2, _⟩ => ⟨S4096x1024, .bf16⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S2048, .i32⟩
  | .hbm, ⟨16, _⟩ => ⟨S31, .i32⟩
  | .hbm, ⟨17, _⟩ => ⟨S1x1x2048, .i32⟩
  | .hbm, ⟨18, _⟩ => ⟨S1x2048x1, .i32⟩
  | .hbm, ⟨19, _⟩ => ⟨S_, .i32⟩
  | .hbm, ⟨20, _⟩ => ⟨S1x2048x1, .i32⟩
  | .hbm, ⟨21, _⟩ => ⟨S1x2048x1, .i32⟩
  | .hbm, ⟨22, _⟩ => ⟨S31x1x1, .i32⟩
  | .hbm, ⟨23, _⟩ => ⟨S31x2048x1, .i32⟩
  | .hbm, ⟨24, _⟩ => ⟨S31x2048x1, .i32⟩
  | .hbm, ⟨25, _⟩ => ⟨S31x2048x1, .i32⟩
  | .hbm, ⟨26, _⟩ => ⟨S31x2048x2048, .i32⟩
  | .hbm, ⟨27, _⟩ => ⟨S31x2048x2048, .i32⟩
  | .hbm, ⟨28, _⟩ => ⟨S31x2048x2048, .i1⟩
  | .hbm, ⟨29, _⟩ => ⟨S31x2048x2048, .f32⟩
  | .hbm, ⟨30, _⟩ => ⟨S2x2048x1024, .f32⟩
  | .hbm, ⟨31, _⟩ => ⟨S2x1024x31x2048, .f32⟩
  | .hbm, ⟨32, _⟩ => ⟨S2x31x2048x1024, .f32⟩
  | .hbm, ⟨33, _⟩ => ⟨S1x31x1x1024, .f32⟩
  | .hbm, ⟨34, _⟩ => ⟨S2x31x2048x1024, .f32⟩
  | .hbm, ⟨35, _⟩ => ⟨S2x31x2048x1024, .f32⟩
  | .hbm, ⟨36, _⟩ => ⟨S_, .f32⟩
  | .hbm, ⟨37, _⟩ => ⟨S2x2048x1024, .f32⟩
  | .hbm, ⟨38, _⟩ => ⟨S4096x1024, .f32⟩
  | .hbm, ⟨39, _⟩ => ⟨S4096x1024, .f32⟩
  | .hbm, ⟨40, _⟩ => ⟨S2x2048x1024, .f32⟩
  | .hbm, ⟨41, _⟩ => ⟨S2x31x2048x1024, .f32⟩
  | .hbm, ⟨42, _⟩ => ⟨S2x31x2048x1024, .f32⟩
  | .hbm, ⟨43, _⟩ => ⟨S2x31x2048x1024, .f32⟩
  | .hbm, ⟨44, _⟩ => ⟨S2x31x2048x1024, .f32⟩
  | .hbm, ⟨45, _⟩ => ⟨S_, .f32⟩
  | .hbm, ⟨46, _⟩ => ⟨S31x1024, .f32⟩
  | .hbm, ⟨47, _⟩ => ⟨S1x31x1x1024, .f32⟩
  | .hbm, ⟨48, _⟩ => ⟨S_, .f32⟩
  | .hbm, ⟨49, _⟩ => ⟨S31x1024, .f32⟩
  | .hbm, ⟨50, _⟩ => ⟨S2x1024x31x2048, .f32⟩
  | .hbm, ⟨51, _⟩ => ⟨S2x1024x2048, .f32⟩
  | .hbm, ⟨52, _⟩ => ⟨S2x2048x1024, .f32⟩
  | .hbm, ⟨53, _⟩ => ⟨S4096x1024, .f32⟩
  | .hbm, ⟨54, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Kernel6.lean ====
abbrev S4096x3072 : Shape := ⟨2, ![4096, 3072]⟩
abbrev S4096x1024 : Shape := ⟨2, ![4096, 1024]⟩
abbrev S_ : Shape := ⟨0, ![]⟩
abbrev S14 : Shape := ⟨1, ![14]⟩
abbrev S2 : Shape := ⟨1, ![2]⟩
abbrev S16 : Shape := ⟨1, ![16]⟩
abbrev S16x1 : Shape := ⟨2, ![16, 1]⟩
abbrev S1x16x1x1 : Shape := ⟨4, ![1, 16, 1, 1]⟩
abbrev S1x16x256x1 : Shape := ⟨4, ![1, 16, 256, 1]⟩
abbrev S16x256 : Shape := ⟨2, ![16, 256]⟩
abbrev S12 : Shape := ⟨1, ![12]⟩
abbrev S4 : Shape := ⟨1, ![4]⟩
abbrev S8 : Shape := ⟨1, ![8]⟩
abbrev S0 : Shape := ⟨1, ![0]⟩
abbrev S16x1024 : Shape := ⟨2, ![16, 1024]⟩
abbrev S256x1024 : Shape := ⟨2, ![256, 1024]⟩
abbrev S32x1024 : Shape := ⟨2, ![32, 1024]⟩
abbrev S288x1024 : Shape := ⟨2, ![288, 1024]⟩
abbrev S96x128 : Shape := ⟨2, ![96, 128]⟩
abbrev S64x128 : Shape := ⟨2, ![64, 128]⟩
abbrev S1x128 : Shape := ⟨2, ![1, 128]⟩
abbrev S256x3072 : Shape := ⟨2, ![256, 3072]⟩

abbrev nBuf : Space → Nat
  | .hbm => 43
  | .vmem => 18
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S_, .f32⟩
  | .hbm, ⟨5, _⟩ => ⟨S14, .f32⟩
  | .hbm, ⟨6, _⟩ => ⟨S_, .f32⟩
  | .hbm, ⟨7, _⟩ => ⟨S2, .f32⟩
  | .hbm, ⟨8, _⟩ => ⟨S16, .f32⟩
  | .hbm, ⟨9, _⟩ => ⟨S16x1, .f32⟩
  | .hbm, ⟨10, _⟩ => ⟨S1x16x1x1, .f32⟩
  | .hbm, ⟨11, _⟩ => ⟨S1x16x256x1, .f32⟩
  | .hbm, ⟨12, _⟩ => ⟨S16x256, .f32⟩
  | .hbm, ⟨13, _⟩ => ⟨S_, .f32⟩
  | .hbm, ⟨14, _⟩ => ⟨S12, .f32⟩
  | .hbm, ⟨15, _⟩ => ⟨S_, .f32⟩
  | .hbm, ⟨16, _⟩ => ⟨S4, .f32⟩
  | .hbm, ⟨17, _⟩ => ⟨S16, .f32⟩
  | .hbm, ⟨18, _⟩ => ⟨S16x1, .f32⟩
  | .hbm, ⟨19, _⟩ => ⟨S1x16x1x1, .f32⟩
  | .hbm, ⟨20, _⟩ => ⟨S1x16x256x1, .f32⟩
  | .hbm, ⟨21, _⟩ => ⟨S16x256, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S16, .f32⟩
  | .hbm, ⟨27, _⟩ => ⟨S16x1, .f32⟩
  | .hbm, ⟨28, _⟩ => ⟨S1x16x1x1, .f32⟩
  | .hbm, ⟨29, _⟩ => ⟨S1x16x256x1, .f32⟩
  | .hbm, ⟨30, _⟩ => ⟨S16x256, .f32⟩
  | .hbm, ⟨31, _⟩ => ⟨S_, .f32⟩
  | .hbm, ⟨32, _⟩ => ⟨S0, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16x1, .f32⟩
  | .hbm, ⟨37, _⟩ => ⟨S1x16x1x1, .f32⟩
  | .hbm, ⟨38, _⟩ => ⟨S1x16x256x1, .f32⟩
  | .hbm, ⟨39, _⟩ => ⟨S16x256, .f32⟩
  | .hbm, ⟨40, _⟩ => ⟨S16x1024, .f32⟩
  | .hbm, ⟨41, _⟩ => ⟨S4096x1024, .bf16⟩
  | .hbm, ⟨42, _⟩ => ⟨S4096x3072, .bf16⟩
  | .local _ .vmem, ⟨0, _⟩ => ⟨S256x1024, .bf16⟩
  | .local _ .vmem, ⟨1, _⟩ => ⟨S256x1024, .bf16⟩
  | .local _ .vmem, ⟨2, _⟩ => ⟨S32x1024, .bf16⟩
  | .local _ .vmem, ⟨3, _⟩ => ⟨S32x1024, .bf16⟩
  | .local _ .vmem, ⟨4, _⟩ => ⟨S16x1024, .f32⟩
  | .local _ .vmem, ⟨5, _⟩ => ⟨S256x1024, .bf16⟩
  | .local _ .vmem, ⟨6, _⟩ => ⟨S256x1024, .bf16⟩
  | .local _ .vmem, ⟨7, _⟩ => ⟨S288x1024, .f32⟩
  | .local _ .vmem, ⟨8, _⟩ => ⟨S256x3072, .bf16⟩
  | .local _ .vmem, ⟨9, _⟩ => ⟨S256x3072, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x3072, .bf16⟩
  | .local _ .vmem, ⟨17, _⟩ => ⟨S256x3072, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let v3 : BitVec 32 := Scalar.addi c0_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x3072 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference6Ideal.lean ====
abbrev S4096x3072 : Shape := ⟨2, ![4096, 3072]⟩
abbrev S4096x1024 : Shape := ⟨2, ![4096, 1024]⟩
abbrev S_ : Shape := ⟨0, ![]⟩
abbrev S2x2048x1024 : Shape := ⟨3, ![2, 2048, 1024]⟩
abbrev S2x2x256 : Shape := ⟨3, ![2, 2, 256]⟩
abbrev S2x2046x256 : Shape := ⟨3, ![2, 2046, 256]⟩
abbrev S2x2048x256 : Shape := ⟨3, ![2, 2048, 256]⟩
abbrev S2x4x256 : Shape := ⟨3, ![2, 4, 256]⟩
abbrev S2x2044x256 : Shape := ⟨3, ![2, 2044, 256]⟩
abbrev S2x8x256 : Shape := ⟨3, ![2, 8, 256]⟩
abbrev S2x2040x256 : Shape := ⟨3, ![2, 2040, 256]⟩
abbrev S2x16x256 : Shape := ⟨3, ![2, 16, 256]⟩
abbrev S2x2032x256 : Shape := ⟨3, ![2, 2032, 256]⟩

abbrev nBuf : Space → Nat
  | .hbm => 103
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S2x2048x1024, .f32⟩
  | .hbm, ⟨22, _⟩ => ⟨S_, .f32⟩
  | .hbm, ⟨23, _⟩ => ⟨S_, .f32⟩
  | .hbm, ⟨24, _⟩ => ⟨S2x2048x1024, .f32⟩
  | .hbm, ⟨25, _⟩ => ⟨S_, .f32⟩
  | .hbm, ⟨26, _⟩ => ⟨S2x2x256, .f32⟩
  | .hbm, ⟨27, _⟩ => ⟨S2x2046x256, .f32⟩
  | .hbm, ⟨28, _⟩ => ⟨S2x2048x256, .f32⟩
  | .hbm, ⟨29, _⟩ => ⟨S_, .f32⟩
  | .hbm, ⟨30, _⟩ => ⟨S2x2x256, .f32⟩
  | .hbm, ⟨31, _⟩ => ⟨S_, .f32⟩
  | .hbm, ⟨32, _⟩ => ⟨S2x4x256, .f32⟩
  | .hbm, ⟨33, _⟩ => ⟨S2x2044x256, .f32⟩
  | .hbm, ⟨34, _⟩ => ⟨S2x2048x256, .f32⟩
  | .hbm, ⟨35, _⟩ => ⟨S_, .f32⟩
  | .hbm, ⟨36, _⟩ => ⟨S2x4x256, .f32⟩
  | .hbm, ⟨37, _⟩ => ⟨S_, .f32⟩
  | .hbm, ⟨38, _⟩ => ⟨S2x8x256, .f32⟩
  | .hbm, ⟨39, _⟩ => ⟨S2x2040x256, .f32⟩
  | .hbm, ⟨40, _⟩ => ⟨S2x2048x256, .f32⟩
  | .hbm, ⟨41, _⟩ => ⟨S_, .f32⟩
  | .hbm, ⟨42, _⟩ => ⟨S2x8x256, .f32⟩
  | .hbm, ⟨43, _⟩ => ⟨S_, .f32⟩
  | .hbm, ⟨44, _⟩ => ⟨S2x16x256, .f32⟩
  | .hbm, ⟨45, _⟩ => ⟨S2x2032x256, .f32⟩
  | .hbm, ⟨46, _⟩ => ⟨S2x2048x256, .f32⟩
  | .hbm, ⟨47, _⟩ => ⟨S_, .f32⟩
  | .hbm, ⟨48, _⟩ => ⟨S2x16x256, .f32⟩
  | .hbm, ⟨49, _⟩ => ⟨S2x2048x1024, .f32⟩
  | .hbm, ⟨50, _⟩ => ⟨S2x2048x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x3072, .f32⟩
  | .hbm, ⟨60, _⟩ => ⟨S2x2048x1024, .f32⟩
  | .hbm, ⟨61, _⟩ => ⟨S2x2048x1024, .f32⟩
  | .hbm, ⟨62, _⟩ => ⟨S2x2048x256, .f32⟩
  | .hbm, ⟨63, _⟩ => ⟨S2x2048x256, .f32⟩
  | .hbm, ⟨64, _⟩ => ⟨S2x2048x256, .f32⟩
  | .hbm, ⟨65, _⟩ => ⟨S2x2048x256, .f32⟩
  | .hbm, ⟨66, _⟩ => ⟨S2x16x256, .f32⟩
  | .hbm, ⟨67, _⟩ => ⟨S2x2032x256, .f32⟩
  | .hbm, ⟨68, _⟩ => ⟨S_, .f32⟩
  | .hbm, ⟨69, _⟩ => ⟨S2x2048x1024, .f32⟩
  | .hbm, ⟨70, _⟩ => ⟨S2x2048x1024, .f32⟩
  | .hbm, ⟨71, _⟩ => ⟨S2x8x256, .f32⟩
  | .hbm, ⟨72, _⟩ => ⟨S2x2040x256, .f32⟩
  | .hbm, ⟨73, _⟩ => ⟨S_, .f32⟩
  | .hbm, ⟨74, _⟩ => ⟨S2x2048x1024, .f32⟩
  | .hbm, ⟨75, _⟩ => ⟨S2x2048x1024, .f32⟩
  | .hbm, ⟨76, _⟩ => ⟨S2x4x256, .f32⟩
  | .hbm, ⟨77, _⟩ => ⟨S2x2044x256, .f32⟩
  | .hbm, ⟨78, _⟩ => ⟨S_, .f32⟩
  | .hbm, ⟨79, _⟩ => ⟨S2x2048x1024, .f32⟩
  | .hbm, ⟨80, _⟩ => ⟨S2x2048x1024, .f32⟩
  | .hbm, ⟨81, _⟩ => ⟨S2x2x256, .f32⟩
  | .hbm, ⟨82, _⟩ => ⟨S2x2046x256, .f32⟩
  | .hbm, ⟨83, _⟩ => ⟨S_, .f32⟩
  | .hbm, ⟨84, _⟩ => ⟨S2x2048x1024, .f32⟩
  | .hbm, ⟨85, _⟩ => ⟨S2x2048x1024, .f32⟩
  | .hbm, ⟨86, _⟩ => ⟨S_, .f32⟩
  | .hbm, ⟨87, _⟩ => ⟨S_, .f32⟩
  | .hbm, ⟨88, _⟩ => ⟨S2x2048x1024, .f32⟩
  | .hbm, ⟨89, _⟩ => ⟨S4096x1024, .f32⟩
  | .hbm, ⟨90, _⟩ => ⟨S_, .f32⟩
  | .hbm, ⟨91, _⟩ => ⟨S4096x3072, .f32⟩
  | .hbm, ⟨92, _⟩ => ⟨S4096x3072, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S_, .f32⟩
  | .hbm, ⟨97, _⟩ => ⟨S4096x3072, .f32⟩
  | .hbm, ⟨98, _⟩ => ⟨S4096x3072, .f32⟩
  | .hbm, ⟨99, _⟩ => ⟨S_, .f32⟩
  | .hbm, ⟨100, _⟩ => ⟨S4096x3072, .f32⟩
  | .hbm, ⟨101, _⟩ => ⟨S4096x3072, .f32⟩
  | .hbm, ⟨102, _⟩ => ⟨S4096x3072, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_call0_cst : Ref sig .tc := ⟨.hbm, 22, rfl⟩
abbrev main_call0_call0_v0 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_call1_call0_cst : Ref sig .tc := ⟨.hbm, 86, rfl⟩
abbrev main_call1_call0_v0 : Ref sig .tc := ⟨.hbm, 87, rfl⟩
abbrev main_v64 : Ref sig .tc := ⟨.hbm, 88, rfl⟩
abbrev main_v65 : Ref sig .tc := ⟨.hbm, 89, rfl⟩
abbrev main_cst_15 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S4096x3072 : Shape := ⟨2, ![4096, 3072]⟩
abbrev S4x256x256 : Shape := ⟨3, ![4, 256, 256]⟩
abbrev S4096x2048 : Shape := ⟨2, ![4096, 2048]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S1x256 : Shape := ⟨2, ![1, 256]⟩
abbrev S8x1024 : Shape := ⟨2, ![8, 1024]⟩

abbrev nBuf : Space → Nat
  | .hbm => 24
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .bf16⟩
  | .hbm, ⟨3, _⟩ => ⟨S4096x3072, .bf16⟩
  | .hbm, ⟨4, _⟩ => ⟨S1024, .f32⟩
  | .hbm, ⟨5, _⟩ => ⟨S1024, .f32⟩
  | .hbm, ⟨6, _⟩ => ⟨S4x256x256, .f32⟩
  | .hbm, ⟨7, _⟩ => ⟨S1024, .f32⟩
  | .hbm, ⟨8, _⟩ => ⟨S4096x2048, .bf16⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S1x1024, .f32⟩
  | .hbm, ⟨15, _⟩ => ⟨S4x256x256, .bf16⟩
  | .hbm, ⟨16, _⟩ => ⟨S1x1024, .f32⟩
  | .hbm, ⟨17, _⟩ => ⟨S4096x2048, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S8x1024, .f32⟩
  | .hbm, ⟨23, _⟩ => ⟨S4x256x256, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S256x2048, .bf16⟩
  | .local _ .vmem, ⟨11, _⟩ => ⟨S256x2048, .bf16⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | .local _ .vmem, ⟨21, _⟩ => ⟨S1x1024, .f32⟩
  | .local _ .vmem, ⟨22, _⟩ => ⟨S4x256x256, .bf16⟩
  | .local _ .vmem, ⟨23, _⟩ => ⟨S1x1024, .f32⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S8x1024, .f32⟩
  | .local _ .vmem, ⟨31, _⟩ => ⟨S4x256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg11_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem11_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S8x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4x256x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== Reference7Ideal.lean ====
abbrev S4096x1024 : Shape := ⟨2, ![4096, 1024]⟩
abbrev S1024 : Shape := ⟨1, ![1024]⟩
abbrev S4096x3072 : Shape := ⟨2, ![4096, 3072]⟩
abbrev S4x256x256 : Shape := ⟨3, ![4, 256, 256]⟩
abbrev S4096x2048 : Shape := ⟨2, ![4096, 2048]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x2048x1 : Shape := ⟨3, ![1, 2048, 1]⟩
abbrev S1x2048x1x1 : Shape := ⟨4, ![1, 2048, 1, 1]⟩
abbrev S1x2048x4x1 : Shape := ⟨4, ![1, 2048, 4, 1]⟩
abbrev S2x2048x4x256 : Shape := ⟨4, ![2, 2048, 4, 256]⟩
abbrev S4096x4x256 : Shape := ⟨3, ![4096, 4, 256]⟩
abbrev S4x256x4096 : Shape := ⟨3, ![4, 256, 4096]⟩
abbrev S4x4096x256 : Shape := ⟨3, ![4, 4096, 256]⟩
abbrev S4x1024 : Shape := ⟨2, ![4, 1024]⟩
abbrev S8x1024 : Shape := ⟨2, ![8, 1024]⟩

abbrev nBuf : Space → Nat
  | .hbm => 181
  | .vmem => 0
  | .smem => 0
  | _ => 0

abbrev hbmTy0_0 (i : Nat) : BufTy := match i % 128 with
  | 0 => ⟨S4096x1024, .f32⟩
  | 1 => ⟨S1024, .f32⟩
  | 2 => ⟨S4096x1024, .bf16⟩
  | 3 => ⟨S4096x3072, .bf16⟩
  | 4 => ⟨S1024, .f32⟩
  | 5 => ⟨S1024, .f32⟩
  | 6 => ⟨S4x256x256, .f32⟩
  | 7 => ⟨S1024, .f32⟩
  | 8 => ⟨S4096x2048, .bf16⟩
  | 9 => ⟨S4096x1024, .f32⟩
  | 10 => ⟨S4096x3072, .f32⟩
  | 11 => ⟨S4096x1024, .f32⟩
  | 12 => ⟨S1x1024, .f32⟩
  | 13 => ⟨S4096x1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1024, .f32⟩
  | 39 => ⟨S4096x1024, .f32⟩
  | 40 => ⟨S1x1024, .f32⟩
  | 41 => ⟨S4096x1024, .f32⟩
  | 42 => ⟨S4096x1024, .f32⟩
  | 43 => ⟨S1x1024, .f32⟩
  | 44 => ⟨S4096x1024, .f32⟩
  | 45 => ⟨S4096x1024, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S4096x1024, .f32⟩
  | 59 => ⟨S2048, .i32⟩
  | 60 => ⟨S_, .i32⟩
  | 61 => ⟨S2048, .i32⟩
  | 62 => ⟨S2048, .i32⟩
  | 63 => ⟨S1x2048x1, .i32⟩
  | 64 => ⟨S_, .i32⟩
  | 65 => ⟨S1x2048x1, .i32⟩
  | 66 => ⟨S1x2048x1, .i32⟩
  | 67 => ⟨S_, .i32⟩
  | 68 => ⟨S1x2048x1, .i32⟩
  | 69 => ⟨S1x2048x1, .i32⟩
  | 70 => ⟨S_, .i32⟩
  | 71 => ⟨S1x2048x1, .i32⟩
  | 72 => ⟨S1x2048x1, .i32⟩
  | 73 => ⟨S_, .i32⟩
  | 74 => ⟨S1x2048x1, .i32⟩
  | 75 => ⟨S1x2048x1, .i32⟩
  | 76 => ⟨S1x2048x1x1, .i32⟩
  | 77 => ⟨S1x2048x1x1, .i32⟩
  | 78 => ⟨S1x2048x1x1, .i32⟩
  | 79 => ⟨S1x2048x1x1, .i32⟩
  | 80 => ⟨S1x2048x4x1, .i32⟩
  | 81 => ⟨S1x2048x4x1, .f32⟩
  | 82 => ⟨S2x2048x4x256, .f32⟩
  | 83 => ⟨S2x2048x4x256, .f32⟩
  | 84 => ⟨S2x2048x4x256, .f32⟩
  | 85 => ⟨S4096x1024, .f32⟩
  | 86 => ⟨S4096x1024, .f32⟩
  | 87 => ⟨S4096x4x256, .f32⟩
  | 88 => ⟨S4x256x4096, .f32⟩
  | 89 => ⟨S4096x4x256, .f32⟩
  | 90 => ⟨S4096x1024, .f32⟩
  | 91 => ⟨S1x1024, .f32⟩
  | 92 => ⟨S4096x1024, .f32⟩
  | 93 => ⟨S4096x1024, .f32⟩
  | 94 => ⟨S4096x2048, .f32⟩
  | 95 => ⟨S4096x2048, .f32⟩
  | 96 => ⟨S4096x1024, .f32⟩
  | 97 => ⟨S4096x1024, .f32⟩
  | 98 => ⟨S4096x1024, .f32⟩
  | 99 => ⟨S_, .f32⟩
  | 100 => ⟨S1024, .f32⟩
  | 101 => ⟨S1x1024, .f32⟩
  | 102 => ⟨S4096x1024, .f32⟩
  | 103 => ⟨S4096x1024, .f32⟩
  | 104 => ⟨S_, .f32⟩
  | 105 => ⟨S1024, .f32⟩
  | 106 => ⟨S4096x4x256, .f32⟩
  | 107 => ⟨S4x256x4096, .f32⟩
  | 108 => ⟨S4x4096x256, .f32⟩
  | 109 => ⟨S4096x4x256, .f32⟩
  | 110 => ⟨S4x256x256, .f32⟩
  | 111 => ⟨S4x256x256, .f32⟩
  | 112 => ⟨S4096x1024, .f32⟩
  | 113 => ⟨S4096x1024, .f32⟩
  | 114 => ⟨S2x2048x4x256, .f32⟩
  | 115 => ⟨S2x2048x4x256, .f32⟩
  | 116 => ⟨S2x2048x4x256, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S_, .f32⟩
  | 123 => ⟨S1024, .f32⟩
  | 124 => ⟨S1x1024, .f32⟩
  | 125 => ⟨S_, .f32⟩
  | 126 => ⟨S1024, .f32⟩
  | 127 => ⟨S4096x1024, .f32⟩
  | _ => ⟨S4096x1024, .f32⟩

abbrev hbmTy0_1 (i : Nat) : BufTy := match i % 128 with
  | 0 => ⟨S_, .f32⟩
  | 1 => ⟨S1024, .f32⟩
  | 2 => ⟨S1x1024, .f32⟩
  | 3 => ⟨S4096x1024, .f32⟩
  | 4 => ⟨S4096x1024, .f32⟩
  | 5 => ⟨S_, .f32⟩
  | 6 => ⟨S1024, .f32⟩
  | 7 => ⟨S4096x1024, .f32⟩
  | 8 => ⟨S_, .f32⟩
  | 9 => ⟨S4096, .f32⟩
  | 10 => ⟨S4096x1, .f32⟩
  | 11 => ⟨S4096x1024, .f32⟩
  | 12 => ⟨S4096x1024, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S_, .f32⟩
  | 26 => ⟨S4096, .f32⟩
  | 27 => ⟨S4096x1, .f32⟩
  | 28 => ⟨S_, .f32⟩
  | 29 => ⟨S4096x1, .f32⟩
  | 30 => ⟨S4096x1, .f32⟩
  | 31 => ⟨S_, .f32⟩
  | 32 => ⟨S4096, .f32⟩
  | 33 => ⟨S4096x1024, .f32⟩
  | 34 => ⟨S4096x1024, .f32⟩
  | 35 => ⟨S_, .f32⟩
  | 36 => ⟨S1024, .f32⟩
  | 37 => ⟨S1x1024, .f32⟩
  | 38 => ⟨S_, .f32⟩
  | 39 => ⟨S1024, .f32⟩
  | 40 => ⟨S1x1024, .f32⟩
  | 41 => ⟨S1x1024, .f32⟩
  | 42 => ⟨S1x1024, .f32⟩
  | 43 => ⟨S1x1024, .f32⟩
  | 44 => ⟨S4x1024, .f32⟩
  | 45 => ⟨S_, .f32⟩
  | 46 => ⟨S4x1024, .f32⟩
  | 47 => ⟨S8x1024, .f32⟩
  | 48 => ⟨S4096x2048, .bf16⟩
  | 49 => ⟨S4096x1024, .bf16⟩
  | 50 => ⟨S4096x1024, .bf16⟩
  | 51 => ⟨S4096x1024, .f32⟩
  | 52 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v31_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v31_1 : Ref sig .tc := ⟨.hbm, 57, rfl⟩
abbrev main_v31_0 : Ref sig .tc := ⟨.hbm, 58, rfl⟩
abbrev main_v32 : Ref sig .tc := ⟨.hbm, 59, rfl⟩
abbrev main_c : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_5 : Ref sig .tc := ⟨.hbm, 64, rfl⟩
abbrev main_v36 : Ref sig .tc := ⟨.hbm, 65, rfl⟩
abbrev main_v37 : Ref sig .tc := ⟨.hbm, 66, rfl⟩
abbrev main_c_6 : Ref sig .tc := ⟨.hbm, 67, rfl⟩
abbrev main_v38 : Ref sig .tc := ⟨.hbm, 68, rfl⟩
abbrev main_v39 : Ref sig .tc := ⟨.hbm, 69, rfl⟩
abbrev main_c_7 : Ref sig .tc := ⟨.hbm, 70, rfl⟩
abbrev main_v40 : Ref sig .tc := ⟨.hbm, 71, rfl⟩
abbrev main_v41 : Ref sig .tc := ⟨.hbm, 72, rfl⟩
abbrev main_c_8 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_9 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_10 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v84 : Ref sig .tc := ⟨.hbm, 121, rfl⟩
abbrev main_cst_11 : Ref sig .tc := ⟨.hbm, 122, rfl⟩
abbrev main_v85 : Ref sig .tc := ⟨.hbm, 123, rfl⟩
abbrev main_v86 : Ref sig .tc := ⟨.hbm, 124, rfl⟩
abbrev main_cst_12 : Ref sig .tc := ⟨.hbm, 125, rfl⟩
abbrev main_v87 : Ref sig .tc := ⟨.hbm, 126, rfl⟩
abbrev main_v88 : Ref sig .tc := ⟨.hbm, 127, rfl⟩
abbrev main_cst_13 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_14 : Ref sig .tc := ⟨.hbm, 133, rfl⟩
abbrev main_v93 : Ref sig .tc := ⟨.hbm, 134, rfl⟩
abbrev main_v94 : Ref sig .tc := ⟨.hbm, 135, rfl⟩
abbrev main_cst_15 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_16 : Ref sig .tc := ⟨.hbm, 142, rfl⟩
abbrev main_v100 : Ref sig .tc := ⟨.hbm, 143, rfl⟩
abbrev main_v101 : Ref sig .tc := ⟨.hbm, 144, rfl⟩
abbrev main_cst_17 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_18 : Ref sig .tc := ⟨.hbm, 153, rfl⟩
abbrev main_v109 : Ref sig .tc := ⟨.hbm, 154, rfl⟩
abbrev main_v110 : Ref sig .tc := ⟨.hbm, 155, rfl⟩
abbrev main_cst_19 : Ref sig .tc := ⟨.hbm, 156, rfl⟩
abbrev main_v111 : Ref sig .tc := ⟨.hbm, 157, rfl⟩
abbrev main_v112 : Ref sig .tc := ⟨.hbm, 158, rfl⟩
abbrev main_cst_20 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_21 : Ref sig .tc := ⟨.hbm, 163, rfl⟩
abbrev main_v116 : Ref sig .tc := ⟨.hbm, 164, rfl⟩
abbrev main_v117 : Ref sig .tc := ⟨.hbm, 165, rfl⟩
abbrev main_cst_22 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_23 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩

abbrev nD : Nat := 1
abbrev τ : Topo := Topo.v7x

variable {F : FTy → Type} [FloatOps F]
-- ==== Kernel8.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S4096x3072 : Shape := ⟨2, ![4096, 3072]⟩
abbrev S31x1024 : Shape := ⟨2, ![31, 1024]⟩
abbrev S1024 : Shape := ⟨1, ![1024]⟩
abbrev S1x1024 : Shape := ⟨2, ![1, 1024]⟩
abbrev S4096x1024 : Shape := ⟨2, ![4096, 1024]⟩
abbrev S256x512 : Shape := ⟨2, ![256, 512]⟩
abbrev S32x512 : Shape := ⟨2, ![32, 512]⟩
abbrev S31x512 : Shape := ⟨2, ![31, 512]⟩
abbrev S1x512 : Shape := ⟨2, ![1, 512]⟩
abbrev S288x512 : Shape := ⟨2, ![288, 512]⟩
abbrev S96x128 : Shape := ⟨2, ![96, 128]⟩
abbrev S64x128 : Shape := ⟨2, ![64, 128]⟩
abbrev S1x128 : Shape := ⟨2, ![1, 128]⟩

abbrev nBuf : Space → Nat
  | .hbm => 5
  | .vmem => 15
  | .smem => 0
  | _ => 0

abbrev bufTy : (tb : Table) → Fin (tcTables nBuf tb) → BufTy
  | .hbm, ⟨0, _⟩ => ⟨S4096x3072, .bf16⟩
  | .hbm, ⟨1, _⟩ => ⟨S31x1024, .f32⟩
  | .hbm, ⟨2, _⟩ => ⟨S1024, .f32⟩
  | .hbm, ⟨3, _⟩ => ⟨S1x1024, .f32⟩
  | .hbm, ⟨4, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S32x512, .bf16⟩
  | .local _ .vmem, ⟨3, _⟩ => ⟨S32x512, .bf16⟩
  | .local _ .vmem, ⟨4, _⟩ => ⟨S256x512, .bf16⟩
  | .local _ .vmem, ⟨5, _⟩ => ⟨S256x512, .bf16⟩
  | .local _ .vmem, ⟨6, _⟩ => ⟨S32x512, .bf16⟩
  | .local _ .vmem, ⟨7, _⟩ => ⟨S32x512, .bf16⟩
  | .local _ .vmem, ⟨8, _⟩ => ⟨S31x512, .f32⟩
  | .local _ .vmem, ⟨9, _⟩ => ⟨S31x512, .f32⟩
  | .local _ .vmem, ⟨10, _⟩ => ⟨S1x512, .f32⟩
  | .local _ .vmem, ⟨11, _⟩ => ⟨S1x512, .f32⟩
  | .local _ .vmem, ⟨12, _⟩ => ⟨S256x512, .bf16⟩
  | .local _ .vmem, ⟨13, _⟩ => ⟨S256x512, .bf16⟩
  | .local _ .vmem, ⟨14, _⟩ => ⟨S288x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S31x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S4096x3072 : Shape := ⟨2, ![4096, 3072]⟩
abbrev S31x1024 : Shape := ⟨2, ![31, 1024]⟩
abbrev S1024 : Shape := ⟨1, ![1024]⟩
abbrev S4096x1024 : Shape := ⟨2, ![4096, 1024]⟩
abbrev S_ : Shape := ⟨0, ![]⟩
abbrev S2048 : Shape := ⟨1, ![2048]⟩
abbrev S31 : Shape := ⟨1, ![31]⟩
abbrev S1x1x2048 : Shape := ⟨3, ![1, 1, 2048]⟩
abbrev S1x2048x1 : Shape := ⟨3, ![1, 2048, 1]⟩
abbrev S31x1x1 : Shape := ⟨3, ![31, 1, 1]⟩
abbrev S31x2048x1 : Shape := ⟨3, ![31, 2048, 1]⟩
abbrev S31x2048x2048 : Shape := ⟨3, ![31, 2048, 2048]⟩
abbrev S2x2048x1024 : Shape := ⟨3, ![2, 2048, 1024]⟩
abbrev S2x1024x31x2048 : Shape := ⟨4, ![2, 1024, 31, 2048]⟩
abbrev S2x31x2048x1024 : Shape := ⟨4, ![2, 31, 2048, 1024]⟩
abbrev S1x31x1x1024 : Shape := ⟨4, ![1, 31, 1, 1024]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S31x1024, .f32⟩
  | .hbm, ⟨2, _⟩ => ⟨S1024, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S2048, .i32⟩
  | .hbm, ⟨16, _⟩ => ⟨S31, .i32⟩
  | .hbm, ⟨17, _⟩ => ⟨S1x1x2048, .i32⟩
  | .hbm, ⟨18, _⟩ => ⟨S1x2048x1, .i32⟩
  | .hbm, ⟨19, _⟩ => ⟨S_, .i32⟩
  | .hbm, ⟨20, _⟩ => ⟨S1x2048x1, .i32⟩
  | .hbm, ⟨21, _⟩ => ⟨S1x2048x1, .i32⟩
  | .hbm, ⟨22, _⟩ => ⟨S31x1x1, .i32⟩
  | .hbm, ⟨23, _⟩ => ⟨S31x2048x1, .i32⟩
  | .hbm, ⟨24, _⟩ => ⟨S31x2048x1, .i32⟩
  | .hbm, ⟨25, _⟩ => ⟨S31x2048x1, .i32⟩
  | .hbm, ⟨26, _⟩ => ⟨S31x2048x2048, .i32⟩
  | .hbm, ⟨27, _⟩ => ⟨S31x2048x2048, .i32⟩
  | .hbm, ⟨28, _⟩ => ⟨S31x2048x2048, .i1⟩
  | .hbm, ⟨29, _⟩ => ⟨S31x2048x2048, .f32⟩
  | .hbm, ⟨30, _⟩ => ⟨S2x2048x1024, .f32⟩
  | .hbm, ⟨31, _⟩ => ⟨S2x1024x31x2048, .f32⟩
  | .hbm, ⟨32, _⟩ => ⟨S2x31x2048x1024, .f32⟩
  | .hbm, ⟨33, _⟩ => ⟨S1x31x1x1024, .f32⟩
  | .hbm, ⟨34, _⟩ => ⟨S2x31x2048x1024, .f32⟩
  | .hbm, ⟨35, _⟩ => ⟨S2x31x2048x1024, .f32⟩
  | .hbm, ⟨36, _⟩ => ⟨S_, .f32⟩
  | .hbm, ⟨37, _⟩ => ⟨S2x2048x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Kernel10.lean ====
abbrev S4096x3072 : Shape := ⟨2, ![4096, 3072]⟩
abbrev S_ : Shape := ⟨0, ![]⟩
abbrev S14 : Shape := ⟨1, ![14]⟩
abbrev S2 : Shape := ⟨1, ![2]⟩
abbrev S16 : Shape := ⟨1, ![16]⟩
abbrev S16x1 : Shape := ⟨2, ![16, 1]⟩
abbrev S1x16x1x1 : Shape := ⟨4, ![1, 16, 1, 1]⟩
abbrev S1x16x256x1 : Shape := ⟨4, ![1, 16, 256, 1]⟩
abbrev S16x256 : Shape := ⟨2, ![16, 256]⟩
abbrev S12 : Shape := ⟨1, ![12]⟩
abbrev S4 : Shape := ⟨1, ![4]⟩
abbrev S8 : Shape := ⟨1, ![8]⟩
abbrev S0 : Shape := ⟨1, ![0]⟩
abbrev S16x1024 : Shape := ⟨2, ![16, 1024]⟩
abbrev S4096x1024 : Shape := ⟨2, ![4096, 1024]⟩
abbrev S256x1024 : Shape := ⟨2, ![256, 1024]⟩
abbrev S32x1024 : Shape := ⟨2, ![32, 1024]⟩
abbrev S288x1024 : Shape := ⟨2, ![288, 1024]⟩
abbrev S96x128 : Shape := ⟨2, ![96, 128]⟩
abbrev S64x128 : Shape := ⟨2, ![64, 128]⟩
abbrev S1x128 : Shape := ⟨2, ![1, 128]⟩

abbrev nBuf : Space → Nat
  | .hbm => 39
  | .vmem => 8
  | .smem => 0
  | _ => 0

abbrev bufTy : (tb : Table) → Fin (tcTables nBuf tb) → BufTy
  | .hbm, ⟨0, _⟩ => ⟨S4096x3072, .bf16⟩
  | .hbm, ⟨1, _⟩ => ⟨S_, .f32⟩
  | .hbm, ⟨2, _⟩ => ⟨S14, .f32⟩
  | .hbm, ⟨3, _⟩ => ⟨S_, .f32⟩
  | .hbm, ⟨4, _⟩ => ⟨S2, .f32⟩
  | .hbm, ⟨5, _⟩ => ⟨S16, .f32⟩
  | .hbm, ⟨6, _⟩ => ⟨S16x1, .f32⟩
  | .hbm, ⟨7, _⟩ => ⟨S1x16x1x1, .f32⟩
  | .hbm, ⟨8, _⟩ => ⟨S1x16x256x1, .f32⟩
  | .hbm, ⟨9, _⟩ => ⟨S16x256, .f32⟩
  | .hbm, ⟨10, _⟩ => ⟨S_, .f32⟩
  | .hbm, ⟨11, _⟩ => ⟨S12, .f32⟩
  | .hbm, ⟨12, _⟩ => ⟨S_, .f32⟩
  | .hbm, ⟨13, _⟩ => ⟨S4, .f32⟩
  | .hbm, ⟨14, _⟩ => ⟨S16, .f32⟩
  | .hbm, ⟨15, _⟩ => ⟨S16x1, .f32⟩
  | .hbm, ⟨16, _⟩ => ⟨S1x16x1x1, .f32⟩
  | .hbm, ⟨17, _⟩ => ⟨S1x16x256x1, .f32⟩
  | .hbm, ⟨18, _⟩ => ⟨S16x256, .f32⟩
  | .hbm, ⟨19, _⟩ => ⟨S_, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S16, .f32⟩
  | .hbm, ⟨24, _⟩ => ⟨S16x1, .f32⟩
  | .hbm, ⟨25, _⟩ => ⟨S1x16x1x1, .f32⟩
  | .hbm, ⟨26, _⟩ => ⟨S1x16x256x1, .f32⟩
  | .hbm, ⟨27, _⟩ => ⟨S16x256, .f32⟩
  | .hbm, ⟨28, _⟩ => ⟨S_, .f32⟩
  | .hbm, ⟨29, _⟩ => ⟨S0, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S16x1, .f32⟩
  | .hbm, ⟨34, _⟩ => ⟨S1x16x1x1, .f32⟩
  | .hbm, ⟨35, _⟩ => ⟨S1x16x256x1, .f32⟩
  | .hbm, ⟨36, _⟩ => ⟨S16x256, .f32⟩
  | .hbm, ⟨37, _⟩ => ⟨S16x1024, .f32⟩
  | .hbm, ⟨38, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S32x1024, .bf16⟩
  | .local _ .vmem, ⟨3, _⟩ => ⟨S32x1024, .bf16⟩
  | .local _ .vmem, ⟨4, _⟩ => ⟨S16x1024, .f32⟩
  | .local _ .vmem, ⟨5, _⟩ => ⟨S256x1024, .bf16⟩
  | .local _ .vmem, ⟨6, _⟩ => ⟨S256x1024, .bf16⟩
  | .local _ .vmem, ⟨7, _⟩ => ⟨S288x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S4096x3072 : Shape := ⟨2, ![4096, 3072]⟩
abbrev S4096x1024 : Shape := ⟨2, ![4096, 1024]⟩
abbrev S2x2048x1024 : Shape := ⟨3, ![2, 2048, 1024]⟩
abbrev S_ : Shape := ⟨0, ![]⟩
abbrev S2x2x256 : Shape := ⟨3, ![2, 2, 256]⟩
abbrev S2x2046x256 : Shape := ⟨3, ![2, 2046, 256]⟩
abbrev S2x2048x256 : Shape := ⟨3, ![2, 2048, 256]⟩
abbrev S2x4x256 : Shape := ⟨3, ![2, 4, 256]⟩
abbrev S2x2044x256 : Shape := ⟨3, ![2, 2044, 256]⟩
abbrev S2x8x256 : Shape := ⟨3, ![2, 8, 256]⟩
abbrev S2x2040x256 : Shape := ⟨3, ![2, 2040, 256]⟩
abbrev S2x16x256 : Shape := ⟨3, ![2, 16, 256]⟩
abbrev S2x2032x256 : Shape := ⟨3, ![2, 2032, 256]⟩

abbrev nBuf : Space → Nat
  | .hbm => 27
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .f32⟩
  | .hbm, ⟨3, _⟩ => ⟨S2x2048x1024, .f32⟩
  | .hbm, ⟨4, _⟩ => ⟨S_, .f32⟩
  | .hbm, ⟨5, _⟩ => ⟨S_, .f32⟩
  | .hbm, ⟨6, _⟩ => ⟨S2x2048x1024, .f32⟩
  | .hbm, ⟨7, _⟩ => ⟨S_, .f32⟩
  | .hbm, ⟨8, _⟩ => ⟨S2x2x256, .f32⟩
  | .hbm, ⟨9, _⟩ => ⟨S2x2046x256, .f32⟩
  | .hbm, ⟨10, _⟩ => ⟨S2x2048x256, .f32⟩
  | .hbm, ⟨11, _⟩ => ⟨S_, .f32⟩
  | .hbm, ⟨12, _⟩ => ⟨S2x4x256, .f32⟩
  | .hbm, ⟨13, _⟩ => ⟨S2x2044x256, .f32⟩
  | .hbm, ⟨14, _⟩ => ⟨S2x2048x256, .f32⟩
  | .hbm, ⟨15, _⟩ => ⟨S_, .f32⟩
  | .hbm, ⟨16, _⟩ => ⟨S2x8x256, .f32⟩
  | .hbm, ⟨17, _⟩ => ⟨S2x2040x256, .f32⟩
  | .hbm, ⟨18, _⟩ => ⟨S2x2048x256, .f32⟩
  | .hbm, ⟨19, _⟩ => ⟨S_, .f32⟩
  | .hbm, ⟨20, _⟩ => ⟨S2x16x256, .f32⟩
  | .hbm, ⟨21, _⟩ => ⟨S2x2032x256, .f32⟩
  | .hbm, ⟨22, _⟩ => ⟨S2x2048x256, .f32⟩
  | .hbm, ⟨23, _⟩ => ⟨S2x2048x1024, .f32⟩
  | .hbm, ⟨24, _⟩ => ⟨S2x2048x1024, .f32⟩
  | .hbm, ⟨25, _⟩ => ⟨S4096x1024, .f32⟩
  | .hbm, ⟨26, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_call0_cst : Ref sig .tc := ⟨.hbm, 4, rfl⟩
abbrev main_call0_call0_v0 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel11.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .bf16⟩
  | .hbm, ⟨3, _⟩ => ⟨S5632x2048, .bf16⟩
  | .hbm, ⟨4, _⟩ => ⟨S4096x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .bf16⟩
  | .local _ .vmem, ⟨7, _⟩ => ⟨S2816x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference11Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .bf16⟩
  | .hbm, ⟨3, _⟩ => ⟨S5632x2048, .bf16⟩
  | .hbm, ⟨4, _⟩ => ⟨S4096x5632, .f32⟩
  | .hbm, ⟨5, _⟩ => ⟨S4096x5632, .f32⟩
  | .hbm, ⟨6, _⟩ => ⟨S5632x2048, .f32⟩
  | .hbm, ⟨7, _⟩ => ⟨S5632x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel12.lean ====
abbrev S4096x6144 : Shape := ⟨2, ![4096, 6144]⟩
abbrev S2048x6144 : Shape := ⟨2, ![2048, 6144]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x6144 : Shape := ⟨2, ![4096, 6144]⟩
abbrev S2048x6144 : Shape := ⟨2, ![2048, 6144]⟩
abbrev S6144x2048 : Shape := ⟨2, ![6144, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x6144, .f32⟩
  | .hbm, ⟨3, _⟩ => ⟨S2048x6144, .f32⟩
  | .hbm, ⟨4, _⟩ => ⟨S6144x2048, .f32⟩
  | .hbm, ⟨5, _⟩ => ⟨S4096x2048, .f32⟩
  | .hbm, ⟨6, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x5632 : Shape := ⟨2, ![4096, 5632]⟩
abbrev S4096x2048 : Shape := ⟨2, ![4096, 2048]⟩
abbrev S5632x4096 : Shape := ⟨2, ![5632, 4096]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S5632x4096, .f32⟩
  | .hbm, ⟨4, _⟩ => ⟨S4096x2048, .f32⟩
  | .hbm, ⟨5, _⟩ => ⟨S5632x2048, .f32⟩
  | .hbm, ⟨6, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.EvenFwd.lean ====
/- The even layer's forward call: what its body leaves in its two blocks, at any float values. -/
module

public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel7Ideal.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

/-- The swish of the normalised rows beside the scaled products of the pooled rows, one tile per group of columns. -/
def zOut (i : grid0.Coords) (a s : Vec F S256x1024 .bf16) (u : Vec F S256x1024 .bf16) (g b : Vec F S1x1024 .f32) (w : Vec F S4x256x256 .bf16)
    (sc : Vec F S1x1024 .f32) : Vec F S256x2048 .bf16 :=
  View.canon (Val := Elt F) (s := S256x2048) (e := .bf16)
    [⟨Rect.unit (s := S256x2048) ![0, 1792] S256x256.size inb_S256x2048_S256x256_0_1792,
        k0_pay1 (k0_pay16 (k0_pay7 (k0_pay3 i)) (View.ld s (Rect.unit ![0, 768] S256x256.size inb_S256x1024_S256x256_0_768))
          (View.ld u (Rect.unit ![0, 768] S256x256.size inb_S256x1024_S256x256_0_768)) (View.ld w (Rect.unit ![3, 0, 0] S1x256x256.size inb_S4x256x256_S1x256x256_3_0_0)))
          (View.ld sc (Rect.unit ![0, 768] S1x256.size inb_S1x1024_S1x256_0_768))⟩,
      ⟨Rect.unit (s := S256x2048) ![0, 1536] S256x256.size inb_S256x2048_S256x256_0_1536,
        k0_pay14 (k0_pay6 (k0_pay3 i)) (View.ld s (Rect.unit ![0, 512] S256x256.size inb_S256x1024_S256x256_0_512))
          (View.ld u (Rect.unit ![0, 512] S256x256.size inb_S256x1024_S256x256_0_512)) (View.ld w (Rect.unit ![2, 0, 0] S1x256x256.size inb_S4x256x256_S1x256x256_2_0_0))
          (View.ld sc (Rect.unit ![0, 512] S1x256.size inb_S1x1024_S1x256_0_512))⟩,
      ⟨Rect.unit (s := S256x2048) ![0, 1280] S256x256.size inb_S256x2048_S256x256_0_1280,
        k0_pay12 (k0_pay5 (k0_pay3 i)) (View.ld s (Rect.unit ![0, 256] S256x256.size inb_S256x1024_S256x256_0_256))
          (View.ld u (Rect.unit ![0, 256] S256x256.size inb_S256x1024_S256x256_0_256)) (View.ld w (Rect.unit ![1, 0, 0] S1x256x256.size inb_S4x256x256_S1x256x256_1_0_0))
          (View.ld sc (Rect.unit ![0, 256] S1x256.size inb_S1x1024_S1x256_0_256))⟩,
      ⟨Rect.unit (s := S256x2048) ![0, 1024] S256x256.size inb_S256x2048_S256x256_0_1024,
        k0_pay10 (k0_pay8 (k0_pay3 i) (View.ld s (Rect.unit ![0, 0] S256x256.size inb_S256x1024_S256x256_0_0)))
          (View.ld u (Rect.unit ![0, 0] S256x256.size inb_S256x1024_S256x256_0_0)) (View.ld w (Rect.unit ![0, 0, 0] S1x256x256.size inb_S4x256x256_S1x256x256_0_0_0))
          (View.ld sc (Rect.unit ![0, 0] S1x256.size inb_S1x1024_S1x256_0_0))⟩,
      ⟨Rect.unit (s := S256x2048) ![0, 0] S256x1024.size inb_S256x2048_S256x1024_0_0,
        k0_pay2 (View.ld a (Rect.unit ![0, 0] S256x1024.size inb_S256x1024_S256x1024_0_0)) (View.ld g (Rect.unit ![0, 0] S1x1024.size inb_S1x1024_S1x1024_0_0))
          (View.ld b (Rect.unit ![0, 0] S1x1024.size inb_S1x1024_S1x1024_0_0))⟩]

/-- The window means less the input, one tile per group of columns. -/
def pmOut (i : grid0.Coords) (s u : Vec F S256x1024 .bf16) : Vec F S256x1024 .bf16 :=
  View.canon (Val := Elt F) (s := S256x1024) (e := .bf16)
    [⟨Rect.unit (s := S256x1024) ![0, 768] S256x256.size inb_S256x1024_S256x256_0_768,
        k0_pay15 (k0_pay7 (k0_pay3 i)) (View.ld s (Rect.unit ![0, 768] S256x256.size inb_S256x1024_S256x256_0_768))
          (View.ld u (Rect.unit ![0, 768] S256x256.size inb_S256x1024_S256x256_0_768))⟩,
      ⟨Rect.unit (s := S256x1024) ![0, 512] S256x256.size inb_S256x1024_S256x256_0_512,
        k0_pay13 (k0_pay6 (k0_pay3 i)) (View.ld s (Rect.unit ![0, 512] S256x256.size inb_S256x1024_S256x256_0_512))
          (View.ld u (Rect.unit ![0, 512] S256x256.size inb_S256x1024_S256x256_0_512))⟩,
      ⟨Rect.unit (s := S256x1024) ![0, 256] S256x256.size inb_S256x1024_S256x256_0_256,
        k0_pay11 (k0_pay5 (k0_pay3 i)) (View.ld s (Rect.unit ![0, 256] S256x256.size inb_S256x1024_S256x256_0_256))
          (View.ld u (Rect.unit ![0, 256] S256x256.size inb_S256x1024_S256x256_0_256))⟩,
      ⟨Rect.unit (s := S256x1024) ![0, 0] S256x256.size inb_S256x1024_S256x256_0_0,
        k0_pay9 (k0_pay8 (k0_pay3 i) (View.ld s (Rect.unit ![0, 0] S256x256.size inb_S256x1024_S256x256_0_0)))
          (View.ld u (Rect.unit ![0, 0] S256x256.size inb_S256x1024_S256x256_0_0))⟩]

/-- The body, run from any blocks. -/
theorem fwdBody (c : Dev nD) (i : grid0.Coords) (E : Set ℕ) (K : PUnit → sProp 𝕄)
    (arg1 : Memref sig .tc .vmem S256x1024 .bf16) (harg1 : arg1.IsWhole) (arg2 : Memref sig .tc .vmem S256x1024 .bf16) (harg2 : arg2.IsWhole)
    (arg3 : Memref sig .tc .vmem S256x1024 .bf16) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S4x256x256 .bf16) (harg6 : arg6.IsWhole)
    (arg7 : Memref sig .tc .vmem S1x1024 .f32) (harg7 : arg7.IsWhole) (arg8 : Memref sig .tc .vmem S256x2048 .bf16) (harg8 : arg8.IsWhole)
    (arg9 : Memref sig .tc .vmem S256x1024 .bf16) (harg9 : arg9.IsWhole)
    (a s u : Vec F S256x1024 .bf16) (g b : Vec F S1x1024 .f32) (w : Vec F S4x256x256 .bf16) (sc : Vec F S1x1024 .f32) :
    iprop(owns (c : Thread nD τ) arg1 fullShare a ∗ owns (c : Thread nD τ) arg2 fullShare s ∗ owns (c : Thread nD τ) arg3 fullShare u
        ∗ owns (c : Thread nD τ) arg4 fullShare g ∗ owns (c : Thread nD τ) arg5 fullShare b ∗ owns (c : Thread nD τ) arg6 fullShare w
        ∗ owns (c : Thread nD τ) arg7 fullShare sc ∗ (∃ d, owns (c : Thread nD τ) arg8 fullShare d) ∗ (∃ d, owns (c : Thread nD τ) arg9 fullShare d)
        ∗ (iprop(owns (c : Thread nD τ) arg1 fullShare a ∗ owns (c : Thread nD τ) arg2 fullShare s ∗ owns (c : Thread nD τ) arg3 fullShare u
            ∗ owns (c : Thread nD τ) arg4 fullShare g ∗ owns (c : Thread nD τ) arg5 fullShare b ∗ owns (c : Thread nD τ) arg6 fullShare w
            ∗ owns (c : Thread nD τ) arg7 fullShare sc ∗ owns (c : Thread nD τ) arg8 fullShare (zOut i a s u g b w sc)
            ∗ owns (c : Thread nD τ) arg9 fullShare (pmOut i s u)) -∗ K ⟨⟩))
      ⊢ wp frame (wpE (defs₀ (F := F)) Variants.none c none) E
          (cc0_even_fwd i arg1 harg1 arg2 harg2 arg3 harg3 arg4 harg4 arg5 harg5 arg6 harg6 arg7 harg7 arg8 harg8 arg9 harg9) K := by
  simp only [cc0_even_fwd_eq_skeleton]; unfold cc0_even_fwd_skel
  simp only [k0_part1_eq_skeleton, k0_part2_eq_skeleton, k0_part3_eq_skeleton, k0_part4_eq_skeleton]
  unfold k0_part1_skel k0_part2_skel k0_part3_skel k0_part4_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, Hk⟩
  subst h1 h2 h3 h4 h5 h6 h7
  sl_exec
  sl_step
  iapply Hk
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rfl
  isplitl [H8]
  · iexists _; isplitr; swap; · iexact H8
    ipureintro
    exact View.read_writes_eq_canon _ _ _ (View.cover_of_tiledBy _ (fun k => ![256, 256] k) (by sl_kernel_rfl))
  iexists _; isplitr; swap; · iexact H9
  ipureintro
  exact View.read_writes_eq_canon _ _ _ (View.cover_of_tiledL _ S256x256.size (by sl_kernel_rfl))

end Cert.Kernel7Ideal.Even

end
-- ==== Proof.EvenBwd.lean ====
/- The even layer's backward call: what its body leaves in its five blocks, at any float values. -/
module

public import Idealize.ShloMosaic.Lib.Pipeline.ReadBack
public import Idealize.ShloMosaic.Lib.Pipeline.ValueKit
public import proofs.«01_k».proof.Proof.EvenFwd

@[expose] public section

set_option maxRecDepth 16384

noncomputable section

namespace Cert.Kernel7Ideal.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

/-- The body's first step: the sums start at zero. -/
abbrev first (i : grid1.Coords) : Prop := (Scalar.cmpi .ne (Scalar.extui (Scalar.cmpi .eq (BitVec.ofNat 32 (i 0).val) 0#32)) 0#32) = 1#1

/-- One. -/
abbrev unit1 : F .f32 := Scalar.ofBits .f32 0x3F800000#32

/-- The four loads the norm's part of the body starts from. -/
abbrev ldA (x : Vec F S256x1024 .bf16) : Vec F S256x1024 .bf16 := View.ld x (Rect.unit ![0, 0] S256x1024.size inb_S256x1024_S256x1024_0_0)
abbrev ldR (x : Vec F S1x1024 .f32) : Vec F S1x1024 .f32 := View.ld x (Rect.unit ![0, 0] S1x1024.size inb_S1x1024_S1x1024_0_0)
abbrev ldZ (x : Vec F S256x2048 .bf16) : Vec F S256x1024 .bf16 := View.ld x (Rect.unit ![0, 0] S256x1024.size inb_S256x2048_S256x1024_0_0)

section

variable (i : grid1.Coords) (dz : Vec F S256x2048 .bf16) (a p : Vec F S256x1024 .bf16) (g b : Vec F S1x1024 .f32) (w : Vec F S4x256x256 .bf16)
  (sc : Vec F S1x1024 .f32)

/-- The gradient of the norm's input, -/
def gradA : Vec F S256x1024 .f32 := k1_pay14 (k1_pay7 (ldA a)) (k1_pay8 (ldA a)) (k1_pay9 (ldR g)) (k1_pay10 (ldA a) (ldR g) (ldR b))
  (k1_pay11 (ldA a) (ldR g) (ldR b)) (k1_pay12 (ldZ dz)) unit1

/-- its block; -/
def daOut : Vec F S256x1024 .bf16 := View.canon (Val := Elt F) (s := S256x1024) (e := .bf16)
  [⟨Rect.unit (s := S256x1024) ![0, 0] S256x1024.size inb_S256x1024_S256x1024_0_0,
    k1_pay15 (k1_pay7 (ldA a)) (k1_pay8 (ldA a)) (k1_pay9 (ldR g)) (k1_pay10 (ldA a) (ldR g) (ldR b)) (k1_pay11 (ldA a) (ldR g) (ldR b)) (k1_pay12 (ldZ dz)) unit1⟩]

/-- the gradient of the pooled rows at each group of columns, -/
def gradP0 : Vec F S256x256 .f32 := k1_pay30 (View.ld w (Rect.unit ![0, 0, 0] S1x256x256.size inb_S4x256x256_S1x256x256_0_0_0))
  (View.ld dz (Rect.unit ![0, 1024] S256x256.size inb_S256x2048_S256x256_0_1024)) (View.ld sc (Rect.unit ![0, 0] S1x256.size inb_S1x1024_S1x256_0_0))
def gradP1 : Vec F S256x256 .f32 := k1_pay40 (View.ld w (Rect.unit ![1, 0, 0] S1x256x256.size inb_S4x256x256_S1x256x256_1_0_0))
  (View.ld dz (Rect.unit ![0, 1280] S256x256.size inb_S256x2048_S256x256_0_1280)) (View.ld sc (Rect.unit ![0, 256] S1x256.size inb_S1x1024_S1x256_0_256))
def gradP2 : Vec F S256x256 .f32 := k1_pay50 (View.ld w (Rect.unit ![2, 0, 0] S1x256x256.size inb_S4x256x256_S1x256x256_2_0_0))
  (View.ld dz (Rect.unit ![0, 1536] S256x256.size inb_S256x2048_S256x256_0_1536)) (View.ld sc (Rect.unit ![0, 512] S1x256.size inb_S1x1024_S1x256_0_512))
def gradP3 : Vec F S256x256 .f32 := k1_pay60 (View.ld w (Rect.unit ![3, 0, 0] S1x256x256.size inb_S4x256x256_S1x256x256_3_0_0))
  (View.ld dz (Rect.unit ![0, 1792] S256x256.size inb_S256x2048_S256x256_0_1792)) (View.ld sc (Rect.unit ![0, 768] S1x256.size inb_S1x1024_S1x256_0_768))

/-- their block, -/
def dpOut : Vec F S256x1024 .bf16 := View.canon (Val := Elt F) (s := S256x1024) (e := .bf16)
  [⟨Rect.unit (s := S256x1024) ![0, 768] S256x256.size inb_S256x1024_S256x256_0_768, k1_pay2 (gradP3 dz w sc)⟩,
    ⟨Rect.unit (s := S256x1024) ![0, 512] S256x256.size inb_S256x1024_S256x256_0_512, k1_pay53 (gradP2 dz w sc)⟩,
    ⟨Rect.unit (s := S256x1024) ![0, 256] S256x256.size inb_S256x1024_S256x256_0_256, k1_pay43 (gradP1 dz w sc)⟩,
    ⟨Rect.unit (s := S256x1024) ![0, 0] S256x256.size inb_S256x1024_S256x256_0_0, k1_pay33 (gradP0 dz w sc)⟩]

/-- the block of the window sums' gradient; -/
def dsOut : Vec F S256x1024 .bf16 := View.canon (Val := Elt F) (s := S256x1024) (e := .bf16)
  [⟨Rect.unit (s := S256x1024) ![0, 768] S256x256.size inb_S256x1024_S256x256_0_768, k1_pay3 (k1_pay24 (k1_pay19 (BitVec.ofNat 32 (i 0).val))) (gradP3 dz w sc)⟩,
    ⟨Rect.unit (s := S256x1024) ![0, 512] S256x256.size inb_S256x1024_S256x256_0_512, k1_pay54 (k1_pay23 (k1_pay22 (BitVec.ofNat 32 (i 0).val))) (gradP2 dz w sc)⟩,
    ⟨Rect.unit (s := S256x1024) ![0, 256] S256x256.size inb_S256x1024_S256x256_0_256, k1_pay44 (k1_pay21 (BitVec.ofNat 32 (i 0).val)) (gradP1 dz w sc)⟩,
    ⟨Rect.unit (s := S256x1024) ![0, 0] S256x256.size inb_S256x1024_S256x256_0_0, k1_pay34 (k1_pay20 (BitVec.ofNat 32 (i 0).val)) (gradP0 dz w sc)⟩]

/-- The sums over the rows, added to the rows of the block `v`: the last row's four groups of columns, then rows 2, 1, 0. -/
def vecRows (v : Vec F S8x1024 .f32) : List (View.Piece (Elt F) S8x1024 .f32) :=
  [⟨Rect.unit (s := S8x1024) ![3, 768] S1x256.size inb_S8x1024_S1x256_3_768,
      k1_pay58 (View.ld p (Rect.unit ![0, 768] S256x256.size inb_S256x1024_S256x256_0_768)) (View.ld w (Rect.unit ![3, 0, 0] S1x256x256.size inb_S4x256x256_S1x256x256_3_0_0))
        (View.ld dz (Rect.unit ![0, 1792] S256x256.size inb_S256x2048_S256x256_0_1792)) (View.ld v (Rect.unit ![3, 768] S1x256.size inb_S8x1024_S1x256_3_768))⟩,
    ⟨Rect.unit (s := S8x1024) ![3, 512] S1x256.size inb_S8x1024_S1x256_3_512,
      k1_pay48 (View.ld p (Rect.unit ![0, 512] S256x256.size inb_S256x1024_S256x256_0_512)) (View.ld w (Rect.unit ![2, 0, 0] S1x256x256.size inb_S4x256x256_S1x256x256_2_0_0))
        (View.ld dz (Rect.unit ![0, 1536] S256x256.size inb_S256x2048_S256x256_0_1536)) (View.ld v (Rect.unit ![3, 512] S1x256.size inb_S8x1024_S1x256_3_512))⟩,
    ⟨Rect.unit (s := S8x1024) ![3, 256] S1x256.size inb_S8x1024_S1x256_3_256,
      k1_pay38 (View.ld p (Rect.unit ![0, 256] S256x256.size inb_S256x1024_S256x256_0_256)) (View.ld w (Rect.unit ![1, 0, 0] S1x256x256.size inb_S4x256x256_S1x256x256_1_0_0))
        (View.ld dz (Rect.unit ![0, 1280] S256x256.size inb_S256x2048_S256x256_0_1280)) (View.ld v (Rect.unit ![3, 256] S1x256.size inb_S8x1024_S1x256_3_256))⟩,
    ⟨Rect.unit (s := S8x1024) ![3, 0] S1x256.size inb_S8x1024_S1x256_3_0,
      k1_pay28 (View.ld p (Rect.unit ![0, 0] S256x256.size inb_S256x1024_S256x256_0_0)) (View.ld w (Rect.unit ![0, 0, 0] S1x256x256.size inb_S4x256x256_S1x256x256_0_0_0))
        (View.ld dz (Rect.unit ![0, 1024] S256x256.size inb_S256x2048_S256x256_0_1024)) (View.ld v (Rect.unit ![3, 0] S1x256.size inb_S8x1024_S1x256_3_0))⟩,
    ⟨Rect.unit (s := S8x1024) ![2, 0] S1x1024.size inb_S8x1024_S1x1024_2_0, k1_pay18 (gradA dz a g b) (View.ld v (Rect.unit ![2, 0] S1x1024.size inb_S8x1024_S1x1024_2_0))⟩,
    ⟨Rect.unit (s := S8x1024) ![1, 0] S1x1024.size inb_S8x1024_S1x1024_1_0,
      k1_pay17 (k1_pay10 (ldA a) (ldR g) (ldR b)) (k1_pay11 (ldA a) (ldR g) (ldR b)) (k1_pay12 (ldZ dz)) unit1 (View.ld v (Rect.unit ![1, 0] S1x1024.size inb_S8x1024_S1x1024_1_0))⟩,
    ⟨Rect.unit (s := S8x1024) ![0, 0] S1x1024.size inb_S8x1024_S1x1024_0_0,
      k1_pay16 (k1_pay8 (ldA a)) (k1_pay10 (ldA a) (ldR g) (ldR b)) (k1_pay11 (ldA a) (ldR g) (ldR b)) (k1_pay12 (ldZ dz)) unit1
        (View.ld v (Rect.unit ![0, 0] S1x1024.size inb_S8x1024_S1x1024_0_0))⟩]

/-- The products over the rows, added to the four parts of the block `d`. -/
def dwParts (d : Vec F S4x256x256 .f32) : List (View.Piece (Elt F) S4x256x256 .f32) :=
  [⟨Rect.unit (s := S4x256x256) ![3, 0, 0] S1x256x256.size inb_S4x256x256_S1x256x256_3_0_0,
      k1_pay1 (k1_pay55 (View.ld p (Rect.unit ![0, 768] S256x256.size inb_S256x1024_S256x256_0_768)))
        (k1_pay59 (View.ld dz (Rect.unit ![0, 1792] S256x256.size inb_S256x2048_S256x256_0_1792)) (View.ld sc (Rect.unit ![0, 768] S1x256.size inb_S1x1024_S1x256_0_768)))
        (View.ld d (Rect.unit ![3, 0, 0] S1x256x256.size inb_S4x256x256_S1x256x256_3_0_0))⟩,
    ⟨Rect.unit (s := S4x256x256) ![2, 0, 0] S1x256x256.size inb_S4x256x256_S1x256x256_2_0_0,
      k1_pay52 (k1_pay45 (View.ld p (Rect.unit ![0, 512] S256x256.size inb_S256x1024_S256x256_0_512)))
        (k1_pay49 (View.ld dz (Rect.unit ![0, 1536] S256x256.size inb_S256x2048_S256x256_0_1536)) (View.ld sc (Rect.unit ![0, 512] S1x256.size inb_S1x1024_S1x256_0_512)))
        (k1_pay51 (View.ld d (Rect.unit ![2, 0, 0] S1x256x256.size inb_S4x256x256_S1x256x256_2_0_0)))⟩,
    ⟨Rect.unit (s := S4x256x256) ![1, 0, 0] S1x256x256.size inb_S4x256x256_S1x256x256_1_0_0,
      k1_pay42 (k1_pay41 (View.ld p (Rect.unit ![0, 256] S256x256.size inb_S256x1024_S256x256_0_256))
        (View.ld dz (Rect.unit ![0, 1280] S256x256.size inb_S256x2048_S256x256_0_1280)) (View.ld sc (Rect.unit ![0, 256] S1x256.size inb_S1x1024_S1x256_0_256))
        (View.ld d (Rect.unit ![1, 0, 0] S1x256x256.size inb_S4x256x256_S1x256x256_1_0_0)))⟩,
    ⟨Rect.unit (s := S4x256x256) ![0, 0, 0] S1x256x256.size inb_S4x256x256_S1x256x256_0_0_0,
      k1_pay32 (k1_pay31 (View.ld p (Rect.unit ![0, 0] S256x256.size inb_S256x1024_S256x256_0_0))
        (View.ld dz (Rect.unit ![0, 1024] S256x256.size inb_S256x2048_S256x256_0_1024)) (View.ld sc (Rect.unit ![0, 0] S1x256.size inb_S1x1024_S1x256_0_0))
        (View.ld d (Rect.unit ![0, 0, 0] S1x256x256.size inb_S4x256x256_S1x256x256_0_0_0)))⟩]

/-- What a step makes of the block of sums `v`, -/
def vecOut (v : Vec F S8x1024 .f32) : Vec F S8x1024 .f32 := View.canon (Val := Elt F) (s := S8x1024) (e := .f32)
  (vecRows dz a p g b w v ++ [⟨Rect.unit (s := S8x1024) ![0, 0] S8x1024.size inb_S8x1024_S8x1024_0_0, v⟩])

/-- and of the block of products `d`. -/
def dwOut (d : Vec F S4x256x256 .f32) : Vec F S4x256x256 .f32 := View.canon (Val := Elt F) (s := S4x256x256) (e := .f32)
  (dwParts dz p sc d ++ [⟨Rect.unit (s := S4x256x256) ![0, 0, 0] S4x256x256.size inb_S4x256x256_S4x256x256_0_0_0, d⟩])

end

/-- A buffer partly written over reads as if it had first been stored whole. -/
theorem read_writes_kept {sig' : RefSig} {κ : Kind} {sp : Space} {s : Shape} {e : EltTy} (v : View sig' κ sp s e) (f : v.ty.Contents (Elt F))
    (r : Rect s) (q : r.shape.Idx → Elt F e) (hq : ∀ x, q x = v.read (Elt F) f (r.emb x)) (hr : ∀ y, y ∈ r.set) (y : s.Idx) :
    ∀ L : List (View.Piece (Elt F) s e), v.read (Elt F) (v.writes (Elt F) f L) y = View.canon (Val := Elt F) (s := s) (e := e) (L ++ [⟨r, q⟩]) y
  | [] => by
    obtain ⟨x, rfl⟩ : ∃ x, r.emb x = y := r.exists_idx_of_mem (hr y)
    rw [List.nil_append, View.canon_cons_emb, hq]
    rfl
  | ⟨r', w⟩ :: L => by
    by_cases hy : y ∈ r'.set
    · obtain ⟨x, rfl⟩ : ∃ x, r'.emb x = y := r'.exists_idx_of_mem hy
      rw [List.cons_append, View.read_writes_cons_emb, View.canon_cons_emb]
    · have hy' : y ∉ Finset.univ.map r'.emb := by rwa [Rect.map_emb_univ]
      rw [List.cons_append, View.writes_cons, View.read_slice_write_of_not_mem r' _ _ _ hy', View.canon_cons_of_not_mem _ _ hy]
      exact read_writes_kept v f r q hq hr y L

theorem whole_mem {s : Shape} (off : Fin s.rank → ℕ) (inb) (h : ∀ a, off a = 0) (y : s.Idx) : y ∈ (Rect.unit (s := s) off s.size inb).set :=
  Rect.mem_set_unit.mpr fun a => ⟨by rw [h]; exact Nat.zero_le _, by rw [h, Nat.zero_add]; exact (y a).isLt⟩

set_option maxHeartbeats 2000000 in
/-- The body at any step: `V` and `D` are what the two running blocks hold once the first step has cleared them. -/
theorem bwdBody (c : Dev nD) (i : grid1.Coords) (E : Set ℕ) (K : PUnit → sProp 𝕄)
    (arg1 : Memref sig .tc .vmem S256x2048 .bf16) (harg1 : arg1.IsWhole) (arg2 : Memref sig .tc .vmem S256x1024 .bf16) (harg2 : arg2.IsWhole)
    (arg3 : Memref sig .tc .vmem S256x1024 .bf16) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S4x256x256 .bf16) (harg6 : arg6.IsWhole)
    (arg7 : Memref sig .tc .vmem S1x1024 .f32) (harg7 : arg7.IsWhole) (arg8 : Memref sig .tc .vmem S256x1024 .bf16) (harg8 : arg8.IsWhole)
    (arg9 : Memref sig .tc .vmem S256x1024 .bf16) (harg9 : arg9.IsWhole) (arg10 : Memref sig .tc .vmem S256x1024 .bf16) (harg10 : arg10.IsWhole)
    (arg11 : Memref sig .tc .vmem S8x1024 .f32) (harg11 : arg11.IsWhole) (arg12 : Memref sig .tc .vmem S4x256x256 .f32) (harg12 : arg12.IsWhole)
    (dz : Vec F S256x2048 .bf16) (a p : Vec F S256x1024 .bf16) (g b : Vec F S1x1024 .f32) (w : Vec F S4x256x256 .bf16) (sc : Vec F S1x1024 .f32)
    (v : Vec F S8x1024 .f32) (d : Vec F S4x256x256 .f32) (V : Vec F S8x1024 .f32) (D : Vec F S4x256x256 .f32)
    (hc : first i → V = k1_pay4 ∧ D = k1_pay5) (hc' : ¬ first i → V = v ∧ D = d) :
    iprop(owns (c : Thread nD τ) arg1 fullShare dz ∗ owns (c : Thread nD τ) arg2 fullShare a ∗ owns (c : Thread nD τ) arg3 fullShare p
        ∗ owns (c : Thread nD τ) arg4 fullShare g ∗ owns (c : Thread nD τ) arg5 fullShare b ∗ owns (c : Thread nD τ) arg6 fullShare w
        ∗ owns (c : Thread nD τ) arg7 fullShare sc ∗ (∃ d, owns (c : Thread nD τ) arg8 fullShare d) ∗ (∃ d, owns (c : Thread nD τ) arg9 fullShare d)
        ∗ (∃ d, owns (c : Thread nD τ) arg10 fullShare d) ∗ owns (c : Thread nD τ) arg11 fullShare v ∗ owns (c : Thread nD τ) arg12 fullShare d
        ∗ (iprop(owns (c : Thread nD τ) arg1 fullShare dz ∗ owns (c : Thread nD τ) arg2 fullShare a ∗ owns (c : Thread nD τ) arg3 fullShare p
            ∗ owns (c : Thread nD τ) arg4 fullShare g ∗ owns (c : Thread nD τ) arg5 fullShare b ∗ owns (c : Thread nD τ) arg6 fullShare w
            ∗ owns (c : Thread nD τ) arg7 fullShare sc ∗ owns (c : Thread nD τ) arg8 fullShare (daOut dz a g b)
            ∗ owns (c : Thread nD τ) arg9 fullShare (dsOut i dz w sc) ∗ owns (c : Thread nD τ) arg10 fullShare (dpOut dz w sc)
            ∗ owns (c : Thread nD τ) arg11 fullShare (vecOut dz a p g b w V) ∗ owns (c : Thread nD τ) arg12 fullShare (dwOut dz p sc D)) -∗ K ⟨⟩))
      ⊢ wp frame (wpE (defs₀ (F := F)) Variants.none c none) E
          (cc1_even_bwd i arg1 harg1 arg2 harg2 arg3 harg3 arg4 harg4 arg5 harg5 arg6 harg6 arg7 harg7 arg8 harg8 arg9 harg9 arg10 harg10
            arg11 harg11 arg12 harg12) K := by
  simp only [cc1_even_bwd_eq_skeleton]; unfold cc1_even_bwd_skel
  simp only [k1_part1_eq_skeleton, k1_part2_eq_skeleton, k1_part3_eq_skeleton, k1_part4_eq_skeleton, k1_part5_eq_skeleton, k1_part6_eq_skeleton,
    k1_part7_eq_skeleton]
  unfold k1_part1_skel k1_part2_skel k1_part3_skel k1_part4_skel k1_part5_skel k1_part6_skel k1_part7_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%f11, %h11, H11⟩, ⟨%f12, %h12, H12⟩, Hk⟩
  subst h1 h2 h3 h4 h5 h6 h7 h11 h12
  by_cases hf : first i
  · obtain ⟨rfl, rfl⟩ := hc hf
    sl_exec (disch := first | sl_exact hf)
    sl_step
    iapply Hk
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rfl
    isplitl [H6]; · iexists _; isplitr; swap; · iexact H6
                    ipureintro; rfl
    isplitl [H7]; · iexists _; isplitr; swap; · iexact H7
                    ipureintro; rfl
    isplitl [H8]
    · iexists _; isplitr; swap; · iexact H8
      ipureintro
      exact View.read_writes_eq_canon _ _ _ (View.cover_of_tiledL _ S256x1024.size (by sl_kernel_rfl))
    isplitl [H9]
    · iexists _; isplitr; swap; · iexact H9
      ipureintro
      exact View.read_writes_eq_canon _ _ _ (View.cover_of_tiledL _ S256x256.size (by sl_kernel_rfl))
    isplitl [H10]
    · iexists _; isplitr; swap; · iexact H10
      ipureintro
      exact View.read_writes_eq_canon _ _ _ (View.cover_of_tiledL _ S256x256.size (by sl_kernel_rfl))
    isplitl [H11]
    · iexists _; isplitr; swap; · iexact H11
      ipureintro
      refine (View.read_writes_eq_canon _ _ _ (View.cover_of_wholeMem _ (by sl_whole_mem))).trans ?_
      frame_open
      simp (disch := decide) only [↓View.readCov_skip, View.readCov_fill]
      rfl
    · iexists _; isplitr; swap; · iexact H12
      ipureintro
      refine (View.read_writes_eq_canon _ _ _ (View.cover_of_wholeMem _ (by sl_whole_mem))).trans ?_
      frame_open
      simp (disch := decide) only [↓View.readCov_skip, View.readCov_fill]
      rfl
  · obtain ⟨rfl, rfl⟩ := hc' hf
    sl_exec (disch := first | sl_exact hf)
    sl_step
    iapply Hk
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rfl
    isplitl [H6]; · iexists _; isplitr; swap; · iexact H6
                    ipureintro; rfl
    isplitl [H7]; · iexists _; isplitr; swap; · iexact H7
                    ipureintro; rfl
    isplitl [H8]
    · iexists _; isplitr; swap; · iexact H8
      ipureintro
      exact View.read_writes_eq_canon _ _ _ (View.cover_of_tiledL _ S256x1024.size (by sl_kernel_rfl))
    isplitl [H9]
    · iexists _; isplitr; swap; · iexact H9
      ipureintro
      exact View.read_writes_eq_canon _ _ _ (View.cover_of_tiledL _ S256x256.size (by sl_kernel_rfl))
    isplitl [H10]
    · iexists _; isplitr; swap; · iexact H10
      ipureintro
      exact View.read_writes_eq_canon _ _ _ (View.cover_of_tiledL _ S256x256.size (by sl_kernel_rfl))
    isplitl [H11]
    · iexists _; isplitr; swap; · iexact H11
      ipureintro
      refine funext fun y => read_writes_kept _ _ _ _ (fun x => ?_) (whole_mem _ _ (by decide)) y _
      exact (congrFun (View.ld_unit_lit' _ _ (by decide)) x).symm
    · iexists _; isplitr; swap; · iexact H12
      ipureintro
      refine funext fun y => read_writes_kept _ _ _ _ (fun x => ?_) (whole_mem _ _ (by decide)) y _
      exact (congrFun (View.ld_unit_lit' _ _ (by decide)) x).symm

end Cert.Kernel7Ideal.Even

end
-- ==== Proof.EvenDat.lean ====
/- The even layer's two calls: their proof data, and the run of the program from the launch to the return, at any float values. -/
module

public import proofs.«01_k».proof.Proof.EvenBwd

@[expose] public section

set_option maxRecDepth 16384

noncomputable section

namespace Cert.Kernel7Ideal.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- The block of a window of the forward call, -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- and of the backward call. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two blocks the backward call adds to over its steps. -/
def sums (c : Dev nD) : (n : ℕ) → n < cfg1.N → Vec F S8x1024 .f32 × Vec F S4x256x256 .f32
  | 0, h => (vecOut (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) k1_pay4,
      dwOut (iblk1 V c 0 ⟨0, h⟩) (iblk1 V c 2 ⟨0, h⟩) (iblk1 V c 6 ⟨0, h⟩) k1_pay5)
  | n + 1, h => (vecOut (iblk1 V c 0 ⟨n + 1, h⟩) (iblk1 V c 1 ⟨n + 1, h⟩) (iblk1 V c 2 ⟨n + 1, h⟩) (iblk1 V c 3 ⟨n + 1, h⟩) (iblk1 V c 4 ⟨n + 1, h⟩)
        (iblk1 V c 5 ⟨n + 1, h⟩) (sums c n (Nat.lt_of_succ_lt h)).1,
      dwOut (iblk1 V c 0 ⟨n + 1, h⟩) (iblk1 V c 2 ⟨n + 1, h⟩) (iblk1 V c 6 ⟨n + 1, h⟩) (sums c n (Nat.lt_of_succ_lt h)).2)

theorem sums_zero1 (c : Dev nD) (h : 0 < cfg1.N) : (sums V c 0 h).1
    = vecOut (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) k1_pay4 := by rw [sums]
theorem sums_zero2 (c : Dev nD) (h : 0 < cfg1.N) : (sums V c 0 h).2
    = dwOut (iblk1 V c 0 ⟨0, h⟩) (iblk1 V c 2 ⟨0, h⟩) (iblk1 V c 6 ⟨0, h⟩) k1_pay5 := by rw [sums]
theorem sums_succ1 (c : Dev nD) (n : ℕ) (h : n + 1 < cfg1.N) : (sums V c (n + 1) h).1
    = vecOut (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (sums V c n (Nat.lt_of_succ_lt h)).1 := by rw [sums]
theorem sums_succ2 (c : Dev nD) (n : ℕ) (h : n + 1 < cfg1.N) : (sums V c (n + 1) h).2
    = dwOut (iblk1 V c 0 ⟨n + 1, h⟩) (iblk1 V c 2 ⟨n + 1, h⟩) (iblk1 V c 6 ⟨n + 1, h⟩) (sums V c n (Nat.lt_of_succ_lt h)).2 := by rw [sums]

/-- The forward call's data: its inputs stay, its two outputs hold the body's blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => zOut (grid0.coords t) (iblk0 V c 0 t) (iblk0 V c 1 t) (iblk0 V c 2 t) (iblk0 V c 3 t) (iblk0 V c 4 t) (iblk0 V c 5 t) (iblk0 V c 6 t)
    | ⟨8, _⟩ => pmOut (grid0.coords t) (iblk0 V c 1 t) (iblk0 V c 2 t)
  Φ _ := Pipeline.ΦA spec0 c
  q _ := fullShare
  owed _ := 0

/-- The backward call's data: its last two outputs hold the running blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => daOut (iblk1 V c 0 t) (iblk1 V c 1 t) (iblk1 V c 3 t) (iblk1 V c 4 t)
    | ⟨8, _⟩ => dsOut (grid1.coords t) (iblk1 V c 0 t) (iblk1 V c 5 t) (iblk1 V c 6 t)
    | ⟨9, _⟩ => dpOut (iblk1 V c 0 t) (iblk1 V c 5 t) (iblk1 V c 6 t)
    | ⟨10, _⟩ => (sums V c t.val t.isLt).1
    | ⟨11, _⟩ => (sums V c t.val t.isLt).2
  Φ _ := Pipeline.ΦA spec1 c
  q _ := fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem after0_7 (c : Dev nD) (t : Fin cfg0.N) : (dat0 V c).after 7 t = zOut (grid0.coords t) (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = pmOut (grid0.coords t) (iblk0 V c 1 t) (iblk0 V c 2 t) := by dsimp only [dat0]
theorem after1_7 (c : Dev nD) (t : Fin cfg1.N) : (dat1 V c).after 7 t = daOut (iblk1 V c 0 t) (iblk1 V c 1 t) (iblk1 V c 3 t) (iblk1 V c 4 t) := by dsimp only [dat1]
theorem after1_8 (c : Dev nD) (t : Fin cfg1.N) : (dat1 V c).after 8 t = dsOut (grid1.coords t) (iblk1 V c 0 t) (iblk1 V c 5 t) (iblk1 V c 6 t) := by dsimp only [dat1]
theorem after1_9 (c : Dev nD) (t : Fin cfg1.N) : (dat1 V c).after 9 t = dpOut (iblk1 V c 0 t) (iblk1 V c 5 t) (iblk1 V c 6 t) := by dsimp only [dat1]
theorem after1_10 (c : Dev nD) (t : Fin cfg1.N) : (dat1 V c).after 10 t = (sums V c t.val t.isLt).1 := by dsimp only [dat1]
theorem after1_11 (c : Dev nD) (t : Fin cfg1.N) : (dat1 V c).after 11 t = (sums V c t.val t.isLt).2 := by dsimp only [dat1]
theorem before0_0 (c : Dev nD) (t : Fin cfg0.N) (d) : (dat0 V c).before 0 t d = iblk0 V c 0 t :=
  ((dat0 V c).before_in_eq_fetched 0 rfl (fun _ => rfl) (fun _ _ _ => rfl) (fun t => by dsimp only [dat0]; unfold Dat.blockOf iblk0; rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by dsimp only [dat0]; unfold Dat.blockOf iblk0; rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by dsimp only [dat0]; unfold Dat.blockOf iblk0; rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by dsimp only [dat0]; unfold Dat.blockOf iblk0; rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by dsimp only [dat0]; unfold Dat.blockOf iblk0; rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by dsimp only [dat0]; unfold Dat.blockOf iblk0; rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by dsimp only [dat0]; unfold Dat.blockOf iblk0; rfl) t d).trans
    (by unfold Dat.fetched Dat.blockOf iblk0; rw [A_eq0]; try rfl)
theorem before1_0 (c : Dev nD) (t : Fin cfg1.N) (d) : (dat1 V c).before 0 t d = iblk1 V c 0 t :=
  ((dat1 V c).before_in_eq_fetched 0 rfl (fun _ => rfl) (fun _ _ _ => rfl) (fun t => by dsimp only [dat1]; unfold Dat.blockOf iblk1; rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by dsimp only [dat1]; unfold Dat.blockOf iblk1; rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by dsimp only [dat1]; unfold Dat.blockOf iblk1; rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by dsimp only [dat1]; unfold Dat.blockOf iblk1; rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by dsimp only [dat1]; unfold Dat.blockOf iblk1; rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by dsimp only [dat1]; unfold Dat.blockOf iblk1; rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by dsimp only [dat1]; unfold Dat.blockOf iblk1; rfl) t d).trans
    (by unfold Dat.fetched Dat.blockOf iblk1; rw [A_eq1]; try rfl)

theorem first_iff : ∀ t : Fin cfg1.N, first (grid1.coords t) ↔ t.val = 0 := (by decide +kernel : ∀ t : Fin grid1.N, _)

/-- A running block is what the step before left. -/
theorem before1_10 (c : Dev nD) (n : ℕ) (h : n + 1 < cfg1.N) (d) : (dat1 V c).before 10 ⟨n + 1, h⟩ d = (sums V c n (Nat.lt_of_succ_lt h)).1 :=
  ((dat1 V c).before_out_kept 10 rfl ⟨n + 1, h⟩ (Nat.succ_ne_zero n)
    (Bool.eq_false_iff.mpr fun hf => by have := (flush1_10 _).mp hf; dsimp only at this; have : n + 1 < 16 := h; omega) (fun _ => rfl) (fun _ _ => rfl) d).trans
    (after1_10 V c ⟨n, Nat.lt_of_succ_lt h⟩)
theorem before1_11 (c : Dev nD) (n : ℕ) (h : n + 1 < cfg1.N) (d) : (dat1 V c).before 11 ⟨n + 1, h⟩ d = (sums V c n (Nat.lt_of_succ_lt h)).2 :=
  ((dat1 V c).before_out_kept 11 rfl ⟨n + 1, h⟩ (Nat.succ_ne_zero n)
    (Bool.eq_false_iff.mpr fun hf => by have := (flush1_11 _).mp hf; dsimp only at this; have : n + 1 < 16 := h; omega) (fun _ => rfl) (fun _ _ => rfl) d).trans
    (after1_11 V c ⟨n, Nat.lt_of_succ_lt h⟩)

/-- What the body of call 0 is entered with, and what it leaves. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl, show (dat0 V c).owesAt () t.succ = (dat0 V c).owesAt () t.castSucc from rfl,
    after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (fwdBody c (grid0.coords t) Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- What the body of call 1 is entered with, and what it leaves. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

theorem sound1_of (c : Dev nD) (t : Fin cfg1.N) (X : Vec F S8x1024 .f32) (Y : Vec F S4x256x256 .f32)
    (h0 : t.val = 0 → X = k1_pay4 ∧ Y = k1_pay5) (h1 : ∀ d e, ¬ t.val = 0 → X = (dat1 V c).before 10 t d ∧ Y = (dat1 V c).before 11 t e)
    (hX : (sums V c t.val t.isLt).1 = vecOut (iblk1 V c 0 t) (iblk1 V c 1 t) (iblk1 V c 2 t) (iblk1 V c 3 t) (iblk1 V c 4 t) (iblk1 V c 5 t) X)
    (hY : (sums V c t.val t.isLt).2 = dwOut (iblk1 V c 0 t) (iblk1 V c 2 t) (iblk1 V c 6 t) Y) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl, show (dat1 V c).owesAt () t.succ = (dat1 V c).owesAt () t.castSucc from rfl,
    after1_7, after1_8, after1_9, after1_10, after1_11, hX, hY]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (bwdBody c (grid1.coords t) Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t)
    ((dat1 V c).before 10 t d10) ((dat1 V c).before 11 t d11) X Y (fun h => h0 ((first_iff t).mp h)) (fun h => h1 d10 d11 fun e => h ((first_iff t).mpr e)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem sound1 (c : Dev nD) (t : Fin cfg1.N) :
    bodyPre1 V c t ⊢ wp frame (wpE (defs₀ (F := F)) Variants.none c none) Set.univ (bodyAt1 t) (fun _ => bodyPost1 V c t) := by
  obtain ⟨n, hn⟩ := t
  cases n with
  | zero =>
    exact sound1_of V c ⟨0, hn⟩ k1_pay4 k1_pay5 (fun _ => ⟨rfl, rfl⟩) (fun _ _ h => absurd rfl h) (sums_zero1 V c hn) (sums_zero2 V c hn)
  | succ n =>
    exact sound1_of V c ⟨n + 1, hn⟩ (sums V c n (Nat.lt_of_succ_lt hn)).1 (sums V c n (Nat.lt_of_succ_lt hn)).2
      (fun h => absurd h (Nat.succ_ne_zero n)) (fun d e _ => ⟨(before1_10 V c n hn d).symm, (before1_11 V c n hn e).symm⟩)
      (sums_succ1 V c n hn) (sums_succ2 V c n hn)

theorem row0 (t : Fin cfg0.N) : defs₀ (F := F) .tc cfg0.body (cfg0.bodyArgs t (cfg0.slots t)) = bodyAt0 t := by
  unfold defs₀; rw [Defs.onTc_tc]
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl
theorem row1 (t : Fin cfg1.N) : defs₀ (F := F) .tc cfg1.body (cfg1.bodyArgs t (cfg1.slots t)) = bodyAt1 t := by
  unfold defs₀; rw [Defs.onTc_tc]
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

end

end Cert.Kernel7Ideal.Even

end
-- ==== Proof.EvenRun.lean ====
/- The even layer's two calls: the run of the program from the launch to the return, at any float values. -/
module

public import proofs.«01_k».proof.Proof.EvenDat

@[expose] public section

set_option maxRecDepth 16384

noncomputable section

namespace Cert.Kernel7Ideal.Even

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold before the calls, between them and after them -/

abbrev args : List (Ref sig .tc) := [main_arg0, main_arg1, main_arg2, main_arg3, main_arg4, main_arg5, main_arg6, main_arg7, main_arg8]
abbrev hostRefs : List (Ref sig .tc) := [main_v0, main_v1, main_v2, main_v3, main_v4, main_v5, main_v6, main_v7]

theorem host_fresh : (hostOps0 : List (HloOp τ sig (Elt F))).Forall fun op => op.fresh = ∅ := by
  simp only [List.Forall]; repeat' constructor
theorem host_writes : (hostOps0 : List (HloOp τ sig (Elt F))).Forall fun op => op.writes ⊆ (hostRefs.map (Proc.devRef (τ := τ) .tc)).toFinset :=
  StableHlo.forall_writes_sub_of_map rfl

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) := Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
def W3 (c : Dev nD) : Valuation τ sig (Elt F) := Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b

theorem W1_of (c : Dev nD) (r : Ref sig .tc) (h : r ∉ hostRefs) : W1 m ρ c (Proc.devRef .tc r) = m ((c : Thread nD τ).loc r) :=
  StableHlo.after_of_writes_sub hostOps0 _ host_writes h

theorem exit0 (c : Dev nD) (w : Fin cfg0.W) : (dat0 (V1 m ρ) c).arrAt w cfg0.N = W2 m ρ c (Proc.devRef .tc (Pipeline.arrRef spec0 w)) := by
  unfold W2; symm; exact Pipeline.withArrays_arr spec0 launch0.win.arr_inj c _ _ w
theorem rest0 (c : Dev nD) (b : Ref sig .tc) (hb : ∀ w, Pipeline.arrRef spec0 w ≠ b) : W2 m ρ c (Proc.devRef .tc b) = W1 m ρ c (Proc.devRef .tc b) := by
  unfold W2; exact Pipeline.withArrays_of_ne spec0 c _ _ b hb
theorem kept0 (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (exit0 m ρ c w).symm.trans (((dat0 (V1 m ρ) c).arrAt_in w (h w rfl) _).trans (A_eq0 (V1 m ρ) c w))
  · exact rest0 m ρ c r fun w e => hw ⟨w, e⟩
theorem args_in0 : ∀ a ∈ args, ∀ w : Fin cfg0.W, Pipeline.arrRef spec0 w = a → (cfg0.win w).isOut = false :=
  ListAll.forall_mem_of_all_decide (by decide +kernel)

theorem exit1 (c : Dev nD) (w : Fin cfg1.W) : (dat1 (V2 m ρ) c).arrAt w cfg1.N = W3 m ρ c (Proc.devRef .tc (Pipeline.arrRef spec1 w)) := by
  unfold W3; symm; exact Pipeline.withArrays_arr spec1 launch1.win.arr_inj c _ _ w
theorem rest1 (c : Dev nD) (b : Ref sig .tc) (hb : ∀ w, Pipeline.arrRef spec1 w ≠ b) : W3 m ρ c (Proc.devRef .tc b) = W2 m ρ c (Proc.devRef .tc b) := by
  unfold W3; exact Pipeline.withArrays_of_ne spec1 c _ _ b hb
theorem kept1 (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (exit1 m ρ c w).symm.trans (((dat1 (V2 m ρ) c).arrAt_in w (h w rfl) _).trans (A_eq1 (V2 m ρ) c w))
  · exact rest1 m ρ c r fun w e => hw ⟨w, e⟩
theorem args_in1 : ∀ a ∈ args, ∀ w : Fin cfg1.W, Pipeline.arrRef spec1 w = a → (cfg1.win w).isOut = false :=
  ListAll.forall_mem_of_all_decide (by decide +kernel)

theorem args_host : ∀ a ∈ args, a ∉ hostRefs := ListAll.forall_mem_of_all_decide (by decide +kernel)

/-- An argument holds throughout what it held at the launch. -/
theorem W1_arg (c : Dev nD) (a : Ref sig .tc) (h : a ∈ args) : W1 m ρ c (Proc.devRef .tc a) = m ((c : Thread nD τ).loc a) := W1_of m ρ c a (args_host a h)
theorem W2_arg (c : Dev nD) (a : Ref sig .tc) (h : a ∈ args) : W2 m ρ c (Proc.devRef .tc a) = m ((c : Thread nD τ).loc a) :=
  (kept0 m ρ c a (args_in0 a h)).trans (W1_arg m ρ c a h)
theorem W3_arg (c : Dev nD) (a : Ref sig .tc) (h : a ∈ args) : W3 m ρ c (Proc.devRef .tc a) = m ((c : Thread nD τ).loc a) :=
  (kept1 m ρ c a (args_in1 a h)).trans (W2_arg m ρ c a h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two calls as parts of the program -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0

/-- What a core holds besides its buffers: its generator, and that it owes nothing. -/
abbrev R (c : Dev nD) : sProp 𝕄 := iprop((∃ r, prngReg c r) ∗ ∃ W, owes (c : Thread nD τ) (0 : CellTallies nD τ sig Unit) W)

/-- What a core holds at the end. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- Call 0. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0 m ρ c)
      (fun b hb => rest0 m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (exit1 m ρ c)
      (fun b hb => rest1 m ρ c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's parts in order. -/
abbrev segs : List (Pipeline.Seg (pcfgs (F := F)) adm (pdats m ρ) () defs₀ 𝒱₀ L lv) :=
  [ .host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp host_fresh) op h) (W0 m ρ) R),
    .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every buffer that outlives the run ends at the last contents, and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨(h.1 c _ (mem_uc main_arg0 (by decide))).trans (W3_arg m ρ c main_arg0 (by decide)),
     (h.1 c _ (mem_uc main_arg1 (by decide))).trans (W3_arg m ρ c main_arg1 (by decide)),
     (h.1 c _ (mem_uc main_arg2 (by decide))).trans (W3_arg m ρ c main_arg2 (by decide)),
     (h.1 c _ (mem_uc main_arg3 (by decide))).trans (W3_arg m ρ c main_arg3 (by decide)),
     (h.1 c _ (mem_uc main_arg4 (by decide))).trans (W3_arg m ρ c main_arg4 (by decide)),
     (h.1 c _ (mem_uc main_arg5 (by decide))).trans (W3_arg m ρ c main_arg5 (by decide)),
     (h.1 c _ (mem_uc main_arg6 (by decide))).trans (W3_arg m ρ c main_arg6 (by decide)),
     (h.1 c _ (mem_uc main_arg7 (by decide))).trans (W3_arg m ρ c main_arg7 (by decide)),
     (h.1 c _ (mem_uc main_arg8 (by decide))).trans (W3_arg m ρ c main_arg8 (by decide))⟩, h.2⟩) (run_all m ρ)

end Cert.Kernel7Ideal.Even

end
-- ==== Proof.Scalars.lean ====
/- Facts about single extended reals: the two spellings of the sigmoid, and the gradient of a gate. -/
module

public import Idealize.ShloMosaic.PureOps.Ideal
public import Idealize.ShloMosaic.Lib.IdealHost

@[expose] public section

noncomputable section

namespace Cert.Scalars

open Idealize.ShloMosaic

/-- The f32 pattern of one half. -/
theorem half_f32 : Ideal.ofBits .f32 0x3F000000#32 = ((1 / 2 : ℝ) : EReal) := by
  simp [Ideal.ofBits, Ideal.ieee]; norm_cast; norm_num

/-- The bf16 pattern of infinity. -/
theorem inf_bf16 : Ideal.ofBits .bf16 0x7F80#16 = ⊤ := by
  simp [Ideal.ofBits, Ideal.ieee]

/-- The sigmoid by its definition, as the host spells it. -/
def sgm (g : EReal) : EReal := Ideal.div 1 (1 + Ideal.exp (-g))

/-- The sigmoid as the kernels spell it, through the hyperbolic tangent. -/
def sgmT (g : EReal) : EReal :=
  Ideal.ofBits .f32 0x3F000000#32 * Ideal.tanh (Ideal.ofBits .f32 0x3F000000#32 * g) + Ideal.ofBits .f32 0x3F000000#32

theorem sgm_top : sgm ⊤ = 1 := Ideal.logistic_top
theorem sgm_bot : sgm ⊥ = 0 := Ideal.logistic_bot
theorem sgm_coe (r : ℝ) : sgm r = (((1 + Real.exp (-r))⁻¹ : ℝ) : EReal) := Ideal.logistic_coe r

/-- The two spellings agree everywhere, at the infinities too. -/
theorem sgmT_eq (g : EReal) : sgmT g = sgm g := by
  unfold sgmT
  rw [half_f32]
  induction g using EReal.rec with
  | bot =>
    rw [sgm_bot, EReal.coe_mul_bot_of_pos (by norm_num), Ideal.tanh_bot,
      show (-1 : EReal) = ((-1 : ℝ) : EReal) by rw [EReal.coe_neg, EReal.coe_one]]
    norm_cast; norm_num
  | top =>
    rw [sgm_top, EReal.coe_mul_top_of_pos (by norm_num), Ideal.tanh_top]
    norm_cast; norm_num
  | coe r =>
    rw [sgm_coe]
    norm_cast
    rw [Ideal.tanh_coe]
    norm_cast
    rw [Real.tanh_eq_sinh_div_cosh, Real.sinh_eq, Real.cosh_eq]
    have h : Real.exp (-r) = Real.exp (-(1 / 2 * r)) * Real.exp (-(1 / 2 * r)) := by
      rw [← Real.exp_add]; congr 1; ring
    have h1 : Real.exp (1 / 2 * r) = (Real.exp (-(1 / 2 * r)))⁻¹ := by rw [Real.exp_neg, inv_inv]
    rw [h, h1]
    have hp := Real.exp_pos (-(1 / 2 * r))
    generalize Real.exp (-(1 / 2 * r)) = e at hp ⊢
    have : e ≠ 0 := hp.ne'
    field_simp
    ring

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, by norm_cast⟩
theorem IsReal.add {x y : EReal} (hx : IsReal x) (hy : IsReal y) : IsReal (x + y) := by
  obtain ⟨a, rfl⟩ := hx; obtain ⟨b, rfl⟩ := hy; exact ⟨a + b, by norm_cast⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- What the precondition's comparison says of one element. -/
theorem fin_of_abs_lt (x : EReal) (h : max x (-x) < ⊤) : IsReal x := by
  induction x using EReal.rec with
  | bot => simp at h
  | top => simp at h
  | coe r => exact ⟨r, rfl⟩

/-- The gradient of `silu(g) * up` with respect to `g`, the kernel's factored form against the two terms of the product
    rule. The gate may be infinite; `up` and the incoming gradient are real numbers. -/
theorem gate_grad (g up da : EReal) (hu : IsReal up) (hd : IsReal da) :
    da * (up * (sgm g * (1 + g * (1 - sgm g))))
      = da * up * sgm g + g * (da * up) * (sgm g * (1 - sgm g)) := by
  obtain ⟨u, rfl⟩ := hu; obtain ⟨d, rfl⟩ := hd
  induction g using EReal.rec with
  | bot => rw [sgm_bot]; simp
  | top =>
    rw [sgm_top]
    have : (1 : EReal) - 1 = 0 := by rw [← EReal.coe_one, ← EReal.coe_sub]; norm_num
    simp [this]
  | coe r =>
    rw [sgm_coe]
    generalize (1 + Real.exp (-r))⁻¹ = s
    norm_cast
    ring

end Cert.Scalars

end
-- ==== Proof.FfnValue.lean ====
/- What the two feed-forward calls leave in their result arrays, from the arrays they are entered with. -/
module

public import proofs.«01_k».proof.Proof.Gen.KernelIdeal.Frame
public import proofs.«01_k».proof.Proof.Scalars
public import Idealize.ShloMosaic.Lib.Pipeline.ValueKit
public import Idealize.ShloMosaic.Lib.Pointwise

@[expose] public section

set_option maxRecDepth 16384

noncomputable section

namespace Cert.KernelIdeal.Ffn

open Idealize.ShloMosaic Idealize.ShloMosaic.TcCoe Idealize.SL.Sem
open Idealize.ShloMosaic.Pipeline (Dat)
open Cert.KernelIdeal Cert.KernelIdeal.Gen Cert.Scalars

/-- Row `i` of the activations against row `j` of a weight. -/
def proj (A : FVec Ideal S4096x2048 .bf16) (B : FVec Ideal S5632x2048 .bf16) (i : Fin 4096) (j : Fin 5632) : EReal :=
  ∑ k : Fin 2048, A (ix2 i k) * B (ix2 j k)

/-- The gated activation. -/
def ACT (A : FVec Ideal S4096x2048 .bf16) (G U : FVec Ideal S5632x2048 .bf16) : FVec Ideal S4096x5632 .bf16 :=
  fun y => proj A G (y 0) (y 1) * sgmT (proj A G (y 0) (y 1)) * proj A U (y 0) (y 1)

/-- The saved factor of the gate's gradient. -/
def DSILU (A : FVec Ideal S4096x2048 .bf16) (G U : FVec Ideal S5632x2048 .bf16) : FVec Ideal S4096x5632 .bf16 :=
  fun y => proj A U (y 0) (y 1)
    * (sgmT (proj A G (y 0) (y 1)) * (1 + proj A G (y 0) (y 1) * (1 - sgmT (proj A G (y 0) (y 1)))))

/-- The saved factor of the up projection's gradient. -/
def SILU (A : FVec Ideal S4096x2048 .bf16) (G : FVec Ideal S5632x2048 .bf16) : FVec Ideal S4096x5632 .bf16 :=
  fun y => proj A G (y 0) (y 1) * sgmT (proj A G (y 0) (y 1))

/-- The gradient through the down projection times a saved factor. -/
def GRAD (H : FVec Ideal S4096x2048 .bf16) (W : FVec Ideal S5632x2048 .bf16) (S : FVec Ideal S4096x5632 .bf16) :
    FVec Ideal S4096x5632 .bf16 :=
  fun y => proj H W (y 0) (y 1) * S y

variable (V : (c : Dev nD) → (b : Ref sig .tc) → Buf (Elt Ideal) ((c : Thread nD τ).loc b))

theorem idx0 : ∀ t : Fin cfg0.N, win0_0.index t = ![(grid0.coords t 1).val, 0] ∧ win0_1.index t = ![(grid0.coords t 0).val, 0]
    ∧ win0_2.index t = ![(grid0.coords t 0).val, 0] ∧ win0_3.index t = ![(grid0.coords t 1).val, (grid0.coords t 0).val]
    ∧ win0_4.index t = ![(grid0.coords t 1).val, (grid0.coords t 0).val]
    ∧ win0_5.index t = ![(grid0.coords t 1).val, (grid0.coords t 0).val] :=
  (by decide +kernel : ∀ t : Fin grid0.N, _)

theorem act (c : Dev nD) : (dat0 V c).arrAt 3 cfg0.N = ACT (V c main_arg0) (V c main_arg1) (V c main_arg2) := by
  refine (dat0 V c).arrAt_eq_of_covers 3 _ (by decide +kernel) fun t _ y => ?_
  blk_simp
  rw [after0_3]; frame_out
  pointwise [k0_pay5, k0_pay4, k0_pay3, k0_pay2, k0_pay1, ACT, proj, sgmT]
  blk_point [iblk0, idx0 t]

theorem dsilu (c : Dev nD) : (dat0 V c).arrAt 4 cfg0.N = DSILU (V c main_arg0) (V c main_arg1) (V c main_arg2) := by
  refine (dat0 V c).arrAt_eq_of_covers 4 _ (by decide +kernel) fun t _ y => ?_
  blk_simp
  rw [after0_4]; frame_out
  pointwise [k0_pay6, k0_pay3, k0_pay2, k0_pay1, DSILU, proj, sgmT]
  blk_point [iblk0, idx0 t]

theorem silu (c : Dev nD) : (dat0 V c).arrAt 5 cfg0.N = SILU (V c main_arg0) (V c main_arg1) := by
  refine (dat0 V c).arrAt_eq_of_covers 5 _ (by decide +kernel) fun t _ y => ?_
  blk_simp
  rw [after0_5]; frame_out
  pointwise [k0_pay7, k0_pay4, k0_pay3, k0_pay1, SILU, proj, sgmT]
  blk_point [iblk0, idx0 t]

theorem idx1 : ∀ t : Fin cfg1.N, win1_0.index t = ![(grid1.coords t 0).val, 0] ∧ win1_1.index t = ![(grid1.coords t 1).val, 0]
    ∧ win1_2.index t = ![(grid1.coords t 0).val, (grid1.coords t 1).val]
    ∧ win1_3.index t = ![(grid1.coords t 0).val, (grid1.coords t 1).val]
    ∧ win1_4.index t = ![(grid1.coords t 0).val, (grid1.coords t 1).val]
    ∧ win1_5.index t = ![(grid1.coords t 0).val, (grid1.coords t 1).val] :=
  (by decide +kernel : ∀ t : Fin grid1.N, _)

theorem dgate (c : Dev nD) : (dat1 V c).arrAt 4 cfg1.N = GRAD (V c main_arg4) (V c main_arg3) (V c main_v0_1) := by
  refine (dat1 V c).arrAt_eq_of_covers 4 _ (by decide +kernel) fun t _ y => ?_
  blk_simp
  rw [after1_4]; frame_out
  pointwise [k1_pay2, k1_pay1, GRAD, proj]
  blk_point [iblk1, idx1 t]

theorem dup (c : Dev nD) : (dat1 V c).arrAt 5 cfg1.N = GRAD (V c main_arg4) (V c main_arg3) (V c main_v0_2) := by
  refine (dat1 V c).arrAt_eq_of_covers 5 _ (by decide +kernel) fun t _ y => ?_
  blk_simp
  rw [after1_5]; frame_out
  pointwise [k1_pay3, k1_pay1, GRAD, proj]
  blk_point [iblk1, idx1 t]

end Cert.KernelIdeal.Ffn

end
-- ==== Proof.FfnRun.lean ====
/- The run of the two feed-forward calls one after the other, and what its three results hold. -/
module

public import proofs.«01_k».proof.Proof.FfnValue

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer that outlives the run ends at the last boundary's contents. -/
theorem run_all : θ_run defs (onTc (τ := τ) (main (F := Ideal))) ⟨m, fun _ => 0, ρ⟩ (fun r =>
      ∀ c : Dev nD, ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- The second call is entered with what the first one left. -/
theorem entry_dsilu (c : Dev nD) : V1 m ρ c main_v0_1
    = DSILU (m ((c : Thread nD τ).loc main_arg0)) (m ((c : Thread nD τ).loc main_arg1)) (m ((c : Thread nD τ).loc main_arg2)) :=
  (hF0 m ρ c 4).symm.trans (dsilu (V0 m ρ) c)
theorem entry_silu (c : Dev nD) : V1 m ρ c main_v0_2
    = SILU (m ((c : Thread nD τ).loc main_arg0)) (m ((c : Thread nD τ).loc main_arg1)) :=
  (hF0 m ρ c 5).symm.trans (silu (V0 m ρ) c)

/-- The three results and the arguments after the run. -/
theorem run : θ_run defs (onTc (τ := τ) (main (F := Ideal))) ⟨m, fun _ => 0, ρ⟩ (fun r => ∀ c : Dev nD,
      r.2.mem ((c.tc : Thread nD τ).loc main_v0_0) = ACT (m ((c : Thread nD τ).loc main_arg0)) (m ((c : Thread nD τ).loc main_arg1)) (m ((c : Thread nD τ).loc main_arg2))
      ∧ r.2.mem ((c.tc : Thread nD τ).loc main_v1_0) = GRAD (m ((c : Thread nD τ).loc main_arg4)) (m ((c : Thread nD τ).loc main_arg3))
          (DSILU (m ((c : Thread nD τ).loc main_arg0)) (m ((c : Thread nD τ).loc main_arg1)) (m ((c : Thread nD τ).loc main_arg2)))
      ∧ r.2.mem ((c.tc : Thread nD τ).loc main_v1_1) = GRAD (m ((c : Thread nD τ).loc main_arg4)) (m ((c : Thread nD τ).loc main_arg3))
          (SILU (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_all m ρ)
  have hd : V1 m ρ c main_arg4 = m ((c : Thread nD τ).loc main_arg4) := W1_args m ρ c main_arg4 (by decide)
  have hw : V1 m ρ c main_arg3 = m ((c : Thread nD τ).loc main_arg3) := W1_args m ρ c main_arg3 (by decide)
  refine ⟨?_, ?_, ?_, (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩
  · refine (h c _ (mem_uc main_v0_0 (by decide))).trans ((W2_of m ρ c main_v0_0 (by decide)).trans ?_)
    exact (hF0 m ρ c 3).symm.trans (act (V0 m ρ) c)
  · refine (h c _ (mem_uc main_v1_0 (by decide))).trans ((hF1 m ρ c 4).symm.trans ((dgate (V1 m ρ) c).trans ?_))
    rw [hd, hw, entry_dsilu]
  · refine (h c _ (mem_uc main_v1_1 (by decide))).trans ((hF1 m ρ c 5).symm.trans ((dup (V1 m ρ) c).trans ?_))
    rw [hd, hw, entry_silu]

end Cert.KernelIdeal.Ffn

end
-- ==== Proof.Finite.lean ====
/- What the preconditions say: every element of the tested array is a real number. -/
module

public import proofs.«01_k».proof.Proof.Scalars
public import Idealize.ShloMosaic.Lib.Pointwise
public import Idealize.ShloMosaic.Lib.ReduceAll

@[expose] public section

noncomputable section

namespace Cert.Scalars

open Idealize.ShloMosaic

/-- The f32 pattern of infinity. -/
theorem inf_f32 : Ideal.ofBits .f32 0x7F800000#32 = ⊤ := by
  simp [Ideal.ofBits, Ideal.ieee]

/-- An array whose every element is smaller in absolute value than infinity, as the preconditions test it. -/
theorem real_of_all {s : Shape} {φ : FTy} {axes : List (Fin s.rank)} (x : FVec Ideal s φ) (b : BitVec φ.bits)
    (hb : Ideal.ofBits φ b = ⊤) (bc : (⟨0, ![]⟩ : Shape).BroadcastsInDim s ![]) (rd : s.ReducesTo axes ⟨0, ![]⟩)
    (hu : 0 < (⟨0, ![]⟩ : Shape).numel)
    (h : Host.reduce IntOp.andi (cmpf .olt (Host.absf x) (broadcastInDim s ![] bc (constant ⟨0, ![]⟩ φ b)))
      (constantI ⟨0, ![]⟩ 1 1#1) rd hu = fun _ => 1#1) (i : s.Idx) : IsReal (x i) := by
  have hs : Subsingleton (⟨0, ![]⟩ : Shape).Idx := ⟨fun a b => funext fun k => k.elim0⟩
  have e := Host.reduce_andi_all _ _ rd hu (fun a => a.elim0) (congrFun h _) i
  have e' : Ideal.cmp .olt (max (x i) (-x i)) (Ideal.ofBits φ b) = 1#1 := e
  rw [hb] at e'
  refine fin_of_abs_lt _ ?_
  by_contra hn
  simp only [Ideal.cmp, hn] at e'
  exact absurd e' (by decide)

end Cert.Scalars

end
-- ==== Proof.FfnRef.lean ====
/- The feed-forward reference read element by element, and its agreement with the kernel. -/
module

public import proofs.«01_k».proof.Proof.Gen.ReferenceIdeal.Read
public import proofs.«01_k».proof.Proof.Gen.Pre_finite
public import proofs.«01_k».proof.Proof.FfnValue
public import proofs.«01_k».proof.Proof.Finite

@[expose] public section

set_option maxRecDepth 16384

noncomputable section

namespace Cert.ReferenceIdeal.Ffn

open Idealize.ShloMosaic Idealize.ShloMosaic.TcCoe Idealize.SL.Sem
open Cert.ReferenceIdeal Cert.ReferenceIdeal.Read Cert.Scalars

open Cert.KernelIdeal.Ffn (proj ACT GRAD DSILU SILU)

variable (A : FVec Ideal S4096x2048 .bf16) (G U W : FVec Ideal S5632x2048 .bf16) (H : FVec Ideal S4096x2048 .bf16)

theorem gate (y : S4096x5632.Idx) : val_main_v6 (F := Ideal) A G y = proj A G (y 0) (y 1) := by
  pointwise [val_main_v6, val_main_v5, val_main_v0, val_main_v1, proj]
theorem up (y : S4096x5632.Idx) : val_main_v8 (F := Ideal) A U y = proj A U (y 0) (y 1) := by
  pointwise [val_main_v8, val_main_v7, val_main_v0, val_main_v2, proj]
theorem down (y : S4096x5632.Idx) : val_main_v12 (F := Ideal) W H y = proj H W (y 0) (y 1) := by
  pointwise [val_main_v12, val_main_v3, val_main_v4, proj]
theorem sigmoid (y : S4096x5632.Idx) : val_main_v9_2 (F := Ideal) A G y = sgm (proj A G (y 0) (y 1)) := by
  rw [← gate]
  pointwise [val_main_v9_2, val_main_call0_v4, val_main_call0_cst_0, val_main_call0_v3, val_main_call0_v2, val_main_call0_cst,
    val_main_call0_v1, val_main_call0_v0, sgm]

theorem act : ACT A G U = val_main_v16 (F := Ideal) A G U := by
  funext y
  pointwise [ACT, val_main_v16, val_main_v10, val_main_v9_0]
  rw [gate, up, sigmoid, sgmT_eq]

theorem dup : GRAD H W (SILU A G) = val_main_v18 (F := Ideal) A G W H := by
  funext y
  pointwise [GRAD, SILU, val_main_v18, val_main_v13, val_main_v9_0]
  rw [gate, down, sigmoid, sgmT_eq, mul_comm]

theorem dgate (hu : ∀ i j, IsReal (proj A U i j)) (hd : ∀ i j, IsReal (proj H W i j)) :
    GRAD H W (DSILU A G U) = val_main_v17 (F := Ideal) A G U W H := by
  funext y
  pointwise [GRAD, DSILU, val_main_v17, val_main_v15, val_main_call1_v1, val_main_call1_v2, val_main_call1_v0, val_main_v14,
    val_main_v9_1, val_main_call0_v7, val_main_call0_v6, val_main_call0_cst_1]
  rw [gate, up, down, sigmoid, sgmT_eq]
  exact gate_grad _ _ _ (hu _ _) (hd _ _)

/-- An array all of whose elements pass the precondition's test holds real numbers. -/
theorem real_of_pre (fin : (Cert.Pre_finite.fn (F := Ideal) A G U W H).1 = (fun _ => 1#1)
      ∧ (Cert.Pre_finite.fn (F := Ideal) A G U W H).2.1 = (fun _ => 1#1)
      ∧ (Cert.Pre_finite.fn (F := Ideal) A G U W H).2.2.1 = (fun _ => 1#1)
      ∧ (Cert.Pre_finite.fn (F := Ideal) A G U W H).2.2.2 = (fun _ => 1#1)) :
    (∀ i, IsReal (A i)) ∧ (∀ i, IsReal (U i)) ∧ (∀ i, IsReal (W i)) ∧ (∀ i, IsReal (H i)) := by
  unfold Cert.Pre_finite.fn at fin
  obtain ⟨h0, h1, h2, h3⟩ := fin
  dsimp only at h0 h1 h2 h3
  exact ⟨real_of_all A _ inf_bf16 _ _ _ h0, real_of_all U _ inf_bf16 _ _ _ h1, real_of_all W _ inf_bf16 _ _ _ h2,
    real_of_all H _ inf_bf16 _ _ _ h3⟩

end Cert.ReferenceIdeal.Ffn

end
-- ==== Proof.FfnClaim.lean ====
/- The feed-forward pair: the claim that kernel and reference end with equal results. -/
module

public import proofs.«01_k».proof.Defs
public import proofs.«01_k».proof.Proof.Gen.ReferenceIdeal.Run
public import proofs.«01_k».proof.Proof.FfnRun
public import proofs.«01_k».proof.Proof.FfnRef
public import Idealize.ShloMosaic.Lib.Claim

@[expose] public section

set_option maxRecDepth 16384

noncomputable section

namespace Cert.Proof.Ffn

open Idealize.ShloMosaic Idealize.ShloMosaic.TcCoe Idealize.SL.Sem Cert.Scalars

theorem real_proj (A : FVec Ideal Cert.KernelIdeal.S4096x2048 .bf16) (B : FVec Ideal Cert.KernelIdeal.S5632x2048 .bf16)
    (hA : ∀ i, IsReal (A i)) (hB : ∀ i, IsReal (B i)) (i : Fin 4096) (j : Fin 5632) :
    IsReal (Cert.KernelIdeal.Ffn.proj A B i j) :=
  IsReal.sum _ _ fun k => (hA _).mul (hB _)

theorem algebraic : Cert.algebraic_KernelIdeal_ReferenceIdeal_pre_finite := by
  pair_intro
  · run_from Cert.KernelIdeal.Ffn.run m g
  · run_from Cert.ReferenceIdeal.Value.run m' g'
    · exact (Cert.ReferenceIdeal.Ffn.act _ _ _).symm
    · obtain ⟨ha, hu, hw, hh⟩ := Cert.ReferenceIdeal.Ffn.real_of_pre _ _ _ _ _ (hpre c)
      exact (Cert.ReferenceIdeal.Ffn.dgate _ _ _ _ _ (real_proj _ _ ha hu) (real_proj _ _ hh hw)).symm
    · exact (Cert.ReferenceIdeal.Ffn.dup _ _ _ _).symm

end Cert.Proof.Ffn

end
-- ==== Proof.NormRow.lean ====
/- One row of a root-mean-square norm: the factor the row is scaled by, and the gradient of the norm's input. -/
module

public import proofs.«01_k».proof.Proof.Scalars

@[expose] public section

noncomputable section

namespace Cert.Scalars

open Idealize.ShloMosaic

/-- The mean square of a row, with the small constant added. -/
def msq (x : Fin 2048 → EReal) : EReal :=
  Ideal.div (∑ k, x k * x k) (Ideal.ofBits .f32 0x45000000#32) + Ideal.ofBits .f32 0x358637BD#32

/-- The factor a row is scaled by. -/
def rinv (x : Fin 2048 → EReal) : EReal := Ideal.rsqrt (msq x)

/-- The kernels' gradient of the norm's input at lane `j`: gain `g`, incoming gradient `d`. -/
def rgrad (x g d : Fin 2048 → EReal) (j : Fin 2048) : EReal :=
  rinv x * (d j * g j
    - x j * rinv x * Ideal.div (∑ k, d k * g k * (x k * rinv x)) (Ideal.ofBits .f32 0x45000000#32))

/-- The reference's share of the gradient that comes through the mean square: the same number is added twice, each
    time times the row's element. -/
def rquad (x g d : Fin 2048 → EReal) : EReal :=
  Ideal.div ((∑ k, x k * (d k * g k)) * (Ideal.ofBits .f32 0xBF000000#32 * Ideal.div (rinv x) (msq x)))
    (Ideal.ofBits .f32 0x45000000#32)

theorem wid_f32 : Ideal.ofBits .f32 0x45000000#32 = ((2048 : ℝ) : EReal) := by
  simp [Ideal.ofBits, Ideal.ieee]; norm_cast; norm_num

theorem neg_half_f32 : Ideal.ofBits .f32 0xBF000000#32 = ((-(1 / 2) : ℝ) : EReal) := by
  simp [Ideal.ofBits, Ideal.ieee]; norm_cast; norm_num

/-- The small constant under the root is a positive real number. -/
theorem eps_f32 : ∃ e : ℝ, 0 < e ∧ Ideal.ofBits .f32 0x358637BD#32 = (e : EReal) := by
  refine ⟨8796093 * (2 : ℝ) ^ (-43 : ℤ), by positivity, ?_⟩
  simp [Ideal.ofBits, Ideal.ieee]

theorem div_wid (x : EReal) : Ideal.div x (Ideal.ofBits .f32 0x45000000#32) = x * ((1 / 2048 : ℝ) : EReal) := by
  rw [wid_f32, Ideal.div_coe (by norm_num)]

theorem sq_nonneg' (x : EReal) : 0 ≤ x * x := by
  induction x using EReal.rec with
  | bot => simp
  | top => simp
  | coe r => exact_mod_cast mul_self_nonneg r

/-- A nonnegative real factor moves into a sum, whatever the summands. -/
theorem mul_sum_real {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- Twice one product with a real factor. -/
theorem mul_two_real (z : EReal) (κ : ℝ) : z * (κ : EReal) + z * (κ : EReal) = z * ((2 * κ : ℝ) : EReal) := by
  rcases lt_trichotomy κ 0 with h | h | h
  · induction z using EReal.rec with
    | bot => rw [EReal.bot_mul_coe_of_neg h, EReal.bot_mul_coe_of_neg (by linarith)]; rfl
    | top => rw [EReal.top_mul_coe_of_neg h, EReal.top_mul_coe_of_neg (by linarith)]; rfl
    | coe r => norm_cast; ring
  · subst h; simp
  · induction z using EReal.rec with
    | bot => rw [EReal.bot_mul_coe_of_pos h, EReal.bot_mul_coe_of_pos (by linarith)]; rfl
    | top => rw [EReal.top_mul_coe_of_pos h, EReal.top_mul_coe_of_pos (by linarith)]; rfl
    | coe r => norm_cast; ring

/-- The mean square is infinite or a positive real number. -/
theorem msq_cases (x : Fin 2048 → EReal) : msq x = ⊤ ∨ ∃ v : ℝ, 0 < v ∧ msq x = (v : EReal) := by
  obtain ⟨e, he, hb⟩ := eps_f32
  have hs : 0 ≤ ∑ k, x k * x k := Finset.sum_nonneg fun k _ => sq_nonneg' (x k)
  have hd : 0 ≤ Ideal.div (∑ k, x k * x k) (Ideal.ofBits .f32 0x45000000#32) := by
    rw [div_wid]; exact mul_nonneg hs (by exact_mod_cast (by norm_num : (0 : ℝ) ≤ 1 / 2048))
  unfold msq
  rw [hb]
  generalize Ideal.div (∑ k, x k * x k) (Ideal.ofBits .f32 0x45000000#32) = q at hd
  induction q using EReal.rec with
  | bot => simp at hd
  | top => left; rfl
  | coe r =>
    right
    have hr : 0 ≤ r := by exact_mod_cast hd
    exact ⟨r + e, by linarith, by norm_cast⟩

/-- The kernels' gradient is the reference's, for all rows: an infinite mean square scales the row by zero. -/
theorem rgrad_eq (x g d : Fin 2048 → EReal) (j : Fin 2048) :
    rgrad x g d j = d j * g j * rinv x + (x j * rquad x g d + rquad x g d * x j) := by
  rcases msq_cases x with h | ⟨v, hv, h⟩
  · have hr : rinv x = 0 := by rw [rinv, h, Ideal.rsqrt_top]
    have hd : Ideal.div 0 ⊤ = 0 := by simp [Ideal.div]
    unfold rgrad rquad
    rw [hr, h, hd, div_wid, div_wid]
    simp
  · have hr : rinv x = (((Real.sqrt v)⁻¹ : ℝ) : EReal) := by
      rw [rinv, h, Ideal.rsqrt_coe, if_neg (by linarith), if_neg hv.ne']
    have hp : 0 < (Real.sqrt v)⁻¹ := inv_pos.mpr (Real.sqrt_pos.mpr hv)
    have hsq : (Real.sqrt v)⁻¹ * (Real.sqrt v)⁻¹ = 1 / v := by
      rw [← mul_inv, Real.mul_self_sqrt hv.le, one_div]
    unfold rgrad rquad
    rw [h, hr, div_wid, div_wid, Ideal.div_coe hv.ne', neg_half_f32]
    generalize (Real.sqrt v)⁻¹ = r at hp hsq
    have hsum : (∑ k, d k * g k * (x k * (r : EReal))) = (r : EReal) * ∑ k, x k * (d k * g k) := by
      rw [mul_sum_real _ _ _ hp.le]
      exact Finset.sum_congr rfl fun k _ => by rw [← mul_assoc, mul_comm, mul_comm (d k * g k)]
    rw [hsum]
    generalize (∑ k, x k * (d k * g k)) = S
    rw [sub_eq_add_neg, EReal.left_distrib_of_nonneg_of_ne_top (by exact_mod_cast hp.le) (EReal.coe_ne_top r),
      mul_comm (r : EReal) (d j * g j)]
    congr 1
    have hκ : ((-(1 / 2) : ℝ) : EReal) * ((r : EReal) * ((1 / v : ℝ) : EReal)) = ((-(1 / 2) * (r * (1 / v)) : ℝ) : EReal) := by
      norm_cast
    rw [hκ, mul_comm (S * _ * _) (x j),
      show x j * (S * ((-(1 / 2) * (r * (1 / v)) : ℝ) : EReal) * ((1 / 2048 : ℝ) : EReal))
        = (x j * S * ((1 / 2048 : ℝ) : EReal)) * ((-(1 / 2) * (r * (1 / v)) : ℝ) : EReal) by ac_rfl,
      mul_two_real, ← hsq,
      show ((2 * (-(1 / 2) * (r * (r * r))) : ℝ) : EReal) = -((r : EReal) * ((r : EReal) * (r : EReal))) by norm_cast; ring,
      mul_neg, mul_neg]
    congr 1
    ac_rfl

end Cert.Scalars

end
-- ==== Proof.RmsValue.lean ====
/- What the backward norm call leaves in its result arrays, from the arrays it is entered with. -/
module

public import proofs.«01_k».proof.Proof.Gen.Kernel2Ideal.Value
public import proofs.«01_k».proof.Proof.NormRow
public import Idealize.ShloMosaic.Lib.Pipeline.ValueKit
public import Idealize.ShloMosaic.Lib.Pointwise

@[expose] public section

set_option maxRecDepth 16384

noncomputable section

namespace Cert.Kernel2Ideal.Rms

open Idealize.ShloMosaic Idealize.ShloMosaic.TcCoe Idealize.SL.Sem
open Idealize.ShloMosaic.Pipeline (Dat)
open Cert.Kernel2Ideal Cert.Kernel2Ideal.Gen Cert.Scalars

/-- The gradient of the norm's input, the residual's gradient added. -/
def DH (H : FVec Ideal S4096x2048 .f32) (G : FVec Ideal S1x2048 .f32) (DN : FVec Ideal S4096x2048 .bf16)
    (R : FVec Ideal S4096x2048 .f32) : FVec Ideal S4096x2048 .f32 :=
  fun y => rgrad (fun k => H (ix2 (y 0) k)) (fun k => G (ix2 0 k)) (fun k => DN (ix2 (y 0) k)) (y 1) + R y

/-- The gradient of the gain. -/
def DG (H : FVec Ideal S4096x2048 .f32) (DN : FVec Ideal S4096x2048 .bf16) : FVec Ideal S1x2048 .f32 :=
  fun y => ∑ i : Fin 4096, DN (ix2 i (y 1)) * (H (ix2 i (y 1)) * rinv (fun k => H (ix2 i k)))

variable (m : (ℓ : Loc nD τ sig) → Buf (Elt Ideal) ℓ)

theorem idx : ∀ t : Fin cfg0.N, win0_0.index t = ![(grid0.coords t 0).val, 0] ∧ win0_1.index t = ![0, 0]
    ∧ win0_2.index t = ![(grid0.coords t 0).val, 0] ∧ win0_3.index t = ![(grid0.coords t 0).val, 0]
    ∧ win0_4.index t = ![(grid0.coords t 0).val, 0] ∧ win0_5.index t = ![(grid0.coords t 0).val, 0]
    ∧ win0_6.index t = ![0, 0] :=
  (by decide +kernel : ∀ t : Fin grid0.N, _)

theorem crd : ∀ t : Fin cfg0.N, (grid0.coords t 0).val = t.val := (by decide +kernel : ∀ t : Fin grid0.N, _)

/-- The two row-blocked results at every point, whichever branch the gain's gradient takes there. -/
theorem outs_dh (c : Dev nD) (t : Fin cfg0.N) : (outsAt0 m c t.val t.isLt).1
    = k0_pay6 (iblk m c 0 t) (iblk m c 1 t) (iblk m c 2 t) (iblk m c 3 t) := by
  by_cases h : t.val % 16 = 0
  · rw [outsAt0_A m c t h (by have := lt_of_lt_of_eq t.isLt (show cfg0.N = 16 from N_0); omega)]; frame_out
  · rw [outsAt0_B m c t h (by omega)]; frame_out

theorem dh (c : Dev nD) : (dats m 0 c).arrAt 4 cfg0.N
    = DH (V m c main_arg0) (V m c main_v0) (V m c main_arg2) (V m c main_arg3) := by
  refine (dats m 0 c).arrAt_eq_of_covers 4 _ (by decide +kernel) fun t _ y => ?_
  blk_simp
  rw [after0_4, outs_dh]
  pointwise [k0_pay6, k0_pay4, k0_pay3, k0_pay2, DH, rgrad, rinv, msq]
  blk_point [iblk, V, idx t]

theorem outs_dhb (c : Dev nD) (t : Fin cfg0.N) : (outsAt0 m c t.val t.isLt).2.1
    = k0_pay7 (iblk m c 0 t) (iblk m c 1 t) (iblk m c 2 t) (iblk m c 3 t) := by
  by_cases h : t.val % 16 = 0
  · rw [outsAt0_A m c t h (by have := lt_of_lt_of_eq t.isLt (show cfg0.N = 16 from N_0); omega)]; frame_out
  · rw [outsAt0_B m c t h (by omega)]; frame_out

theorem dhb (c : Dev nD) : (dats m 0 c).arrAt 5 cfg0.N
    = DH (V m c main_arg0) (V m c main_v0) (V m c main_arg2) (V m c main_arg3) := by
  refine (dats m 0 c).arrAt_eq_of_covers 5 _ (by decide +kernel) fun t _ y => ?_
  blk_simp
  rw [after0_5, outs_dhb]
  pointwise [k0_pay7, k0_pay6, k0_pay4, k0_pay3, k0_pay2, DH, rgrad, rinv, msq]
  blk_point [iblk, V, idx t]

/-- The gain's gradient, one block kept over the sixteen points. -/
theorem dg (c : Dev nD) : (dats m 0 c).arrAt 6 cfg0.N = DG (V m c main_arg0) (V m c main_arg2) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0)
    (fun t j => k0_pay5 (iblk m c 0 t) (iblk m c 2 t) j)
    (fun t h j => by
      rw [outsAt0_A m c t h (by have := lt_of_lt_of_eq t.isLt (show cfg0.N = 16 from N_0); omega)]; frame_out
      exact (zero_add _).symm)
    (fun t h j => by
      rw [outsAt0_B m c t h (by omega)]; frame_out
      pointwise [k0_pay1]) (le_of_eq N_0) t0_15 rfl j, zero_add]
  pointwise [k0_pay5, k0_pay4, k0_pay3, k0_pay2, DG, rinv, msq]
  refine Fin.sum_mul_add_congr fun t k hl => ?_
  blk_point [iblk, V, idx t, crd t]

/-- The gain as the call receives it: one row. -/
theorem gain_row (c : Dev nD) (k : Fin 2048) :
    (V m c main_v0 : FVec Ideal S1x2048 .f32) (ix2 0 k) = m ((c : Thread nD τ).loc main_arg1) (ix1 k) := by
  rw [show (V m c main_v0 : FVec Ideal S1x2048 .f32)
    = shapeCast S1x2048 (m ((c : Thread nD τ).loc main_arg1) : FVec Ideal S2048 .f32) shapeCasts_S2048_S1x2048 from rfl]
  pointwise

end Cert.Kernel2Ideal.Rms

end
-- ==== Proof.RmsRef.lean ====
/- The reference's gradients of the norm are the kernel's. -/
module

public import proofs.«01_k».proof.Proof.Gen.Reference2Ideal.Read
public import proofs.«01_k».proof.Proof.RmsValue

@[expose] public section

set_option maxRecDepth 16384

noncomputable section

namespace Cert.Reference2Ideal.Rms

open Idealize.ShloMosaic Idealize.ShloMosaic.TcCoe Idealize.SL.Sem
open Cert.Reference2Ideal Cert.Reference2Ideal.Read Cert.Scalars

variable (H : FVec Ideal S4096x2048 .f32) (G : FVec Ideal S2048 .f32) (DN : FVec Ideal S4096x2048 .bf16)
  (R : FVec Ideal S4096x2048 .f32)

theorem root (i : S4096x1.Idx) : val_main_v7 (F := Ideal) H i = rinv (fun k => H (ix2 (i 0) k)) := by
  pointwise [val_main_v7, val_main_v6, val_main_v5, val_main_v4, val_main_v3, val_main_v2, val_main_v1, val_main_v0,
    val_main_cst, val_main_cst_0, val_main_cst_1, rinv, msq]

/-- The shared part of the gradient through the mean square. -/
theorem quad (i : S4096.Idx) : val_main_v32 (F := Ideal) H G DN i
    = rquad (fun k => H (ix2 (i 0) k)) (fun k => G (ix1 k)) (fun k => DN (ix2 (i 0) k)) := by
  pointwise [val_main_v32, val_main_v31, val_main_v30, val_main_v29, val_main_v25, val_main_v24, val_main_v23, val_main_v21,
    val_main_v20, val_main_v16, val_main_v13, val_main_v10, val_main_v9, val_main_v8, root, val_main_v6, val_main_v5,
    val_main_v4, val_main_v3, val_main_v2, val_main_v1, val_main_v0,
    val_main_cst, val_main_cst_0, val_main_cst_1, val_main_cst_2, val_main_cst_5, val_main_cst_6, val_main_cst_7, rquad, msq]
  exact Fintype.sum_unique _

theorem dh (G1 : FVec Ideal Cert.Kernel2Ideal.S1x2048 .f32) (hG : ∀ k, G1 (ix2 0 k) = G (ix1 k)) :
    val_main_v37 (F := Ideal) H G DN R = Cert.Kernel2Ideal.Rms.DH H G1 DN R := by
  funext y
  pointwise [val_main_v37, val_main_v36, val_main_v35, val_main_v34, val_main_v33, quad, val_main_v28, val_main_v27,
    val_main_v26, root, val_main_v21, val_main_v20, val_main_v16, val_main_v13, Cert.Kernel2Ideal.Rms.DH, rgrad_eq, hG]
  generalize rquad _ _ _ = q
  ac_rfl

theorem dhb (G1 : FVec Ideal Cert.Kernel2Ideal.S1x2048 .f32) (hG : ∀ k, G1 (ix2 0 k) = G (ix1 k)) :
    val_main_v38 (F := Ideal) H G DN R = Cert.Kernel2Ideal.Rms.DH H G1 DN R := by
  rw [← dh H G DN R G1 hG]
  funext y
  pointwise [val_main_v38]

theorem dg : val_main_v39 (F := Ideal) H DN = Cert.Kernel2Ideal.Rms.DG H DN := by
  funext y
  pointwise [val_main_v39, val_main_v22, val_main_v19, val_main_v18, val_main_v17, val_main_v12, val_main_v11, root,
    val_main_v16, val_main_cst_3, val_main_cst_4, Cert.Kernel2Ideal.Rms.DG]
  exact (Fintype.sum_unique _).trans (Finset.sum_congr rfl fun k _ => mul_comm _ _)

end Cert.Reference2Ideal.Rms

end
-- ==== Proof.RmsClaim.lean ====
/- The norm pair: the claim that kernel and reference end with equal results. -/
module

public import proofs.«01_k».proof.Defs
public import proofs.«01_k».proof.Proof.Gen.Reference2Ideal.Run
public import proofs.«01_k».proof.Proof.RmsRef
public import Idealize.ShloMosaic.Lib.Claim

@[expose] public section

set_option maxRecDepth 16384

noncomputable section

namespace Cert.Proof.Rms

open Idealize.ShloMosaic Idealize.ShloMosaic.TcCoe Idealize.SL.Sem
open Cert.Kernel2Ideal Cert.Kernel2Ideal.Gen Cert.Kernel2Ideal.Rms

variable (m : (ℓ : Loc nD τ sig) → Buf (Elt Ideal) ℓ) (ρ : Dev nD → PrngReg)

/-- The kernel's run, its results in plain terms of its arguments. -/
theorem run : θ_run defs (onTc (τ := τ) (main (F := Ideal))) ⟨m, fun _ => 0, ρ⟩ (fun r => ∀ c : Dev nD,
      r.2.mem ((c.tc : Thread nD τ).loc main_v1_0) = DH (m ((c : Thread nD τ).loc main_arg0)) (V m c main_v0)
          (m ((c : Thread nD τ).loc main_arg2)) (m ((c : Thread nD τ).loc main_arg3))
      ∧ r.2.mem ((c.tc : Thread nD τ).loc main_v1_1) = DH (m ((c : Thread nD τ).loc main_arg0)) (V m c main_v0)
          (m ((c : Thread nD τ).loc main_arg2)) (m ((c : Thread nD τ).loc main_arg3))
      ∧ r.2.mem ((c.tc : Thread nD τ).loc main_v1_2) = DG (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.Kernel2Ideal.Value.run_blocks m ρ)
  obtain ⟨h0, h1, h2, hr⟩ := h c
  exact ⟨h0.trans (dh m c), h1.trans (dhb m c), h2.trans (dg m c), hr⟩

theorem algebraic : Cert.algebraic_Kernel2Ideal_Reference2Ideal := by
  pair_intro
  · run_from Cert.Proof.Rms.run m g
  · run_from Cert.Reference2Ideal.Value.run m' g'
    · exact Cert.Reference2Ideal.Rms.dh (m ((c.tc : Thread nD τ).loc main_arg0)) (m ((c.tc : Thread nD τ).loc main_arg1)) (m ((c.tc : Thread nD τ).loc main_arg2)) (m ((c.tc : Thread nD τ).loc main_arg3)) _ (gain_row m c)
    · obtain ⟨e0, e1, e2, e3⟩ := hagree c
      rw [Cert.Reference2Ideal.Read.val_main_v38_eq, e0, e1, e2, e3]
      exact Cert.Reference2Ideal.Rms.dhb (m ((c.tc : Thread nD τ).loc main_arg0)) (m ((c.tc : Thread nD τ).loc main_arg1)) (m ((c.tc : Thread nD τ).loc main_arg2)) (m ((c.tc : Thread nD τ).loc main_arg3)) _ (gain_row m c)
    · exact Cert.Reference2Ideal.Rms.dg (m ((c.tc : Thread nD τ).loc main_arg0)) (m ((c.tc : Thread nD τ).loc main_arg2))

end Cert.Proof.Rms

end
-- ==== Proof.LossValue.lean ====
/- What the loss head leaves in its result arrays, from the arrays it is entered with. -/
module

public import proofs.«01_k».proof.Proof.Gen.Kernel3Ideal.Frame
public import proofs.«01_k».proof.Proof.NormRow
public import Idealize.ShloMosaic.Lib.Pipeline.ValueKit
public import Idealize.ShloMosaic.Lib.Pointwise

@[expose] public section

set_option maxRecDepth 16384

noncomputable section

namespace Cert.Kernel3Ideal.Loss

open Idealize.ShloMosaic Idealize.ShloMosaic.TcCoe Idealize.SL.Sem
open Idealize.ShloMosaic.Pipeline (Dat)
open Cert.Kernel3Ideal Cert.Kernel3Ideal.Gen Cert.Scalars

/-- The difference the loss squares. -/
def ERR (H : FVec Ideal S4096x2048 .f32) (G : FVec Ideal S1x2048 .f32) (Y : FVec Ideal S4096x2048 .f32)
    (i : Fin 4096) (k : Fin 2048) : EReal :=
  H (ix2 i k) * rinv (fun k => H (ix2 i k)) * G (ix2 0 k) - Y (ix2 i k)

/-- The loss's gradient by the norm's result. -/
def DN (H : FVec Ideal S4096x2048 .f32) (G : FVec Ideal S1x2048 .f32) (Y : FVec Ideal S4096x2048 .f32)
    (i : Fin 4096) (k : Fin 2048) : EReal :=
  Ideal.div (ERR H G Y i k) (Ideal.ofBits .f32 0x45000000#32)

/-- The gradient of the norm's input. -/
def DH (H : FVec Ideal S4096x2048 .f32) (G : FVec Ideal S1x2048 .f32) (Y : FVec Ideal S4096x2048 .f32) :
    FVec Ideal S4096x2048 .f32 :=
  fun y => rgrad (fun k => H (ix2 (y 0) k)) (fun k => G (ix2 0 k)) (DN H G Y (y 0)) (y 1)

/-- The gradient of the gain. -/
def DG (H : FVec Ideal S4096x2048 .f32) (G : FVec Ideal S1x2048 .f32) (Y : FVec Ideal S4096x2048 .f32) :
    FVec Ideal S1x2048 .f32 :=
  fun y => ∑ i : Fin 4096, DN H G Y i (y 1) * (H (ix2 i (y 1)) * rinv (fun k => H (ix2 i k)))

/-- The loss's share of each lane: each block of rows halved and divided before the blocks are added. -/
def PART (H : FVec Ideal S4096x2048 .f32) (G : FVec Ideal S1x2048 .f32) (Y : FVec Ideal S4096x2048 .f32) :
    FVec Ideal S1x2048 .f32 :=
  fun y => ∑ t : Fin 16, Ideal.div (Ideal.ofBits .f32 0x3F000000#32 * ∑ i : Fin 256,
      ERR H G Y ⟨t.val * 256 + i.val, by omega⟩ (y 1) * ERR H G Y ⟨t.val * 256 + i.val, by omega⟩ (y 1))
    (Ideal.ofBits .f32 0x45000000#32)

variable (m : (ℓ : Loc nD τ sig) → Buf (Elt Ideal) ℓ)

theorem idx : ∀ t : Fin cfg0.N, win0_0.index t = ![(grid0.coords t 0).val, 0] ∧ win0_1.index t = ![0, 0]
    ∧ win0_2.index t = ![(grid0.coords t 0).val, 0] ∧ win0_3.index t = ![(grid0.coords t 0).val, 0]
    ∧ win0_4.index t = ![(grid0.coords t 0).val, 0] ∧ win0_5.index t = ![0, 0] ∧ win0_6.index t = ![0, 0] :=
  (by decide +kernel : ∀ t : Fin grid0.N, _)

theorem crd : ∀ t : Fin cfg0.N, (grid0.coords t 0).val = t.val := (by decide +kernel : ∀ t : Fin grid0.N, _)

theorem first (t : Fin cfg0.N) (h : t.val % 16 = 0) : ¬1 ≤ t.val := by
  have := lt_of_lt_of_eq t.isLt (show cfg0.N = 16 from N_0); omega

/-- The two row-blocked results at every point, whichever branch the sums take there. -/
theorem outs_dh (c : Dev nD) (t : Fin cfg0.N) : (outsAt0 m c t.val t.isLt).1
    = k0_pay1 (k0_pay10 (iblk m c 0 t)) (k0_pay11 (iblk m c 0 t)) (k0_pay12 (iblk m c 0 t) (iblk m c 1 t) (iblk m c 2 t))
        (k0_pay13 (iblk m c 0 t) (iblk m c 1 t) (iblk m c 2 t)) (Scalar.ofBits .f32 0x45000000#32) := by
  by_cases h : t.val % 16 = 0
  · rw [outsAt0_A m c t h (first t h)]; frame_out
  · rw [outsAt0_B m c t h (by omega)]; frame_out

theorem outs_dhb (c : Dev nD) (t : Fin cfg0.N) : (outsAt0 m c t.val t.isLt).2.1
    = k0_pay3 (k0_pay10 (iblk m c 0 t)) (k0_pay11 (iblk m c 0 t)) (k0_pay12 (iblk m c 0 t) (iblk m c 1 t) (iblk m c 2 t))
        (k0_pay13 (iblk m c 0 t) (iblk m c 1 t) (iblk m c 2 t)) (Scalar.ofBits .f32 0x45000000#32) := by
  by_cases h : t.val % 16 = 0
  · rw [outsAt0_A m c t h (first t h)]; frame_out
  · rw [outsAt0_B m c t h (by omega)]; frame_out

theorem dh (c : Dev nD) : (dats m 0 c).arrAt 3 cfg0.N = DH (V m c main_arg0) (V m c main_v0) (V m c main_arg2) := by
  refine (dats m 0 c).arrAt_eq_of_covers 3 _ (by decide +kernel) fun t _ y => ?_
  blk_simp
  rw [after0_3, outs_dh]
  pointwise [k0_pay1, k0_pay13, k0_pay12, k0_pay11, k0_pay10, k0_pay9, k0_pay7, k0_pay6, DH, DN, ERR, rgrad, rinv, msq]
  blk_point [iblk, V, idx t]

theorem dhb (c : Dev nD) : (dats m 0 c).arrAt 4 cfg0.N = DH (V m c main_arg0) (V m c main_v0) (V m c main_arg2) := by
  refine (dats m 0 c).arrAt_eq_of_covers 4 _ (by decide +kernel) fun t _ y => ?_
  blk_simp
  rw [after0_4, outs_dhb]
  pointwise [k0_pay3, k0_pay1, k0_pay13, k0_pay12, k0_pay11, k0_pay10, k0_pay9, k0_pay7, k0_pay6, DH, DN, ERR, rgrad, rinv, msq]
  blk_point [iblk, V, idx t]

/-- The gain's gradient, one block kept over the sixteen points. -/
theorem dg (c : Dev nD) : (dats m 0 c).arrAt 5 cfg0.N = DG (V m c main_arg0) (V m c main_v0) (V m c main_arg2) := by
  refine (dats m 0 c).arrAt_eq_of_after_last 5 t0_15 (by decide +kernel) _ fun j => ?_
  blk_simp
  rw [after0_5, Pipeline.eq_sum_fin_of_reset_step_apply_last (fun n h => (outsAt0 m c n h).2.2.1) 16 (fun _ => 0)
    (fun t j => k0_pay2 (k0_pay9 (iblk m c 0 t) (iblk m c 1 t) (iblk m c 2 t)) (k0_pay11 (iblk m c 0 t)) j)
    (fun t h j => by
      rw [outsAt0_A m c t h (first t h)]; frame_out
      exact (zero_add _).symm)
    (fun t h j => by
      rw [outsAt0_B m c t h (by omega)]; frame_out
      pointwise [k0_pay4]) (le_of_eq N_0) t0_15 rfl j, zero_add]
  pointwise [k0_pay2, k0_pay11, k0_pay10, k0_pay9, k0_pay7, k0_pay6, DG, DN, ERR, rinv, msq]
  refine Fin.sum_mul_add_congr fun t k hl => ?_
  blk_point [iblk, V, idx t, crd t]

/-- The loss's lanes, one block kept over the sixteen points. -/
theorem part (c : Dev nD) : (dats m 0 c).arrAt 6 cfg0.N = PART (V m c main_arg0) (V m c main_v0) (V m c main_arg2) := by
  refine (dats m 0 c).arrAt_eq_of_after_last 6 t0_15 (by decide +kernel) _ fun j => ?_
  blk_simp
  rw [after0_6, Pipeline.eq_sum_fin_of_reset_step_apply_last (fun n h => (outsAt0 m c n h).2.2.2) 16 (fun _ => 0)
    (fun t j => k0_pay8 (iblk m c 0 t) (iblk m c 1 t) (iblk m c 2 t) j)
    (fun t h j => by
      rw [outsAt0_A m c t h (first t h)]; frame_out
      exact (zero_add _).symm)
    (fun t h j => by
      rw [outsAt0_B m c t h (by omega)]; frame_out
      pointwise [k0_pay5]) (le_of_eq N_0) t0_15 rfl j, zero_add]
  pointwise [k0_pay8, k0_pay7, k0_pay6, PART, ERR, rinv, msq]
  refine Fin.sum_fin_congr fun t => ?_
  blk_point [iblk, V, idx t, crd t]

/-- The gain as the call receives it: one row. -/
theorem gain_row (c : Dev nD) (k : Fin 2048) :
    (V m c main_v0 : FVec Ideal S1x2048 .f32) (ix2 0 k) = m ((c : Thread nD τ).loc main_arg1) (ix1 k) := by
  rw [show (V m c main_v0 : FVec Ideal S1x2048 .f32)
    = shapeCast S1x2048 (m ((c : Thread nD τ).loc main_arg1) : FVec Ideal S2048 .f32) shapeCasts_S2048_S1x2048 from rfl]
  pointwise

end Cert.Kernel3Ideal.Loss

end
-- ==== Proof.LossRef.lean ====
/- The reference's loss and its gradients are the kernel's. -/
module

public import proofs.«01_k».proof.Proof.Gen.Reference3Ideal.Read
public import proofs.«01_k».proof.Proof.LossValue

@[expose] public section

set_option maxRecDepth 16384

noncomputable section

namespace Cert.Reference3Ideal.Loss

open Idealize.ShloMosaic Idealize.ShloMosaic.TcCoe Idealize.SL.Sem
open Cert.Reference3Ideal Cert.Reference3Ideal.Read Cert.Scalars
open Cert.Kernel3Ideal.Loss (ERR DN DH DG PART)

theorem two_f32 : Ideal.ofBits .f32 0x40000000#32 = ((2 : ℝ) : EReal) := by
  simp [Ideal.ofBits, Ideal.ieee]; norm_cast; norm_num

theorem half_two (e : EReal) : Ideal.div (Ideal.ofBits .f32 0x3F000000#32) (Ideal.ofBits .f32 0x45000000#32)
      * (Ideal.ofBits .f32 0x40000000#32 * e) = Ideal.div e (Ideal.ofBits .f32 0x45000000#32) := by
  rw [div_wid, div_wid, half_f32, two_f32, mul_comm e, ← mul_assoc]
  congr 1
  norm_cast
  norm_num

/-- The loss's two orders of summation: halved and divided block by block per lane, or row by row. -/
theorem loss_sum (e : Fin 4096 → Fin 2048 → EReal) :
    Ideal.ofBits .f32 0x3F000000#32 * ∑ i, Ideal.div (∑ k, e i k) (Ideal.ofBits .f32 0x45000000#32)
      = ∑ k : Fin 2048, ∑ t : Fin 16, Ideal.div (Ideal.ofBits .f32 0x3F000000#32
          * ∑ i : Fin 256, e ⟨t.val * 256 + i.val, by omega⟩ k) (Ideal.ofBits .f32 0x45000000#32) := by
  have hw : (0 : ℝ) ≤ 1 / 2048 := by norm_num
  have hh : (0 : ℝ) ≤ 1 / 2 := by norm_num
  simp only [div_wid, half_f32]
  have hl : ∀ i, (∑ k, e i k) * ((1 / 2048 : ℝ) : EReal) = ∑ k, ((1 / 2048 : ℝ) : EReal) * e i k := fun i => by
    rw [mul_comm, mul_sum_real _ _ _ hw]
  simp only [hl]
  rw [mul_sum_real _ _ _ hh]
  simp only [mul_sum_real _ _ _ hh]
  rw [Finset.sum_comm]
  refine Finset.sum_congr rfl fun k _ => ?_
  symm
  simp only [mul_comm _ ((1 / 2048 : ℝ) : EReal), mul_sum_real _ _ _ hw]
  exact Fin.sum_mul_add_congr fun t i hl => by ac_rfl

variable (H : FVec Ideal S4096x2048 .f32) (G : FVec Ideal S2048 .f32) (Y : FVec Ideal S4096x2048 .f32)
  (G1 : FVec Ideal Cert.Kernel3Ideal.S1x2048 .f32) (hG : ∀ k, G1 (ix2 0 k) = G (ix1 k))
include hG

omit hG in
theorem root (i : S4096x1.Idx) : val_main_v7 (F := Ideal) H i = rinv (fun k => H (ix2 (i 0) k)) := by
  pointwise [val_main_v7, val_main_v6, val_main_v5, val_main_v4, val_main_v3, val_main_v2, val_main_v1, val_main_v0,
    val_main_cst, val_main_cst_0, val_main_cst_1, rinv, msq]

theorem err (y : S4096x2048.Idx) : val_main_v16 (F := Ideal) H G Y y = ERR H G1 Y (y 0) (y 1) := by
  pointwise [val_main_v16, val_main_v15, val_main_v14, val_main_v13, val_main_v12, val_main_v11, root, ERR, hG]

theorem dn (y : S4096x2048.Idx) : val_main_v30 (F := Ideal) H G Y y = DN H G1 Y (y 0) (y 1) := by
  unfold DN
  rw [← err H G Y G1 hG y]
  pointwise [val_main_v30, val_main_v29, val_main_v28, val_main_v27, val_main_v26, val_main_v25, val_main_v19, val_main_v18,
    val_main_cst_3, val_main_cst_8, val_main_cst_9, val_main_cst_10]
  exact half_two _

/-- The shared part of the gradient through the mean square. -/
theorem quad (i : S4096.Idx) : val_main_v45 (F := Ideal) H G Y i
    = rquad (fun k => H (ix2 (i 0) k)) (fun k => G (ix1 k)) (DN H G1 Y (i 0)) := by
  pointwise [val_main_v45, val_main_v44, val_main_v43, val_main_v42, val_main_v39, val_main_v38, val_main_v37, val_main_v35,
    val_main_v34, dn H G Y G1 hG, val_main_v13, val_main_v10, val_main_v9, val_main_v8, root, val_main_v6, val_main_v5,
    val_main_v4, val_main_v3, val_main_v2, val_main_v1, val_main_v0,
    val_main_cst, val_main_cst_0, val_main_cst_1, val_main_cst_2, val_main_cst_13, val_main_cst_14, val_main_cst_15, rquad, msq]
  exact Fintype.sum_unique _

theorem dh : val_main_v50 (F := Ideal) H G Y = DH H G1 Y := by
  funext y
  pointwise [val_main_v50, val_main_v49, val_main_v48, val_main_v47, val_main_v46, quad H G Y G1 hG, val_main_v41,
    val_main_v40, root, val_main_v35, val_main_v34, dn H G Y G1 hG, val_main_v13, DH, rgrad_eq, hG]
  generalize rquad _ _ _ = q
  ac_rfl

theorem dhb : val_main_v51 (F := Ideal) H G Y = DH H G1 Y := by
  rw [← dh H G Y G1 hG]
  funext y
  pointwise [val_main_v51]

theorem dg : val_main_v52 (F := Ideal) H G Y = DG H G1 Y := by
  funext y
  pointwise [val_main_v52, val_main_v36, val_main_v33, val_main_v32, val_main_v31, val_main_v12, val_main_v11, root,
    dn H G Y G1 hG, val_main_cst_11, val_main_cst_12, DG]
  exact (Fintype.sum_unique _).trans (Finset.sum_congr rfl fun k _ => mul_comm _ _)

/-- The kernel's loss: its lanes added up. -/
theorem loss (rd : Cert.Kernel3Ideal.S1x2048.ReducesTo [0, 1] Cert.Kernel3Ideal.S_) (h : 0 < Cert.Kernel3Ideal.S_.numel) :
    val_main_v24 (F := Ideal) H G Y = Host.reduceAdd (PART H G1 Y) (constant Cert.Kernel3Ideal.S_ .f32 0x00000000#32) rd h := by
  funext y
  pointwise [val_main_v24, val_main_v23, val_main_v22, val_main_v21, val_main_v20, val_main_v17, err H G Y G1 hG,
    val_main_cst_4, val_main_cst_5, val_main_cst_6, val_main_cst_7, PART]
  rw [loss_sum fun i k => ERR H G1 Y i k * ERR H G1 Y i k]
  symm
  exact Fintype.sum_unique _

end Cert.Reference3Ideal.Loss

end
-- ==== Proof.LossClaim.lean ====
/- The loss pair: the claim that kernel and reference end with equal results. -/
module

public import proofs.«01_k».proof.Defs
public import proofs.«01_k».proof.Proof.Gen.Reference3Ideal.Run
public import proofs.«01_k».proof.Proof.LossRef
public import Idealize.ShloMosaic.Lib.Claim

@[expose] public section

set_option maxRecDepth 16384

noncomputable section

namespace Cert.Proof.Loss

open Idealize.ShloMosaic Idealize.ShloMosaic.TcCoe Idealize.SL.Sem
open Cert.Kernel3Ideal Cert.Kernel3Ideal.Gen Cert.Kernel3Ideal.Loss

variable (m : (ℓ : Loc nD τ sig) → Buf (Elt Ideal) ℓ) (ρ : Dev nD → PrngReg)

/-- The lanes the call leaves, added up after it. -/
theorem tail (c : Dev nD) : Pipeline.afterTail₀ cfgs (dats m) 0 (V0 m) [hostOps1] c main_v2
    = Host.reduceAdd (PART (m ((c : Thread nD τ).loc main_arg0)) (V m c main_v0) (m ((c : Thread nD τ).loc main_arg2)))
        (constant S_ .f32 0x00000000#32) reducesTo_S1x2048_S_d0_1 h_S_ := by
  have h := (Pipeline.withArrays_arr spec0 (by decide) c (V0 m c) (fun w => (dats m 0 c).arrAt w cfg0.N) 6).trans (part m c)
  exact congrArg (fun x => Host.reduceAdd (F := Ideal) x (constant S_ .f32 0x00000000#32) reducesTo_S1x2048_S_d0_1 h_S_) h

/-- The kernel's run, its results in plain terms of its arguments. -/
theorem run : θ_run defs (onTc (τ := τ) (main (F := Ideal))) ⟨m, fun _ => 0, ρ⟩ (fun r => ∀ c : Dev nD,
      r.2.mem ((c.tc : Thread nD τ).loc main_v1_0) = DH (m ((c : Thread nD τ).loc main_arg0)) (V m c main_v0)
          (m ((c : Thread nD τ).loc main_arg2))
      ∧ r.2.mem ((c.tc : Thread nD τ).loc main_v1_1) = DH (m ((c : Thread nD τ).loc main_arg0)) (V m c main_v0)
          (m ((c : Thread nD τ).loc main_arg2))
      ∧ r.2.mem ((c.tc : Thread nD τ).loc main_v1_2) = DG (m ((c : Thread nD τ).loc main_arg0)) (V m c main_v0)
          (m ((c : Thread nD τ).loc main_arg2))
      ∧ r.2.mem ((c.tc : Thread nD τ).loc main_v2) = Host.reduceAdd (PART (m ((c : Thread nD τ).loc main_arg0)) (V m c main_v0)
          (m ((c : Thread nD τ).loc main_arg2))) (constant S_ .f32 0x00000000#32) reducesTo_S1x2048_S_d0_1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m ρ) (unchanged m ρ))
  exact ⟨((h.1 c).1 3).trans (dh m c), ((h.1 c).1 4).trans (dhb m c), ((h.1 c).1 5).trans (dg m c),
    ((h.1 c).2 main_v2 (Pipeline.mem_restRefs_of main_v2 (by decide) (by decide))).trans (tail m c), h.2 c⟩

theorem algebraic : Cert.algebraic_Kernel3Ideal_Reference3Ideal := by
  pair_intro
  · run_from Cert.Proof.Loss.run m g
  · run_from Cert.Reference3Ideal.Value.run m' g'
    all_goals obtain ⟨e0, e1, e2⟩ := hagree c
    · rw [Cert.Reference3Ideal.Read.val_main_v50_eq, e0, e1, e2]
      exact Cert.Reference3Ideal.Loss.dh _ _ _ _ (gain_row m c)
    · rw [Cert.Reference3Ideal.Read.val_main_v51_eq, e0, e1, e2]
      exact Cert.Reference3Ideal.Loss.dhb _ _ _ _ (gain_row m c)
    · exact Cert.Reference3Ideal.Loss.dg _ _ _ _ (gain_row m c)
    · exact Cert.Reference3Ideal.Loss.loss _ _ _ _ (gain_row m c) _ _

end Cert.Proof.Loss

end
-- ==== Proof.OddValue.lean ====
/- What the forward call of the short convolution leaves in its two result arrays. -/
module

public import proofs.«01_k».proof.Proof.Gen.Kernel4Ideal.Frame
public import proofs.«01_k».proof.Proof.Scalars
public import Idealize.ShloMosaic.Lib.Pipeline.ValueKit
public import Idealize.ShloMosaic.Lib.Pointwise

@[expose] public section

set_option maxRecDepth 16384

noncomputable section

namespace Cert.Kernel4Ideal.Odd

open Idealize.ShloMosaic Idealize.ShloMosaic.TcCoe Idealize.SL.Sem
open Idealize.ShloMosaic.Pipeline (Dat)
open Cert.Kernel4Ideal Cert.Kernel4Ideal.Gen Cert.Scalars

variable (V : (c : Dev nD) → (b : Ref sig .tc) → Buf (Elt Ideal) ((c : Thread nD τ).loc b))

/-- A scratch block: `B` above, `A` below. -/
def rows (A : FVec Ideal S1024x512 .f32) (B : FVec Ideal S8x512 .f32) (a : ℕ) (l : Fin 512) : EReal :=
  if h : a < 8 then B (ix2 (⟨a, h⟩ : Fin 8) l) else if h' : a < 1032 then A (ix2 (⟨a - 8, by omega⟩ : Fin 1024) l) else 0

/-- The same, by its index. -/
def rowsV (A : FVec Ideal S1024x512 .f32) (B : FVec Ideal S8x512 .f32) : FVec Ideal S1032x512 .f32 := fun y => rows A B (y 0 : ℕ) (y 1)

theorem scr (v : View sig .tc .vmem S1032x512 .f32) (A : FVec Ideal S1024x512 .f32) (B : FVec Ideal S8x512 .f32) (r : Rect S1032x512) :
    v.readCov (Val := Elt Ideal) [⟨Rect.unit ![8, 0] ![1024, 512] inb_S1032x512_S1024x512_8_0, A⟩, ⟨Rect.unit ![0, 0] ![8, 512] inb_S1032x512_S8x512_0_0, B⟩]
      r.toLoadRect = View.ld (Val := Elt Ideal) (e' := .f32) (rowsV A B) r := by
  rw [View.readCov_eq_canon']
  funext j
  show (View.canon (Val := Elt Ideal) (e := .f32) _ (r.emb j)) = rowsV A B (r.emb j)
  generalize r.emb j = y
  have hc : ∃ p ∈ ([⟨Rect.unit ![8, 0] ![1024, 512] inb_S1032x512_S1024x512_8_0, A⟩, ⟨Rect.unit ![0, 0] ![8, 512] inb_S1032x512_S8x512_0_0, B⟩] : List (View.Piece (Elt Ideal) S1032x512 .f32)), y ∈ p.1.set := by
    have h0 : (y 0 : ℕ) < 1032 := (y 0).isLt
    have h1 : (y 1 : ℕ) < 512 := (y 1).isLt
    by_cases h : 8 ≤ (y 0 : ℕ)
    · exact ⟨_, List.mem_cons_self, (Rect.mem_set_unit (inb := inb_S1032x512_S1024x512_8_0)).mpr (Fin.forall_fin_two.mpr ⟨⟨h, by simpa using h0⟩, ⟨Nat.zero_le _, by simpa using h1⟩⟩)⟩
    · exact ⟨_, List.mem_cons_of_mem _ List.mem_cons_self, (Rect.mem_set_unit (inb := inb_S1032x512_S8x512_0_0)).mpr (Fin.forall_fin_two.mpr ⟨⟨Nat.zero_le _, by simp; omega⟩, ⟨Nat.zero_le _, by simpa using h1⟩⟩)⟩
  canon_tiles x h using hc
  · have hx := (x 0).isLt
    show A x = rows A B _ _
    unfold rows
    rw [dif_neg (by omega), dif_pos (by omega)]
    blk_ext
  · show B x = rows A B _ _
    unfold rows
    rw [dif_pos (by omega)]
    blk_ext

/-- Row `a` of the convolution of the scratch block's rows with the three taps. -/
def conv3 (X : ℕ → Fin 512 → EReal) (W : FVec Ideal S3x512 .f32) (a : ℕ) (l : Fin 512) : EReal :=
  W (ix2 2 l) * X (8 + a) l + W (ix2 1 l) * X (7 + a) l + W (ix2 0 l) * X (6 + a) l

theorem conv3_of {X : ℕ → Fin 512 → EReal} {W : FVec Ideal S3x512 .f32} {a : ℕ} {l l' : Fin 512} {a0 a1 a2 : ℕ}
    (hl : (l : ℕ) = (l' : ℕ)) (h2 : a2 = 8 + a) (h1 : a1 = 7 + a) (h0 : a0 = 6 + a) :
    W (ix2 2 l') * X a2 l' + W (ix2 1 l') * X a1 l' + W (ix2 0 l') * X a0 l' = conv3 X W a l := by
  obtain rfl := Fin.ext hl
  subst h0 h1 h2
  rfl

theorem pt (c : Dev nD) (t : Fin cfg0.N) (y : S1024x512.Idx) : (outsAt0 V c t).1 y = conv3 (rows (k0_pay5 (iblk0 V c 0 t) (iblk0 V c 2 t)) (k0_pay4 (grid0.coords t) (iblk0 V c 1 t) (iblk0 V c 3 t))) (iblk0 V c 4 t) (y 0 : ℕ) (y 1) := by
  unfold outsAt0; frame_out
  canon_tiles x h
  all_goals (open_payloads; simp only [scr]; pointwise [rowsV]; exact conv3_of (by omega) (by omega) (by omega) (by omega))

set_option maxHeartbeats 1600000 in
theorem pt' (c : Dev nD) (t : Fin cfg0.N) (y : S1024x512.Idx) : (outsAt0 V c t).2 y = conv3 (rows (k0_pay5 (iblk0 V c 0 t) (iblk0 V c 2 t)) (k0_pay4 (grid0.coords t) (iblk0 V c 1 t) (iblk0 V c 3 t))) (iblk0 V c 4 t) (y 0 : ℕ) (y 1) * iblk0 V c 5 t y := by
  unfold outsAt0; frame_out
  canon_tiles x h
  all_goals (open_payloads; simp only [scr]; pointwise [rowsV]; refine congrArg₂ (fun a b : EReal => a * b) (conv3_of (by omega) (by omega) (by omega) (by omega)) ?_; blk_ext)

theorem idx0 : ∀ t : Fin cfg0.N, win0_0.index t = ![t.val % 4, t.val / 4 + 4] ∧ win0_1.index t = ![t.val % 4 * 128 - 1, t.val / 4 + 4]
    ∧ win0_2.index t = ![t.val % 4, t.val / 4 + 8] ∧ win0_3.index t = ![t.val % 4 * 128 - 1, t.val / 4 + 8]
    ∧ win0_4.index t = ![0, t.val / 4]
    ∧ win0_5.index t = ![t.val % 4, t.val / 4] ∧ win0_6.index t = ![t.val % 4, t.val / 4] ∧ win0_7.index t = ![t.val % 4, t.val / 4] :=
  (by decide +kernel : ∀ t : Fin grid0.N, _)

theorem halo (i : grid0.Coords) (x1 x3 : FVec Ideal S8x512 .bf16) (a : Fin 8) (l : Fin 512) :
    k0_pay4 (F := Ideal) i x1 x3 (ix2 a l) = if (i 1 : ℕ) % 2 = 0 then 0 else x1 (ix2 a l) * x3 (ix2 a l) := by
  pointwise [k0_pay4]
  have h4 : (i 1 : ℕ) < 4 := (i 1).isLt
  have h : (i 1 : ℕ) = 0 ∨ (i 1 : ℕ) = 1 ∨ (i 1 : ℕ) = 2 ∨ (i 1 : ℕ) = 3 := by omega
  rcases h with h | h | h | h <;> simp only [h]
  · exact if_pos (by decide)
  · exact if_neg (by decide)
  · exact if_pos (by decide)
  · exact if_neg (by decide)

/-- The gate's product at row `r`, column `l`; zero outside. -/
def G (U : FVec Ideal S4096x6144 .bf16) (r l : ℕ) : EReal :=
  if h : r < 4096 ∧ l < 2048 then U (ix2 (⟨r, h.1⟩ : Fin 4096) (⟨2048 + l, by omega⟩ : Fin 6144)) * U (ix2 (⟨r, h.1⟩ : Fin 4096) (⟨4096 + l, by omega⟩ : Fin 6144)) else 0

/-- `g`'s row `s` before row `r` of the same sequence; zero before its start. -/
def back (g : ℕ → EReal) (s r : ℕ) : EReal := if s ≤ r % 2048 then g (r - s) else 0

/-- `g`'s row `s` after row `r` of the same sequence; zero after its end. -/
def ahead (g : ℕ → EReal) (s r : ℕ) : EReal := if r % 2048 + s < 2048 then g (r + s) else 0

/-- The causal convolution of the gate's product, at row `r`, column `l`. -/
def COat (U : FVec Ideal S4096x6144 .bf16) (W : FVec Ideal S3x2048 .f32) (r : ℕ) (l : Fin 2048) : EReal :=
  W (ix2 2 l) * back (G U · (l : ℕ)) 0 r + W (ix2 1 l) * back (G U · (l : ℕ)) 1 r + W (ix2 0 l) * back (G U · (l : ℕ)) 2 r

/-- The same as an array. -/
def CO (U : FVec Ideal S4096x6144 .bf16) (W : FVec Ideal S3x2048 .f32) : FVec Ideal S4096x2048 .bf16 := fun y =>
  COat U W (y 0 : ℕ) (y 1)

theorem crd0 : ∀ t : Fin cfg0.N, (grid0.coords t 1 : ℕ) = t.val % 4 := (by decide +kernel : ∀ t : Fin grid0.N, _)

theorem rows0 (c : Dev nD) (t : Fin cfg0.N) (k : ℕ) (hk : k < 1032) (l : Fin 512) :
    rows (k0_pay5 (iblk0 V c 0 t) (iblk0 V c 2 t)) (k0_pay4 (grid0.coords t) (iblk0 V c 1 t) (iblk0 V c 3 t)) k l
      = if k < 8 ∧ t.val % 4 % 2 = 0 then 0 else G (V c main_arg0) (1024 * (t.val % 4) + k - 8) (512 * (t.val / 4) + l) := by
  have ht : t.val < 16 := lt_of_lt_of_eq t.isLt N_0
  have hl := l.isLt
  unfold rows
  by_cases h : k < 8
  · rw [dif_pos h, halo, crd0]
    by_cases h2 : t.val % 4 % 2 = 0
    · rw [if_pos h2, if_pos ⟨h, h2⟩]
    · rw [if_neg h2, if_neg (fun h' => h2 h'.2), G, dif_pos (by omega)]
      blk_point [iblk0, idx0 t]
  · rw [dif_neg h, dif_pos hk, if_neg (fun h' => h h'.1), G, dif_pos (by omega)]
    pointwise [k0_pay5]
    blk_point [iblk0, idx0 t]

theorem back_of (g : ℕ → EReal) (i a s k : ℕ) (hs : s ≤ 8) (ha : a < 1024) (hk : k + s = 8 + a) :
    (if k < 8 ∧ i % 2 = 0 then 0 else g (1024 * i + k - 8)) = back g s (1024 * i + a) := by
  unfold back
  by_cases h : k < 8 ∧ i % 2 = 0
  · rw [if_pos h, if_neg (by omega)]
  · rw [if_neg h, if_pos (by omega)]
    exact congrArg g (by omega)

theorem core0 (c : Dev nD) (t : Fin cfg0.N) (a : ℕ) (l : Fin 512) (r : ℕ) (m : Fin 2048) (h0 : a < 1024)
    (hr : r = 1024 * (t.val % 4) + a) (hm : (m : ℕ) = 512 * (t.val / 4) + (l : ℕ)) :
    conv3 (rows (k0_pay5 (iblk0 V c 0 t) (iblk0 V c 2 t)) (k0_pay4 (grid0.coords t) (iblk0 V c 1 t) (iblk0 V c 3 t)))
      (iblk0 V c 4 t) a l = COat (V c main_arg0) (V c main_arg1) r m := by
  have ht : t.val < 16 := lt_of_lt_of_eq t.isLt N_0
  unfold conv3 COat
  rw [rows0 V c t _ (by omega), rows0 V c t _ (by omega), rows0 V c t _ (by omega), ← hm,
    back_of (G (V c main_arg0) · (m : ℕ)) _ a 0 _ (by omega) h0 (by omega),
    back_of (G (V c main_arg0) · (m : ℕ)) _ a 1 _ (by omega) h0 (by omega),
    back_of (G (V c main_arg0) · (m : ℕ)) _ a 2 _ (by omega) h0 (by omega), ← hr]
  have hw : ∀ k : Fin 3, iblk0 V c 4 t (ix2 k l) = V c main_arg1 (ix2 k m) := fun k => by
    blk_ext [iblk0, idx0 t]
  rw [hw, hw, hw]

theorem co (c : Dev nD) : (dat0 V c).arrAt 6 cfg0.N = CO (V c main_arg0) (V c main_arg1) := by
  refine (dat0 V c).arrAt_eq_of_covers 6 _ (by decide +kernel) fun t _ y => ?_
  have ht : t.val < 16 := lt_of_lt_of_eq t.isLt N_0
  blk_simp
  rw [after0_6, pt]
  refine core0 V c t _ _ _ _ (y 0).isLt ?_ ?_
  all_goals (blk_simp [idx0 t] <;> try omega)

/-- The gated output. -/
def YO (U : FVec Ideal S4096x6144 .bf16) (W : FVec Ideal S3x2048 .f32) : FVec Ideal S4096x2048 .bf16 := fun y =>
  CO U W y * U (ix2 (y 0) (⟨(y 1 : ℕ), lt_trans (y 1).isLt (by decide)⟩ : Fin 6144))

theorem yo (c : Dev nD) : (dat0 V c).arrAt 7 cfg0.N = YO (V c main_arg0) (V c main_arg1) := by
  refine (dat0 V c).arrAt_eq_of_covers 7 _ (by decide +kernel) fun t _ y => ?_
  have ht : t.val < 16 := lt_of_lt_of_eq t.isLt N_0
  blk_simp
  rw [after0_7, pt']
  unfold YO
  refine congrArg₂ (fun a b : EReal => a * b) (core0 V c t _ _ _ _ (y 0).isLt ?_ ?_) ?_
  · blk_simp [idx0 t] <;> try omega
  · blk_simp [idx0 t] <;> try omega
  · blk_ext [iblk0, idx0 t]

end Cert.Kernel4Ideal.Odd
-- ==== Proof.RowTaps.lean ====
/- A buffer of `K` rows to which windows of one row and 128 lanes are added one after the other: what it holds at the
   end is what it held before plus, at each element, the sum of the parts of the windows that meet it. The list of
   stores is the one a body leaves that loads a window, adds to it and stores it back: the first load of a window may
   read the buffer's former contents. -/
module

public import Idealize.ShloMosaic.Lib.Pipeline.ValueKit
public import Idealize.ShloMosaic.Lib.Pointwise

@[expose] public section

noncomputable section

namespace Cert.RowTaps

open Idealize.ShloMosaic Idealize.ShloMosaic.TcCoe Idealize.SL.Sem

abbrev Buf2 (K C : ℕ) : Shape := ⟨2, ![K, C]⟩

abbrev Row : Shape := ⟨2, ![1, 128]⟩

variable {K C : ℕ} {sig : RefSig} {κ : Kind} {sp : Space} (v : View sig κ sp (Buf2 K C) .f32)
  (prev : FVec Ideal (Buf2 K C) .f32) (bot : List (View.Piece (Elt Ideal) (Buf2 K C) .f32))
  (off : ℕ → Fin 2 → ℕ) (inb : ∀ n a, off n a + (![1, 128] : Fin 2 → ℕ) a ≤ (Buf2 K C).size a)
  (fresh : ℕ → Bool) (D : ℕ → FVec Ideal Row .f32) (hc : Row.ShapeCasts Row)

/-- The stores of the first `n` windows, newest first. -/
def pieces : ℕ → List (View.Piece (Elt Ideal) (Buf2 K C) .f32)
  | 0 => bot
  | n + 1 =>
    ⟨Rect.unit (off n) ![1, 128] (inb n),
      addf (F := Ideal) (φ := .f32) (shapeCast Row (bif fresh n then View.ld (Val := Elt Ideal) (e' := .f32) prev (Rect.unit (off n) ![1, 128] (inb n))
        else v.readCov (Val := Elt Ideal) (pieces n) (Rect.unit (off n) ![1, 128] (inb n)).toLoadRect) hc) (D n)⟩
      :: pieces n

/-- Window `n` meets row `k`, lane `l`. -/
def meets (n k l : ℕ) : Prop := k = off n 0 ∧ off n 1 ≤ l ∧ l < off n 1 + 128

instance (n k l : ℕ) : Decidable (meets off n k l) := inferInstanceAs (Decidable (_ ∧ _ ∧ _))

theorem mem_iff (n : ℕ) (y : (Buf2 K C).Idx) :
    y ∈ (Rect.unit (s := Buf2 K C) (off n) ![1, 128] (inb n)).set ↔ meets off n (y 0 : ℕ) (y 1 : ℕ) := by
  rw [Rect.mem_set_unit]
  unfold meets
  constructor
  · intro h
    have h0 : off n 0 ≤ (y 0 : ℕ) ∧ (y 0 : ℕ) < off n 0 + 1 := h 0
    have h1 : off n 1 ≤ (y 1 : ℕ) ∧ (y 1 : ℕ) < off n 1 + 128 := h 1
    omega
  · rintro ⟨h0, h1, h2⟩
    exact Fin.forall_fin_two.mpr ⟨⟨le_of_eq h0.symm, by show (y 0 : ℕ) < off n 0 + 1; omega⟩, ⟨h1, h2⟩⟩

/-- What the buffer holds after the first `n` windows, wherever one of them or the stores before them wrote. -/
theorem canon_pieces (N : ℕ) (E : ℕ → ℕ → EReal) (hE : ∀ n (x : Row.Idx), D n x = E n (off n 1 + (x 1 : ℕ)))
    (hbot : ∀ y, (∃ p ∈ bot, y ∈ p.1.set) → View.canon (Val := Elt Ideal) (e := .f32) bot y = prev y)
    (hfresh : ∀ n < N, fresh n = true → bot = [] ∧ ∀ i < n, ∀ k l, meets off n k l → ¬ meets off i k l)
    (hold : ∀ n < N, fresh n = false → (∀ y, ∃ p ∈ bot, y ∈ p.1.set) ∨ ∀ k l, meets off n k l → ∃ i < n, meets off i k l) :
    ∀ n (_ : n ≤ N) (y : (Buf2 K C).Idx), ((∃ p ∈ bot, y ∈ p.1.set) ∨ ∃ i < n, meets off i (y 0 : ℕ) (y 1 : ℕ)) →
      View.canon (Val := Elt Ideal) (e := .f32) (pieces v prev bot off inb fresh D hc n) y
        = (prev y + ∑ i ∈ Finset.range n, if meets off i (y 0 : ℕ) (y 1 : ℕ) then E i (y 1 : ℕ) else 0 : EReal)
  | 0, _, y, h => by
    have h' : ∃ p ∈ bot, y ∈ p.1.set := h.resolve_right (by rintro ⟨i, hi, _⟩; omega)
    rw [Finset.sum_range_zero, add_zero]
    exact hbot y h'
  | n + 1, hN, y, h => by
    rw [Finset.sum_range_succ]
    by_cases hy : meets off n (y 0 : ℕ) (y 1 : ℕ)
    · rw [if_pos hy]
      obtain ⟨x, hx⟩ : ∃ x, (Rect.unit (s := Buf2 K C) (off n) ![1, 128] (inb n)).emb x = y :=
        LoadRect.exists_idx_of_mem (Rect.unit (s := Buf2 K C) (off n) ![1, 128] (inb n)).toLoadRect ((mem_iff off inb n y).mpr hy)
      have hx1 : (y 1 : ℕ) = off n 1 + (x 1 : ℕ) := by
        rw [← hx, Rect.emb_apply]
        show off n 1 + 1 * (x 1 : ℕ) = _
        omega
      have hrd : (bif fresh n then View.ld (Val := Elt Ideal) (e' := .f32) prev (Rect.unit (s := Buf2 K C) (off n) ![1, 128] (inb n))
          else v.readCov (Val := Elt Ideal) (pieces v prev bot off inb fresh D hc n)
            (Rect.unit (s := Buf2 K C) (off n) ![1, 128] (inb n)).toLoadRect) x
          = (prev y + ∑ i ∈ Finset.range n, if meets off i (y 0 : ℕ) (y 1 : ℕ) then E i (y 1 : ℕ) else 0 : EReal) := by
        cases hf : fresh n with
        | true =>
          obtain ⟨_, hn⟩ := hfresh n (by omega) hf
          rw [Finset.sum_eq_zero fun i hi => if_neg (hn i (Finset.mem_range.mp hi) _ _ hy), add_zero]
          show prev ((Rect.unit (s := Buf2 K C) (off n) ![1, 128] (inb n)).emb x) = prev y
          rw [hx]
        | false =>
          have hcov : (∃ p ∈ bot, y ∈ p.1.set) ∨ ∃ i < n, meets off i (y 0 : ℕ) (y 1 : ℕ) :=
            (hold n (by omega) hf).imp (fun h => h y) (fun h => h _ _ hy)
          rw [← canon_pieces N E hE hbot hfresh hold n (by omega) y hcov]
          show v.readCov (Val := Elt Ideal) (pieces v prev bot off inb fresh D hc n) (Rect.unit (s := Buf2 K C) (off n) ![1, 128] (inb n)).toLoadRect x = _
          rw [View.readCov_eq_canon']
          show View.canon (Val := Elt Ideal) (e := .f32) _ ((Rect.unit (s := Buf2 K C) (off n) ![1, 128] (inb n)).emb x) = _
          rw [hx]
      rw [← add_assoc, ← hrd, hx1, ← hE n x, ← hx]
      refine (View.canon_cons_emb _ _ _ x).trans ?_
      show shapeCast Row _ hc x + D n x = _
      rw [shapeCast_self]
    · rw [if_neg hy, add_zero]
      rw [← canon_pieces N E hE hbot hfresh hold n (by omega) y (h.imp_right fun ⟨i, hi, hm⟩ =>
        ⟨i, lt_of_le_of_ne (Nat.le_of_lt_succ hi) (fun e => hy (e ▸ hm)), hm⟩)]
      exact View.canon_cons_of_not_mem _ _ (fun hm => hy ((mem_iff off inb n y).mp hm))

/-- The sum of the parts, when the windows that meet the element are the `e j`. -/
theorem sum_meets (E : ℕ → ℕ → EReal) (N R k l : ℕ) (e : ℕ → ℕ) (hlt : ∀ j < R, e j < N)
    (hinj : ∀ i < R, ∀ j < R, e i = e j → i = j) (hm : ∀ n < N, meets off n k l ↔ ∃ j < R, n = e j) :
    (∑ n ∈ Finset.range N, if meets off n k l then E n l else 0) = ∑ j : Fin R, E (e j) l := by
  rw [← Finset.sum_filter]
  have himg : (Finset.range N).filter (fun n => meets off n k l) = (Finset.range R).image e := by
    ext n
    simp only [Finset.mem_filter, Finset.mem_range, Finset.mem_image]
    constructor
    · rintro ⟨hn, h⟩
      obtain ⟨j, hj, rfl⟩ := (hm n hn).mp h
      exact ⟨j, hj, rfl⟩
    · rintro ⟨j, hj, rfl⟩
      exact ⟨hlt j hj, (hm _ (hlt j hj)).mpr ⟨j, hj, rfl⟩⟩
  rw [himg, Finset.sum_image fun i hi j hj h => hinj i (Finset.mem_range.mp hi) j (Finset.mem_range.mp hj) h,
    Fin.sum_univ_eq_sum_range (fun j => E (e j) l) R]

end Cert.RowTaps
-- ==== Proof.OddG.lean ====
module

public import proofs.«01_k».proof.Proof.OddValue
public import proofs.«01_k».proof.Proof.RowTaps

@[expose] public section

set_option maxRecDepth 16384

noncomputable section

namespace Cert.Kernel4Ideal.Odd

open Idealize.ShloMosaic Idealize.ShloMosaic.TcCoe Idealize.SL.Sem
open Idealize.ShloMosaic.Pipeline (Dat)
open Cert.Kernel4Ideal Cert.Kernel4Ideal.Gen Cert.Scalars

variable (V : (c : Dev nD) → (b : Ref sig .tc) → Buf (Elt Ideal) ((c : Thread nD τ).loc b))

/-- The stores that fill the scratch block of gradients: the rows of the point's block, then the rows after it. -/
def dsL (c : Dev nD) (t : Fin cfg1.N) : List (View.Piece (Elt Ideal) S1032x512 .f32) :=
  [⟨Rect.unit ![1024, 0] ![8, 512] inb_S1032x512_S8x512_1024_0, k1_pay3 (grid1.coords t) (iblk1 V c 1 t) (iblk1 V c 3 t)⟩,
    ⟨Rect.unit ![0, 0] ![1024, 512] inb_S1032x512_S1024x512_0_0, k1_pay2 (iblk1 V c 0 t) (iblk1 V c 2 t)⟩]

/-- The stores that fill the scratch block of the gate's product: the rows before the point's block, then its rows. -/
def xsL (c : Dev nD) (t : Fin cfg1.N) : List (View.Piece (Elt Ideal) S1032x512 .f32) :=
  [⟨Rect.unit ![8, 0] ![1024, 512] inb_S1032x512_S1024x512_8_0, k1_pay5 (iblk1 V c 4 t) (iblk1 V c 6 t)⟩,
    ⟨Rect.unit ![0, 0] ![8, 512] inb_S1032x512_S8x512_0_0,
      k1_pay4 (2#32) (Scalar.remsi (BitVec.ofNat 32 ↑(grid1.coords t 1)) 2#32) (0#32) (iblk1 V c 5 t) (iblk1 V c 7 t)⟩]

/-- Where tile `n` (of 4 groups of lanes, 8 groups of rows, 3 taps) lies in the scratch blocks, -/
def toff (n : ℕ) : Fin 2 → ℕ := ![128 * (n / 3 % 8), 128 * (n / 24 % 4)]

theorem tinb (n : ℕ) : ∀ a, toff n a + (![136, 128] : Fin 2 → ℕ) a ≤ S1032x512.size a :=
  Fin.forall_fin_two.mpr ⟨show 128 * (n / 3 % 8) + 136 ≤ 1032 by omega, show 128 * (n / 24 % 4) + 128 ≤ 512 by omega⟩

/-- and its window in the taps' gradient. -/
def woff (n : ℕ) : Fin 2 → ℕ := ![2 - n % 3, 128 * (n / 24 % 4)]

theorem winb (n : ℕ) : ∀ a, woff n a + (![1, 128] : Fin 2 → ℕ) a ≤ (RowTaps.Buf2 3 512).size a :=
  Fin.forall_fin_two.mpr ⟨show 2 - n % 3 + 1 ≤ 3 by omega, show 128 * (n / 24 % 4) + 128 ≤ 512 by omega⟩

/-- A tile's rows moved down by `s`. -/
def moved (s : ℕ) (x : FVec Ideal S136x128 .f32) : FVec Ideal S136x128 .f32 :=
  if s = 0 then x else dynamicRotate 0 (BitVec.ofNat 32 s) none x rotates_S136x128_d0

/-- Tile `n` of a scratch block that the stores `A` filled. -/
def tile (v : View sig .tc .vmem S1032x512 .f32) (A : List (View.Piece (Elt Ideal) S1032x512 .f32)) (n : ℕ) : FVec Ideal S136x128 .f32 :=
  v.readCov (Val := Elt Ideal) A (Rect.unit (s := S1032x512) (toff n) ![136, 128] (tinb n)).toLoadRect

/-- What tile `n` adds to its window. -/
def tileD (d x : ℕ → FVec Ideal S136x128 .f32) (n : ℕ) : FVec Ideal RowTaps.Row .f32 :=
  shapeCast S1x128 (multiReduction .add [0] S128
    (mulf (F := Ideal) (φ := .f32) (extractStridedSlice S128x128 ![0, 0] (d n) slices_S136x128_o0_0_S128x128)
      (extractStridedSlice S128x128 ![8, 0] (moved (n % 3) (x n)) slices_S136x128_o8_0_S128x128))
    0x00000000#32 reduces_S128x128_S128 (.inl rfl) rfl) shapeCasts_S128_S1x128

theorem dwB (c : Dev nD) (t : Fin cfg1.N) (hb : ¬ t.val % 4 = 0) (y : S3x512.Idx) :
    (outsAt1 V c t.val t.isLt).2 y = View.canon (Val := Elt Ideal) (e := .f32) (RowTaps.pieces (ms1_10 t).view
      (outsAt1 V c (t.val - 1) (Nat.lt_of_le_of_lt (Nat.sub_le _ _) t.isLt)).2 [] woff winb (fun n => decide (n % 24 < 3))
      (tileD (tile scM1_0.view (dsL V c t)) (tile scM1_1.view (xsL V c t))) shapeCasts_S1x128_S1x128 96) y := by
  rw [outsAt1_B V c t hb]; frame_out
  refine congrFun (congrArg (View.canon (Val := Elt Ideal) (s := S3x512) (e := .f32)) ?_) y
  sl_kernel_rfl

theorem dwA (c : Dev nD) (t : Fin cfg1.N) (hb : t.val % 4 = 0) (y : S3x512.Idx) :
    (outsAt1 V c t.val t.isLt).2 y = View.canon (Val := Elt Ideal) (e := .f32) (RowTaps.pieces (ms1_10 t).view
      (k1_pay6 (F := Ideal)) [⟨Rect.unit ![0, 0] ![3, 512] inb_S3x512_S3x512_0_0, k1_pay6 (F := Ideal)⟩] woff winb (fun n => false)
      (tileD (tile scM1_0.view (dsL V c t)) (tile scM1_1.view (xsL V c t))) shapeCasts_S1x128_S1x128 96) y := by
  rw [outsAt1_A V c t hb]; frame_out
  refine congrFun (congrArg (View.canon (Val := Elt Ideal) (s := S3x512) (e := .f32)) ?_) y
  sl_kernel_rfl

/-- A scratch block: `A` above, `B` below. -/
def rowsD (A : FVec Ideal S1024x512 .f32) (B : FVec Ideal S8x512 .f32) (a : ℕ) (l : Fin 512) : EReal :=
  if h : a < 1024 then A (ix2 (⟨a, h⟩ : Fin 1024) l) else if h' : a < 1032 then B (ix2 (⟨a - 1024, by omega⟩ : Fin 8) l) else 0

/-- The same, by its index. -/
def rowsDV (A : FVec Ideal S1024x512 .f32) (B : FVec Ideal S8x512 .f32) : FVec Ideal S1032x512 .f32 := fun y => rowsD A B (y 0 : ℕ) (y 1)

theorem scrD (v : View sig .tc .vmem S1032x512 .f32) (A : FVec Ideal S1024x512 .f32) (B : FVec Ideal S8x512 .f32) (r : Rect S1032x512) :
    v.readCov (Val := Elt Ideal) [⟨Rect.unit ![1024, 0] ![8, 512] inb_S1032x512_S8x512_1024_0, B⟩, ⟨Rect.unit ![0, 0] ![1024, 512] inb_S1032x512_S1024x512_0_0, A⟩]
      r.toLoadRect = View.ld (Val := Elt Ideal) (e' := .f32) (rowsDV A B) r := by
  rw [View.readCov_eq_canon']
  funext j
  show (View.canon (Val := Elt Ideal) (e := .f32) _ (r.emb j)) = rowsDV A B (r.emb j)
  generalize r.emb j = y
  have hc : ∃ p ∈ ([⟨Rect.unit ![1024, 0] ![8, 512] inb_S1032x512_S8x512_1024_0, B⟩, ⟨Rect.unit ![0, 0] ![1024, 512] inb_S1032x512_S1024x512_0_0, A⟩] : List (View.Piece (Elt Ideal) S1032x512 .f32)), y ∈ p.1.set := by
    have h0 : (y 0 : ℕ) < 1032 := (y 0).isLt
    have h1 : (y 1 : ℕ) < 512 := (y 1).isLt
    by_cases h : 1024 ≤ (y 0 : ℕ)
    · exact ⟨_, List.mem_cons_self, (Rect.mem_set_unit (inb := inb_S1032x512_S8x512_1024_0)).mpr (Fin.forall_fin_two.mpr ⟨⟨h, by simpa using h0⟩, ⟨Nat.zero_le _, by simpa using h1⟩⟩)⟩
    · exact ⟨_, List.mem_cons_of_mem _ List.mem_cons_self, (Rect.mem_set_unit (inb := inb_S1032x512_S1024x512_0_0)).mpr (Fin.forall_fin_two.mpr ⟨⟨Nat.zero_le _, by simp; omega⟩, ⟨Nat.zero_le _, by simpa using h1⟩⟩)⟩
  canon_tiles x h using hc
  · have hx := (x 0).isLt
    show B x = rowsD A B _ _
    unfold rowsD
    rw [dif_neg (by omega), dif_pos (by omega)]
    blk_ext
  · show A x = rowsD A B _ _
    unfold rowsD
    rw [dif_pos (by omega)]
    blk_ext

/-- The point's scratch rows of gradients, -/
def dsR (c : Dev nD) (t : Fin cfg1.N) : ℕ → Fin 512 → EReal :=
  rowsD (k1_pay2 (iblk1 V c 0 t) (iblk1 V c 2 t)) (k1_pay3 (grid1.coords t) (iblk1 V c 1 t) (iblk1 V c 3 t))

/-- and of the gate's product. -/
def xsR (c : Dev nD) (t : Fin cfg1.N) : ℕ → Fin 512 → EReal :=
  rows (k1_pay5 (iblk1 V c 4 t) (iblk1 V c 6 t))
    (k1_pay4 (2#32) (Scalar.remsi (BitVec.ofNat 32 ↑(grid1.coords t 1)) 2#32) (0#32) (iblk1 V c 5 t) (iblk1 V c 7 t))

/-- What row group `j` adds to the gradient of tap `2 - s` at lane `l`. -/
def grp (d x : ℕ → Fin 512 → EReal) (j s : ℕ) (l : ℕ) : EReal :=
  if h : l < 512 then ∑ a : Fin 128, d (128 * j + (a : ℕ)) ⟨l, h⟩ * x (128 * j + (a : ℕ) + 8 - s) ⟨l, h⟩ else 0

theorem tileD_at (c : Dev nD) (t : Fin cfg1.N) (n : ℕ) (z : RowTaps.Row.Idx) :
    tileD (tile scM1_0.view (dsL V c t)) (tile scM1_1.view (xsL V c t)) n z
      = grp (dsR V c t) (xsR V c t) (n / 3 % 8) (n % 3) (woff n 1 + (z 1 : ℕ)) := by
  have hz : (z 1 : ℕ) < 128 := (z 1).isLt
  have hw : woff n 1 = 128 * (n / 24 % 4) := rfl
  have hd : tile scM1_0.view (dsL V c t) n = fun y => dsR V c t (128 * (n / 3 % 8) + (y 0 : ℕ)) ⟨128 * (n / 24 % 4) + (y 1 : ℕ), by have : (y 1 : ℕ) < 128 := (y 1).isLt; omega⟩ := by
    unfold tile dsL; rw [scrD]
    funext y
    pointwise [rowsDV, dsR]
    rfl
  have hx : tile scM1_1.view (xsL V c t) n = fun y => xsR V c t (128 * (n / 3 % 8) + (y 0 : ℕ)) ⟨128 * (n / 24 % 4) + (y 1 : ℕ), by have : (y 1 : ℕ) < 128 := (y 1).isLt; omega⟩ := by
    unfold tile xsL; rw [scr]
    funext y
    pointwise [rowsV, xsR]
    rfl
  unfold tileD grp
  rw [hd, hx, dif_pos (by omega)]
  have h3 : n % 3 = 0 ∨ n % 3 = 1 ∨ n % 3 = 2 := by omega
  rcases h3 with h | h | h <;> rw [h]
  all_goals
    pointwise [moved]
    refine Finset.sum_congr rfl fun a _ => ?_
    have ha := a.isLt
    exact congrArg₂ (fun p q : EReal => p * q) rfl (congrArg (xsR V c t · _) (by omega))

theorem sumD (c : Dev nD) (t : Fin cfg1.N) (y : S3x512.Idx) :
    (∑ i ∈ Finset.range 96, if RowTaps.meets woff i (y 0 : ℕ) (y 1 : ℕ) then grp (dsR V c t) (xsR V c t) (i / 3 % 8) (i % 3) (y 1 : ℕ) else 0)
      = ∑ j : Fin 8, grp (dsR V c t) (xsR V c t) j (2 - (y 0 : ℕ)) (y 1 : ℕ) := by
  have h0 : (y 0 : ℕ) < 3 := (y 0).isLt
  have h1 : (y 1 : ℕ) < 512 := (y 1).isLt
  refine (RowTaps.sum_meets woff (fun i l => grp (dsR V c t) (xsR V c t) (i / 3 % 8) (i % 3) l) 96 8 _ _
    (fun j => 24 * ((y 1 : ℕ) / 128) + 3 * j + (2 - (y 0 : ℕ))) (fun j hj => by omega) (fun i hi j hj h => by omega)
    fun n hn => ?_).trans (Finset.sum_congr rfl fun j _ => ?_)
  · unfold RowTaps.meets
    have w0 : woff n 0 = 2 - n % 3 := rfl
    have w1 : woff n 1 = 128 * (n / 24 % 4) := rfl
    rw [w0, w1]
    constructor
    · intro h
      exact ⟨n / 3 % 8, by omega, by omega⟩
    · rintro ⟨j, hj, rfl⟩
      omega
  · have hj := j.isLt
    exact congrArg₂ (grp (dsR V c t) (xsR V c t) · · (y 1 : ℕ)) (by omega) (by omega)

theorem meets_woff (n k l : ℕ) : RowTaps.meets woff n k l ↔ k = 2 - n % 3 ∧ 128 * (n / 24 % 4) ≤ l ∧ l < 128 * (n / 24 % 4) + 128 := Iff.rfl

theorem fresh_woff (n : ℕ) (hN : n < 96) (h : decide (n % 24 < 3) = true) (i : ℕ) (hi : i < n) (k l : ℕ)
    (hn : RowTaps.meets woff n k l) : ¬ RowTaps.meets woff i k l := by
  have := of_decide_eq_true h
  rw [meets_woff] at hn ⊢
  omega

theorem hold_woff (n : ℕ) (h : decide (n % 24 < 3) = false) (k l : ℕ) (hn : RowTaps.meets woff n k l) :
    ∃ i < n, RowTaps.meets woff i k l := by
  have := of_decide_eq_false h
  rw [meets_woff] at hn
  exact ⟨n - 3, by omega, by rw [meets_woff]; omega⟩

theorem cov_woff (y : S3x512.Idx) : ∃ i < 96, RowTaps.meets woff i (y 0 : ℕ) (y 1 : ℕ) := by
  have h0 : (y 0 : ℕ) < 3 := (y 0).isLt
  have h1 : (y 1 : ℕ) < 512 := (y 1).isLt
  exact ⟨24 * ((y 1 : ℕ) / 128) + (2 - (y 0 : ℕ)), by omega, by rw [meets_woff]; omega⟩

theorem stepB (c : Dev nD) (t : Fin cfg1.N) (hb : ¬ t.val % 4 = 0) (y : S3x512.Idx) :
    ((outsAt1 V c t.val t.isLt).2 y : EReal) = (outsAt1 V c (t.val - 1) (Nat.lt_of_le_of_lt (Nat.sub_le _ _) t.isLt)).2 y
      + ∑ j : Fin 8, grp (dsR V c t) (xsR V c t) j (2 - (y 0 : ℕ)) (y 1 : ℕ) := by
  rw [← sumD V c t y, dwB V c t hb]
  exact RowTaps.canon_pieces _ _ _ woff winb _ _ _ 96 (fun i l => grp (dsR V c t) (xsR V c t) (i / 3 % 8) (i % 3) l)
    (fun n x => tileD_at V c t n x) (fun y ⟨p, hp, _⟩ => absurd hp (List.not_mem_nil))
    (fun n hN hn => ⟨rfl, fresh_woff n hN hn⟩) (fun n _ hn => .inr (hold_woff n hn)) 96 le_rfl y (.inr (cov_woff y))

theorem zero6 (y : S3x512.Idx) : k1_pay6 (F := Ideal) y = (0 : EReal) := by pointwise [k1_pay6]

theorem whole6 (y : S3x512.Idx) : y ∈ (Rect.unit (s := S3x512) ![0, 0] ![3, 512] inb_S3x512_S3x512_0_0).set :=
  Rect.mem_set_unit.mpr (Fin.forall_fin_two.mpr ⟨⟨Nat.zero_le _, by have : (y 0 : ℕ) < 3 := (y 0).isLt; simpa using this⟩,
    ⟨Nat.zero_le _, by have : (y 1 : ℕ) < 512 := (y 1).isLt; simpa using this⟩⟩)

theorem canon6 (y : S3x512.Idx) : View.canon (Val := Elt Ideal) (s := S3x512) (e := .f32)
    [⟨Rect.unit ![0, 0] ![3, 512] inb_S3x512_S3x512_0_0, k1_pay6 (F := Ideal)⟩] y = k1_pay6 (F := Ideal) y := by
  canon_tiles x h using ⟨_, List.mem_cons_self, whole6 y⟩
  exact (zero6 _).trans (zero6 _).symm

theorem stepA (c : Dev nD) (t : Fin cfg1.N) (hb : t.val % 4 = 0) (y : S3x512.Idx) :
    ((outsAt1 V c t.val t.isLt).2 y : EReal) = 0 + ∑ j : Fin 8, grp (dsR V c t) (xsR V c t) j (2 - (y 0 : ℕ)) (y 1 : ℕ) := by
  rw [← sumD V c t y, dwA V c t hb]
  refine Eq.trans ?_ (congrArg (· + _) (zero6 y))
  exact RowTaps.canon_pieces _ _ _ woff winb _ _ _ 96 (fun i l => grp (dsR V c t) (xsR V c t) (i / 3 % 8) (i % 3) l)
    (fun n x => tileD_at V c t n x) (fun y _ => canon6 y)
    (fun n hN hn => absurd hn Bool.false_ne_true) (fun n _ hn => .inl fun y => ⟨_, List.mem_cons_self, whole6 y⟩) 96 le_rfl y
    (.inl ⟨_, List.mem_cons_self, whole6 y⟩)

/-- The gradient's row `r` times the gate, column `l`; zero outside. -/
def Dg (Y : FVec Ideal S4096x2048 .bf16) (U : FVec Ideal S4096x6144 .bf16) (r l : ℕ) : EReal :=
  if h : r < 4096 ∧ l < 2048 then Y (ix2 (⟨r, h.1⟩ : Fin 4096) (⟨l, h.2⟩ : Fin 2048)) * U (ix2 (⟨r, h.1⟩ : Fin 4096) (⟨l, by omega⟩ : Fin 6144)) else 0

theorem idx1 : ∀ t : Fin cfg1.N, win1_0.index t = ![t.val % 4, t.val / 4] ∧ win1_2.index t = ![t.val % 4, t.val / 4]
    ∧ win1_4.index t = ![t.val % 4, t.val / 4 + 4] ∧ win1_5.index t = ![t.val % 4 * 128 - 1, t.val / 4 + 4]
    ∧ win1_6.index t = ![t.val % 4, t.val / 4 + 8] ∧ win1_7.index t = ![t.val % 4 * 128 - 1, t.val / 4 + 8]
    ∧ win1_8.index t = ![0, t.val / 4]
    ∧ win1_9.index t = ![t.val % 4, t.val / 4] ∧ win1_10.index t = ![0, t.val / 4] :=
  (by decide +kernel : ∀ t : Fin grid1.N, _)

theorem idx1n : ∀ t : Fin cfg1.N, ¬ t.val % 4 % 2 = 1 → win1_1.index t = ![t.val % 4 * 128 + 128, t.val / 4]
    ∧ win1_3.index t = ![t.val % 4 * 128 + 128, t.val / 4] := (by decide +kernel : ∀ t : Fin grid1.N, _)

theorem crd1 : ∀ t : Fin cfg1.N, (grid1.coords t 1 : ℕ) = t.val % 4 := (by decide +kernel : ∀ t : Fin grid1.N, _)

theorem halo1 (i : ℕ) (h4 : i < 4) (x1 x3 : FVec Ideal S8x512 .bf16) (a : Fin 8) (l : Fin 512) :
    k1_pay4 (F := Ideal) (2#32) (Scalar.remsi (BitVec.ofNat 32 i) 2#32) (0#32) x1 x3 (ix2 a l) = if i % 2 = 0 then 0 else x1 (ix2 a l) * x3 (ix2 a l) := by
  pointwise [k1_pay4]
  have h : i = 0 ∨ i = 1 ∨ i = 2 ∨ i = 3 := by omega
  rcases h with h | h | h | h <;> simp only [h]
  · exact if_pos (by decide)
  · exact if_neg (by decide)
  · exact if_pos (by decide)
  · exact if_neg (by decide)

theorem foot1 (i : grid1.Coords) (x1 x3 : FVec Ideal S8x512 .bf16) (a : Fin 8) (l : Fin 512) :
    k1_pay3 (F := Ideal) i x1 x3 (ix2 a l) = if (i 1 : ℕ) % 2 = 1 then 0 else x1 (ix2 a l) * x3 (ix2 a l) := by
  pointwise [k1_pay3]
  have h4 : (i 1 : ℕ) < 4 := (i 1).isLt
  have h : (i 1 : ℕ) = 0 ∨ (i 1 : ℕ) = 1 ∨ (i 1 : ℕ) = 2 ∨ (i 1 : ℕ) = 3 := by omega
  rcases h with h | h | h | h <;> simp only [h]
  · exact if_neg (by decide)
  · exact if_pos (by decide)
  · exact if_neg (by decide)
  · exact if_pos (by decide)

theorem xs1 (c : Dev nD) (t : Fin cfg1.N) (k : ℕ) (hk : k < 1032) (l : Fin 512) :
    xsR V c t k l = if k < 8 ∧ t.val % 4 % 2 = 0 then 0 else G (V c main_arg0) (1024 * (t.val % 4) + k - 8) (512 * (t.val / 4) + l) := by
  have ht : t.val < 16 := lt_of_lt_of_eq t.isLt N_1
  have hl := l.isLt
  unfold xsR rows
  by_cases h : k < 8
  · rw [dif_pos h, halo1 _ (grid1.coords t 1).isLt, crd1]
    by_cases h2 : t.val % 4 % 2 = 0
    · rw [if_pos h2, if_pos ⟨h, h2⟩]
    · rw [if_neg h2, if_neg (fun h' => h2 h'.2), G, dif_pos (by omega)]
      blk_point [iblk1, idx1 t]
  · rw [dif_neg h, dif_pos hk, if_neg (fun h' => h h'.1), G, dif_pos (by omega)]
    pointwise [k1_pay5]
    blk_point [iblk1, idx1 t]

theorem ds1 (c : Dev nD) (t : Fin cfg1.N) (k : ℕ) (hk : k < 1032) (l : Fin 512) :
    dsR V c t k l = if 1024 ≤ k ∧ t.val % 4 % 2 = 1 then 0 else Dg (V c main_arg2) (V c main_arg0) (1024 * (t.val % 4) + k) (512 * (t.val / 4) + l) := by
  have ht : t.val < 16 := lt_of_lt_of_eq t.isLt N_1
  have hl := l.isLt
  unfold dsR rowsD
  by_cases h : k < 1024
  · rw [dif_pos h, if_neg (by omega), Dg, dif_pos (by omega)]
    pointwise [k1_pay2]
    blk_point [iblk1, idx1 t]
  · rw [dif_neg h, dif_pos hk, foot1, crd1]
    by_cases h2 : t.val % 4 % 2 = 1
    · rw [if_pos h2, if_pos (by omega)]
    · rw [if_neg h2, if_neg (fun h' => h2 h'.2), Dg, dif_pos (by omega)]
      blk_point [iblk1, idx1n t h2, idx1 t]

theorem ahead_of (g : ℕ → EReal) (i a s : ℕ) (hs : s ≤ 8) (ha : a < 1024) :
    (if 1024 ≤ a + s ∧ i % 2 = 1 then 0 else g (1024 * i + (a + s))) = ahead g s (1024 * i + a) := by
  unfold ahead
  by_cases h : 1024 ≤ a + s ∧ i % 2 = 1
  · rw [if_pos h, if_neg (by omega)]
  · rw [if_neg h, if_pos (by omega)]
    exact congrArg g (by omega)

/-- Row `a` of the taps against the rows that follow. -/
def conv3a (X : ℕ → Fin 512 → EReal) (W : FVec Ideal S3x512 .f32) (a : ℕ) (l : Fin 512) : EReal :=
  W (ix2 2 l) * X a l + W (ix2 1 l) * X (a + 1) l + W (ix2 0 l) * X (a + 2) l

theorem conv3a_of {X : ℕ → Fin 512 → EReal} {W : FVec Ideal S3x512 .f32} {a : ℕ} {l l' : Fin 512} {a0 a1 a2 : ℕ}
    (hl : (l : ℕ) = (l' : ℕ)) (h2 : a2 = a) (h1 : a1 = a + 1) (h0 : a0 = a + 2) :
    W (ix2 2 l') * X a2 l' + W (ix2 1 l') * X a1 l' + W (ix2 0 l') * X a0 l' = conv3a X W a l := by
  obtain rfl := Fin.ext hl
  subst h0 h1 h2
  rfl

set_option maxHeartbeats 1600000 in
theorem ptA (c : Dev nD) (t : Fin cfg1.N) (hb : t.val % 4 = 0) (y : S1024x512.Idx) :
    (outsAt1 V c t.val t.isLt).1 y = conv3a (rowsD (k1_pay2 (iblk1 V c 0 t) (iblk1 V c 2 t)) (k1_pay3 (grid1.coords t) (iblk1 V c 1 t) (iblk1 V c 3 t))) (iblk1 V c 8 t) (y 0 : ℕ) (y 1) := by
  rw [outsAt1_A V c t hb]; frame_out
  canon_tiles x h
  all_goals (open_payloads; simp only [scrD]; pointwise [rowsDV]; exact conv3a_of (by omega) (by omega) (by omega) (by omega))

set_option maxHeartbeats 1600000 in
theorem ptB (c : Dev nD) (t : Fin cfg1.N) (hb : ¬ t.val % 4 = 0) (y : S1024x512.Idx) :
    (outsAt1 V c t.val t.isLt).1 y = conv3a (rowsD (k1_pay2 (iblk1 V c 0 t) (iblk1 V c 2 t)) (k1_pay3 (grid1.coords t) (iblk1 V c 1 t) (iblk1 V c 3 t))) (iblk1 V c 8 t) (y 0 : ℕ) (y 1) := by
  rw [outsAt1_B V c t hb]; frame_out
  canon_tiles x h
  all_goals (open_payloads; simp only [scrD]; pointwise [rowsDV]; exact conv3a_of (by omega) (by omega) (by omega) (by omega))

end Cert.Kernel4Ideal.Odd
-- ==== Proof.OddBack.lean ====
/- What the backward calls of the short convolution leave in their result arrays. -/
module

public import proofs.«01_k».proof.Proof.OddG

@[expose] public section

set_option maxRecDepth 16384

noncomputable section

namespace Cert.Kernel4Ideal.Odd

open Idealize.ShloMosaic Idealize.ShloMosaic.TcCoe Idealize.SL.Sem
open Idealize.ShloMosaic.Pipeline (Dat)
open Cert.Kernel4Ideal Cert.Kernel4Ideal.Gen Cert.Scalars

variable (V : (c : Dev nD) → (b : Ref sig .tc) → Buf (Elt Ideal) ((c : Thread nD τ).loc b))

/-- The gradient of the convolution's input at row `r`, column `l`. -/
def DXat (Y : FVec Ideal S4096x2048 .bf16) (U : FVec Ideal S4096x6144 .bf16) (W : FVec Ideal S3x2048 .f32) (r : ℕ) (l : Fin 2048) : EReal :=
  W (ix2 2 l) * ahead (Dg Y U · (l : ℕ)) 0 r + W (ix2 1 l) * ahead (Dg Y U · (l : ℕ)) 1 r + W (ix2 0 l) * ahead (Dg Y U · (l : ℕ)) 2 r

/-- The same as an array. -/
def DX (Y : FVec Ideal S4096x2048 .bf16) (U : FVec Ideal S4096x6144 .bf16) (W : FVec Ideal S3x2048 .f32) : FVec Ideal S4096x2048 .bf16 := fun y =>
  DXat Y U W (y 0 : ℕ) (y 1)

/-- The gradient of tap `k`: the sum over all rows. -/
def DW (Y : FVec Ideal S4096x2048 .bf16) (U : FVec Ideal S4096x6144 .bf16) : FVec Ideal S3x2048 .f32 := fun y =>
  ∑ r : Fin 4096, Dg Y U (r : ℕ) (y 1 : ℕ) * back (G U · (y 1 : ℕ)) (2 - (y 0 : ℕ)) (r : ℕ)

theorem core1 (c : Dev nD) (t : Fin cfg1.N) (a : ℕ) (l : Fin 512) (r : ℕ) (m : Fin 2048) (h0 : a < 1024)
    (hr : r = 1024 * (t.val % 4) + a) (hm : (m : ℕ) = 512 * (t.val / 4) + (l : ℕ)) :
    conv3a (dsR V c t) (iblk1 V c 8 t) a l = DXat (V c main_arg2) (V c main_arg0) (V c main_arg1) r m := by
  have ht : t.val < 16 := lt_of_lt_of_eq t.isLt N_1
  unfold conv3a DXat
  rw [ds1 V c t _ (by omega), ds1 V c t _ (by omega), ds1 V c t _ (by omega), ← hm,
    ahead_of (Dg (V c main_arg2) (V c main_arg0) · (m : ℕ)) _ a 1 (by omega) h0,
    ahead_of (Dg (V c main_arg2) (V c main_arg0) · (m : ℕ)) _ a 2 (by omega) h0, ← hr]
  have h00 := ahead_of (Dg (V c main_arg2) (V c main_arg0) · (m : ℕ)) (t.val % 4) a 0 (by omega) h0
  rw [Nat.add_zero, ← hr] at h00
  rw [h00]
  have hw : ∀ k : Fin 3, iblk1 V c 8 t (ix2 k l) = V c main_arg1 (ix2 k m) := fun k => by
    blk_ext [iblk1, idx1 t]
  rw [hw, hw, hw]

theorem pt1 (c : Dev nD) (t : Fin cfg1.N) (y : S1024x512.Idx) :
    (outsAt1 V c t.val t.isLt).1 y = conv3a (dsR V c t) (iblk1 V c 8 t) (y 0 : ℕ) (y 1) := by
  by_cases hb : t.val % 4 = 0
  · exact ptA V c t hb y
  · exact ptB V c t hb y

theorem dx (c : Dev nD) : (dat1 V c).arrAt 9 cfg1.N = DX (V c main_arg2) (V c main_arg0) (V c main_arg1) := by
  refine (dat1 V c).arrAt_eq_of_covers 9 _ (by decide +kernel) fun t _ y => ?_
  have ht : t.val < 16 := lt_of_lt_of_eq t.isLt N_1
  blk_simp
  rw [after1_9, pt1]
  refine core1 V c t _ _ _ _ (y 0).isLt ?_ ?_
  all_goals (blk_simp [idx1 t] <;> try omega)

/-- The rows a point adds to a tap's gradient. -/
theorem part1 (c : Dev nD) (t : Fin cfg1.N) (q : ℕ) (hq : q < 3) (l : ℕ) (hl : l < 512) :
    (∑ j : Fin 8, grp (dsR V c t) (xsR V c t) j q l)
      = ∑ a : Fin 1024, Dg (V c main_arg2) (V c main_arg0) (1024 * (t.val % 4) + (a : ℕ)) (512 * (t.val / 4) + l)
          * back (G (V c main_arg0) · (512 * (t.val / 4) + l)) q (1024 * (t.val % 4) + (a : ℕ)) := by
  unfold grp
  simp only [dif_pos hl]
  refine Fin.sum_mul_add_congr fun j a hja => ?_
  have hj := j.isLt
  have ha := a.isLt
  rw [ds1 V c t _ (by omega), xs1 V c t _ (by omega), if_neg (by omega),
    back_of (G (V c main_arg0) · (512 * (t.val / 4) + l)) _ (128 * (j : ℕ) + (a : ℕ)) q _ (by omega) (by omega) (by omega)]
  rw [show 128 * (j : ℕ) + (a : ℕ) = (j : ℕ) * 128 + (a : ℕ) by omega]

theorem dw (c : Dev nD) : (dat1 V c).arrAt 10 cfg1.N = DW (V c main_arg2) (V c main_arg0) := by
  refine (dat1 V c).arrAt_eq_of_covers 10 _ (by decide +kernel) fun t hf y => ?_
  have ht : t.val < 16 := lt_of_lt_of_eq t.isLt N_1
  have hy0 : (y 0 : ℕ) < 3 := (y 0).isLt
  have hy1 : (y 1 : ℕ) < 512 := (y 1).isLt
  blk_simp
  rw [after1_10, Pipeline.eq_sum_fin_of_reset_step_apply_of_flush (fun n h => (outsAt1 V c n h).2) 4 (fun _ => (0 : EReal))
    (fun t y => ∑ j : Fin 8, grp (dsR V c t) (xsR V c t) j (2 - (y 0 : ℕ)) (y 1 : ℕ))
    (fun t h y => stepA V c t h y) (fun t h y => stepB V c t h y) t ((flush1_10 t).mp hf) y, zero_add]
  unfold DW
  refine (Fin.sum_fin_congr fun s => part1 V c _ _ (by omega) _ hy1).trans ?_
  refine Fin.sum_mul_add_congr fun s a hsa => ?_
  have hs := s.isLt
  have e0 : 1024 * ((4 * (t.val / 4) + (s : ℕ)) % 4) + (a : ℕ) = (s : ℕ) * 1024 + (a : ℕ) := by omega
  have e1 : 512 * ((4 * (t.val / 4) + (s : ℕ)) / 4) + (y 1 : ℕ) = 512 * (t.val / 4) + (y 1 : ℕ) := by omega
  dsimp only
  rw [e0, e1]
  refine congrArg₂ (fun p q : EReal => p * q) ?_ ?_
  · refine congrArg (Dg (V c main_arg2) (V c main_arg0) ((s : ℕ) * 1024 + (a : ℕ))) ?_
    blk_simp [idx1 t] <;> try omega
  · refine congrArg₂ (fun p q : ℕ => back (G (V c main_arg0) · p) (2 - q) ((s : ℕ) * 1024 + (a : ℕ))) ?_ ?_
    all_goals (blk_simp [idx1 t] <;> try omega)

/-- The gradient of the wide input: of the gate, of the convolution's first factor, of its second. -/
def DU (Y CO DX : FVec Ideal S4096x2048 .bf16) (U : FVec Ideal S4096x6144 .bf16) : FVec Ideal S4096x6144 .bf16 := fun y =>
  if h : (y 1 : ℕ) < 2048 then Y (ix2 (y 0) (⟨(y 1 : ℕ), h⟩ : Fin 2048)) * CO (ix2 (y 0) (⟨(y 1 : ℕ), h⟩ : Fin 2048))
  else if h' : (y 1 : ℕ) < 4096 then DX (ix2 (y 0) (⟨(y 1 : ℕ) - 2048, by omega⟩ : Fin 2048)) * U (ix2 (y 0) (⟨(y 1 : ℕ) + 2048, by omega⟩ : Fin 6144))
  else DX (ix2 (y 0) (⟨(y 1 : ℕ) - 4096, by have : (y 1 : ℕ) < 6144 := (y 1).isLt; omega⟩ : Fin 2048)) * U (ix2 (y 0) (⟨(y 1 : ℕ) - 2048, by have : (y 1 : ℕ) < 6144 := (y 1).isLt; omega⟩ : Fin 6144))

theorem idx2 : ∀ t : Fin cfg2.N, win2_0.index t = ![t.val, 0] ∧ win2_1.index t = ![t.val, 0]
    ∧ win2_2.index t = ![t.val, 0] ∧ win2_3.index t = ![t.val, 0] ∧ win2_4.index t = ![t.val, 0] :=
  (by decide +kernel : ∀ t : Fin grid2.N, _)

theorem core2 (c : Dev nD) (t : Fin cfg2.N) (y : S256x6144.Idx) (i : S4096x6144.Idx) (h0 : (i 0 : ℕ) = 256 * t.val + (y 0 : ℕ)) (h1 : (i 1 : ℕ) = (y 1 : ℕ)) :
    out2_4 (iblk2 V c 0 t) (iblk2 V c 1 t) (iblk2 V c 2 t) (iblk2 V c 3 t) y
      = DU (V c main_arg2) (V c main_v0_0) (V c main_v1_0) (V c main_arg0) i := by
  have hy := (y 1).isLt
  unfold out2_4
  canon_tiles x h
  · have hx : (x 1 : ℕ) < 2048 := (x 1).isLt
    unfold DU
    rw [dif_neg (by omega), dif_neg (by omega)]
    pointwise [k2_pay4, k2_pay1]
    blk_point [iblk2, idx2 t]
  · have hx : (x 1 : ℕ) < 2048 := (x 1).isLt
    unfold DU
    rw [dif_neg (by omega), dif_pos (by omega)]
    pointwise [k2_pay3, k2_pay1]
    blk_point [iblk2, idx2 t]
  · have hx : (x 1 : ℕ) < 2048 := (x 1).isLt
    unfold DU
    rw [dif_pos (by omega)]
    pointwise [k2_pay2]
    blk_point [iblk2, idx2 t]

theorem du (c : Dev nD) : (dat2 V c).arrAt 4 cfg2.N = DU (V c main_arg2) (V c main_v0_0) (V c main_v1_0) (V c main_arg0) := by
  refine (dat2 V c).arrAt_eq_of_covers 4 _ (by decide +kernel) fun t _ y => ?_
  blk_simp
  rw [after2_4]
  refine core2 V c t y _ ?_ ?_
  all_goals (blk_simp [idx2 t] <;> try omega)

end Cert.Kernel4Ideal.Odd

end
-- ==== Proof.OddRun.lean ====
/- The run of the short convolution's three calls one after the other, and what their results hold. -/
module

public import proofs.«01_k».proof.Proof.OddBack

@[expose] public section

set_option maxRecDepth 16384

noncomputable section

namespace Cert.Kernel4Ideal.Odd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer that outlives the run ends at the last boundary's contents. -/
theorem run_all : θ_run defs (onTc (τ := τ) (main (F := Ideal))) ⟨m, fun _ => 0, ρ⟩ (fun r =>
      ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The last call is entered with what the two before it left. -/
theorem entry_co (c : Dev nD) : V2 m ρ c main_v0_0 = CO (m ((c : Thread nD τ).loc main_arg0)) (m ((c : Thread nD τ).loc main_arg1)) :=
  (W2_of m ρ c main_v0_0 (by decide)).trans ((hF0 m ρ c 6).symm.trans (co (V0 m ρ) c))
theorem entry_dx (c : Dev nD) : V2 m ρ c main_v1_0 = DX (V1 m ρ c main_arg2) (V1 m ρ c main_arg0) (V1 m ρ c main_arg1) :=
  (hF1 m ρ c 9).symm.trans (dx (V1 m ρ) c)

/-- The three results and the arguments after the run. -/
theorem run : θ_run defs (onTc (τ := τ) (main (F := Ideal))) ⟨m, fun _ => 0, ρ⟩ (fun r => ∀ c : Dev nD,
      r.2.mem ((c.tc : Thread nD τ).loc main_v0_1) = YO (m ((c : Thread nD τ).loc main_arg0)) (m ((c : Thread nD τ).loc main_arg1))
      ∧ r.2.mem ((c.tc : Thread nD τ).loc main_v2) = DU (m ((c : Thread nD τ).loc main_arg2))
          (CO (m ((c : Thread nD τ).loc main_arg0)) (m ((c : Thread nD τ).loc main_arg1)))
          (DX (m ((c : Thread nD τ).loc main_arg2)) (m ((c : Thread nD τ).loc main_arg0)) (m ((c : Thread nD τ).loc main_arg1)))
          (m ((c : Thread nD τ).loc main_arg0))
      ∧ r.2.mem ((c.tc : Thread nD τ).loc main_v1_1) = DW (m ((c : Thread nD τ).loc main_arg2)) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_all m ρ)
  have a0 : V1 m ρ c main_arg0 = m ((c : Thread nD τ).loc main_arg0) := W1_args m ρ c main_arg0 (by decide)
  have a1 : V1 m ρ c main_arg1 = m ((c : Thread nD τ).loc main_arg1) := W1_args m ρ c main_arg1 (by decide)
  have a2 : V1 m ρ c main_arg2 = m ((c : Thread nD τ).loc main_arg2) := W1_args m ρ c main_arg2 (by decide)
  have b0 : V2 m ρ c main_arg0 = m ((c : Thread nD τ).loc main_arg0) := W2_args m ρ c main_arg0 (by decide)
  have b2 : V2 m ρ c main_arg2 = m ((c : Thread nD τ).loc main_arg2) := W2_args m ρ c main_arg2 (by decide)
  refine ⟨?_, ?_, ?_, (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩
  · refine (h c _ (mem_uc main_v0_1 (by decide))).trans ((W3_of m ρ c main_v0_1 (by decide)).trans ((W2_of m ρ c main_v0_1 (by decide)).trans ?_))
    exact (hF0 m ρ c 7).symm.trans (yo (V0 m ρ) c)
  · refine (h c _ (mem_uc main_v2 (by decide))).trans ((hF2 m ρ c 4).symm.trans ((du (V2 m ρ) c).trans ?_))
    rw [b0, b2, entry_co, entry_dx, a0, a1, a2]
  · refine (h c _ (mem_uc main_v1_1 (by decide))).trans ((W3_of m ρ c main_v1_1 (by decide)).trans ((hF1 m ρ c 10).symm.trans ((dw (V1 m ρ) c).trans ?_)))
    rw [a0, a2]

end Cert.Kernel4Ideal.Odd

end
-- ==== Proof.HostSum.lean ====
/- A host sum over the two leading axes of three. -/
module

public import Idealize.ShloMosaic.Lib.Pointwise
public import Idealize.ShloMosaic.Lib.IdealHost

@[expose] public section

noncomputable section

namespace Cert.HostSum

open Idealize.ShloMosaic

/-- At `l` it is the initial value and the sum of the elements whose last coordinate is `l`. -/
theorem reduce01 {n0 n1 n2 : ℕ} (h : Shape.ReducesTo ⟨3, ![n0, n1, n2]⟩ [0, 1] ⟨1, ![n2]⟩)
    (x : Shape.Idx ⟨3, ![n0, n1, n2]⟩ → EReal) (init : EReal) (l : Fin n2) :
    Ideal.hostReduceAdd h x init (ix1 l) = init + ∑ a : Fin n0, ∑ b : Fin n1, x (ix3 a b l) := by
  unfold Ideal.hostReduceAdd
  refine congrArg (init + ·) ?_
  rw [← Fintype.sum_prod_type' (f := fun a b => x (ix3 a b l))]
  have hd : ∀ i : Shape.Idx ⟨3, ![n0, n1, n2]⟩, h.drop i = ix1 l ↔ (i 2 : ℕ) = l := by
    intro i
    have hv : (h.drop i 0 : ℕ) = (i 2 : ℕ) := rfl
    constructor
    · intro e
      rw [← hv, e]; rfl
    · intro e
      funext b
      obtain rfl : b = 0 := Fin.fin_one_eq_zero b
      exact Fin.ext (hv.trans e)
  refine Finset.sum_nbij' (fun i => ((⟨(i 0 : ℕ), (i 0).isLt⟩ : Fin n0), (⟨(i 1 : ℕ), (i 1).isLt⟩ : Fin n1)))
    (fun p => ix3 p.1 p.2 l) (fun _ _ => Finset.mem_univ _) (fun p _ => ?_) (fun i hi => ?_) (fun p _ => rfl) (fun i hi => ?_)
  · exact Finset.mem_filter.mpr ⟨Finset.mem_univ _, (hd _).mpr rfl⟩
  · have h2 := (hd i).mp (Finset.mem_filter.mp hi).2
    funext b
    match b with
    | ⟨0, _⟩ => rfl
    | ⟨1, _⟩ => rfl
    | ⟨2, _⟩ => exact Fin.ext h2.symm
  · have h2 := (hd i).mp (Finset.mem_filter.mp hi).2
    refine congrArg x ?_
    funext b
    match b with
    | ⟨0, _⟩ => rfl
    | ⟨1, _⟩ => rfl
    | ⟨2, _⟩ => exact Fin.ext h2

/-- The same over the first and the third axis of four. -/
theorem reduce02 {n0 n1 n2 n3 : ℕ} (h : Shape.ReducesTo ⟨4, ![n0, n1, n2, n3]⟩ [0, 2] ⟨2, ![n1, n3]⟩)
    (x : Shape.Idx ⟨4, ![n0, n1, n2, n3]⟩ → EReal) (init : EReal) (k : Fin n1) (l : Fin n3) :
    Ideal.hostReduceAdd h x init (ix2 k l) = init + ∑ a : Fin n0, ∑ b : Fin n2, x (ix4 a k b l) := by
  unfold Ideal.hostReduceAdd
  refine congrArg (init + ·) ?_
  rw [← Fintype.sum_prod_type' (f := fun a b => x (ix4 a k b l))]
  have hd : ∀ i : Shape.Idx ⟨4, ![n0, n1, n2, n3]⟩, h.drop i = ix2 k l ↔ (i 1 : ℕ) = k ∧ (i 3 : ℕ) = l := by
    intro i
    have hv : (h.drop i 0 : ℕ) = (i 1 : ℕ) := rfl
    have hw : (h.drop i 1 : ℕ) = (i 3 : ℕ) := rfl
    constructor
    · intro e
      rw [← hv, ← hw, e]; exact ⟨rfl, rfl⟩
    · rintro ⟨e, e'⟩
      funext b
      match b with
      | ⟨0, _⟩ => exact Fin.ext (hv.trans e)
      | ⟨1, _⟩ => exact Fin.ext (hw.trans e')
  have hf : ∀ i : Shape.Idx ⟨4, ![n0, n1, n2, n3]⟩, h.drop i = ix2 k l →
      ix4 (⟨(i 0 : ℕ), (i 0).isLt⟩ : Fin n0) k (⟨(i 2 : ℕ), (i 2).isLt⟩ : Fin n2) l = i := by
    intro i hi
    obtain ⟨e, e'⟩ := (hd i).mp hi
    funext b
    match b with
    | ⟨0, _⟩ => rfl
    | ⟨1, _⟩ => exact Fin.ext e.symm
    | ⟨2, _⟩ => rfl
    | ⟨3, _⟩ => exact Fin.ext e'.symm
  refine Finset.sum_nbij' (fun i => ((⟨(i 0 : ℕ), (i 0).isLt⟩ : Fin n0), (⟨(i 2 : ℕ), (i 2).isLt⟩ : Fin n2)))
    (fun p => ix4 p.1 k p.2 l) (fun _ _ => Finset.mem_univ _) (fun p _ => ?_) (fun i hi => ?_) (fun p _ => rfl) (fun i hi => ?_)
  · exact Finset.mem_filter.mpr ⟨Finset.mem_univ _, (hd _).mpr ⟨rfl, rfl⟩⟩
  · exact hf i (Finset.mem_filter.mp hi).2
  · exact congrArg x (hf i (Finset.mem_filter.mp hi).2).symm

/-- Arrays of rank two agree when they agree at every pair. -/
theorem ext2 {n m : ℕ} {f g : Shape.Idx ⟨2, ![n, m]⟩ → EReal} (h : ∀ (i : Fin n) (j : Fin m), f (ix2 i j) = g (ix2 i j)) : f = g := by
  funext y
  have e : y = ix2 (⟨(y 0 : ℕ), (y 0).isLt⟩ : Fin n) (⟨(y 1 : ℕ), (y 1).isLt⟩ : Fin m) := by
    funext b
    match b with
    | ⟨0, _⟩ => rfl
    | ⟨1, _⟩ => rfl
  rw [e]
  exact h _ _

end Cert.HostSum

end
-- ==== Proof.OddRef.lean ====
/- What the short convolution's reference leaves in its three results. -/
module

public import proofs.«01_k».proof.Proof.Gen.Reference4Ideal.Read
public import proofs.«01_k».proof.Proof.OddBack
public import proofs.«01_k».proof.Proof.HostSum

@[expose] public section

set_option maxRecDepth 16384

noncomputable section

namespace Cert.Reference4Ideal.Odd

open Idealize.ShloMosaic Idealize.ShloMosaic.TcCoe Idealize.SL.Sem
open Cert.Reference4Ideal Cert.Reference4Ideal.Read Cert.Scalars
open Cert.Kernel4Ideal.Odd (G Dg back ahead CO COat YO DXat DX DW DU)

variable (U : FVec Ideal S4096x6144 .bf16) (W : FVec Ideal S3x2048 .f32) (Y : FVec Ideal S4096x2048 .bf16)

/-- The gate's product, a sequence apart. -/
theorem prod (b : Fin 2) (k l : Fin 2048) : val_main_v5 (F := Ideal) U (ix3 b k l) = G U (2048 * (b : ℕ) + (k : ℕ)) (l : ℕ) := by
  have hb := b.isLt
  have hk := k.isLt
  have hl := l.isLt
  unfold G
  rw [dif_pos (by omega)]
  pointwise [val_main_v5, val_main_v4, val_main_v3, val_main_v2, val_main_v0]
  blk_point

/-- It with two rows of zeros before each sequence. -/
theorem padded (b : Fin 2) (k : Fin 2050) (l : Fin 2048) : val_main_v8 (F := Ideal) U (ix3 b k l)
    = if (k : ℕ) < 2 then 0 else G U (2048 * (b : ℕ) + (k : ℕ) - 2) (l : ℕ) := by
  have hk := k.isLt
  pointwise [val_main_v8, val_main_v7, val_main_cst]
  by_cases h : (k : ℕ) < 2
  · rw [dif_pos h, if_pos h]
  · rw [dif_neg h, if_neg h, prod]
    exact congrArg (G U · (l : ℕ)) (show 2048 * (b : ℕ) + ((k : ℕ) - 2) = _ by omega)

theorem back_padded (b : Fin 2) (k l : Fin 2048) (s : ℕ) (hs : s ≤ 2) (q : Fin 2050) (hq : (q : ℕ) + s = (k : ℕ) + 2) :
    val_main_v8 (F := Ideal) U (ix3 b q l) = back (G U · (l : ℕ)) s (2048 * (b : ℕ) + (k : ℕ)) := by
  have hk := k.isLt
  rw [padded]
  unfold back
  by_cases h : (q : ℕ) < 2
  · rw [if_pos h, if_neg (by omega)]
  · rw [if_neg h, if_pos (by omega)]
    exact congrArg (G U · (l : ℕ)) (by omega)

theorem tap2 (b : Fin 2) (k l : Fin 2048) : val_main_v27 (F := Ideal) U (ix3 b k l) = back (G U · (l : ℕ)) 0 (2048 * (b : ℕ) + (k : ℕ)) := by
  pointwise [val_main_v27]
  exact back_padded U b k l 0 (by omega) _ (by simp; omega)
theorem tap1 (b : Fin 2) (k l : Fin 2048) : val_main_v20 (F := Ideal) U (ix3 b k l) = back (G U · (l : ℕ)) 1 (2048 * (b : ℕ) + (k : ℕ)) := by
  pointwise [val_main_v20]
  exact back_padded U b k l 1 (by omega) _ (by simp; omega)
theorem tap0 (b : Fin 2) (k l : Fin 2048) : val_main_v12 (F := Ideal) U (ix3 b k l) = back (G U · (l : ℕ)) 2 (2048 * (b : ℕ) + (k : ℕ)) := by
  pointwise [val_main_v12]
  exact back_padded U b k l 2 (by omega) _ (by simp)

theorem conv (b : Fin 2) (k l : Fin 2048) : val_main_v31 (F := Ideal) U W (ix3 b k l) = COat U W (2048 * (b : ℕ) + (k : ℕ)) l := by
  pointwise [val_main_v31, val_main_v30, val_main_v29, val_main_v28, val_main_v26, val_main_v25, val_main_v24, val_main_v23,
    val_main_v22, val_main_v21, val_main_v19, val_main_v18, val_main_v17, val_main_v16, val_main_cst_1, val_main_v15, val_main_v14,
    val_main_v13, val_main_v11, val_main_v10]
  rw [tap2, tap1, tap0]
  unfold COat
  rw [add_assoc, add_comm, add_comm (W (ix2 1 l) * _)]

theorem grad (b : Fin 2) (k l : Fin 2048) : val_main_v37 (F := Ideal) U Y (ix3 b k l) = Dg Y U (2048 * (b : ℕ) + (k : ℕ)) (l : ℕ) := by
  have hb := b.isLt
  have hk := k.isLt
  have hl := l.isLt
  unfold Dg
  rw [dif_pos (by omega)]
  pointwise [val_main_v37, val_main_v35, val_main_v34, val_main_v1, val_main_v0]
  rw [mul_comm]
  blk_point

theorem ahead_dite (w : EReal) (g : ℕ → EReal) (s b k q : ℕ) (P : Prop) [Decidable P] (hk : k < 2048) (hP : P ↔ k + s < 2048) (hq : q = k + s) :
    (if _ : P then w * g (2048 * b + q) else 0) = w * ahead g s (2048 * b + k) := by
  unfold ahead
  by_cases h : P
  · have := hP.mp h
    rw [dif_pos h, if_pos (by omega), hq, Nat.add_assoc]
  · have : ¬ k + s < 2048 := fun h' => h (hP.mpr h')
    rw [dif_neg h, if_neg (by omega), mul_zero]

theorem gpad (b : Fin 2) (k : Fin 2048) (l : Fin 2048) : val_main_v70 (F := Ideal) U W Y (ix3 b k l) = DXat Y U W (2048 * (b : ℕ) + (k : ℕ)) l := by
  have hk := k.isLt
  pointwise [val_main_v70, val_main_v65, val_main_v64, val_main_v54, val_main_v53, val_main_v44, val_main_cst_4, val_main_cst_8, val_main_cst_12,
    val_main_v39, val_main_v48, val_main_v59, val_main_v38, val_main_v47, val_main_v58, val_main_v28, val_main_v26, val_main_v25,
    val_main_v21, val_main_v19, val_main_v18, val_main_v13, val_main_v11, val_main_v10]
  simp only [grad]
  unfold DXat
  refine congrArg₂ (fun p q : EReal => p + q) (congrArg₂ (fun p q : EReal => p + q) ?_ ?_) ?_
  · unfold ahead
    rw [if_pos (by omega)]
    rfl
  · exact ahead_dite _ (Dg Y U · (l : ℕ)) 1 (b : ℕ) (k : ℕ) (2 + (k : ℕ) - 1) _ hk (by omega) (by omega)
  · exact ahead_dite _ (Dg Y U · (l : ℕ)) 2 (b : ℕ) (k : ℕ) (2 + (k : ℕ)) _ hk (by omega) (by omega)

/-- A sum over both sequences is one over the rows. -/
theorem rows_sum (g : ℕ → EReal) : (∑ b : Fin 2, ∑ k : Fin 2048, g (2048 * (b : ℕ) + (k : ℕ))) = ∑ r : Fin 4096, g (r : ℕ) := by
  refine Fin.sum_mul_add_congr fun b k _ => ?_
  exact congrArg g (show 2048 * (b : ℕ) + (k : ℕ) = (b : ℕ) * 2048 + (k : ℕ) by omega)

theorem dsum2 (l : Fin 2048) : val_main_v43 (F := Ideal) U Y (ix1 l) = ∑ r : Fin 4096, Dg Y U (r : ℕ) (l : ℕ) * back (G U · (l : ℕ)) 0 (r : ℕ) := by
  unfold val_main_v43
  rw [ValueIdx.hostReduceAdd_apply, HostSum.reduce01]
  pointwise [val_main_v42, val_main_cst_3]
  unfold val_main_v41
  rw [ValueIdx.hostReduceAdd_apply, HostSum.reduce01]
  pointwise [val_main_v40, val_main_cst_2]
  simp only [grad, tap2, Fintype.sum_unique, zero_add]
  exact rows_sum fun r => Dg Y U r (l : ℕ) * back (G U · (l : ℕ)) 0 r

theorem dsum1 (l : Fin 2048) : val_main_v52 (F := Ideal) U Y (ix1 l) = ∑ r : Fin 4096, Dg Y U (r : ℕ) (l : ℕ) * back (G U · (l : ℕ)) 1 (r : ℕ) := by
  unfold val_main_v52
  rw [ValueIdx.hostReduceAdd_apply, HostSum.reduce01]
  pointwise [val_main_v51, val_main_cst_7]
  unfold val_main_v50
  rw [ValueIdx.hostReduceAdd_apply, HostSum.reduce01]
  pointwise [val_main_v49, val_main_cst_6]
  simp only [grad, tap1, Fintype.sum_unique, zero_add]
  exact rows_sum fun r => Dg Y U r (l : ℕ) * back (G U · (l : ℕ)) 1 r

theorem dsum0 (l : Fin 2048) : val_main_v63 (F := Ideal) U Y (ix1 l) = ∑ r : Fin 4096, Dg Y U (r : ℕ) (l : ℕ) * back (G U · (l : ℕ)) 2 (r : ℕ) := by
  unfold val_main_v63
  rw [ValueIdx.hostReduceAdd_apply, HostSum.reduce01]
  pointwise [val_main_v62, val_main_cst_11]
  unfold val_main_v61
  rw [ValueIdx.hostReduceAdd_apply, HostSum.reduce01]
  pointwise [val_main_v60, val_main_cst_10]
  simp only [grad, tap0, Fintype.sum_unique, zero_add]
  exact rows_sum fun r => Dg Y U r (l : ℕ) * back (G U · (l : ℕ)) 2 r

theorem yref : YO U W = val_main_v79 (F := Ideal) U W := by
  refine HostSum.ext2 fun i l => ?_
  have h0 := i.isLt
  pointwise [val_main_v79, val_main_v33, val_main_v32, val_main_v1, val_main_v0]
  simp only [conv, Nat.div_add_mod]
  exact mul_comm _ _

theorem dwref : DW Y U = val_main_v68 (F := Ideal) U Y := by
  refine HostSum.ext2 fun i l => ?_
  have h0 := i.isLt
  pointwise [val_main_v68, val_main_v67, val_main_v57, val_main_v56, val_main_v46, val_main_v45, val_main_v55, val_main_v66, val_main_cst_5, val_main_cst_9, val_main_cst_13]
  simp only [dsum0, dsum1, dsum2]
  have h : i = 0 ∨ i = 1 ∨ i = 2 := by omega
  rcases h with rfl | rfl | rfl
  · rw [dif_neg (by decide), dif_neg (by decide), dif_pos (by decide), add_zero, zero_add]
    rfl
  · rw [dif_neg (by decide), dif_pos (by decide), dif_neg (by decide), add_zero, zero_add]
    rfl
  · rw [dif_pos (by decide), dif_neg (by decide), dif_neg (by decide), add_zero, add_zero]
    rfl

theorem du_at (i : Fin 4096) (l : Fin 6144) : DU Y (CO U W) (DX Y U W) U (ix2 i l)
    = if h : (l : ℕ) < 2048 then Y (ix2 i (⟨(l : ℕ), h⟩ : Fin 2048)) * COat U W (i : ℕ) (⟨(l : ℕ), h⟩ : Fin 2048)
      else if h' : (l : ℕ) < 4096 then DXat Y U W (i : ℕ) (⟨(l : ℕ) - 2048, by omega⟩ : Fin 2048) * U (ix2 i (⟨(l : ℕ) + 2048, by omega⟩ : Fin 6144))
      else DXat Y U W (i : ℕ) (⟨(l : ℕ) - 4096, by omega⟩ : Fin 2048) * U (ix2 i (⟨(l : ℕ) - 2048, by omega⟩ : Fin 6144)) := rfl

theorem duref : DU Y (CO U W) (DX Y U W) U = val_main_v80 (F := Ideal) U W Y := by
  refine HostSum.ext2 fun i l => ?_
  have hl := l.isLt
  pointwise [val_main_v80, val_main_v78, val_main_v77, val_main_v76, val_main_v75, val_main_v74, val_main_cst_14, val_main_cst_15, val_main_cst_16,
    val_main_v72, val_main_v73, val_main_v36, val_main_v71, val_main_v32, val_main_v34, val_main_v2, val_main_v3, val_main_v0]
  simp only [conv, gpad, Nat.div_add_mod]
  refine (du_at U W Y i l).trans ?_
  by_cases h : (l : ℕ) < 2048
  · rw [dif_pos h, dif_neg (by omega), dif_neg (by omega), dif_pos h, add_zero, zero_add]
  · by_cases h' : (l : ℕ) < 4096
    · rw [dif_neg h, dif_pos h', dif_neg (by omega), dif_pos (by omega), dif_neg h, add_zero, zero_add]
      refine congrArg₂ (fun p q : EReal => p * q) rfl ?_
      blk_ext
    · rw [dif_neg h, dif_neg h', dif_pos (by omega), dif_neg (by omega), dif_neg h, add_zero, add_zero, mul_comm]
      refine congrArg₂ (fun p q : EReal => p * q) ?_ rfl
      blk_ext

end Cert.Reference4Ideal.Odd

end
-- ==== Proof.OddClaim.lean ====
/- The short convolution's pair: the claim that kernel and reference end with equal results. -/
module

public import proofs.«01_k».proof.Defs
public import proofs.«01_k».proof.Proof.Gen.Reference4Ideal.Run
public import proofs.«01_k».proof.Proof.OddRun
public import proofs.«01_k».proof.Proof.OddRef
public import Idealize.ShloMosaic.Lib.Claim

@[expose] public section

set_option maxRecDepth 16384

noncomputable section

namespace Cert.Proof.Odd

open Idealize.ShloMosaic Idealize.ShloMosaic.TcCoe Idealize.SL.Sem

theorem algebraic : Cert.algebraic_Kernel4Ideal_Reference4Ideal := by
  pair_intro
  · run_from Cert.Kernel4Ideal.Odd.run m g
  · run_from Cert.Reference4Ideal.Value.run m' g'
    · exact (Cert.Reference4Ideal.Odd.yref _ _).symm
    · obtain ⟨e0, e1, e2⟩ := hagree c
      rw [Cert.Reference4Ideal.Read.val_main_v80_eq, e0, e1, e2]
      exact (Cert.Reference4Ideal.Odd.duref _ _ _).symm
    · exact (Cert.Reference4Ideal.Odd.dwref _ _).symm

end Cert.Proof.Odd

end
-- ==== Proof.TileList.lean ====
/- A buffer written tile by tile: each tile's stored value is read off one function of the buffer's index, so the
   buffer holds that function wherever a tile lies. -/
module

public import Idealize.ShloMosaic.Lib.Pipeline.ValueKit
public import Idealize.ShloMosaic.Lib.Pointwise

@[expose] public section

noncomputable section

namespace Cert.TileList

open Idealize.ShloMosaic Idealize.ShloMosaic.TcCoe Idealize.SL.Sem

variable {R C h w : ℕ} {e : EltTy} (off : ℕ → Fin 2 → ℕ)
  (inb : ∀ n a, off n a + (![h, w] : Fin 2 → ℕ) a ≤ (⟨2, ![R, C]⟩ : Shape).size a)
  (D : ℕ → Vec Ideal ⟨2, ![h, w]⟩ e)

/-- The stores of the first `n` tiles, newest first. -/
def pieces : ℕ → List (View.Piece (Elt Ideal) (⟨2, ![R, C]⟩ : Shape) e)
  | 0 => []
  | n + 1 => ⟨Rect.unit (off n) ![h, w] (inb n), D n⟩ :: pieces n

/-- Index `(r, l)` lies in tile `n`. -/
def meets (n r l : ℕ) : Prop := (off n 0 ≤ r ∧ r < off n 0 + h) ∧ off n 1 ≤ l ∧ l < off n 1 + w

theorem mem_iff (n : ℕ) (y : (⟨2, ![R, C]⟩ : Shape).Idx) :
    y ∈ (Rect.unit (s := (⟨2, ![R, C]⟩ : Shape)) (off n) ![h, w] (inb n)).set ↔ meets (h := h) (w := w) off n (y 0 : ℕ) (y 1 : ℕ) := by
  rw [Rect.mem_set_unit]
  exact Fin.forall_fin_two

theorem canon_pieces (E : ℕ → ℕ → Elt Ideal e)
    (hD : ∀ n (x : (⟨2, ![h, w]⟩ : Shape).Idx), D n x = E (off n 0 + (x 0 : ℕ)) (off n 1 + (x 1 : ℕ))) :
    ∀ N (y : (⟨2, ![R, C]⟩ : Shape).Idx), (∃ i < N, meets (h := h) (w := w) off i (y 0 : ℕ) (y 1 : ℕ)) →
      View.canon (Val := Elt Ideal) (pieces off inb D N) y = E (y 0 : ℕ) (y 1 : ℕ)
  | 0, y, ⟨i, hi, _⟩ => absurd hi (Nat.not_lt_zero i)
  | n + 1, y, hy => by
    by_cases hm : meets (h := h) (w := w) off n (y 0 : ℕ) (y 1 : ℕ)
    · obtain ⟨x, hx⟩ : ∃ x, (Rect.unit (s := (⟨2, ![R, C]⟩ : Shape)) (off n) ![h, w] (inb n)).emb x = y :=
        LoadRect.exists_idx_of_mem (Rect.unit (s := (⟨2, ![R, C]⟩ : Shape)) (off n) ![h, w] (inb n)).toLoadRect ((mem_iff off inb n y).mpr hm)
      have h0 : (y 0 : ℕ) = off n 0 + (x 0 : ℕ) := by
        rw [← hx, Rect.emb_apply]; show off n 0 + 1 * (x 0 : ℕ) = _; omega
      have h1 : (y 1 : ℕ) = off n 1 + (x 1 : ℕ) := by
        rw [← hx, Rect.emb_apply]; show off n 1 + 1 * (x 1 : ℕ) = _; omega
      rw [h0, h1, ← hD n x, ← hx]
      exact View.canon_cons_emb _ _ _ x
    · refine (View.canon_cons_of_not_mem _ _ fun h => hm ((mem_iff off inb n y).mp h)).trans
        (canon_pieces E hD n y ?_)
      obtain ⟨i, hi, hi'⟩ := hy
      exact ⟨i, lt_of_le_of_ne (Nat.le_of_lt_succ hi) (fun e => hm (e ▸ hi')), hi'⟩

end Cert.TileList

end
-- ==== Proof.ConvEG.lean ====
/- The backward call of the long gated convolution: its two results' stores as lists of tiles, and each tile's value. -/
module

public import proofs.«01_k».proof.Proof.Gen.Kernel5Ideal.Value
public import proofs.«01_k».proof.Proof.Scalars
public import proofs.«01_k».proof.Proof.RowTaps
public import proofs.«01_k».proof.Proof.TileList
public import Idealize.ShloMosaic.Lib.Pipeline.ValueKit
public import Idealize.ShloMosaic.Lib.Pointwise

@[expose] public section

set_option maxRecDepth 16384

noncomputable section

namespace Cert.Kernel5Ideal.ConvE

open Idealize.ShloMosaic Idealize.ShloMosaic.TcCoe Idealize.SL.Sem
open Idealize.ShloMosaic.Pipeline (Dat)
open Cert.Kernel5Ideal Cert.Kernel5Ideal.Gen Cert.Scalars

variable (m : (ℓ : Loc nD τ sig) → Buf (Elt Ideal) ℓ)

/-- The remainder by eight that the body computes of a grid coordinate. -/
def rem8 (i : ℕ) : BitVec 32 :=
  let q : BitVec 32 := Scalar.select (Scalar.cmpi .eq 8#32 0#32) 1#32 8#32
  let r : BitVec 32 := Scalar.remsi (BitVec.ofNat 32 i) q
  Scalar.select (Scalar.andi (Scalar.xori (Scalar.cmpi .slt r 0#32) (Scalar.cmpi .slt q 0#32)) (Scalar.cmpi .ne r 0#32)) (Scalar.addi r q) r

/-- The rows of gradients at point `t`: its block's, -/
def dA (c : Dev nD) (t : Fin cfg0.N) : FVec Ideal S256x512 .f32 := k0_pay5 (iblk m c 0 t)
/-- and those after it. -/
def dB (c : Dev nD) (t : Fin cfg0.N) : FVec Ideal S32x512 .f32 := k0_pay6 (grid0.coords t) (iblk m c 1 t)
/-- The rows of the gated input at point `t`: its block's, -/
def xA (c : Dev nD) (t : Fin cfg0.N) : FVec Ideal S256x512 .f32 := k0_pay8 (iblk m c 2 t) (iblk m c 4 t)
/-- and those before it. -/
def xB (c : Dev nD) (t : Fin cfg0.N) : FVec Ideal S32x512 .f32 := k0_pay7 (rem8 (grid0.coords t 1 : ℕ)) (0#32) (iblk m c 3 t) (iblk m c 5 t)

/-- The stores that fill the first scratch block. -/
def dsL (c : Dev nD) (t : Fin cfg0.N) : List (View.Piece (Elt Ideal) S288x512 .f32) :=
  [⟨Rect.unit ![256, 0] ![32, 512] inb_S288x512_S32x512_256_0, dB m c t⟩,
    ⟨Rect.unit ![0, 0] ![256, 512] inb_S288x512_S256x512_0_0, dA m c t⟩]

/-- The stores that fill the second. -/
def xsL (c : Dev nD) (t : Fin cfg0.N) : List (View.Piece (Elt Ideal) S288x512 .f32) :=
  [⟨Rect.unit ![32, 0] ![256, 512] inb_S288x512_S256x512_32_0, xA m c t⟩,
    ⟨Rect.unit ![0, 0] ![32, 512] inb_S288x512_S32x512_0_0, xB m c t⟩]

/-- The shift of the tap handled at place `p` of the 31. -/
def sh (p : ℕ) : ℕ := p / 4 + 8 * (p % 4)

/-- Where the rows of tile `n` (of 4 groups of lanes, 4 groups of rows) lie in the scratch blocks. -/
def toff (n : ℕ) : Fin 2 → ℕ := ![64 * (n % 4), 128 * (n / 4 % 4)]

theorem tinb (n : ℕ) : ∀ a, toff n a + (![96, 128] : Fin 2 → ℕ) a ≤ S288x512.size a :=
  Fin.forall_fin_two.mpr ⟨show 64 * (n % 4) + 96 ≤ 288 by omega, show 128 * (n / 4 % 4) + 128 ≤ 512 by omega⟩

theorem xinb (n : ℕ) : ∀ a, toff n a + (![64, 128] : Fin 2 → ℕ) a ≤ (⟨2, ![256, 512]⟩ : Shape).size a :=
  Fin.forall_fin_two.mpr ⟨show 64 * (n % 4) + 64 ≤ 256 by omega, show 128 * (n / 4 % 4) + 128 ≤ 512 by omega⟩

/-- The window of step `n` (tile `n / 31`, place `n % 31`) in the taps' gradient. -/
def woff (n : ℕ) : Fin 2 → ℕ := ![30 - sh (n % 31), 128 * (n / 31 / 4 % 4)]

theorem winb (n : ℕ) : ∀ a, woff n a + (![1, 128] : Fin 2 → ℕ) a ≤ (RowTaps.Buf2 31 512).size a :=
  Fin.forall_fin_two.mpr ⟨show 30 - sh (n % 31) + 1 ≤ 31 by omega, show 128 * (n / 31 / 4 % 4) + 128 ≤ 512 by omega⟩

/-- A tile's rows moved down by `s`, -/
def moved (s : ℕ) (x : FVec Ideal S96x128 .f32) : FVec Ideal S96x128 .f32 :=
  if s = 0 then x else dynamicRotate 0 (BitVec.ofNat 32 s) none x rotates_S96x128_d0

/-- and up. -/
def lifted (s : ℕ) (x : FVec Ideal S96x128 .f32) : FVec Ideal S96x128 .f32 :=
  if s = 0 then x else dynamicRotate 0 (BitVec.ofNat 32 (96 - s)) none x rotates_S96x128_d0

/-- Tile `n` of a scratch block that the stores `A` filled. -/
def tile (v : View sig .tc .vmem S288x512 .f32) (A : List (View.Piece (Elt Ideal) S288x512 .f32)) (n : ℕ) : FVec Ideal S96x128 .f32 :=
  v.readCov (Val := Elt Ideal) A (Rect.unit (s := S288x512) (toff n) ![96, 128] (tinb n)).toLoadRect

theorem slc (o : ℕ) (h : o ≤ 32) : Shape.Slices S96x128 (![o, 0] : Fin 2 → ℕ) S64x128 := by
  have : ∀ k : Fin 33, Shape.Slices S96x128 (![(k : ℕ), 0] : Fin 2 → ℕ) S64x128 := by decide
  exact this ⟨o, by omega⟩

/-- What step `n` adds to its window. -/
def tileD (d x : ℕ → FVec Ideal S96x128 .f32) (n : ℕ) : FVec Ideal RowTaps.Row .f32 :=
  shapeCast S1x128 (multiReduction .add [0] S128
    (mulf (F := Ideal) (φ := .f32) (extractStridedSlice S64x128 ![0, 0] (d (n / 31)) (slc 0 (by omega)))
      (extractStridedSlice S64x128 ![32 - 8 * (n % 31 % 4), 0] (moved (n % 31 / 4) (x (n / 31))) (slc _ (by omega))))
    0x00000000#32 reduces_S64x128_S128 (.inl rfl) rfl) shapeCasts_S128_S1x128

/-- The first `p` taps of tile `n` of the input's gradient. -/
def acc (W : FVec Ideal S31x512 .f32) (d : FVec Ideal S96x128 .f32) (n : ℕ) : ℕ → FVec Ideal S64x128 .f32
  | 0 => broadcast S64x128 (Scalar.ofBits (F := Ideal) .f32 0x00000000#32)
  | p + 1 => addf (F := Ideal) (φ := .f32) (acc W d n p) (mulf (F := Ideal) (φ := .f32)
      (broadcastTo S64x128 (View.ld (Val := Elt Ideal) (e' := .f32) W (Rect.unit (s := S31x512) (woff (31 * n + p)) ![1, 128] (winb (31 * n + p)))) broadcasts_S1x128_S64x128)
      (extractStridedSlice S64x128 ![8 * (p % 4), 0] (lifted (p / 4) d) (slc _ (by omega))))

theorem dwB (c : Dev nD) (t : Fin cfg0.N) (hb : ¬ t.val % 16 = 0) (y : S31x512.Idx) :
    (outsAt0 m c t.val t.isLt).2 y = View.canon (Val := Elt Ideal) (e := .f32) (RowTaps.pieces (ms0_8 t).view
      (outsAt0 m c (t.val - 1) (Nat.lt_of_le_of_lt (Nat.sub_le _ _) t.isLt)).2 [] woff winb (fun n => decide (n % 124 < 31))
      (tileD (tile scM0_0.view (dsL m c t)) (tile scM0_1.view (xsL m c t))) shapeCasts_S1x128_S1x128 496) y := by
  rw [outsAt0_B m c t hb]; frame_out
  refine congrFun (congrArg (View.canon (Val := Elt Ideal) (s := S31x512) (e := .f32)) ?_) y
  sl_kernel_rfl

theorem dwA (c : Dev nD) (t : Fin cfg0.N) (hb : t.val % 16 = 0) (y : S31x512.Idx) :
    (outsAt0 m c t.val t.isLt).2 y = View.canon (Val := Elt Ideal) (e := .f32) (RowTaps.pieces (ms0_8 t).view
      (k0_pay9 (F := Ideal)) [⟨Rect.unit ![0, 0] ![31, 512] inb_S31x512_S31x512_0_0, k0_pay9 (F := Ideal)⟩] woff winb (fun n => false)
      (tileD (tile scM0_0.view (dsL m c t)) (tile scM0_1.view (xsL m c t))) shapeCasts_S1x128_S1x128 496) y := by
  rw [outsAt0_A m c t hb]; frame_out
  refine congrFun (congrArg (View.canon (Val := Elt Ideal) (s := S31x512) (e := .f32)) ?_) y
  sl_kernel_rfl

theorem dxB (c : Dev nD) (t : Fin cfg0.N) (hb : ¬ t.val % 16 = 0) (y : S256x512.Idx) :
    (outsAt0 m c t.val t.isLt).1 y = View.canon (Val := Elt Ideal) (e := .bf16) (TileList.pieces toff xinb
      (fun n => truncf .bf16 (acc (iblk m c 6 t) (tile scM0_0.view (dsL m c t) n) n 31) bitsLt_bf16_f32) 16) y := by
  rw [outsAt0_B m c t hb]; frame_out
  refine congrFun (congrArg (View.canon (Val := Elt Ideal) (s := S256x512) (e := .bf16)) ?_) y
  sl_kernel_rfl

theorem dxA (c : Dev nD) (t : Fin cfg0.N) (hb : t.val % 16 = 0) (y : S256x512.Idx) :
    (outsAt0 m c t.val t.isLt).1 y = View.canon (Val := Elt Ideal) (e := .bf16) (TileList.pieces toff xinb
      (fun n => truncf .bf16 (acc (iblk m c 6 t) (tile scM0_0.view (dsL m c t) n) n 31) bitsLt_bf16_f32) 16) y := by
  rw [outsAt0_A m c t hb]; frame_out
  refine congrFun (congrArg (View.canon (Val := Elt Ideal) (s := S256x512) (e := .bf16)) ?_) y
  sl_kernel_rfl

end Cert.Kernel5Ideal.ConvE

end
-- ==== Proof.ConvETile.lean ====
/- The backward call of the long gated convolution: what each step adds, in plain terms of the scratch blocks' rows. -/
module

public import proofs.«01_k».proof.Proof.ConvEG

@[expose] public section

set_option maxRecDepth 16384

noncomputable section

namespace Cert.Kernel5Ideal.ConvE

open Idealize.ShloMosaic Idealize.ShloMosaic.TcCoe Idealize.SL.Sem
open Idealize.ShloMosaic.Pipeline (Dat)
open Cert.Kernel5Ideal Cert.Kernel5Ideal.Gen Cert.Scalars

variable (m : (ℓ : Loc nD τ sig) → Buf (Elt Ideal) ℓ)

/-- A scratch block: `A` above, `B` below, -/
def rowsD (A : FVec Ideal S256x512 .f32) (B : FVec Ideal S32x512 .f32) (a : ℕ) (l : Fin 512) : EReal :=
  if h : a < 256 then A (ix2 (⟨a, h⟩ : Fin 256) l) else if h' : a < 288 then B (ix2 (⟨a - 256, by omega⟩ : Fin 32) l) else 0

/-- the same by its index; -/
def rowsDV (A : FVec Ideal S256x512 .f32) (B : FVec Ideal S32x512 .f32) : FVec Ideal S288x512 .f32 := fun y => rowsD A B (y 0 : ℕ) (y 1)

/-- `B` above, `A` below, -/
def rowsX (A : FVec Ideal S256x512 .f32) (B : FVec Ideal S32x512 .f32) (a : ℕ) (l : Fin 512) : EReal :=
  if h : a < 32 then B (ix2 (⟨a, h⟩ : Fin 32) l) else if h' : a < 288 then A (ix2 (⟨a - 32, by omega⟩ : Fin 256) l) else 0

/-- the same by its index. -/
def rowsXV (A : FVec Ideal S256x512 .f32) (B : FVec Ideal S32x512 .f32) : FVec Ideal S288x512 .f32 := fun y => rowsX A B (y 0 : ℕ) (y 1)

theorem scrD (v : View sig .tc .vmem S288x512 .f32) (A : FVec Ideal S256x512 .f32) (B : FVec Ideal S32x512 .f32) (r : Rect S288x512) :
    v.readCov (Val := Elt Ideal) [⟨Rect.unit ![256, 0] ![32, 512] inb_S288x512_S32x512_256_0, B⟩, ⟨Rect.unit ![0, 0] ![256, 512] inb_S288x512_S256x512_0_0, A⟩]
      r.toLoadRect = View.ld (Val := Elt Ideal) (e' := .f32) (rowsDV A B) r := by
  rw [View.readCov_eq_canon']
  funext j
  show (View.canon (Val := Elt Ideal) (e := .f32) _ (r.emb j)) = rowsDV A B (r.emb j)
  generalize r.emb j = y
  have hc : ∃ p ∈ ([⟨Rect.unit ![256, 0] ![32, 512] inb_S288x512_S32x512_256_0, B⟩, ⟨Rect.unit ![0, 0] ![256, 512] inb_S288x512_S256x512_0_0, A⟩] : List (View.Piece (Elt Ideal) S288x512 .f32)), y ∈ p.1.set := by
    have h0 : (y 0 : ℕ) < 288 := (y 0).isLt
    have h1 : (y 1 : ℕ) < 512 := (y 1).isLt
    by_cases h : 256 ≤ (y 0 : ℕ)
    · exact ⟨_, List.mem_cons_self, (Rect.mem_set_unit (inb := inb_S288x512_S32x512_256_0)).mpr (Fin.forall_fin_two.mpr ⟨⟨h, by simpa using h0⟩, ⟨Nat.zero_le _, by simpa using h1⟩⟩)⟩
    · exact ⟨_, List.mem_cons_of_mem _ List.mem_cons_self, (Rect.mem_set_unit (inb := inb_S288x512_S256x512_0_0)).mpr (Fin.forall_fin_two.mpr ⟨⟨Nat.zero_le _, by simp; omega⟩, ⟨Nat.zero_le _, by simpa using h1⟩⟩)⟩
  canon_tiles x h using hc
  · have hx := (x 0).isLt
    show B x = rowsD A B _ _
    unfold rowsD
    rw [dif_neg (by omega), dif_pos (by omega)]
    blk_ext
  · show A x = rowsD A B _ _
    unfold rowsD
    rw [dif_pos (by omega)]
    blk_ext

theorem scrX {sg : RefSig} (v : View sg .tc .vmem S288x512 .f32) (A : FVec Ideal S256x512 .f32) (B : FVec Ideal S32x512 .f32) (r : Rect S288x512) :
    v.readCov (Val := Elt Ideal) [⟨Rect.unit ![32, 0] ![256, 512] inb_S288x512_S256x512_32_0, A⟩, ⟨Rect.unit ![0, 0] ![32, 512] inb_S288x512_S32x512_0_0, B⟩]
      r.toLoadRect = View.ld (Val := Elt Ideal) (e' := .f32) (rowsXV A B) r := by
  rw [View.readCov_eq_canon']
  funext j
  show (View.canon (Val := Elt Ideal) (e := .f32) _ (r.emb j)) = rowsXV A B (r.emb j)
  generalize r.emb j = y
  have hc : ∃ p ∈ ([⟨Rect.unit ![32, 0] ![256, 512] inb_S288x512_S256x512_32_0, A⟩, ⟨Rect.unit ![0, 0] ![32, 512] inb_S288x512_S32x512_0_0, B⟩] : List (View.Piece (Elt Ideal) S288x512 .f32)), y ∈ p.1.set := by
    have h0 : (y 0 : ℕ) < 288 := (y 0).isLt
    have h1 : (y 1 : ℕ) < 512 := (y 1).isLt
    by_cases h : 32 ≤ (y 0 : ℕ)
    · exact ⟨_, List.mem_cons_self, (Rect.mem_set_unit (inb := inb_S288x512_S256x512_32_0)).mpr (Fin.forall_fin_two.mpr ⟨⟨h, by simpa using h0⟩, ⟨Nat.zero_le _, by simpa using h1⟩⟩)⟩
    · exact ⟨_, List.mem_cons_of_mem _ List.mem_cons_self, (Rect.mem_set_unit (inb := inb_S288x512_S32x512_0_0)).mpr (Fin.forall_fin_two.mpr ⟨⟨Nat.zero_le _, by simp; omega⟩, ⟨Nat.zero_le _, by simpa using h1⟩⟩)⟩
  canon_tiles x h using hc
  · have hx := (x 0).isLt
    show A x = rowsX A B _ _
    unfold rowsX
    rw [dif_neg (by omega), dif_pos (by omega)]
    blk_ext
  · show B x = rowsX A B _ _
    unfold rowsX
    rw [dif_pos (by omega)]
    blk_ext

theorem moved_at (s : ℕ) (hs : s < 8) (x : FVec Ideal S96x128 .f32) (i : Fin 96) (l : Fin 128) (h : s ≤ (i : ℕ)) :
    moved s x (ix2 i l) = x (ix2 (⟨(i : ℕ) - s, by omega⟩ : Fin 96) l) := by
  have hi := i.isLt
  have h8 : s = 0 ∨ s = 1 ∨ s = 2 ∨ s = 3 ∨ s = 4 ∨ s = 5 ∨ s = 6 ∨ s = 7 := by omega
  rcases h8 with rfl | rfl | rfl | rfl | rfl | rfl | rfl | rfl
  all_goals (pointwise [moved]; blk_ext)

theorem lifted_at (s : ℕ) (hs : s < 8) (x : FVec Ideal S96x128 .f32) (i : Fin 96) (l : Fin 128) (h : (i : ℕ) + s < 96) :
    lifted s x (ix2 i l) = x (ix2 (⟨(i : ℕ) + s, h⟩ : Fin 96) l) := by
  have hi := i.isLt
  have h8 : s = 0 ∨ s = 1 ∨ s = 2 ∨ s = 3 ∨ s = 4 ∨ s = 5 ∨ s = 6 ∨ s = 7 := by omega
  rcases h8 with rfl | rfl | rfl | rfl | rfl | rfl | rfl | rfl
  all_goals (pointwise [lifted]; blk_ext)

theorem slice_at (o : ℕ) (ho : o ≤ 32) (x : FVec Ideal S96x128 .f32) (h : Shape.Slices S96x128 (![o, 0] : Fin 2 → ℕ) S64x128) (a : Fin 64) (l : Fin 128) :
    extractStridedSlice S64x128 ![o, 0] x h (ix2 a l) = x (ix2 (⟨o + (a : ℕ), by omega⟩ : Fin 96) l) := by
  have ha := a.isLt
  pointwise

/-- The point's scratch rows of gradients, -/
def dsR (c : Dev nD) (t : Fin cfg0.N) : ℕ → Fin 512 → EReal := rowsD (dA m c t) (dB m c t)

/-- and of the gated input. -/
def xsR (c : Dev nD) (t : Fin cfg0.N) : ℕ → Fin 512 → EReal := rowsX (xA m c t) (xB m c t)

theorem tile_d (c : Dev nD) (t : Fin cfg0.N) (n : ℕ) (i : Fin 96) (l : Fin 128) : tile scM0_0.view (dsL m c t) n (ix2 i l)
    = dsR m c t (64 * (n % 4) + (i : ℕ)) ⟨128 * (n / 4 % 4) + (l : ℕ), by omega⟩ := by
  unfold tile dsL; rw [scrD]
  pointwise [rowsDV, dsR]
  rfl

theorem tile_x (c : Dev nD) (t : Fin cfg0.N) (n : ℕ) (i : Fin 96) (l : Fin 128) : tile scM0_1.view (xsL m c t) n (ix2 i l)
    = xsR m c t (64 * (n % 4) + (i : ℕ)) ⟨128 * (n / 4 % 4) + (l : ℕ), by omega⟩ := by
  unfold tile xsL; rw [scrX]
  pointwise [rowsXV, xsR]
  rfl

/-- What row group `j` adds to the gradient of tap `30 - s` at lane `l`. -/
def grp (d x : ℕ → Fin 512 → EReal) (j s : ℕ) (l : ℕ) : EReal :=
  if h : l < 512 then ∑ a : Fin 64, d (64 * j + (a : ℕ)) ⟨l, h⟩ * x (64 * j + (a : ℕ) + 32 - s) ⟨l, h⟩ else 0

theorem tileD_at (c : Dev nD) (t : Fin cfg0.N) (n : ℕ) (z : RowTaps.Row.Idx) :
    tileD (tile scM0_0.view (dsL m c t)) (tile scM0_1.view (xsL m c t)) n z
      = grp (dsR m c t) (xsR m c t) (n / 31 % 4) (sh (n % 31)) (woff n 1 + (z 1 : ℕ)) := by
  have hz : (z 1 : ℕ) < 128 := (z 1).isLt
  have hw : woff n 1 = 128 * (n / 31 / 4 % 4) := rfl
  unfold tileD grp
  rw [dif_pos (by omega)]
  generalize hd : tile scM0_0.view (dsL m c t) (n / 31) = d
  generalize hx : moved (n % 31 / 4) (tile scM0_1.view (xsL m c t) (n / 31)) = x
  pointwise
  subst hd hx
  refine Finset.sum_congr rfl fun a _ => ?_
  have ha := a.isLt
  unfold sh
  refine congrArg₂ (fun p q : EReal => p * q) (tile_d m c t _ _ (z 1)) ?_
  refine (moved_at _ (by omega) _ _ (z 1) (by dsimp only; omega)).trans ((tile_x m c t _ _ (z 1)).trans ?_)
  dsimp only
  exact congrArg (xsR m c t · _) (by omega)

/-- One term of the input's gradient, at row `a` of the point's block and lane `l`. -/
def term (W : FVec Ideal S31x512 .f32) (d : ℕ → Fin 512 → EReal) (a : ℕ) (l : ℕ) (s : ℕ) : EReal :=
  if h : l < 512 ∧ s < 31 then W (ix2 (⟨30 - s, by omega⟩ : Fin 31) (⟨l, h.1⟩ : Fin 512)) * d (a + s) ⟨l, h.1⟩ else 0

theorem acc_at (c : Dev nD) (t : Fin cfg0.N) (n : ℕ) (a : Fin 64) (l : Fin 128) (p : ℕ) (hp : p ≤ 31) :
    acc (iblk m c 6 t) (tile scM0_0.view (dsL m c t) n) n p (ix2 a l)
      = (∑ q ∈ Finset.range p, term (iblk m c 6 t) (dsR m c t) (64 * (n % 4) + (a : ℕ)) (128 * (n / 4 % 4) + (l : ℕ)) (sh q) : EReal) := by
  induction p with
  | zero => rw [Finset.sum_range_zero]; pointwise [acc]
  | succ p ih =>
    have ha := a.isLt
    have hl := l.isLt
    rw [Finset.sum_range_succ, ← ih (by omega)]
    show (acc _ _ n p (ix2 a l) + _ * _ : EReal) = _
    refine congrArg (fun q : EReal => _ + q) ?_
    unfold term sh
    rw [dif_pos (by omega)]
    refine congrArg₂ (fun p q : EReal => p * q) ?_ ?_
    · pointwise [woff, sh]
      blk_ext
    · refine (slice_at _ (by omega) _ _ a l).trans ((lifted_at _ (by omega) _ _ l (by dsimp only; omega)).trans ((tile_d m c t _ _ l).trans ?_))
      dsimp only
      exact congrArg (dsR m c t · _) (by omega)

theorem sum_sh (f : ℕ → EReal) : (∑ q ∈ Finset.range 31, f (sh q)) = ∑ s : Fin 31, f (s : ℕ) := by
  rw [← Fin.sum_univ_eq_sum_range (fun q => f (sh q)) 31]
  have hlt : ∀ q : Fin 31, sh (q : ℕ) < 31 := by decide
  have hb : Function.Bijective (fun q : Fin 31 => Fin.ofNat 31 (sh (q : ℕ))) := by decide
  refine Eq.trans (Finset.sum_congr rfl fun q _ => ?_) (hb.sum_comp (fun s : Fin 31 => f (s : ℕ)))
  exact congrArg f (Nat.mod_eq_of_lt (hlt q)).symm

/-- The input's gradient at row `a` of the point's block, lane `l`. -/
def dxP (W : FVec Ideal S31x512 .f32) (d : ℕ → Fin 512 → EReal) (a l : ℕ) : EReal := ∑ s : Fin 31, term W d a l (s : ℕ)

theorem pt (c : Dev nD) (t : Fin cfg0.N) (y : S256x512.Idx) :
    (outsAt0 m c t.val t.isLt).1 y = dxP (iblk m c 6 t) (dsR m c t) (y 0 : ℕ) (y 1 : ℕ) := by
  have h0 : (y 0 : ℕ) < 256 := (y 0).isLt
  have h1 : (y 1 : ℕ) < 512 := (y 1).isLt
  have key : View.canon (Val := Elt Ideal) (e := .bf16) (TileList.pieces toff xinb
      (fun n => truncf .bf16 (acc (iblk m c 6 t) (tile scM0_0.view (dsL m c t) n) n 31) bitsLt_bf16_f32) 16) y
      = dxP (iblk m c 6 t) (dsR m c t) (y 0 : ℕ) (y 1 : ℕ) := by
    refine TileList.canon_pieces (e := .bf16) toff xinb _ (fun a l => (dxP (iblk m c 6 t) (dsR m c t) a l : EReal)) (fun n x => ?_) 16 y
      ⟨4 * ((y 1 : ℕ) / 128) + (y 0 : ℕ) / 64, by omega, ?_⟩
    · refine Eq.trans ?_ ((acc_at m c t n (x 0) (x 1) 31 le_rfl).trans (sum_sh _))
      exact congrArg (acc _ _ n 31) (by blk_ext)
    · show (64 * _ ≤ _ ∧ _ < 64 * _ + 64) ∧ 128 * _ ≤ _ ∧ _ < 128 * _ + 128
      omega
  by_cases hb : t.val % 16 = 0
  · exact (dxA m c t hb y).trans key
  · exact (dxB m c t hb y).trans key

theorem meets_woff (n k l : ℕ) : RowTaps.meets woff n k l ↔ k = 30 - sh (n % 31) ∧ 128 * (n / 31 / 4 % 4) ≤ l ∧ l < 128 * (n / 31 / 4 % 4) + 128 := Iff.rfl

/-- The place of the tap of shift `s`. -/
def pl (s : ℕ) : ℕ := 4 * (s % 8) + s / 8

theorem pl_lt (s : ℕ) (h : s ≤ 30) : pl s < 31 := by unfold pl; omega

theorem sh_le (p : ℕ) (h : p < 31) : sh p ≤ 30 := by unfold sh; omega

theorem sh_pl (s : ℕ) (h : s ≤ 30) : sh (pl s) = s := by unfold sh pl; omega

theorem pl_sh (p : ℕ) (h : p < 31) : pl (sh p) = p := by unfold sh pl; omega

theorem parts (g j p : ℕ) (hj : j < 4) (hp : p < 31) : (124 * g + 31 * j + p) % 31 = p ∧ (124 * g + 31 * j + p) / 31 % 4 = j
    ∧ (124 * g + 31 * j + p) / 31 / 4 = g := by omega

theorem sumD (c : Dev nD) (t : Fin cfg0.N) (y : S31x512.Idx) :
    (∑ i ∈ Finset.range 496, if RowTaps.meets woff i (y 0 : ℕ) (y 1 : ℕ) then grp (dsR m c t) (xsR m c t) (i / 31 % 4) (sh (i % 31)) (y 1 : ℕ) else 0)
      = ∑ j : Fin 4, grp (dsR m c t) (xsR m c t) j (30 - (y 0 : ℕ)) (y 1 : ℕ) := by
  have h0 : (y 0 : ℕ) < 31 := (y 0).isLt
  have h1 : (y 1 : ℕ) < 512 := (y 1).isLt
  have hp := pl_lt (30 - (y 0 : ℕ)) (by omega)
  refine (RowTaps.sum_meets woff (fun i l => grp (dsR m c t) (xsR m c t) (i / 31 % 4) (sh (i % 31)) l) 496 4 _ _
    (fun j => 124 * ((y 1 : ℕ) / 128) + 31 * j + pl (30 - (y 0 : ℕ))) (fun j hj => by omega) (fun i hi j hj h => by omega)
    fun n hn => ?_).trans (Finset.sum_congr rfl fun j _ => ?_)
  · rw [meets_woff]
    constructor
    · rintro ⟨h, h'⟩
      have e := sh_le (n % 31) (by omega)
      have e' := pl_sh (n % 31) (by omega)
      rw [show sh (n % 31) = 30 - (y 0 : ℕ) by omega] at e'
      exact ⟨n / 31 % 4, by omega, by rw [e']; omega⟩
    · rintro ⟨j, hj, rfl⟩
      obtain ⟨e0, e1, e2⟩ := parts ((y 1 : ℕ) / 128) j _ hj hp
      rw [e0, e2, sh_pl _ (by omega)]
      omega
  · obtain ⟨e0, e1, e2⟩ := parts ((y 1 : ℕ) / 128) j _ j.isLt hp
    dsimp only
    rw [e0, e1, sh_pl _ (by omega)]

theorem fresh_woff (n : ℕ) (hN : n < 496) (h : decide (n % 124 < 31) = true) (i : ℕ) (hi : i < n) (k l : ℕ)
    (hn : RowTaps.meets woff n k l) : ¬ RowTaps.meets woff i k l := by
  have := of_decide_eq_true h
  rw [meets_woff] at hn ⊢
  unfold sh at hn ⊢
  omega

theorem hold_woff (n : ℕ) (h : decide (n % 124 < 31) = false) (k l : ℕ) (hn : RowTaps.meets woff n k l) :
    ∃ i < n, RowTaps.meets woff i k l := by
  have := of_decide_eq_false h
  rw [meets_woff] at hn
  exact ⟨n - 31, by omega, by rw [meets_woff, show (n - 31) % 31 = n % 31 by omega]; omega⟩

theorem cov_woff (y : S31x512.Idx) : ∃ i < 496, RowTaps.meets woff i (y 0 : ℕ) (y 1 : ℕ) := by
  have h0 : (y 0 : ℕ) < 31 := (y 0).isLt
  have h1 : (y 1 : ℕ) < 512 := (y 1).isLt
  exact ⟨124 * ((y 1 : ℕ) / 128) + pl (30 - (y 0 : ℕ)), by have := pl_lt (30 - (y 0 : ℕ)) (by omega); omega, by
    obtain ⟨e0, e1, e2⟩ := parts ((y 1 : ℕ) / 128) 0 _ (by omega) (pl_lt (30 - (y 0 : ℕ)) (by omega))
    rw [Nat.mul_zero, Nat.add_zero] at e0 e2
    rw [meets_woff, e0, e2, sh_pl _ (by omega)]
    omega⟩

theorem stepB (c : Dev nD) (t : Fin cfg0.N) (hb : ¬ t.val % 16 = 0) (y : S31x512.Idx) :
    ((outsAt0 m c t.val t.isLt).2 y : EReal) = (outsAt0 m c (t.val - 1) (Nat.lt_of_le_of_lt (Nat.sub_le _ _) t.isLt)).2 y
      + ∑ j : Fin 4, grp (dsR m c t) (xsR m c t) j (30 - (y 0 : ℕ)) (y 1 : ℕ) := by
  rw [← sumD m c t y, dwB m c t hb]
  exact RowTaps.canon_pieces _ _ _ woff winb _ _ _ 496 (fun i l => grp (dsR m c t) (xsR m c t) (i / 31 % 4) (sh (i % 31)) l)
    (fun n x => tileD_at m c t n x) (fun y ⟨p, hp, _⟩ => absurd hp (List.not_mem_nil))
    (fun n hN hn => ⟨rfl, fresh_woff n hN hn⟩) (fun n _ hn => .inr (hold_woff n hn)) 496 le_rfl y (.inr (cov_woff y))

theorem zero9 (y : S31x512.Idx) : k0_pay9 (F := Ideal) y = (0 : EReal) := by pointwise [k0_pay9]

theorem whole9 (y : S31x512.Idx) : y ∈ (Rect.unit (s := S31x512) ![0, 0] ![31, 512] inb_S31x512_S31x512_0_0).set :=
  Rect.mem_set_unit.mpr (Fin.forall_fin_two.mpr ⟨⟨Nat.zero_le _, by have : (y 0 : ℕ) < 31 := (y 0).isLt; simpa using this⟩,
    ⟨Nat.zero_le _, by have : (y 1 : ℕ) < 512 := (y 1).isLt; simpa using this⟩⟩)

theorem canon9 (y : S31x512.Idx) : View.canon (Val := Elt Ideal) (s := S31x512) (e := .f32)
    [⟨Rect.unit ![0, 0] ![31, 512] inb_S31x512_S31x512_0_0, k0_pay9 (F := Ideal)⟩] y = k0_pay9 (F := Ideal) y := by
  canon_tiles x h using ⟨_, List.mem_cons_self, whole9 y⟩
  exact (zero9 _).trans (zero9 _).symm

theorem stepA (c : Dev nD) (t : Fin cfg0.N) (hb : t.val % 16 = 0) (y : S31x512.Idx) :
    ((outsAt0 m c t.val t.isLt).2 y : EReal) = 0 + ∑ j : Fin 4, grp (dsR m c t) (xsR m c t) j (30 - (y 0 : ℕ)) (y 1 : ℕ) := by
  rw [← sumD m c t y, dwA m c t hb]
  refine Eq.trans ?_ (congrArg (· + _) (zero9 y))
  exact RowTaps.canon_pieces _ _ _ woff winb _ _ _ 496 (fun i l => grp (dsR m c t) (xsR m c t) (i / 31 % 4) (sh (i % 31)) l)
    (fun n x => tileD_at m c t n x) (fun y _ => canon9 y)
    (fun n hN hn => absurd hn Bool.false_ne_true) (fun n _ hn => .inl fun y => ⟨_, List.mem_cons_self, whole9 y⟩) 496 le_rfl y
    (.inl ⟨_, List.mem_cons_self, whole9 y⟩)

end Cert.Kernel5Ideal.ConvE

end
-- ==== Proof.ConvEBack.lean ====
/- What the backward call of the long gated convolution leaves in its result arrays. -/
module

public import proofs.«01_k».proof.Proof.ConvETile

@[expose] public section

set_option maxRecDepth 16384

noncomputable section

namespace Cert.Kernel5Ideal.ConvE

open Idealize.ShloMosaic Idealize.ShloMosaic.TcCoe Idealize.SL.Sem
open Idealize.ShloMosaic.Pipeline (Dat)
open Cert.Kernel5Ideal Cert.Kernel5Ideal.Gen Cert.Scalars

variable (m : (ℓ : Loc nD τ sig) → Buf (Elt Ideal) ℓ)

/-- The arguments' contents. -/
abbrev aU (c : Dev nD) : FVec Ideal S4096x3072 .bf16 := m ((c : Thread nD τ).loc main_arg0)
abbrev aW (c : Dev nD) : FVec Ideal S31x1024 .f32 := m ((c : Thread nD τ).loc main_arg1)
abbrev aY (c : Dev nD) : FVec Ideal S4096x1024 .bf16 := m ((c : Thread nD τ).loc main_arg2)

/-- The gated input at row `r`, column `l`; zero outside. -/
def X (U : FVec Ideal S4096x3072 .bf16) (r l : ℕ) : EReal :=
  if h : r < 4096 ∧ l < 1024 then U (ix2 (⟨r, h.1⟩ : Fin 4096) (⟨l, by omega⟩ : Fin 3072)) * sgm (U (ix2 (⟨r, h.1⟩ : Fin 4096) (⟨1024 + l, by omega⟩ : Fin 3072))) else 0

/-- The gradient at row `r`, column `l`; zero outside. -/
def Yn (Y : FVec Ideal S4096x1024 .bf16) (r l : ℕ) : EReal :=
  if h : r < 4096 ∧ l < 1024 then Y (ix2 (⟨r, h.1⟩ : Fin 4096) (⟨l, h.2⟩ : Fin 1024)) else 0

/-- `g`'s row `s` before row `r` of the same sequence; zero before its start. -/
def back (g : ℕ → EReal) (s r : ℕ) : EReal := if s ≤ r % 2048 then g (r - s) else 0

/-- `g`'s row `s` after row `r` of the same sequence; zero after its end. -/
def ahead (g : ℕ → EReal) (s r : ℕ) : EReal := if r % 2048 + s < 2048 then g (r + s) else 0

/-- The gradient of the gated input at row `r`, column `l`. -/
def DXat (Y : FVec Ideal S4096x1024 .bf16) (W : FVec Ideal S31x1024 .f32) (r : ℕ) (l : Fin 1024) : EReal :=
  ∑ s : Fin 31, W (ix2 (⟨30 - (s : ℕ), by omega⟩ : Fin 31) l) * ahead (Yn Y · (l : ℕ)) (s : ℕ) r

/-- The same as an array. -/
def DX (Y : FVec Ideal S4096x1024 .bf16) (W : FVec Ideal S31x1024 .f32) : FVec Ideal S4096x1024 .bf16 := fun y =>
  DXat Y W (y 0 : ℕ) (y 1)

/-- The gradient of tap `k`: the sum over all rows. -/
def DW (Y : FVec Ideal S4096x1024 .bf16) (U : FVec Ideal S4096x3072 .bf16) : FVec Ideal S31x1024 .f32 := fun y =>
  ∑ r : Fin 4096, Yn Y (r : ℕ) (y 1 : ℕ) * back (X U · (y 1 : ℕ)) (30 - (y 0 : ℕ)) (r : ℕ)

theorem idx : ∀ t : Fin cfg0.N, win0_0.index t = ![t.val % 16, t.val / 16] ∧ win0_2.index t = ![t.val % 16, t.val / 16]
    ∧ win0_3.index t = ![t.val % 16 * 8 - 1, t.val / 16] ∧ win0_4.index t = ![t.val % 16, t.val / 16 + 2]
    ∧ win0_5.index t = ![t.val % 16 * 8 - 1, t.val / 16 + 2] ∧ win0_6.index t = ![0, t.val / 16]
    ∧ win0_7.index t = ![t.val % 16, t.val / 16] ∧ win0_8.index t = ![0, t.val / 16] :=
  (by decide +kernel : ∀ t : Fin grid0.N, _)

theorem idxn : ∀ t : Fin cfg0.N, ¬ t.val % 16 % 8 = 7 → win0_1.index t = ![t.val % 16 * 8 + 8, t.val / 16] :=
  (by decide +kernel : ∀ t : Fin grid0.N, _)

theorem crd : ∀ t : Fin cfg0.N, (grid0.coords t 1 : ℕ) = t.val % 16 := (by decide +kernel : ∀ t : Fin grid0.N, _)

theorem rem8_at : ∀ i : Fin 16, rem8 (i : ℕ) = BitVec.ofNat 32 ((i : ℕ) % 8) := by decide +kernel

theorem halo (i : ℕ) (hi : i < 16) (x1 x3 : FVec Ideal S32x512 .bf16) (a : Fin 32) (l : Fin 512) :
    k0_pay7 (F := Ideal) (rem8 i) (0#32) x1 x3 (ix2 a l) = if i % 8 = 0 then 0 else x1 (ix2 a l) * sgm (x3 (ix2 a l)) := by
  rw [rem8_at ⟨i, hi⟩, ← sgmT_eq]
  pointwise [k0_pay7]
  have h8 : i % 8 = 0 ∨ ¬ i % 8 = 0 := by omega
  rcases h8 with h | h
  · rw [if_pos h]
    simp only [h]
    exact if_pos (by decide)
  · rw [if_neg h]
    have hc : ∀ k : Fin 8, ¬ (k : ℕ) = 0 → Scalar.cmpi .eq (BitVec.ofNat 32 (k : ℕ)) 0#32 = 0#1 := by decide
    refine (if_neg ?_).trans rfl
    rw [hc ⟨i % 8, by omega⟩ h]
    decide

theorem foot (i : grid0.Coords) (x1 : FVec Ideal S32x512 .bf16) (a : Fin 32) (l : Fin 512) :
    k0_pay6 (F := Ideal) i x1 (ix2 a l) = if (i 1 : ℕ) % 8 = 7 then 0 else x1 (ix2 a l) := by
  have hi : (i 1 : ℕ) < 16 := (i 1).isLt
  have hc : ∀ k : Fin 16, Scalar.cmpi .eq (rem8 (k : ℕ)) 7#32 = if (k : ℕ) % 8 = 7 then 1#1 else 0#1 := by decide +kernel
  have e : k0_pay6 (F := Ideal) i x1 (ix2 a l) = if Scalar.cmpi .eq (rem8 (i 1 : ℕ)) 7#32 = 1#1 then 0 else x1 (ix2 a l) := by
    pointwise [k0_pay6]
    rfl
  rw [e, hc ⟨(i 1 : ℕ), hi⟩]
  by_cases h : (i 1 : ℕ) % 8 = 7
  · rw [if_pos h, if_pos h, if_pos rfl]
  · rw [if_neg h, if_neg h, if_neg (by decide)]

theorem xs (c : Dev nD) (t : Fin cfg0.N) (k : ℕ) (hk : k < 288) (l : Fin 512) :
    xsR m c t k l = if k < 32 ∧ t.val % 16 % 8 = 0 then 0 else X (aU m c) (256 * (t.val % 16) + k - 32) (512 * (t.val / 16) + l) := by
  have ht : t.val < 32 := lt_of_lt_of_eq t.isLt N_0
  have hl := l.isLt
  unfold xsR rowsX
  by_cases h : k < 32
  · rw [dif_pos h, xB, halo _ (grid0.coords t 1).isLt, crd]
    by_cases h2 : t.val % 16 % 8 = 0
    · rw [if_pos h2, if_pos ⟨h, h2⟩]
    · rw [if_neg h2, if_neg (fun h' => h2 h'.2), X, dif_pos (by omega)]
      blk_point [iblk, V, idx t]
  · rw [dif_neg h, dif_pos hk, if_neg (fun h' => h h'.1), X, dif_pos (by omega), xA, ← sgmT_eq]
    pointwise [k0_pay8]
    refine congrArg₂ (fun p q : EReal => p * sgmT q) ?_ ?_
    all_goals blk_ext [iblk, V, idx t]

theorem ds (c : Dev nD) (t : Fin cfg0.N) (k : ℕ) (hk : k < 288) (l : Fin 512) :
    dsR m c t k l = if 256 ≤ k ∧ t.val % 16 % 8 = 7 then 0 else Yn (aY m c) (256 * (t.val % 16) + k) (512 * (t.val / 16) + l) := by
  have ht : t.val < 32 := lt_of_lt_of_eq t.isLt N_0
  have hl := l.isLt
  unfold dsR rowsD
  by_cases h : k < 256
  · rw [dif_pos h, if_neg (by omega), Yn, dif_pos (by omega), dA]
    pointwise [k0_pay5]
    blk_point [iblk, V, idx t]
  · rw [dif_neg h, dif_pos hk, dB, foot, crd]
    by_cases h2 : t.val % 16 % 8 = 7
    · rw [if_pos h2, if_pos (by omega)]
    · rw [if_neg h2, if_neg (fun h' => h2 h'.2), Yn, dif_pos (by omega)]
      blk_point [iblk, V, idxn t h2, idx t]

theorem ahead_of (g : ℕ → EReal) (i a s : ℕ) (hs : s ≤ 32) (ha : a < 256) :
    (if 256 ≤ a + s ∧ i % 8 = 7 then 0 else g (256 * i + (a + s))) = ahead g s (256 * i + a) := by
  unfold ahead
  by_cases h : 256 ≤ a + s ∧ i % 8 = 7
  · rw [if_pos h, if_neg (by omega)]
  · rw [if_neg h, if_pos (by omega)]
    exact congrArg g (by omega)

theorem back_of (g : ℕ → EReal) (i a s k : ℕ) (hs : s ≤ 32) (ha : a < 256) (hk : k + s = 32 + a) :
    (if k < 32 ∧ i % 8 = 0 then 0 else g (256 * i + k - 32)) = back g s (256 * i + a) := by
  unfold back
  by_cases h : k < 32 ∧ i % 8 = 0
  · rw [if_pos h, if_neg (by omega)]
  · rw [if_neg h, if_pos (by omega)]
    exact congrArg g (by omega)

theorem core (c : Dev nD) (t : Fin cfg0.N) (a l : ℕ) (r : ℕ) (q : Fin 1024) (h0 : a < 256) (h1 : l < 512)
    (hr : r = 256 * (t.val % 16) + a) (hq : (q : ℕ) = 512 * (t.val / 16) + l) :
    dxP (iblk m c 6 t) (dsR m c t) a l = DXat (aY m c) (aW m c) r q := by
  have ht : t.val < 32 := lt_of_lt_of_eq t.isLt N_0
  unfold dxP DXat
  refine Finset.sum_congr rfl fun s _ => ?_
  have hs := s.isLt
  unfold term
  rw [dif_pos (by omega), ds m c t _ (by omega)]
  refine congrArg₂ (fun p q : EReal => p * q) ?_ ?_
  · blk_ext [iblk, V, idx t]
  · dsimp only
    rw [← hq, ahead_of (Yn (aY m c) · (q : ℕ)) _ a (s : ℕ) (by omega) h0, ← hr]

theorem dx (c : Dev nD) : (dats m 0 c).arrAt 7 cfg0.N = DX (aY m c) (aW m c) := by
  refine (dats m 0 c).arrAt_eq_of_covers 7 _ (by decide +kernel) fun t _ y => ?_
  have ht : t.val < 32 := lt_of_lt_of_eq t.isLt N_0
  blk_simp
  rw [after0_7, pt]
  refine core m c t _ _ _ _ (y 0).isLt (y 1).isLt ?_ ?_
  all_goals (blk_simp [idx t] <;> try omega)

/-- The rows a point adds to a tap's gradient. -/
theorem part (c : Dev nD) (t : Fin cfg0.N) (q : ℕ) (hq : q < 31) (l : ℕ) (hl : l < 512) :
    (∑ j : Fin 4, grp (dsR m c t) (xsR m c t) j q l)
      = ∑ a : Fin 256, Yn (aY m c) (256 * (t.val % 16) + (a : ℕ)) (512 * (t.val / 16) + l)
          * back (X (aU m c) · (512 * (t.val / 16) + l)) q (256 * (t.val % 16) + (a : ℕ)) := by
  unfold grp
  simp only [dif_pos hl]
  refine Fin.sum_mul_add_congr fun j a hja => ?_
  have hj := j.isLt
  have ha := a.isLt
  rw [ds m c t _ (by omega), xs m c t _ (by omega), if_neg (by omega),
    back_of (X (aU m c) · (512 * (t.val / 16) + l)) _ (64 * (j : ℕ) + (a : ℕ)) q _ (by omega) (by omega) (by omega)]
  rw [show 64 * (j : ℕ) + (a : ℕ) = (j : ℕ) * 64 + (a : ℕ) by omega]

theorem dw (c : Dev nD) : (dats m 0 c).arrAt 8 cfg0.N = DW (aY m c) (aU m c) := by
  refine (dats m 0 c).arrAt_eq_of_covers 8 _ (by decide +kernel) fun t hf y => ?_
  have ht : t.val < 32 := lt_of_lt_of_eq t.isLt N_0
  have hy0 : (y 0 : ℕ) < 31 := (y 0).isLt
  have hy1 : (y 1 : ℕ) < 512 := (y 1).isLt
  blk_simp
  rw [after0_8, Pipeline.eq_sum_fin_of_reset_step_apply_of_flush (fun n h => (outsAt0 m c n h).2) 16 (fun _ => (0 : EReal))
    (fun t y => ∑ j : Fin 4, grp (dsR m c t) (xsR m c t) j (30 - (y 0 : ℕ)) (y 1 : ℕ))
    (fun t h y => stepA m c t h y) (fun t h y => stepB m c t h y) t ((flush0_8 t).mp hf) y, zero_add]
  unfold DW
  refine (Fin.sum_fin_congr fun s => part m c _ _ (by omega) _ hy1).trans ?_
  refine Fin.sum_mul_add_congr fun s a hsa => ?_
  have hs := s.isLt
  have e0 : 256 * ((16 * (t.val / 16) + (s : ℕ)) % 16) + (a : ℕ) = (s : ℕ) * 256 + (a : ℕ) := by omega
  have e1 : 512 * ((16 * (t.val / 16) + (s : ℕ)) / 16) + (y 1 : ℕ) = 512 * (t.val / 16) + (y 1 : ℕ) := by omega
  dsimp only
  rw [e0, e1]
  refine congrArg₂ (fun p q : EReal => p * q) ?_ ?_
  · refine congrArg (Yn (aY m c) ((s : ℕ) * 256 + (a : ℕ))) ?_
    blk_simp [idx t] <;> try omega
  · refine congrArg₂ (fun p q : ℕ => back (X (aU m c) · p) (30 - q) ((s : ℕ) * 256 + (a : ℕ))) ?_ ?_
    all_goals (blk_simp [idx t] <;> try omega)

end Cert.Kernel5Ideal.ConvE

end
-- ==== Proof.ConvERef.lean ====
/- What the long convolution's reference leaves in its two results. -/
module

public import proofs.«01_k».proof.Proof.Gen.Reference5Ideal.Read
public import proofs.«01_k».proof.Proof.ConvEBack
public import proofs.«01_k».proof.Proof.HostSum

@[expose] public section

set_option maxRecDepth 16384

noncomputable section

namespace Cert.Reference5Ideal.ConvE

open Idealize.ShloMosaic Idealize.ShloMosaic.TcCoe Idealize.SL.Sem
open Cert.Reference5Ideal Cert.Reference5Ideal.Read Cert.Scalars
open Cert.Kernel5Ideal.ConvE (X Yn back ahead DXat DX DW)

variable (U : FVec Ideal S4096x3072 .bf16) (W : FVec Ideal S31x1024 .f32) (Y : FVec Ideal S4096x1024 .bf16)

/-- The gated input, a sequence apart. -/
theorem gated (b : Fin 2) (k : Fin 2048) (l : Fin 1024) : val_main_v24 (F := Ideal) U (ix3 b k l) = X U (2048 * (b : ℕ) + (k : ℕ)) (l : ℕ) := by
  have hb := b.isLt
  have hk := k.isLt
  have hl := l.isLt
  unfold X
  rw [dif_pos (by omega)]
  pointwise [val_main_v24, val_main_v9, val_main_v8, val_main_v7, val_main_v6, val_main_v5, val_main_v4, val_main_v3, val_main_v2, val_main_v1, val_main_v0,
    val_main_cst, val_main_cst_0]
  refine congrArg₂ (fun p q : EReal => p * sgm q) ?_ ?_
  all_goals blk_ext

/-- The gradient, a sequence apart. -/
theorem grad (b : Fin 2) (k : Fin 2048) (l : Fin 1024) : val_main_v33 (F := Ideal) Y (ix3 b k l) = Yn Y (2048 * (b : ℕ) + (k : ℕ)) (l : ℕ) := by
  have hb := b.isLt
  have hk := k.isLt
  have hl := l.isLt
  unfold Yn
  rw [dif_pos (by omega)]
  pointwise [val_main_v33, val_main_v32]
  blk_point

theorem word (k t s : ℕ) (hk : k < 31) (ht : t < 2048) (hs : s < 2048) :
    (BitVec.ofNat 32 s = BitVec.ofNat 32 t - 30#32 + BitVec.ofNat 32 k) ↔ s + 30 = t + k := by
  rw [← BitVec.toNat_inj]
  simp only [BitVec.toNat_ofNat, BitVec.toNat_add, BitVec.toNat_sub]
  omega

/-- The shifts: one where `s` is `t - 30 + k`, else zero. -/
theorem shift (k : Fin 31) (t s : Fin 2048) : val_main_v23 (F := Ideal) (ix3 k t s) = if (s : ℕ) + 30 = (t : ℕ) + (k : ℕ) then 1 else 0 := by
  pointwise [val_main_v23, val_main_v22, val_main_v21, val_main_v20, val_main_v19, val_main_v18, val_main_v17, val_main_v16, val_main_v15, val_main_v14,
    val_main_v13, val_main_v12, val_main_v11, val_main_v10, val_main_c]
  have hk := k.isLt
  have ht := t.isLt
  have hs := s.isLt
  have hw := word (k : ℕ) (t : ℕ) (s : ℕ) hk ht hs
  by_cases h : (s : ℕ) + 30 = (t : ℕ) + (k : ℕ)
  · rw [if_pos h, show IntOp.cmpi .eq (BitVec.ofNat 32 (s : ℕ)) (IntOp.addi (IntOp.subi (BitVec.ofNat 32 (t : ℕ)) 30#32) (BitVec.ofNat 32 (k : ℕ))) = 1#1
      from congrArg BitVec.ofBool (beq_iff_eq.mpr (hw.mpr h))]
    show ((((1#1 : BitVec 1).toNat : ℝ)) : EReal) = 1
    norm_num
  · rw [if_neg h, show IntOp.cmpi .eq (BitVec.ofNat 32 (s : ℕ)) (IntOp.addi (IntOp.subi (BitVec.ofNat 32 (t : ℕ)) 30#32) (BitVec.ofNat 32 (k : ℕ))) = 0#1
      from congrArg BitVec.ofBool (beq_eq_false_iff_ne.mpr (fun e => h (hw.mp e)))]
    show ((((0#1 : BitVec 1).toNat : ℝ)) : EReal) = 0
    norm_num

/-- The shifted gated input. -/
theorem moved (b : Fin 2) (l : Fin 1024) (k : Fin 31) (t : Fin 2048) : val_main_v25 (F := Ideal) U (ix4 b l k t)
    = back (X U · (l : ℕ)) (30 - (k : ℕ)) (2048 * (b : ℕ) + (t : ℕ)) := by
  have hk := k.isLt
  have ht := t.isLt
  pointwise [val_main_v25]
  simp only [gated, shift]
  unfold back
  by_cases h : 30 ≤ (t : ℕ) + (k : ℕ)
  · rw [if_pos (by omega), Finset.sum_eq_single (⟨(t : ℕ) + (k : ℕ) - 30, by omega⟩ : Fin 2048)]
    · rw [if_pos (by dsimp only; omega), mul_one]
      exact congrArg (X U · (l : ℕ)) (by dsimp only; omega)
    · intro s _ hs
      rw [if_neg (fun e => hs (Fin.ext (by dsimp only; omega))), mul_zero]
    · exact fun h => absurd (Finset.mem_univ _) h
  · rw [if_neg (by omega)]
    exact Finset.sum_eq_zero fun s _ => by rw [if_neg (by omega), mul_zero]

/-- The gradient of the gated input. -/
theorem gsum (b : Fin 2) (l : Fin 1024) (s : Fin 2048) : val_main_v42 (F := Ideal) W Y (ix3 b l s) = DXat Y W (2048 * (b : ℕ) + (s : ℕ)) l := by
  have hs := s.isLt
  pointwise [val_main_v42, val_main_v41, val_main_v36, val_main_v35, val_main_v34, val_main_v27]
  simp only [grad, shift]
  unfold DXat
  rw [← Equiv.sum_comp Fin.revPerm]
  refine Finset.sum_congr rfl fun q _ => ?_
  have hq := q.isLt
  have hr : ((Fin.revPerm q : Fin 31) : ℕ) = 30 - (q : ℕ) := by
    show 31 - ((q : ℕ) + 1) = _
    omega
  have hw : (⟨30 - (q : ℕ), by omega⟩ : Fin 31) = Fin.revPerm q := Fin.ext hr.symm
  rw [hw]
  unfold ahead
  by_cases h : (s : ℕ) + (q : ℕ) < 2048
  · rw [if_pos (by omega), Finset.sum_eq_single (⟨(s : ℕ) + (q : ℕ), h⟩ : Fin 2048)]
    · rw [if_pos (by rw [hr]; dsimp only; omega), mul_one]
      exact congrArg (fun p : ℕ => W (ix2 _ l) * Yn Y p (l : ℕ)) (by dsimp only; omega)
    · intro t _ ht
      rw [hr, if_neg (fun e => ht (Fin.ext (by dsimp only; omega))), mul_zero]
    · exact fun h => absurd (Finset.mem_univ _) h
  · rw [if_neg (by omega), mul_zero]
    exact Finset.sum_eq_zero fun t _ => by rw [hr, if_neg (by omega), mul_zero]

theorem dwref : DW Y U = val_main_v40 (F := Ideal) U Y := by
  refine HostSum.ext2 fun i l => ?_
  have hi := i.isLt
  unfold val_main_v40
  rw [ValueIdx.hostReduceAdd_apply, HostSum.reduce02]
  pointwise [val_main_v39, val_main_cst_3]
  unfold val_main_v38
  rw [ValueIdx.hostReduceAdd_apply, HostSum.reduce02]
  pointwise [val_main_v37, val_main_v34, val_main_v26, val_main_cst_2]
  simp only [grad, moved, Fintype.sum_unique, zero_add]
  refine Eq.symm (Fin.sum_mul_add_congr fun b k _ => ?_)
  exact congrArg (fun r : ℕ => Yn Y r (l : ℕ) * back (X U · (l : ℕ)) (30 - (i : ℕ)) r) (show 2048 * (b : ℕ) + (k : ℕ) = (b : ℕ) * 2048 + (k : ℕ) by omega)

theorem dxref : DX Y W = val_main_v45 (F := Ideal) W Y := by
  refine HostSum.ext2 fun i l => ?_
  have h0 := i.isLt
  pointwise [val_main_v45, val_main_v44, val_main_v43]
  rw [gsum, Nat.div_add_mod]
  rfl

end Cert.Reference5Ideal.ConvE

end
-- ==== Proof.ConvEClaim.lean ====
/- The long gated convolution's pair: the claim that kernel and reference end with equal results. -/
module

public import proofs.«01_k».proof.Defs
public import proofs.«01_k».proof.Proof.Gen.Reference5Ideal.Run
public import proofs.«01_k».proof.Proof.ConvERef
public import Idealize.ShloMosaic.Lib.Claim

@[expose] public section

set_option maxRecDepth 16384

noncomputable section

namespace Cert.Proof.ConvE

open Idealize.ShloMosaic Idealize.ShloMosaic.TcCoe Idealize.SL.Sem
open Cert.Kernel5Ideal Cert.Kernel5Ideal.Gen Cert.Kernel5Ideal.ConvE

variable (m : (ℓ : Loc nD τ sig) → Buf (Elt Ideal) ℓ) (ρ : Dev nD → PrngReg)

/-- The kernel's run, its results in plain terms of its arguments. -/
theorem run : θ_run defs (onTc (τ := τ) (main (F := Ideal))) ⟨m, fun _ => 0, ρ⟩ (fun r => ∀ c : Dev nD,
      r.2.mem ((c.tc : Thread nD τ).loc main_v0_0) = DX (m ((c : Thread nD τ).loc main_arg2)) (m ((c : Thread nD τ).loc main_arg1))
      ∧ r.2.mem ((c.tc : Thread nD τ).loc main_v0_1) = DW (m ((c : Thread nD τ).loc main_arg2)) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.Kernel5Ideal.Value.run_blocks m ρ)
  obtain ⟨h0, h1, hr⟩ := h c
  exact ⟨h0.trans (dx m c), h1.trans (dw m c), hr⟩

theorem algebraic : Cert.algebraic_Kernel5Ideal_Reference5Ideal := by
  pair_intro
  · run_from Cert.Proof.ConvE.run m g
  · run_from Cert.Reference5Ideal.Value.run m' g'
    · rw [Cert.Reference5Ideal.Read.val_main_v45_eq]
      exact (Cert.Reference5Ideal.ConvE.dxref _ _).symm
    · rw [Cert.Reference5Ideal.Read.val_main_v40_eq]
      exact (Cert.Reference5Ideal.ConvE.dwref _ _).symm

end Cert.Proof.ConvE

end
-- ==== Proof.PoolG.lean ====
/- The backward call of the pooling mixer's window sums: its result's stores as a list of tiles, and what it leaves. -/
module

public import proofs.«01_k».proof.Proof.Gen.Kernel6Ideal.Frame
public import proofs.«01_k».proof.Proof.Scalars
public import proofs.«01_k».proof.Proof.TileList
public import Idealize.ShloMosaic.Lib.Pipeline.ValueKit
public import Idealize.ShloMosaic.Lib.Pointwise

@[expose] public section

set_option maxRecDepth 16384

noncomputable section

namespace Cert.Kernel6Ideal.Pool

open Idealize.ShloMosaic Idealize.ShloMosaic.TcCoe Idealize.SL.Sem
open Idealize.ShloMosaic.Pipeline (Dat)
open Cert.Kernel6Ideal Cert.Kernel6Ideal.Gen Cert.Scalars

variable (V : (c : Dev nD) → (b : Ref sig .tc) → Buf (Elt Ideal) ((c : Thread nD τ).loc b))

/-- The remainder by eight that the body computes of a grid coordinate. -/
def rem8 (i : ℕ) : BitVec 32 :=
  let q : BitVec 32 := Scalar.select (Scalar.cmpi .eq 8#32 0#32) 1#32 8#32
  let r : BitVec 32 := Scalar.remsi (BitVec.ofNat 32 i) q
  Scalar.select (Scalar.andi (Scalar.xori (Scalar.cmpi .slt r 0#32) (Scalar.cmpi .slt q 0#32)) (Scalar.cmpi .ne r 0#32)) (Scalar.addi r q) r

/-- The rows of gradients at point `t`: its block's, -/
def dA (c : Dev nD) (t : Fin cfg0.N) : FVec Ideal S256x1024 .f32 := k0_pay2 (iblk0 V c 0 t)
/-- and those after it. -/
def dB (c : Dev nD) (t : Fin cfg0.N) : FVec Ideal S32x1024 .f32 := k0_pay3 (grid0.coords t) (iblk0 V c 1 t)

/-- The stores that fill the scratch block. -/
def dsL (c : Dev nD) (t : Fin cfg0.N) : List (View.Piece (Elt Ideal) S288x1024 .f32) :=
  [⟨Rect.unit ![256, 0] ![32, 1024] inb_S288x1024_S32x1024_256_0, dB V c t⟩,
    ⟨Rect.unit ![0, 0] ![256, 1024] inb_S288x1024_S256x1024_0_0, dA V c t⟩]

/-- How many taps the tiles of a group of 128 lanes sum. -/
def live (g : ℕ) : ℕ := 2 ^ (g / 2 % 4 + 1)

/-- The shift of the tap handled at place `p`. -/
def sh (g p : ℕ) : ℕ := if g / 2 % 4 = 3 then p % 16 / 2 + 8 * (p % 2) else p % 16

/-- Where the rows of tile `n` (of 8 groups of lanes, 4 groups of rows) lie in the scratch block. -/
def toff (n : ℕ) : Fin 2 → ℕ := ![64 * (n % 4), 128 * (n / 4 % 8)]

theorem tinb (n : ℕ) : ∀ a, toff n a + (![96, 128] : Fin 2 → ℕ) a ≤ S288x1024.size a :=
  Fin.forall_fin_two.mpr ⟨show 64 * (n % 4) + 96 ≤ 288 by omega, show 128 * (n / 4 % 8) + 128 ≤ 1024 by omega⟩

theorem xinb (n : ℕ) : ∀ a, toff n a + (![64, 128] : Fin 2 → ℕ) a ≤ (⟨2, ![256, 1024]⟩ : Shape).size a :=
  Fin.forall_fin_two.mpr ⟨show 64 * (n % 4) + 64 ≤ 256 by omega, show 128 * (n / 4 % 8) + 128 ≤ 1024 by omega⟩

theorem sh_lt (g p : ℕ) : sh g p < 16 := by unfold sh; split <;> omega

/-- Where the tap of place `p` of tile `n` lies in the taps. -/
def woff (n p : ℕ) : Fin 2 → ℕ := ![15 - sh (n / 4 % 8) p, 128 * (n / 4 % 8)]

theorem winb (n p : ℕ) : ∀ a, woff n p a + (![1, 128] : Fin 2 → ℕ) a ≤ S16x1024.size a :=
  Fin.forall_fin_two.mpr ⟨show 15 - sh (n / 4 % 8) p + 1 ≤ 16 by omega, show 128 * (n / 4 % 8) + 128 ≤ 1024 by omega⟩

/-- A tile's rows moved up by `s`. -/
def lifted (s : ℕ) (x : FVec Ideal S96x128 .f32) : FVec Ideal S96x128 .f32 :=
  if s = 0 then x else dynamicRotate 0 (BitVec.ofNat 32 (96 - s)) none x rotates_S96x128_d0

/-- Tile `n` of the scratch block that the stores `A` filled. -/
def tile (v : View sig .tc .vmem S288x1024 .f32) (A : List (View.Piece (Elt Ideal) S288x1024 .f32)) (n : ℕ) : FVec Ideal S96x128 .f32 :=
  v.readCov (Val := Elt Ideal) A (Rect.unit (s := S288x1024) (toff n) ![96, 128] (tinb n)).toLoadRect

theorem slc (o : ℕ) (h : o ≤ 32) : Shape.Slices S96x128 (![o, 0] : Fin 2 → ℕ) S64x128 := by
  have : ∀ k : Fin 33, Shape.Slices S96x128 (![(k : ℕ), 0] : Fin 2 → ℕ) S64x128 := by decide
  exact this ⟨o, by omega⟩

/-- The first `p` taps of tile `n`. -/
def acc (W : FVec Ideal S16x1024 .f32) (d : FVec Ideal S96x128 .f32) (n : ℕ) : ℕ → FVec Ideal S64x128 .f32
  | 0 => broadcast S64x128 (Scalar.ofBits (F := Ideal) .f32 0x00000000#32)
  | p + 1 => addf (F := Ideal) (φ := .f32) (acc W d n p) (mulf (F := Ideal) (φ := .f32)
      (broadcastTo S64x128 (shapeCast S1x128 (View.ld (Val := Elt Ideal) (e' := .f32) W (Rect.unit (s := S16x1024) (woff n p) ![1, 128] (winb n p))) shapeCasts_S1x128_S1x128) broadcasts_S1x128_S64x128)
      (extractStridedSlice S64x128 ![8 * (sh (n / 4 % 8) p / 8), 0] (lifted (sh (n / 4 % 8) p % 8) d) (slc _ (by have := sh_lt (n / 4 % 8) p; omega))))

theorem dx0 (c : Dev nD) (t : Fin cfg0.N) (y : S256x1024.Idx) :
    outsAt0 V c t y = View.canon (Val := Elt Ideal) (e := .bf16) (TileList.pieces toff xinb
      (fun n => truncf .bf16 (acc (iblk0 V c 2 t) (tile scM0_0.view (dsL V c t) n) n (live (n / 4 % 8))) bitsLt_bf16_f32) 32) y := by
  unfold outsAt0; frame_out
  refine congrFun (congrArg (View.canon (Val := Elt Ideal) (s := S256x1024) (e := .bf16)) ?_) y
  sl_kernel_rfl

/-- The scratch block: `A` above, `B` below, -/
def rowsD (A : FVec Ideal S256x1024 .f32) (B : FVec Ideal S32x1024 .f32) (a : ℕ) (l : Fin 1024) : EReal :=
  if h : a < 256 then A (ix2 (⟨a, h⟩ : Fin 256) l) else if h' : a < 288 then B (ix2 (⟨a - 256, by omega⟩ : Fin 32) l) else 0

/-- the same by its index. -/
def rowsDV (A : FVec Ideal S256x1024 .f32) (B : FVec Ideal S32x1024 .f32) : FVec Ideal S288x1024 .f32 := fun y => rowsD A B (y 0 : ℕ) (y 1)

theorem scrD (v : View sig .tc .vmem S288x1024 .f32) (A : FVec Ideal S256x1024 .f32) (B : FVec Ideal S32x1024 .f32) (r : Rect S288x1024) :
    v.readCov (Val := Elt Ideal) [⟨Rect.unit ![256, 0] ![32, 1024] inb_S288x1024_S32x1024_256_0, B⟩, ⟨Rect.unit ![0, 0] ![256, 1024] inb_S288x1024_S256x1024_0_0, A⟩]
      r.toLoadRect = View.ld (Val := Elt Ideal) (e' := .f32) (rowsDV A B) r := by
  rw [View.readCov_eq_canon']
  funext j
  show (View.canon (Val := Elt Ideal) (e := .f32) _ (r.emb j)) = rowsDV A B (r.emb j)
  generalize r.emb j = y
  have hc : ∃ p ∈ ([⟨Rect.unit ![256, 0] ![32, 1024] inb_S288x1024_S32x1024_256_0, B⟩, ⟨Rect.unit ![0, 0] ![256, 1024] inb_S288x1024_S256x1024_0_0, A⟩] : List (View.Piece (Elt Ideal) S288x1024 .f32)), y ∈ p.1.set := by
    have h0 : (y 0 : ℕ) < 288 := (y 0).isLt
    have h1 : (y 1 : ℕ) < 1024 := (y 1).isLt
    by_cases h : 256 ≤ (y 0 : ℕ)
    · exact ⟨_, List.mem_cons_self, (Rect.mem_set_unit (inb := inb_S288x1024_S32x1024_256_0)).mpr (Fin.forall_fin_two.mpr ⟨⟨h, by simpa using h0⟩, ⟨Nat.zero_le _, by simpa using h1⟩⟩)⟩
    · exact ⟨_, List.mem_cons_of_mem _ List.mem_cons_self, (Rect.mem_set_unit (inb := inb_S288x1024_S256x1024_0_0)).mpr (Fin.forall_fin_two.mpr ⟨⟨Nat.zero_le _, by simp; omega⟩, ⟨Nat.zero_le _, by simpa using h1⟩⟩)⟩
  canon_tiles x h using hc
  · have hx := (x 0).isLt
    show B x = rowsD A B _ _
    unfold rowsD
    rw [dif_neg (by omega), dif_pos (by omega)]
    blk_ext
  · show A x = rowsD A B _ _
    unfold rowsD
    rw [dif_pos (by omega)]
    blk_ext

theorem lifted_at (s : ℕ) (hs : s < 8) (x : FVec Ideal S96x128 .f32) (i : Fin 96) (l : Fin 128) (h : (i : ℕ) + s < 96) :
    lifted s x (ix2 i l) = x (ix2 (⟨(i : ℕ) + s, h⟩ : Fin 96) l) := by
  have hi := i.isLt
  have h8 : s = 0 ∨ s = 1 ∨ s = 2 ∨ s = 3 ∨ s = 4 ∨ s = 5 ∨ s = 6 ∨ s = 7 := by omega
  rcases h8 with rfl | rfl | rfl | rfl | rfl | rfl | rfl | rfl
  all_goals (pointwise [lifted]; blk_ext)

theorem slice_at (o : ℕ) (ho : o ≤ 32) (x : FVec Ideal S96x128 .f32) (h : Shape.Slices S96x128 (![o, 0] : Fin 2 → ℕ) S64x128) (a : Fin 64) (l : Fin 128) :
    extractStridedSlice S64x128 ![o, 0] x h (ix2 a l) = x (ix2 (⟨o + (a : ℕ), by omega⟩ : Fin 96) l) := by
  have ha := a.isLt
  pointwise

/-- The point's scratch rows. -/
def dsR (c : Dev nD) (t : Fin cfg0.N) : ℕ → Fin 1024 → EReal := rowsD (dA V c t) (dB V c t)

theorem tile_d (c : Dev nD) (t : Fin cfg0.N) (n : ℕ) (i : Fin 96) (l : Fin 128) : tile scM0_0.view (dsL V c t) n (ix2 i l)
    = dsR V c t (64 * (n % 4) + (i : ℕ)) ⟨128 * (n / 4 % 8) + (l : ℕ), by omega⟩ := by
  unfold tile dsL; rw [scrD]
  pointwise [rowsDV, dsR]
  rfl

/-- One term of the sum, at row `a` of the point's block and lane `l`. -/
def term (W : FVec Ideal S16x1024 .f32) (d : ℕ → Fin 1024 → EReal) (a : ℕ) (l : ℕ) (s : ℕ) : EReal :=
  if h : l < 1024 ∧ s < 16 then W (ix2 (⟨15 - s, by omega⟩ : Fin 16) (⟨l, h.1⟩ : Fin 1024)) * d (a + s) ⟨l, h.1⟩ else 0

theorem acc_at (c : Dev nD) (t : Fin cfg0.N) (n : ℕ) (a : Fin 64) (l : Fin 128) (p : ℕ) :
    acc (iblk0 V c 2 t) (tile scM0_0.view (dsL V c t) n) n p (ix2 a l)
      = (∑ q ∈ Finset.range p, term (iblk0 V c 2 t) (dsR V c t) (64 * (n % 4) + (a : ℕ)) (128 * (n / 4 % 8) + (l : ℕ)) (sh (n / 4 % 8) q) : EReal) := by
  induction p with
  | zero => rw [Finset.sum_range_zero]; pointwise [acc]
  | succ p ih =>
    have ha := a.isLt
    have hl := l.isLt
    have hs := sh_lt (n / 4 % 8) p
    rw [Finset.sum_range_succ, ← ih]
    show (acc _ _ n p (ix2 a l) + _ * _ : EReal) = _
    refine congrArg (fun q : EReal => _ + q) ?_
    unfold term
    rw [dif_pos (by omega)]
    refine congrArg₂ (fun p q : EReal => p * q) ?_ ?_
    · pointwise [woff]
      blk_ext
    · refine (slice_at _ (by omega) _ _ a l).trans ((lifted_at _ (by omega) _ _ l (by dsimp only; omega)).trans ((tile_d V c t _ _ l).trans ?_))
      dsimp only
      exact congrArg (dsR V c t · _) (by omega)

theorem sum_sh (f : ℕ → EReal) (g : ℕ) (hg : g < 8) : (∑ q ∈ Finset.range (live g), f (sh g q)) = ∑ s : Fin (live g), f (s : ℕ) := by
  rw [← Fin.sum_univ_eq_sum_range (fun q => f (sh g q)) (live g)]
  by_cases h : g / 2 % 4 = 3
  · have hl : live g = 16 := by unfold live; rw [h]; rfl
    rw [hl]
    have hsh : ∀ q : ℕ, sh g q = q % 16 / 2 + 8 * (q % 2) := fun q => if_pos h
    have hlt : ∀ q : Fin 16, (q : ℕ) % 16 / 2 + 8 * ((q : ℕ) % 2) < 16 := by decide
    have hb : Function.Bijective (fun q : Fin 16 => Fin.ofNat 16 ((q : ℕ) % 16 / 2 + 8 * ((q : ℕ) % 2))) := by decide
    refine Eq.trans (Finset.sum_congr rfl fun q _ => ?_) (hb.sum_comp (fun s : Fin 16 => f (s : ℕ)))
    rw [hsh]
    exact congrArg f (Nat.mod_eq_of_lt (hlt q)).symm
  · refine Finset.sum_congr rfl fun q _ => congrArg f ?_
    have h16 : live g ≤ 16 := by
      have : ∀ k : Fin 8, live (k : ℕ) ≤ 16 := by decide
      exact this ⟨g, hg⟩
    have hq := q.isLt
    exact (if_neg h).trans (Nat.mod_eq_of_lt (by omega))

/-- The value at row `a` of the point's block, lane `l`. -/
def dxP (W : FVec Ideal S16x1024 .f32) (d : ℕ → Fin 1024 → EReal) (a l : ℕ) : EReal := ∑ s : Fin (live (l / 128)), term W d a l (s : ℕ)

theorem pt (c : Dev nD) (t : Fin cfg0.N) (y : S256x1024.Idx) :
    outsAt0 V c t y = dxP (iblk0 V c 2 t) (dsR V c t) (y 0 : ℕ) (y 1 : ℕ) := by
  have h0 : (y 0 : ℕ) < 256 := (y 0).isLt
  have h1 : (y 1 : ℕ) < 1024 := (y 1).isLt
  refine (dx0 V c t y).trans ?_
  refine TileList.canon_pieces (e := .bf16) toff xinb _ (fun a l => (dxP (iblk0 V c 2 t) (dsR V c t) a l : EReal)) (fun n x => ?_) 32 y
    ⟨4 * ((y 1 : ℕ) / 128) + (y 0 : ℕ) / 64, by omega, ?_⟩
  · have hx : (x 1 : ℕ) < 128 := (x 1).isLt
    have e : (toff n 1 + (x 1 : ℕ)) / 128 = n / 4 % 8 := by
      show (128 * (n / 4 % 8) + (x 1 : ℕ)) / 128 = _
      omega
    unfold dxP
    dsimp only
    rw [e]
    refine Eq.trans ?_ ((acc_at V c t n (x 0) (x 1) _).trans (sum_sh _ _ (by omega)))
    exact congrArg (acc _ _ n _) (by blk_ext)
  · show (64 * _ ≤ _ ∧ _ < 64 * _ + 64) ∧ 128 * _ ≤ _ ∧ _ < 128 * _ + 128
    omega

/-- The gradient at row `r`, column `l`; zero outside. -/
def Yn (Y : FVec Ideal S4096x1024 .bf16) (r l : ℕ) : EReal :=
  if h : r < 4096 ∧ l < 1024 then Y (ix2 (⟨r, h.1⟩ : Fin 4096) (⟨l, h.2⟩ : Fin 1024)) else 0

/-- `g`'s row `s` after row `r` of the same sequence; zero after its end. -/
def ahead (g : ℕ → EReal) (s r : ℕ) : EReal := if r % 2048 + s < 2048 then g (r + s) else 0

/-- The windows' gradient at row `r`, column `l`, with the taps `W`. -/
def DBat (Y : FVec Ideal S4096x1024 .bf16) (W : FVec Ideal S16x1024 .f32) (r : ℕ) (l : Fin 1024) : EReal :=
  ∑ s : Fin (live ((l : ℕ) / 128)), W (ix2 (⟨15 - (s : ℕ), by omega⟩ : Fin 16) l) * ahead (Yn Y · (l : ℕ)) (s : ℕ) r

/-- The same as an array. -/
def DB (Y : FVec Ideal S4096x1024 .bf16) (W : FVec Ideal S16x1024 .f32) : FVec Ideal S4096x1024 .bf16 := fun y =>
  DBat Y W (y 0 : ℕ) (y 1)

theorem idx : ∀ t : Fin cfg0.N, win0_0.index t = ![t.val, 0] ∧ win0_2.index t = ![0, 0] ∧ win0_3.index t = ![t.val, 0] :=
  (by decide +kernel : ∀ t : Fin grid0.N, _)

theorem idxn : ∀ t : Fin cfg0.N, ¬ t.val % 8 = 7 → win0_1.index t = ![t.val * 8 + 8, 0] :=
  (by decide +kernel : ∀ t : Fin grid0.N, _)

theorem crd : ∀ t : Fin cfg0.N, (grid0.coords t 1 : ℕ) = t.val := (by decide +kernel : ∀ t : Fin grid0.N, _)

theorem foot (i : grid0.Coords) (x1 : FVec Ideal S32x1024 .bf16) (a : Fin 32) (l : Fin 1024) :
    k0_pay3 (F := Ideal) i x1 (ix2 a l) = if (i 1 : ℕ) % 8 = 7 then 0 else x1 (ix2 a l) := by
  have hi : (i 1 : ℕ) < 16 := (i 1).isLt
  have hc : ∀ k : Fin 16, Scalar.cmpi .eq (rem8 (k : ℕ)) 7#32 = if (k : ℕ) % 8 = 7 then 1#1 else 0#1 := by decide +kernel
  have e : k0_pay3 (F := Ideal) i x1 (ix2 a l) = if Scalar.cmpi .eq (rem8 (i 1 : ℕ)) 7#32 = 1#1 then 0 else x1 (ix2 a l) := by
    pointwise [k0_pay3]
    rfl
  rw [e, hc ⟨(i 1 : ℕ), hi⟩]
  by_cases h : (i 1 : ℕ) % 8 = 7
  · rw [if_pos h, if_pos h, if_pos rfl]
  · rw [if_neg h, if_neg h, if_neg (by decide)]

theorem ds (c : Dev nD) (t : Fin cfg0.N) (k : ℕ) (hk : k < 288) (l : Fin 1024) :
    dsR V c t k l = if 256 ≤ k ∧ t.val % 8 = 7 then 0 else Yn (V c main_arg2) (256 * t.val + k) (l : ℕ) := by
  have ht : t.val < 16 := lt_of_lt_of_eq t.isLt N_0
  have hl := l.isLt
  unfold dsR rowsD
  by_cases h : k < 256
  · rw [dif_pos h, if_neg (by omega), Yn, dif_pos (by omega), dA]
    pointwise [k0_pay2]
    blk_point [iblk0, idx t]
  · rw [dif_neg h, dif_pos hk, dB, foot, crd]
    by_cases h2 : t.val % 8 = 7
    · rw [if_pos h2, if_pos (by omega)]
    · rw [if_neg h2, if_neg (fun h' => h2 h'.2), Yn, dif_pos (by omega)]
      blk_point [iblk0, idxn t h2, idx t]

theorem ahead_of (g : ℕ → EReal) (i a s : ℕ) (hs : s ≤ 32) (ha : a < 256) :
    (if 256 ≤ a + s ∧ i % 8 = 7 then 0 else g (256 * i + (a + s))) = ahead g s (256 * i + a) := by
  unfold ahead
  by_cases h : 256 ≤ a + s ∧ i % 8 = 7
  · rw [if_pos h, if_neg (by omega)]
  · rw [if_neg h, if_pos (by omega)]
    exact congrArg g (by omega)

theorem live_le (g : ℕ) : live g ≤ 16 := by
  unfold live
  have : ∀ k : Fin 4, 2 ^ ((k : ℕ) + 1) ≤ 16 := by decide
  exact this ⟨g / 2 % 4, by omega⟩

theorem core (c : Dev nD) (t : Fin cfg0.N) (a l : ℕ) (r : ℕ) (q : Fin 1024) (h0 : a < 256)
    (hr : r = 256 * t.val + a) (hq : (q : ℕ) = l) :
    dxP (iblk0 V c 2 t) (dsR V c t) a l = DBat (V c main_arg2) (V c main_v28) r q := by
  have ht : t.val < 16 := lt_of_lt_of_eq t.isLt N_0
  subst hq
  have hq := q.isLt
  unfold dxP DBat
  refine Finset.sum_congr rfl fun s _ => ?_
  have hs := s.isLt
  have hs' := live_le ((q : ℕ) / 128)
  unfold term
  rw [dif_pos (by omega), ds V c t _ (by omega)]
  refine congrArg₂ (fun p q : EReal => p * q) ?_ ?_
  · blk_ext [iblk0, idx t]
  · dsimp only
    rw [ahead_of (Yn (V c main_arg2) · (q : ℕ)) _ a (s : ℕ) (by omega) h0, ← hr]

theorem db (c : Dev nD) : (dat0 V c).arrAt 3 cfg0.N = DB (V c main_arg2) (V c main_v28) := by
  refine (dat0 V c).arrAt_eq_of_covers 3 _ (by decide +kernel) fun t _ y => ?_
  have ht : t.val < 16 := lt_of_lt_of_eq t.isLt N_0
  blk_simp
  rw [after0_3, pt]
  refine core V c t _ _ _ _ (y 0).isLt ?_ ?_
  all_goals (blk_simp [idx t] <;> try omega)

end Cert.Kernel6Ideal.Pool

end
-- ==== Proof.PoolTaps.lean ====
/- The taps that the host writes for the pooling mixer's window sums. -/
module

public import proofs.«01_k».proof.Proof.PoolG
public import Idealize.ShloMosaic.Lib.StableHlo.ReadAt

@[expose] public section

set_option maxRecDepth 16384

noncomputable section

namespace Cert.Kernel6Ideal.Pool

open Idealize.ShloMosaic Idealize.ShloMosaic.TcCoe Idealize.SL.Sem
open Cert.Kernel6Ideal Cert.Kernel6Ideal.Gen Cert.Scalars

variable (m : (ℓ : Loc nD τ sig) → Buf (Elt Ideal) ℓ) (ρ : Dev nD → PrngReg)

/-- Every tap that a tile sums is one. -/
theorem taps (c : Dev nD) (k : Fin 16) (l : Fin 1024) (h : 16 ≤ (k : ℕ) + live ((l : ℕ) / 128)) :
    V1 m ρ c main_v28 (ix2 k l) = (1 : EReal) := by
  have hk := k.isLt
  have hl := l.isLt
  unfold V1 W1 hostOps0
  after_reads_simp
  generalize W0 m ρ c = F
  dsimp only [Matrix.cons_val, Matrix.cons_val_zero, Matrix.cons_val_one]
  after_reads_simp
  all_goals try simp -implicitDefEqProofs only [StableHlo.TRef.toBuf, StableHlo.TRef.ofBuf, cast_cast, cast_eq]
  clean_types
  pointwise
  after_reads_simp
  pointwise
  unfold live at h
  have q : (l : ℕ) / 128 / 2 % 4 = 0 ∧ (l : ℕ) < 256 ∨ (l : ℕ) / 128 / 2 % 4 = 1 ∧ ¬ (l : ℕ) < 256 ∧ (l : ℕ) < 512
      ∨ (l : ℕ) / 128 / 2 % 4 = 2 ∧ ¬ (l : ℕ) < 512 ∧ (l : ℕ) < 768 ∨ (l : ℕ) / 128 / 2 % 4 = 3 ∧ ¬ (l : ℕ) < 768 := by omega
  rcases q with ⟨q, h1⟩ | ⟨q, h1, h2⟩ | ⟨q, h1, h2⟩ | ⟨q, h1⟩
  all_goals
    rw [q] at h
    norm_num at h
    split_ifs
    all_goals first | omega | rfl

end Cert.Kernel6Ideal.Pool

end
-- ==== Proof.PoolRun.lean ====
/- The gradient of the pooling mixer's wide input: its call, the run of both calls, and what the result holds. -/
module

public import proofs.«01_k».proof.Proof.PoolTaps

@[expose] public section

set_option maxRecDepth 16384

noncomputable section

namespace Cert.Kernel6Ideal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen Cert.Scalars

local notation "𝕄" => MT nD τ sig Unit (Elt Ideal) ℕ (UR sig nD τ) ℕ

section

variable (V : (c : Dev nD) → (b : Ref sig .tc) → Buf (Elt Ideal) ((c : Thread nD τ).loc b))

/-- The gradient of the wide input: of the gated factor, of the gate, of the pooled rows. -/
def DU (U : FVec Ideal S4096x3072 .bf16) (A B M : FVec Ideal S4096x1024 .bf16) : FVec Ideal S4096x3072 .bf16 := fun y =>
  if h : (y 1 : ℕ) < 1024 then A (ix2 (y 0) (⟨(y 1 : ℕ), h⟩ : Fin 1024)) * sgmT (U (ix2 (y 0) (⟨(y 1 : ℕ) + 1024, by omega⟩ : Fin 3072)))
  else if h' : (y 1 : ℕ) < 2048 then
    A (ix2 (y 0) (⟨(y 1 : ℕ) - 1024, by omega⟩ : Fin 1024)) * U (ix2 (y 0) (⟨(y 1 : ℕ) - 1024, by omega⟩ : Fin 3072)) * sgmT (U (ix2 (y 0) (y 1)))
      * (1 - sgmT (U (ix2 (y 0) (y 1))))
  else B (ix2 (y 0) (⟨(y 1 : ℕ) - 2048, by have : (y 1 : ℕ) < 3072 := (y 1).isLt; omega⟩ : Fin 1024))
    - M (ix2 (y 0) (⟨(y 1 : ℕ) - 2048, by have : (y 1 : ℕ) < 3072 := (y 1).isLt; omega⟩ : Fin 1024))

theorem idx1 : ∀ t : Fin cfg1.N, win1_0.index t = ![t.val, 0] ∧ win1_1.index t = ![t.val, 0]
    ∧ win1_2.index t = ![t.val, 0] ∧ win1_3.index t = ![t.val, 0] ∧ win1_4.index t = ![t.val, 0] :=
  (by decide +kernel : ∀ t : Fin grid1.N, _)

theorem sg_at (x : FVec Ideal S256x1024 .bf16) (i : S256x1024.Idx) : k1_pay1 (F := Ideal) x i = sgmT (x i) := rfl

theorem core1 (c : Dev nD) (t : Fin cfg1.N) (y : S256x3072.Idx) (i : S4096x3072.Idx) (h0 : (i 0 : ℕ) = 256 * t.val + (y 0 : ℕ)) (h1 : (i 1 : ℕ) = (y 1 : ℕ)) :
    out1_4 (iblk1 V c 0 t) (iblk1 V c 1 t) (iblk1 V c 2 t) (iblk1 V c 3 t) y
      = DU (V c main_arg0) (V c main_arg1) (V c main_v29) (V c main_arg3) i := by
  have hy := (y 1).isLt
  unfold out1_4
  canon_tiles x h
  · have hx : (x 1 : ℕ) < 1024 := (x 1).isLt
    unfold DU
    rw [dif_neg (by omega), dif_neg (by omega)]
    pointwise [k1_pay5]
    blk_point [iblk1, idx1 t]
  · have hx : (x 1 : ℕ) < 1024 := (x 1).isLt
    unfold DU
    rw [dif_neg (by omega), dif_pos (by omega)]
    show (_ * _ * k1_pay1 (F := Ideal) _ x * (_ - k1_pay1 (F := Ideal) _ x) : EReal) = _
    rw [sg_at]
    pointwise
    refine congrArg₂ (fun p q : EReal => p * sgmT q * (1 - sgmT q)) ?_ ?_
    · blk_point [iblk1, idx1 t]
    · blk_ext [iblk1, idx1 t]
  · have hx : (x 1 : ℕ) < 1024 := (x 1).isLt
    unfold DU
    rw [dif_pos (by omega)]
    show (_ * k1_pay1 (F := Ideal) _ x : EReal) = _
    rw [sg_at]
    refine congrArg₂ (fun p q : EReal => p * sgmT q) ?_ ?_
    · pointwise [k1_pay2]
      blk_point [iblk1, idx1 t]
    · pointwise
      blk_ext [iblk1, idx1 t]

theorem du (c : Dev nD) : (dat1 V c).arrAt 4 cfg1.N = DU (V c main_arg0) (V c main_arg1) (V c main_v29) (V c main_arg3) := by
  refine (dat1 V c).arrAt_eq_of_covers 4 _ (by decide +kernel) fun t _ y => ?_
  blk_simp
  rw [after1_4]
  refine core1 V c t y _ ?_ ?_
  all_goals (blk_simp [idx1 t] <;> try omega)

end

variable (m : (ℓ : Loc nD τ sig) → Buf (Elt Ideal) ℓ) (ρ : Dev nD → PrngReg)

set_option backward.isDefEq.respectTransparency.types false in
/-- Every buffer that outlives the run ends at the last boundary's contents. -/
theorem run_all : θ_run defs (onTc (τ := τ) (main (F := Ideal))) ⟨m, fun _ => 0, ρ⟩ (fun r =>
      ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The windows' gradient: the sum of the rows ahead. -/
def DS (Y : FVec Ideal S4096x1024 .bf16) : FVec Ideal S4096x1024 .bf16 := fun y =>
  ∑ s : Fin (live ((y 1 : ℕ) / 128)), ahead (Yn Y · (y 1 : ℕ)) (s : ℕ) (y 0 : ℕ)

theorem entry_db (c : Dev nD) : V2 m ρ c main_v29 = DS (m ((c : Thread nD τ).loc main_arg2)) := by
  refine (hF0 m ρ c 3).symm.trans ((db (V1 m ρ) c).trans ?_)
  rw [show V1 m ρ c main_arg2 = m ((c : Thread nD τ).loc main_arg2) from W1_args m ρ c main_arg2 (by decide)]
  funext y
  unfold DB DBat DS
  refine Finset.sum_congr rfl fun s _ => ?_
  have hs := s.isLt
  have hl := live_le ((y 1 : ℕ) / 128)
  rw [taps m ρ c _ (y 1) (by dsimp only; omega), one_mul]

/-- The result and the arguments after the run. -/
theorem run : θ_run defs (onTc (τ := τ) (main (F := Ideal))) ⟨m, fun _ => 0, ρ⟩ (fun r => ∀ c : Dev nD,
      r.2.mem ((c.tc : Thread nD τ).loc main_v30) = DU (m ((c : Thread nD τ).loc main_arg0)) (m ((c : Thread nD τ).loc main_arg1))
          (DS (m ((c : Thread nD τ).loc main_arg2))) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_all m ρ)
  refine ⟨?_, (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩
  refine (h c _ (mem_uc main_v30 (by decide))).trans ((hF1 m ρ c 4).symm.trans ((du (V2 m ρ) c).trans ?_))
  rw [show V2 m ρ c main_arg0 = m ((c : Thread nD τ).loc main_arg0) from W2_args m ρ c main_arg0 (by decide),
    show V2 m ρ c main_arg1 = m ((c : Thread nD τ).loc main_arg1) from W2_args m ρ c main_arg1 (by decide),
    show V2 m ρ c main_arg3 = m ((c : Thread nD τ).loc main_arg3) from W2_args m ρ c main_arg3 (by decide), entry_db]

end Cert.Kernel6Ideal.Pool

end
-- ==== Proof.WindowSum.lean ====
/- A host window sum over the second of three axes, every window reaching to the axis's end or from its start: a cumulative sum. -/
module

public import Idealize.ShloMosaic.Lib.Pointwise
public import Idealize.ShloMosaic.Lib.IdealHost

@[expose] public section

noncomputable section

namespace Cert.WindowSum

open Idealize.ShloMosaic

theorem foldl_sum {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The positions of a window that is one wide but for its second axis. -/
def pos (N : ℕ) : Shape.Idx ⟨3, ![1, N, 1]⟩ ≃ Fin N where
  toFun i := ⟨(i 1 : ℕ), (i 1).isLt⟩
  invFun k := ix3 0 k 0
  left_inv i := by
    funext b
    match b with
    | ⟨0, _⟩ => exact Fin.ext (by have : (i 0 : ℕ) < 1 := (i 0).isLt; show 0 = (i 0 : ℕ); omega)
    | ⟨1, _⟩ => rfl
    | ⟨2, _⟩ => exact Fin.ext (by have : (i 2 : ℕ) < 1 := (i 2).isLt; show 0 = (i 2 : ℕ); omega)
  right_inv k := rfl

/-- From a zero initial value: the sum of the rows from `i` on. -/
theorem toEnd {n0 N n2 e : ℕ} (h : Shape.ReduceWindows ⟨3, ![n0, N, n2]⟩ ![1, N, 1] ![1, 1, 1] ![0, 0, 0] ![0, e, 0] ⟨3, ![n0, N, n2]⟩)
    (x : Shape.Idx ⟨3, ![n0, N, n2]⟩ → EReal) (v : EReal) (hv : v = 0) (a : Fin n0) (i : Fin N) (c : Fin n2) :
    Ideal.hostReduceWindowAdd ![1, N, 1] ![1, 1, 1] ![0, 0, 0] ![0, e, 0] h x v (ix3 a i c)
      = ∑ k : Fin N, if hk : (i : ℕ) + (k : ℕ) < N then x (ix3 a ⟨(i : ℕ) + (k : ℕ), hk⟩ c) else 0 := by
  subst hv
  unfold Ideal.hostReduceWindowAdd Host.reduceWindow
  dsimp only
  rw [foldl_sum, zero_add, ← Fin.sum_univ_def]
  refine ((Equiv.sum_comp (Shape.rowMajor (⟨3, ![1, N, 1]⟩ : Shape)) _).symm.trans (Equiv.sum_comp (pos N).symm _).symm).trans ?_
  refine Finset.sum_congr rfl fun k _ => ?_
  simp only [Equiv.symm_apply_apply]
  have ha := a.isLt
  have hc := c.isLt
  by_cases hk : (i : ℕ) + (k : ℕ) < N
  · rw [dif_pos hk, dif_pos]
    · refine congrArg x ?_
      funext b
      match b with
      | ⟨0, _⟩ => exact Fin.ext (show (a : ℕ) * 1 + 0 - 0 = a by omega)
      | ⟨1, _⟩ => exact Fin.ext (show (i : ℕ) * 1 + (k : ℕ) - 0 = i + k by omega)
      | ⟨2, _⟩ => exact Fin.ext (show (c : ℕ) * 1 + 0 - 0 = c by omega)
    · intro b
      match b with
      | ⟨0, _⟩ => exact (show 0 ≤ (a : ℕ) * 1 + 0 ∧ (a : ℕ) * 1 + 0 - 0 < n0 by omega)
      | ⟨1, _⟩ => exact (show 0 ≤ (i : ℕ) * 1 + (k : ℕ) ∧ (i : ℕ) * 1 + (k : ℕ) - 0 < N by omega)
      | ⟨2, _⟩ => exact (show 0 ≤ (c : ℕ) * 1 + 0 ∧ (c : ℕ) * 1 + 0 - 0 < n2 by omega)
  · rw [dif_neg hk, dif_neg]
    intro hin
    have h1 : 0 ≤ (i : ℕ) * 1 + (k : ℕ) ∧ (i : ℕ) * 1 + (k : ℕ) - 0 < N := hin 1
    omega

/-- The same with every window from the axis's start: the sum of the rows up to `i`. -/
theorem fromStart {n0 N n2 e : ℕ} (he : e + 1 = N) (h : Shape.ReduceWindows ⟨3, ![n0, N, n2]⟩ ![1, N, 1] ![1, 1, 1] ![0, e, 0] ![0, 0, 0] ⟨3, ![n0, N, n2]⟩)
    (x : Shape.Idx ⟨3, ![n0, N, n2]⟩ → EReal) (v : EReal) (hv : v = 0) (a : Fin n0) (i : Fin N) (c : Fin n2) :
    Ideal.hostReduceWindowAdd ![1, N, 1] ![1, 1, 1] ![0, e, 0] ![0, 0, 0] h x v (ix3 a i c)
      = ∑ k : Fin N, if hk : (k : ℕ) ≤ (i : ℕ) then x (ix3 a ⟨(i : ℕ) - (k : ℕ), by omega⟩ c) else 0 := by
  subst hv
  unfold Ideal.hostReduceWindowAdd Host.reduceWindow
  dsimp only
  rw [foldl_sum, zero_add, ← Fin.sum_univ_def]
  refine ((Equiv.sum_comp (Shape.rowMajor (⟨3, ![1, N, 1]⟩ : Shape)) _).symm.trans (Equiv.sum_comp (pos N).symm _).symm).trans ?_
  rw [← Equiv.sum_comp Fin.revPerm]
  refine Finset.sum_congr rfl fun k _ => ?_
  simp only [Equiv.symm_apply_apply]
  have ha := a.isLt
  have hi := i.isLt
  have hk' := k.isLt
  have hc := c.isLt
  have hr : ((Fin.revPerm k : Fin N) : ℕ) = e - (k : ℕ) := by
    show N - ((k : ℕ) + 1) = _
    omega
  by_cases hk : (k : ℕ) ≤ (i : ℕ)
  · rw [dif_pos hk, dif_pos]
    · refine congrArg x ?_
      funext b
      match b with
      | ⟨0, _⟩ => exact Fin.ext (show (a : ℕ) * 1 + 0 - 0 = a by omega)
      | ⟨1, _⟩ => exact Fin.ext (show (i : ℕ) * 1 + ((Fin.revPerm k : Fin N) : ℕ) - e = i - k by omega)
      | ⟨2, _⟩ => exact Fin.ext (show (c : ℕ) * 1 + 0 - 0 = c by omega)
    · intro b
      match b with
      | ⟨0, _⟩ => exact (show 0 ≤ (a : ℕ) * 1 + 0 ∧ (a : ℕ) * 1 + 0 - 0 < n0 by omega)
      | ⟨1, _⟩ => exact (show e ≤ (i : ℕ) * 1 + ((Fin.revPerm k : Fin N) : ℕ) ∧ (i : ℕ) * 1 + ((Fin.revPerm k : Fin N) : ℕ) - e < N by omega)
      | ⟨2, _⟩ => exact (show 0 ≤ (c : ℕ) * 1 + 0 ∧ (c : ℕ) * 1 + 0 - 0 < n2 by omega)
  · rw [dif_neg hk, dif_neg]
    intro hin
    have h1 : e ≤ (i : ℕ) * 1 + ((Fin.revPerm k : Fin N) : ℕ) ∧ (i : ℕ) * 1 + ((Fin.revPerm k : Fin N) : ℕ) - e < N := hin 1
    omega

end Cert.WindowSum

end
-- ==== Proof.PoolRef.lean ====
/- The pooling mixer's pair: what the reference's gradient is, element by element. -/
module

public import proofs.«01_k».proof.Proof.Gen.Reference6Ideal.Read
public import proofs.«01_k».proof.Proof.Gen.Pre_finite6
public import proofs.«01_k».proof.Proof.PoolRun
public import proofs.«01_k».proof.Proof.WindowSum
public import proofs.«01_k».proof.Proof.Finite
public import proofs.«01_k».proof.Proof.HostSum
public import Idealize.ShloMosaic.Lib.Pointwise

@[expose] public section

set_option maxRecDepth 16384

noncomputable section

namespace Cert.Reference6Ideal.Pool

open Idealize.ShloMosaic Cert.Scalars
open Cert.Reference6Ideal Cert.Reference6Ideal.Read
open Cert.Kernel6Ideal.Pool (Yn ahead DS DU live)

/-- From real numbers: the sum to the end of what each row has more than the one `w` after it is the sum of `w` rows. -/
theorem telescope (N w i : ℕ) (f : ℕ → EReal) (hf : ∀ j, IsReal (f j)) :
    (∑ k : Fin N, if i + (k : ℕ) < N then f (i + (k : ℕ)) + (if i + (k : ℕ) + w < N then - f (i + (k : ℕ) + w) else 0) else 0)
      = ∑ s : Fin w, if i + (s : ℕ) < N then f (i + (s : ℕ)) else 0 := by
  choose g hg using hf
  let e : ℕ → ℝ := fun j => if j < N then g j else 0
  have hl : ∀ k : Fin N, (if i + (k : ℕ) < N then f (i + (k : ℕ)) + (if i + (k : ℕ) + w < N then - f (i + (k : ℕ) + w) else 0) else 0)
      = ((e (i + (k : ℕ)) - e (i + (w + (k : ℕ))) : ℝ) : EReal) := by
    intro k
    rw [show i + (w + (k : ℕ)) = i + (k : ℕ) + w by omega]
    dsimp only [e]
    by_cases h1 : i + (k : ℕ) < N
    · by_cases h2 : i + (k : ℕ) + w < N
      · rw [if_pos h1, if_pos h2, if_pos h1, if_pos h2, hg, hg]
        norm_cast
      · rw [if_pos h1, if_neg h2, if_pos h1, if_neg h2, hg]
        norm_cast
        rw [sub_zero, add_zero]
    · rw [if_neg h1, if_neg h1, if_neg (by omega)]
      norm_cast
  have hr : ∀ s : Fin w, (if i + (s : ℕ) < N then f (i + (s : ℕ)) else 0) = ((e (i + (s : ℕ)) : ℝ) : EReal) := by
    intro s
    dsimp only [e]
    by_cases h1 : i + (s : ℕ) < N
    · rw [if_pos h1, if_pos h1, hg]
    · rw [if_neg h1, if_neg h1]
      norm_cast
  rw [Finset.sum_congr rfl fun k _ => hl k, Finset.sum_congr rfl fun s _ => hr s, ← coe_sum, ← coe_sum]
  refine congrArg _ ?_
  rw [Fin.sum_univ_eq_sum_range (fun k => e (i + k) - e (i + (w + k))) N, Fin.sum_univ_eq_sum_range (fun k => e (i + k)) w,
    Finset.sum_sub_distrib]
  have h1 := Finset.sum_range_add (fun k => e (i + k)) w N
  have h2 := Finset.sum_range_add (fun k => e (i + k)) N w
  rw [Nat.add_comm w N, h2] at h1
  have h3 : (∑ x ∈ Finset.range w, e (i + (N + x))) = 0 := by
    refine Finset.sum_eq_zero fun x _ => ?_
    dsimp only [e]
    rw [if_neg (by omega)]
  rw [h3, add_zero] at h1
  rw [h1]
  ring

variable (U : FVec Ideal S4096x3072 .bf16) (A B M : FVec Ideal S4096x1024 .bf16)

theorem zero32 : (FloatOps.ofBits (F := Ideal) .f32 0x00000000#32 : EReal) = 0 := Ideal.ofBits_zero .f32

set_option maxHeartbeats 1000000 in
/-- The gradient of the cumulative sums, with the lags taken off. -/
theorem lags (a : Fin 2) (i : Fin 2048) (l : Fin 1024) : val_main_v63 (F := Ideal) B (ix3 a i l)
    = Yn B (2048 * (a : ℕ) + (i : ℕ)) (l : ℕ) + (if (i : ℕ) + live ((l : ℕ) / 128) < 2048 then
        - Yn B (2048 * (a : ℕ) + ((i : ℕ) + live ((l : ℕ) / 128))) (l : ℕ) else 0) := by
  have ha := a.isLt
  have hi := i.isLt
  have hl := l.isLt
  pointwise [val_main_v63, val_main_v62, val_main_v61, val_main_v59, val_main_v58, val_main_v57, val_main_v55, val_main_v54, val_main_v53,
    val_main_v51, val_main_v50, val_main_v49, val_main_v47, val_main_v46, val_main_v45, val_main_v44, val_main_v43, val_main_v42, val_main_v38,
    val_main_cst_11, val_main_cst_12, val_main_cst_13, val_main_cst_14]
  have q : (l : ℕ) < 256 ∧ live ((l : ℕ) / 128) = 2 ∨ (256 ≤ (l : ℕ) ∧ (l : ℕ) < 512) ∧ live ((l : ℕ) / 128) = 4
      ∨ (512 ≤ (l : ℕ) ∧ (l : ℕ) < 768) ∧ live ((l : ℕ) / 128) = 8 ∨ 768 ≤ (l : ℕ) ∧ live ((l : ℕ) / 128) = 16 := by
    unfold live
    have q' : (l : ℕ) / 128 / 2 % 4 = 0 ∧ (l : ℕ) < 256 ∨ (l : ℕ) / 128 / 2 % 4 = 1 ∧ 256 ≤ (l : ℕ) ∧ (l : ℕ) < 512
        ∨ (l : ℕ) / 128 / 2 % 4 = 2 ∧ 512 ≤ (l : ℕ) ∧ (l : ℕ) < 768 ∨ (l : ℕ) / 128 / 2 % 4 = 3 ∧ 768 ≤ (l : ℕ) := by omega
    rcases q' with ⟨q, h1⟩ | ⟨q, h1⟩ | ⟨q, h1⟩ | ⟨q, h1⟩
    · exact .inl ⟨h1, by rw [q]; rfl⟩
    · exact .inr (.inl ⟨h1, by rw [q]; rfl⟩)
    · exact .inr (.inr (.inl ⟨h1, by rw [q]; rfl⟩))
    · exact .inr (.inr (.inr ⟨h1, by rw [q]; rfl⟩))
  unfold Yn
  rcases q with ⟨h, w⟩ | ⟨h, w⟩ | ⟨h, w⟩ | ⟨h, w⟩
  all_goals
    rw [w]
    split_ifs
    all_goals first
      | (exfalso; omega)
      | (simp only [add_zero]; blk_ext)
      | (simp only [add_zero]
         refine congrArg₂ (fun p q : EReal => p + -q) ?_ ?_
         all_goals blk_ext)

/-- Their sums to the end. -/
theorem cums (a : Fin 2) (i : Fin 2048) (l : Fin 1024) : val_main_v64 (F := Ideal) B (ix3 a i l)
    = ∑ k : Fin 2048, if hk : (i : ℕ) + (k : ℕ) < 2048 then val_main_v63 (F := Ideal) B (ix3 a ⟨(i : ℕ) + (k : ℕ), hk⟩ l) else 0 := by
  unfold val_main_v64 Host.reduceWindowAdd
  rw [Ideal.hostReduceWindowAdd_def]
  generalize val_main_v63 (F := Ideal) B = x
  exact Cert.WindowSum.toEnd _ x _ zero32 a i l

/-- The gradient of the windows' rows: the sum of the rows ahead. -/
theorem windows (hB : ∀ i, IsReal (B i)) (y : S4096x1024.Idx) : val_main_v65 (F := Ideal) B y = DS B y := by
  have h0 : (y 0 : ℕ) < 4096 := (y 0).isLt
  have h1 : (y 1 : ℕ) < 1024 := (y 1).isLt
  rw [val_main_v65_apply]
  have e : idx_main_v65 y = ix3 (⟨(y 0 : ℕ) / 2048, by omega⟩ : Fin 2) (⟨(y 0 : ℕ) % 2048, by omega⟩ : Fin 2048) (⟨(y 1 : ℕ), h1⟩ : Fin 1024) := by
    funext b
    match b with
    | ⟨0, _⟩ => exact Fin.ext (show ((y 0).val * 1024 + (y 1).val) / 2097152 = (y 0 : ℕ) / 2048 by omega)
    | ⟨1, _⟩ => exact Fin.ext (show ((y 0).val * 1024 + (y 1).val) / 1024 % 2048 = (y 0 : ℕ) % 2048 by omega)
    | ⟨2, _⟩ => exact Fin.ext (show ((y 0).val * 1024 + (y 1).val) % 1024 = (y 1 : ℕ) by omega)
  rw [e, cums]
  dsimp only
  have hY : ∀ j, IsReal (Yn B (2048 * ((y 0 : ℕ) / 2048) + j) (y 1 : ℕ)) := by
    intro j
    unfold Yn
    split
    · exact hB _
    · exact ⟨0, by norm_cast⟩
  have t := telescope 2048 (live ((y 1 : ℕ) / 128)) ((y 0 : ℕ) % 2048) (fun j => Yn B (2048 * ((y 0 : ℕ) / 2048) + j) (y 1 : ℕ)) hY
  refine Eq.trans ?_ (t.trans ?_)
  · refine Finset.sum_congr rfl fun k _ => ?_
    by_cases hk : (y 0 : ℕ) % 2048 + (k : ℕ) < 2048
    · rw [dif_pos hk, if_pos hk, lags]
    · rw [dif_neg hk, if_neg hk]
  · unfold DS
    refine Finset.sum_congr rfl fun s _ => ?_
    unfold ahead
    refine if_congr Iff.rfl ?_ rfl
    dsimp only
    rw [show 2048 * ((y 0 : ℕ) / 2048) + ((y 0 : ℕ) % 2048 + (s : ℕ)) = (y 0 : ℕ) + (s : ℕ) by omega]

/-- The reference's result is the kernel's. -/
theorem duref (hB : ∀ i, IsReal (B i)) : val_main_v75 (F := Ideal) U A B M = DU U A (DS B) M := by
  funext y
  have h0 : (y 0 : ℕ) < 4096 := (y 0).isLt
  have h1 : (y 1 : ℕ) < 3072 := (y 1).isLt
  pointwise [val_main_v75, val_main_v74, val_main_v73, val_main_v72, val_main_v71, val_main_v70, val_main_v69, val_main_v68, val_main_v67,
    val_main_v66, val_main_v41, val_main_v40, val_main_v39, val_main_v37, val_main_v11, val_main_v10, val_main_v9, val_main_v8, val_main_v7,
    val_main_v6, val_main_v5, val_main_v4, val_main_v3, val_main_v2, val_main_v1, val_main_v0, val_main_cst, val_main_cst_0, val_main_cst_1,
    val_main_cst_10, val_main_cst_15, val_main_cst_16, val_main_cst_17]
  unfold DU
  by_cases g1 : (y 1 : ℕ) < 1024
  · rw [dif_neg (by omega), dif_neg (by omega), dif_neg (by omega), dif_pos g1, dif_pos g1, sgmT_eq, zero_add, zero_add, zero_add]
    refine congrArg (fun p : EReal => _ * sgm p) ?_
    blk_ext
  · by_cases g2 : (y 1 : ℕ) < 2048
    · rw [dif_neg (by omega), dif_neg (by omega), dif_pos (by omega), dif_neg g1, dif_neg g1, dif_pos g2, sgmT_eq, zero_add, zero_add, add_zero]
      rw [show U (ix2 (y 0) ⟨1024 + ((y 1 : ℕ) - 1024), by omega⟩) = U (ix2 (y 0) (y 1)) by blk_ext]
      change (_ * (sgm _ * (1 - sgm _)) : EReal) = _
      rw [← mul_assoc]
      exact congrArg (fun p : EReal => p * _ * _) (mul_comm _ _)
    · rw [dif_pos (by omega), dif_pos (by omega), dif_neg (by omega), dif_neg g1, dif_neg g1, dif_neg g2, windows B hB, add_zero, add_zero, add_comm]
      rfl

/-- The array that the precondition tests holds real numbers. -/
theorem real_of_pre (fin : Cert.Pre_finite6.fn (F := Ideal) U A B M = fun _ => 1#1) : ∀ i, IsReal (B i) := by
  unfold Cert.Pre_finite6.fn at fin
  dsimp only at fin
  exact real_of_all B _ inf_bf16 _ _ _ fin

end Cert.Reference6Ideal.Pool

end
-- ==== Proof.PoolClaim.lean ====
/- The pooling mixer's pair: the claim that kernel and reference end with equal results. -/
module

public import proofs.«01_k».proof.Defs
public import proofs.«01_k».proof.Proof.Gen.Reference6Ideal.Run
public import proofs.«01_k».proof.Proof.PoolRun
public import proofs.«01_k».proof.Proof.PoolRef
public import Idealize.ShloMosaic.Lib.Claim

@[expose] public section

set_option maxRecDepth 16384

noncomputable section

namespace Cert.Proof.Pool

open Idealize.ShloMosaic Idealize.ShloMosaic.TcCoe Idealize.SL.Sem

theorem algebraic : Cert.algebraic_Kernel6Ideal_Reference6Ideal_pre_finite6 := by
  pair_intro
  · run_from Cert.Kernel6Ideal.Pool.run m g
  · run_from Cert.Reference6Ideal.Value.run m' g'
    · have hB := Cert.Reference6Ideal.Pool.real_of_pre _ _ _ _ (hpre c)
      obtain ⟨e0, e1, e2, e3⟩ := hagree c
      rw [Cert.Reference6Ideal.Read.val_main_v75_eq, e0, e1, e2, e3]
      exact Cert.Reference6Ideal.Pool.duref _ _ _ _ hB

end Cert.Proof.Pool

end
-- ==== Proof.LayerRow.lean ====
/- One row of a layer norm followed by a swish: the normalised row, and the gradients of the row and of the norm's input. -/
module

public import proofs.«01_k».proof.Proof.NormRow

@[expose] public section

noncomputable section

namespace Cert.Scalars

open Idealize.ShloMosaic

/-- The f32 pattern of a row's width, -/
abbrev wid : EReal := Ideal.ofBits .f32 0x44800000#32

/-- a row's mean, -/
def mean (x : Fin 1024 → EReal) : EReal := Ideal.div (∑ k, x k) wid
/-- the row less its mean, -/
def cen (x : Fin 1024 → EReal) (j : Fin 1024) : EReal := x j - mean x
/-- its variance with the small constant added, -/
def vare (x : Fin 1024 → EReal) : EReal := Ideal.div (∑ k, cen x k * cen x k) wid + Ideal.ofBits .f32 0x358637BD#32
/-- the factor it is scaled by, -/
def rst (x : Fin 1024 → EReal) : EReal := Ideal.rsqrt (vare x)
/-- the normalised row, -/
def hat (x : Fin 1024 → EReal) (j : Fin 1024) : EReal := cen x j * rst x
/-- with gain and bias. -/
def lin (x g b : Fin 1024 → EReal) (j : Fin 1024) : EReal := hat x j * g j + b j
/-- The gradient of the biased row, from the swish's incoming gradient `d`. -/
def dlin (x g b d : Fin 1024 → EReal) (j : Fin 1024) : EReal :=
  d j * (sgmT (lin x g b j) * (1 + lin x g b j * (1 - sgmT (lin x g b j))))
/-- The kernels' gradient of the norm's input, from the normalised row's gradient `e`. -/
def dnorm (x e : Fin 1024 → EReal) (j : Fin 1024) : EReal :=
  rst x * (e j - Ideal.div (∑ k, e k) wid - hat x j * Ideal.div (∑ k, e k * hat x k) wid)

/-- The reference's share that comes through the variance, -/
def dquad (x e : Fin 1024 → EReal) : EReal :=
  Ideal.div ((∑ k, cen x k * e k) * (Ideal.ofBits .f32 0xBF000000#32 * Ideal.div (rst x) (vare x))) wid
/-- and its gradient of the centred row. -/
def dcen (x e : Fin 1024 → EReal) (j : Fin 1024) : EReal := e j * rst x + cen x j * dquad x e + dquad x e * cen x j

theorem wid_eq : wid = ((1024 : ℝ) : EReal) := by
  simp [wid, Ideal.ofBits, Ideal.ieee]; norm_cast; norm_num

theorem div_wide (x : EReal) : Ideal.div x wid = x * ((1 / 1024 : ℝ) : EReal) := by
  rw [wid_eq, Ideal.div_coe (by norm_num)]

theorem one_f32 : Ideal.ofBits .f32 0x3F800000#32 = 1 := by
  simp [Ideal.ofBits, Ideal.ieee]; norm_cast; norm_num

/-- The variance is infinite or a positive real number, and then the row is one of real numbers. -/
theorem vare_cases (x : Fin 1024 → EReal) : vare x = ⊤ ∨ (∃ v : ℝ, 0 < v ∧ vare x = (v : EReal)) ∧ ∃ f : Fin 1024 → ℝ, ∀ k, x k = (f k : EReal) := by
  obtain ⟨e, he, hb⟩ := eps_f32
  by_cases hr : ∃ k, cen x k * cen x k = ⊤
  · left
    obtain ⟨k, hk⟩ := hr
    have hs : (∑ k, cen x k * cen x k) = ⊤ := by
      refine top_le_iff.mp (hk ▸ Finset.single_le_sum (f := fun k => cen x k * cen x k) (fun i _ => sq_nonneg' _) (Finset.mem_univ k))
    unfold vare
    rw [hs, hb, div_wide, EReal.top_mul_coe_of_pos (by norm_num), EReal.top_add_coe]
  · right
    have hc : ∀ k, IsReal (cen x k) := fun k => by
      have h : cen x k * cen x k ≠ ⊤ := fun h => hr ⟨k, h⟩
      generalize cen x k = z at h
      induction z using EReal.rec with
      | bot => simp at h
      | top => simp at h
      | coe r => exact ⟨r, rfl⟩
    have hx : ∀ k, IsReal (x k) := fun k => by
      obtain ⟨r, h⟩ := hc k
      unfold cen at h
      generalize mean x = u at h
      generalize x k = z at h ⊢
      induction z using EReal.rec with
      | bot => simp at h
      | top =>
        induction u using EReal.rec with
        | bot => simp at h
        | top => simp at h
        | coe s => simp at h
      | coe s => exact ⟨s, rfl⟩
    choose f hf using hx
    choose c hc using hc
    refine ⟨⟨(∑ k, c k * c k) * (1 / 1024) + e, ?_, ?_⟩, f, hf⟩
    · have : 0 ≤ ∑ k, c k * c k := Finset.sum_nonneg fun k _ => mul_self_nonneg _
      positivity
    · unfold vare
      rw [hb, div_wide, EReal.coe_add, EReal.coe_mul, coe_sum]
      simp only [hc, EReal.coe_mul]

/-- The kernels' gradient of the norm's input is the reference's, whatever the row: an infinite variance scales it by zero. -/
theorem dnorm_eq (x e : Fin 1024 → EReal) (he : ∀ k, IsReal (e k)) (j : Fin 1024) :
    dnorm x e j = dcen x e j + Ideal.div (∑ k, -dcen x e k) wid := by
  rcases vare_cases x with h | ⟨⟨v, hv, h⟩, f, hf⟩
  · have hr : rst x = 0 := by rw [rst, h, Ideal.rsqrt_top]
    have hd : Ideal.div 0 ⊤ = 0 := by simp [Ideal.div]
    have hq : dquad x e = 0 := by
      unfold dquad; rw [hr, h, hd, div_wide]; simp
    have hc : ∀ k, dcen x e k = 0 := fun k => by unfold dcen; rw [hr, hq]; simp
    unfold dnorm
    simp only [hr, hc, div_wide]
    simp
  · have hr : rst x = (((Real.sqrt v)⁻¹ : ℝ) : EReal) := by
      rw [rst, h, Ideal.rsqrt_coe, if_neg (by linarith), if_neg hv.ne']
    have hp : 0 < (Real.sqrt v)⁻¹ := inv_pos.mpr (Real.sqrt_pos.mpr hv)
    have hsq : (Real.sqrt v)⁻¹ * (Real.sqrt v)⁻¹ = 1 / v := by
      rw [← mul_inv, Real.mul_self_sqrt hv.le, one_div]
    choose d hd using he
    generalize (Real.sqrt v)⁻¹ = r at hp hsq hr
    have hm : mean x = ((∑ k, f k) * (1 / 1024) : ℝ) := by
      unfold mean; rw [div_wide, EReal.coe_mul, coe_sum]; simp only [hf]
    have hc : ∀ k, cen x k = ((f k - (∑ k, f k) * (1 / 1024) : ℝ) : EReal) := fun k => by
      unfold cen; rw [hm, hf, ← EReal.coe_sub]
    have h0 : ∑ k, (f k - (∑ k, f k) * (1 / 1024)) = 0 := by
      rw [Finset.sum_sub_distrib, Finset.sum_const, Finset.card_univ, Fintype.card_fin]
      simp; ring
    obtain ⟨c, hcd⟩ : ∃ c : Fin 1024 → ℝ, c = fun k => f k - (∑ k, f k) * (1 / 1024) := ⟨_, rfl⟩
    replace h0 : ∑ k, c k = 0 := by rw [hcd]; exact h0
    replace hc : ∀ k, cen x k = (c k : EReal) := fun k => by rw [hcd]; exact hc k
    clear hcd hm
    have hq : dquad x e = (((∑ k, c k * d k) * (-(1 / 2) * (r * (1 / v))) * (1 / 1024) : ℝ) : EReal) := by
      unfold dquad
      rw [h, hr, div_wide, Ideal.div_coe hv.ne', neg_half_f32]
      simp only [hc, hd, ← EReal.coe_mul, ← coe_sum]
    have hk : ∀ k, dcen x e k = ((d k * r - c k * ((∑ k, c k * d k) * (r * (r * r)) * (1 / 1024)) : ℝ) : EReal) := fun k => by
      unfold dcen
      rw [hq, hc, hd, hr, ← EReal.coe_mul, ← EReal.coe_mul, ← EReal.coe_mul, ← EReal.coe_add, ← EReal.coe_add]
      refine congrArg Real.toEReal ?_
      rw [← hsq]; ring
    have hs : ∑ k, -dcen x e k = ((-(r * ∑ k, d k) : ℝ) : EReal) := by
      simp only [hk, ← EReal.coe_neg, ← coe_sum]
      refine congrArg Real.toEReal ?_
      rw [Finset.sum_neg_distrib, Finset.sum_sub_distrib, ← Finset.sum_mul, ← Finset.sum_mul, h0]
      ring
    rw [hk, hs, div_wide]
    unfold dnorm hat
    simp only [hc, hd, hr, div_wide, ← EReal.coe_mul, ← coe_sum, ← EReal.coe_sub, ← EReal.coe_add]
    refine congrArg Real.toEReal ?_
    have ht : ∑ k, d k * (c k * r) = (∑ k, c k * d k) * r := by
      rw [Finset.sum_mul]; exact Finset.sum_congr rfl fun k _ => by ring
    rw [ht]
    ring

/-- The gradient of the biased row as the reference has it: the two terms of the product rule. -/
theorem dlin_eq (x g b d : Fin 1024 → EReal) (j : Fin 1024) (hd : IsReal (d j)) :
    dlin x g b d j = d j * sgm (lin x g b j) + lin x g b j * d j * (sgm (lin x g b j) * (1 - sgm (lin x g b j))) := by
  have h := gate_grad (lin x g b j) 1 (d j) ⟨1, by simp⟩ hd
  rw [one_mul, mul_one] at h
  unfold dlin
  rw [sgmT_eq, h]

/-- It is a real number when the incoming gradient is, whatever the biased row. -/
theorem dlin_real (x g b d : Fin 1024 → EReal) (j : Fin 1024) (hd : IsReal (d j)) : IsReal (dlin x g b d j) := by
  unfold dlin
  rw [sgmT_eq]
  refine hd.mul ?_
  generalize lin x g b j = l
  induction l using EReal.rec with
  | bot => rw [sgm_bot]; exact ⟨0, by simp⟩
  | top =>
    rw [sgm_top]
    have : (1 : EReal) - 1 = 0 := by rw [← EReal.coe_one, ← EReal.coe_sub]; norm_num
    exact ⟨1, by simp [this]⟩
  | coe r =>
    rw [sgm_coe]
    exact ⟨(1 + Real.exp (-r))⁻¹ * (1 + r * (1 - (1 + Real.exp (-r))⁻¹)), by norm_cast⟩

end Cert.Scalars

end
-- ==== Proof.EvenNorm.lean ====
/- The even layer's reference: the norm and its gradients, element by element. -/
module

public import proofs.«01_k».proof.Proof.Gen.Reference7Ideal.Read
public import proofs.«01_k».proof.Proof.LayerRow
public import Idealize.ShloMosaic.Lib.Pointwise

@[expose] public section

set_option maxRecDepth 16384

noncomputable section

namespace Cert.Reference7Ideal.Even

open Idealize.ShloMosaic Idealize.ShloMosaic.TcCoe Idealize.SL.Sem
open Cert.Reference7Ideal Cert.Reference7Ideal.Read Cert.Scalars

variable (x0 : FVec Ideal S4096x1024 .f32) (x1 x4 x5 : FVec Ideal S1024 .f32) (x8 : FVec Ideal S4096x2048 .bf16)

/-- Row `i` of the norm's input, -/
abbrev R (i : Fin 4096) : Fin 1024 → EReal := fun k => x0 (ix2 i k) + x1 (ix1 k)
/-- a vector's entries, -/
abbrev vec1 (x : FVec Ideal S1024 .f32) : Fin 1024 → EReal := fun k => x (ix1 k)
/-- the first half of row `i` of the incoming gradient, -/
abbrev D (i : Fin 4096) : Fin 1024 → EReal := fun k => x8 (ix2 i ⟨(k : ℕ), by omega⟩)
/-- the gradient of the biased row, -/
abbrev L (i : Fin 4096) : Fin 1024 → EReal := dlin (R x0 x1 i) (vec1 x4) (vec1 x5) (D x8 i)
/-- and of the normalised row. -/
abbrev E (i : Fin 4096) : Fin 1024 → EReal := fun k => L x0 x1 x4 x5 x8 i k * x4 (ix1 k)

theorem v5 (y : S4096x1024.Idx) : val_main_v5 (F := Ideal) x0 x1 y = R x0 x1 (y 0) (y 1) := by
  obtain ⟨i, k, rfl⟩ : ∃ (i : Fin 4096) (k : Fin 1024), y = ix2 i k := ⟨y 0, y 1, eq_ix2 y⟩
  pointwise [val_main_v5, val_main_v4, val_main_v3]
theorem v9 (y : S4096x1.Idx) : val_main_v9 (F := Ideal) x0 x1 y = mean (R x0 x1 (y 0)) := by
  pointwise [val_main_v9, val_main_v8, val_main_v7, val_main_v6, val_main_cst, val_main_cst_0, v5, mean]
theorem v11 (y : S4096x1024.Idx) : val_main_v11 (F := Ideal) x0 x1 y = cen (R x0 x1 (y 0)) (y 1) := by
  pointwise [val_main_v11, val_main_v10, v5, v9, cen]
theorem v18 (y : S4096x1.Idx) : val_main_v18 (F := Ideal) x0 x1 y = vare (R x0 x1 (y 0)) := by
  pointwise [val_main_v18, val_main_v17, val_main_v16, val_main_v15, val_main_v14, val_main_v13, val_main_v12, val_main_cst_1,
    val_main_cst_2, val_main_cst_3, v11, vare]
theorem v19 (y : S4096x1.Idx) : val_main_v19 (F := Ideal) x0 x1 y = rst (R x0 x1 (y 0)) := by
  pointwise [val_main_v19, v18, rst]
theorem v22 (y : S4096x1.Idx) : val_main_v22 (F := Ideal) x0 x1 y
    = Ideal.ofBits .f32 0xBF000000#32 * Ideal.div (rst (R x0 x1 (y 0))) (vare (R x0 x1 (y 0))) := by
  pointwise [val_main_v22, val_main_v21, val_main_v20, val_main_cst_4, v18, v19]
theorem v24 (y : S4096x1024.Idx) : val_main_v24 (F := Ideal) x0 x1 y = hat (R x0 x1 (y 0)) (y 1) := by
  pointwise [val_main_v24, val_main_v23, v11, v19, hat]
theorem v30 (y : S4096x1024.Idx) : val_main_v30 (F := Ideal) x0 x1 x4 x5 y = lin (R x0 x1 (y 0)) (vec1 x4) (vec1 x5) (y 1) := by
  obtain ⟨i, k, rfl⟩ : ∃ (i : Fin 4096) (k : Fin 1024), y = ix2 i k := ⟨y 0, y 1, eq_ix2 y⟩
  pointwise [val_main_v30, val_main_v29, val_main_v28, val_main_v27, val_main_v26, val_main_v25, v24, lin]
theorem v31 (y : S4096x1024.Idx) :
    val_main_v31_2 (F := Ideal) x0 x1 x4 x5 y = sgm (lin (R x0 x1 (y 0)) (vec1 x4) (vec1 x5) (y 1)) := by
  rw [← v30]
  pointwise [val_main_v31_2, val_main_call0_v4, val_main_call0_cst_0, val_main_call0_v3, val_main_call0_v2, val_main_call0_cst,
    val_main_call0_v1, val_main_call0_v0, sgm]
theorem swish (y : S4096x1024.Idx) : val_main_v31_0 (F := Ideal) x0 x1 x4 x5 y
    = lin (R x0 x1 (y 0)) (vec1 x4) (vec1 x5) (y 1) * sgm (lin (R x0 x1 (y 0)) (vec1 x4) (vec1 x5) (y 1)) := by
  pointwise [val_main_v31_0]
  rw [v30, v31]
theorem v64 (y : S4096x1024.Idx) : val_main_v64 (F := Ideal) x8 y = D x8 (y 0) (y 1) := by
  obtain ⟨i, k, rfl⟩ : ∃ (i : Fin 4096) (k : Fin 1024), y = ix2 i k := ⟨y 0, y 1, eq_ix2 y⟩
  pointwise [val_main_v64, val_main_v63]

variable (h4 : ∀ i, IsReal (x4 i)) (h8 : ∀ i, IsReal (x8 i))
include h8

theorem v84 (y : S4096x1024.Idx) : val_main_v84 (F := Ideal) x0 x1 x4 x5 x8 y = L x0 x1 x4 x5 x8 (y 0) (y 1) := by
  refine Eq.trans ?_ (dlin_eq _ _ _ (D x8 (y 0)) (y 1) (h8 _)).symm
  pointwise [val_main_v84, val_main_call1_v0, val_main_call1_v1, val_main_call1_v2, val_main_v31_1, val_main_call0_v7,
    val_main_call0_v6, val_main_call0_cst_1]
  rw [v30, v31, v64]
theorem v92 (y : S4096x1024.Idx) : val_main_v92 (F := Ideal) x0 x1 x4 x5 x8 y = E x0 x1 x4 x5 x8 (y 0) (y 1) := by
  pointwise [val_main_v92, val_main_v91, val_main_v25, v84 x0 x1 x4 x5 x8 h8]
theorem v103 (y : S4096x1024.Idx) : val_main_v103 (F := Ideal) x0 x1 x4 x5 x8 y = dquad (R x0 x1 (y 0)) (E x0 x1 x4 x5 x8 (y 0)) := by
  pointwise [val_main_v103, val_main_v102, val_main_v101, val_main_v100, val_main_v99, val_main_v96, val_main_v95, val_main_v94,
    val_main_cst_15, val_main_cst_16, val_main_cst_17, v11, v22, v92 x0 x1 x4 x5 x8 h8, dquad]
  exact Fin.sum_univ_one _
theorem v107 (y : S4096x1024.Idx) : val_main_v107 (F := Ideal) x0 x1 x4 x5 x8 y = dcen (R x0 x1 (y 0)) (E x0 x1 x4 x5 x8 (y 0)) (y 1) := by
  pointwise [val_main_v107, val_main_v106, val_main_v105, val_main_v104, val_main_v98, val_main_v97, v11, v19,
    v92 x0 x1 x4 x5 x8 h8, v103 x0 x1 x4 x5 x8 h8, dcen]
include h4
theorem v115 (y : S4096x1024.Idx) : val_main_v115 (F := Ideal) x0 x1 x4 x5 x8 y = dnorm (R x0 x1 (y 0)) (E x0 x1 x4 x5 x8 (y 0)) (y 1) := by
  refine Eq.trans ?_ (dnorm_eq _ _ (fun k => (dlin_real _ _ _ _ _ (h8 _)).mul (h4 _)) (y 1)).symm
  pointwise [val_main_v115, val_main_v114, val_main_v113, val_main_v112, val_main_v111, val_main_v110, val_main_v109, val_main_v108,
    val_main_cst_18, val_main_cst_19, val_main_cst_20, v107 x0 x1 x4 x5 x8 h8]
  exact congrArg _ (Fin.sum_univ_one _)
theorem v118 (y : S1024.Idx) : val_main_v118 (F := Ideal) x0 x1 x4 x5 x8 y
    = ∑ i : Fin 4096, dnorm (R x0 x1 i) (E x0 x1 x4 x5 x8 i) (y 0) := by
  pointwise [val_main_v118, val_main_v117, val_main_v116, val_main_cst_21, val_main_cst_22, v115 x0 x1 x4 x5 x8 h4 h8]
  exact Fin.sum_univ_one _
omit h4
theorem v87 (y : S1024.Idx) : val_main_v87 (F := Ideal) x0 x1 x4 x5 x8 y = ∑ i : Fin 4096, L x0 x1 x4 x5 x8 i (y 0) := by
  pointwise [val_main_v87, val_main_v86, val_main_v85, val_main_cst_11, val_main_cst_12, v84 x0 x1 x4 x5 x8 h8]
  exact Fin.sum_univ_one _
theorem v93 (y : S1024.Idx) : val_main_v93 (F := Ideal) x0 x1 x4 x5 x8 y
    = ∑ i : Fin 4096, L x0 x1 x4 x5 x8 i (y 0) * hat (R x0 x1 i) (y 0) := by
  pointwise [val_main_v93, val_main_v90, val_main_v89, val_main_v88, val_main_cst_13, val_main_cst_14, v24, v84 x0 x1 x4 x5 x8 h8]
  exact (Fin.sum_univ_one _).trans (Finset.sum_congr rfl fun i _ => mul_comm _ _)

end Cert.Reference7Ideal.Even

end
-- ==== Proof.EvenSpec.lean ====
/- The even layer's two calls as functions of whole arrays, and the counts of rows in the pooling windows. -/
module

public import proofs.«01_k».proof.Proof.EvenDat
public import proofs.«01_k».proof.Proof.LayerRow
public import Idealize.ShloMosaic.Lib.Pointwise

@[expose] public section

set_option maxRecDepth 16384

noncomputable section

namespace Cert.Kernel7Ideal.Even

open Idealize.ShloMosaic Idealize.ShloMosaic.TcCoe Idealize.SL.Sem
open Cert.Kernel7Ideal Cert.Kernel7Ideal.Gen Cert.Scalars

/-- Column `k` of group `g`, -/
def col (g : Fin 4) (k : Fin 256) : Fin 1024 := ⟨256 * (g : ℕ) + (k : ℕ), by omega⟩
/-- a column's group, -/
def grp (l : Fin 1024) : Fin 4 := ⟨(l : ℕ) / 256, by omega⟩
/-- and its place there. -/
def lan (l : Fin 1024) : Fin 256 := ⟨(l : ℕ) % 256, by omega⟩
/-- A column of the second half of the rows twice as wide. -/
def rgt (l : Fin 1024) : Fin 2048 := ⟨1024 + (l : ℕ), by omega⟩
/-- A column of the first half. -/
def lft (l : Fin 1024) : Fin 2048 := ⟨(l : ℕ), by omega⟩

theorem grp_col (g : Fin 4) (k : Fin 256) : grp (col g k) = g := Fin.ext (by show (256 * (g : ℕ) + (k : ℕ)) / 256 = _; omega)
theorem lan_col (g : Fin 4) (k : Fin 256) : lan (col g k) = k := Fin.ext (by show (256 * (g : ℕ) + (k : ℕ)) % 256 = _; omega)
theorem col_grp (l : Fin 1024) : col (grp l) (lan l) = l := Fin.ext (by show 256 * ((l : ℕ) / 256) + (l : ℕ) % 256 = _; omega)

/-- How many rows of its sequence row `r` and the window of group `g` before it have, as a word, -/
def cntw (r g : ℕ) : BitVec 32 := IntOp.minsi (BitVec.ofNat 32 (r % 2048 + 1)) (BitVec.ofNat 32 (2 ^ (g + 1)))
/-- as a number, -/
def cnt (r g : ℕ) : EReal := FloatOps.sitofp (F := Ideal) .f32 (cntw r g)
/-- and one over it. -/
def inv (r g : ℕ) : EReal := Ideal.div 1 (cnt r g)

theorem cnt_pos (r : ℕ) (g : Fin 4) : ∃ n : ℝ, n ≠ 0 ∧ cnt r (g : ℕ) = (n : EReal) := by
  have h : ∀ k : Fin 2048, ∀ g : Fin 4, (IntOp.minsi (BitVec.ofNat 32 ((k : ℕ) + 1)) (BitVec.ofNat 32 (2 ^ ((g : ℕ) + 1)))).toInt ≠ 0 := by decide +kernel
  exact ⟨_, by exact_mod_cast h ⟨r % 2048, by omega⟩ g, rfl⟩

/-- Times one over the count is divided by the count. -/
theorem mul_inv_cnt (x : EReal) (r : ℕ) (g : Fin 4) : x * inv r (g : ℕ) = Ideal.div x (cnt r (g : ℕ)) := by
  obtain ⟨n, hn, h⟩ := cnt_pos r g
  unfold inv
  rw [h, Ideal.div_coe hn, Ideal.div_coe hn, one_mul]

/-- The position after row `r` of block `i`, as the bodies compute it. -/
def posw (i r : ℕ) : BitVec 32 :=
  let q := Scalar.select (Scalar.cmpi .eq 2048#32 0#32) 1#32 2048#32
  let p := IntOp.remsi .vector (IntOp.addi (Scalar.muli (BitVec.ofNat 32 i) 256#32) (BitVec.ofNat 32 r)) q
  IntOp.addi (Scalar.select (IntOp.andi (IntOp.xori (IntOp.cmpi .slt p 0#32) (Scalar.cmpi .slt q 0#32)) (IntOp.cmpi .ne p 0#32)) (IntOp.addi p q) p) 1#32

theorem posw_eq (i r : ℕ) (hi : i < 16) (hr : r < 256) : posw i r = BitVec.ofNat 32 ((256 * i + r) % 2048 + 1) := by
  have h : ∀ i : Fin 16, ∀ r : Fin 256, posw (i : ℕ) (r : ℕ) = BitVec.ofNat 32 ((256 * (i : ℕ) + (r : ℕ)) % 2048 + 1) := by decide +kernel
  exact h ⟨i, hi⟩ ⟨r, hr⟩

/-- One over the count as the bodies compute it. -/
theorem inv_eq (i r g : ℕ) (hi : i < 16) (hr : r < 256) (n : BitVec 32) (hn : n = BitVec.ofNat 32 (2 ^ (g + 1))) :
    Ideal.div 1 (FloatOps.sitofp (F := Ideal) .f32 (IntOp.minsi (posw i r) n)) = inv (256 * i + r) g := by
  rw [posw_eq i r hi hr, hn]; rfl

theorem f4 (i : grid0.Coords) (r : Fin 256) : k0_pay5 (F := Ideal) (k0_pay3 i) (ix2 r 0) = inv (256 * (i 0 : ℕ) + (r : ℕ)) 1 := by
  pointwise [k0_pay5, k0_pay4, k0_pay3]; exact inv_eq _ _ _ (i 0).isLt r.isLt _ rfl
theorem f8 (i : grid0.Coords) (r : Fin 256) : k0_pay6 (F := Ideal) (k0_pay3 i) (ix2 r 0) = inv (256 * (i 0 : ℕ) + (r : ℕ)) 2 := by
  pointwise [k0_pay6, k0_pay4, k0_pay3]; exact inv_eq _ _ _ (i 0).isLt r.isLt _ rfl
theorem f16 (i : grid0.Coords) (r : Fin 256) : k0_pay7 (F := Ideal) (k0_pay3 i) (ix2 r 0) = inv (256 * (i 0 : ℕ) + (r : ℕ)) 3 := by
  pointwise [k0_pay7, k0_pay4, k0_pay3]; exact inv_eq _ _ _ (i 0).isLt r.isLt _ rfl
theorem f2 (i : grid0.Coords) (s : FVec Ideal S256x256 .bf16) (r k : Fin 256) :
    k0_pay8 (F := Ideal) (k0_pay3 i) s (ix2 r k) = s (ix2 r k) * inv (256 * (i 0 : ℕ) + (r : ℕ)) 0 := by
  pointwise [k0_pay8, k0_pay4, k0_pay3]; exact congrArg (s (ix2 r k) * ·) (inv_eq _ _ _ (i 0).isLt r.isLt _ rfl)

theorem b2 (i : ℕ) (hi : i < 16) (r : Fin 256) : k1_pay20 (F := Ideal) (BitVec.ofNat 32 i) (ix2 r 0) = inv (256 * i + (r : ℕ)) 0 := by
  pointwise [k1_pay20, k1_pay19]; exact inv_eq _ _ _ hi r.isLt _ rfl
theorem b4 (i : ℕ) (hi : i < 16) (r : Fin 256) : k1_pay21 (F := Ideal) (BitVec.ofNat 32 i) (ix2 r 0) = inv (256 * i + (r : ℕ)) 1 := by
  pointwise [k1_pay21, k1_pay19]; exact inv_eq _ _ _ hi r.isLt _ rfl
theorem b8 (i : ℕ) (hi : i < 16) (r : Fin 256) : k1_pay23 (F := Ideal) (k1_pay22 (BitVec.ofNat 32 i)) (ix2 r 0) = inv (256 * i + (r : ℕ)) 2 := by
  pointwise [k1_pay23, k1_pay22, k1_pay19]; exact inv_eq _ _ _ hi r.isLt _ rfl
theorem b16 (i : ℕ) (hi : i < 16) (r : Fin 256) : k1_pay24 (F := Ideal) (k1_pay19 (BitVec.ofNat 32 i)) (ix2 r 0) = inv (256 * i + (r : ℕ)) 3 := by
  pointwise [k1_pay24, k1_pay19]; exact inv_eq _ _ _ hi r.isLt _ rfl

section

variable (A S P : FVec Ideal S4096x1024 .bf16) (U : FVec Ideal S4096x3072 .bf16) (G B SC : FVec Ideal S1x1024 .f32) (W : FVec Ideal S4x256x256 .bf16)
  (DZ : FVec Ideal S4096x2048 .bf16)

/-- A row of an array, -/
abbrev row {φ : FTy} (x : FVec Ideal S4096x1024 φ) (i : Fin 4096) : Fin 1024 → EReal := fun k => x (ix2 i k)
/-- the row of a row array, -/
abbrev one {φ : FTy} (x : FVec Ideal S1x1024 φ) : Fin 1024 → EReal := fun k => x (ix2 0 k)
/-- and the first half of a wide array's row. -/
abbrev rowl {φ : FTy} (x : FVec Ideal S4096x2048 φ) (i : Fin 4096) : Fin 1024 → EReal := fun k => x (ix2 i (lft k))

/-- The window means less the input. -/
def PM : FVec Ideal S4096x1024 .bf16 := fun y =>
  S y * inv (y 0 : ℕ) (grp (y 1) : ℕ) - U (ix2 (y 0) (⟨2048 + (y 1 : ℕ), by have : (y 1 : ℕ) < 1024 := (y 1).isLt; omega⟩ : Fin 3072))

/-- Their product with a group's weights. -/
def prod (i : Fin 4096) (g : Fin 4) (k : Fin 256) : EReal := ∑ j : Fin 256, P (ix2 i (col g j)) * W (ix3 g j k)

/-- The forward call's result. -/
def Z : FVec Ideal S4096x2048 .bf16 := fun y =>
  if h : (y 1 : ℕ) < 1024 then lin (row A (y 0)) (one G) (one B) ⟨(y 1 : ℕ), h⟩ * sgmT (lin (row A (y 0)) (one G) (one B) ⟨(y 1 : ℕ), h⟩)
  else let l : Fin 1024 := ⟨(y 1 : ℕ) - 1024, by have : (y 1 : ℕ) < 2048 := (y 1).isLt; omega⟩
    prod P W (y 0) (grp l) (lan l) * SC (ix2 0 l)

/-- The gradient of the norm's input. -/
def DA : FVec Ideal S4096x1024 .bf16 := fun y =>
  dnorm (row A (y 0)) (fun k => dlin (row A (y 0)) (one G) (one B) (rowl DZ (y 0)) k * G (ix2 0 k)) (y 1)

/-- The scaled gradient of the products, -/
def dq (i : Fin 4096) (l : Fin 1024) : EReal := DZ (ix2 i (rgt l)) * SC (ix2 0 l)

/-- the gradient of the pooled rows, -/
def DP : FVec Ideal S4096x1024 .bf16 := fun y => ∑ j : Fin 256, dq SC DZ (y 0) (col (grp (y 1)) j) * W (ix3 (grp (y 1)) (lan (y 1)) j)

/-- of the window sums, -/
def DS : FVec Ideal S4096x1024 .bf16 := fun y => DP SC W DZ y * inv (y 0 : ℕ) (grp (y 1) : ℕ)

/-- one row's share of the sums over the rows: gain, bias, the norm's input, the products' scale; -/
def share (n : ℕ) (l : Fin 1024) (i : Fin 4096) : EReal :=
  if n = 0 then dlin (row A i) (one G) (one B) (rowl DZ i) l * hat (row A i) l
  else if n = 1 then dlin (row A i) (one G) (one B) (rowl DZ i) l
  else if n = 2 then DA A G B DZ (ix2 i l)
  else if n = 3 then DZ (ix2 i (rgt l)) * prod P W i (grp l) (lan l) else 0

/-- the sums, -/
def VEC : FVec Ideal S8x1024 .f32 := fun y => ∑ i : Fin 4096, share A P G B W DZ (y 0 : ℕ) (y 1) i

/-- and the gradient of the weights. -/
def DW : FVec Ideal S4x256x256 .f32 := fun y => ∑ i : Fin 4096, P (ix2 i (col (y 0) (y 1))) * dq SC DZ i (col (y 0) (y 2))

theorem Z_left (y : S4096x2048.Idx) (k : Fin 1024) (h : (y 1 : ℕ) = (k : ℕ)) : Z A P G B SC W y
    = lin (row A (y 0)) (one G) (one B) k * sgmT (lin (row A (y 0)) (one G) (one B) k) := by
  have e : (⟨(y 1 : ℕ), h ▸ k.isLt⟩ : Fin 1024) = k := Fin.ext h
  unfold Z
  rw [dif_pos (h ▸ k.isLt), e]

theorem Z_right (y : S4096x2048.Idx) (l : Fin 1024) (h : (y 1 : ℕ) = 1024 + (l : ℕ)) : Z A P G B SC W y
    = prod P W (y 0) (grp l) (lan l) * SC (ix2 0 l) := by
  have e : (⟨(y 1 : ℕ) - 1024, by omega⟩ : Fin 1024) = l := Fin.ext (by dsimp only; omega)
  unfold Z
  rw [dif_neg (by omega), e]

end

end Cert.Kernel7Ideal.Even

end
-- ==== Proof.EvenZ.lean ====
/- The even layer's forward call: what its two results hold. -/
module

public import proofs.«01_k».proof.Proof.EvenSpec
public import Idealize.ShloMosaic.Lib.Pipeline.ValueKit

@[expose] public section

set_option maxRecDepth 16384

noncomputable section

namespace Cert.Kernel7Ideal.Even

open Idealize.ShloMosaic Idealize.ShloMosaic.TcCoe Idealize.SL.Sem
open Idealize.ShloMosaic.Pipeline (Dat)
open Cert.Kernel7Ideal Cert.Kernel7Ideal.Gen Cert.Scalars

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![t.val, 2]
    ∧ win0_3.index t = ![0, 0] ∧ win0_4.index t = ![0, 0] ∧ win0_5.index t = ![0, 0, 0] ∧ win0_6.index t = ![0, 0]
    ∧ win0_7.index t = ![t.val, 0] ∧ win0_8.index t = ![t.val, 0] ∧ (grid0.coords t 0 : ℕ) = t.val :=
  (by decide +kernel : ∀ t : Fin grid0.N, _)

/-- The blocks of the forward call's operands at a point. -/
abbrev bA (c : Dev nD) (t : Fin cfg0.N) : FVec Ideal S256x1024 .bf16 := iblk0 V c 0 t
abbrev bS (c : Dev nD) (t : Fin cfg0.N) : FVec Ideal S256x1024 .bf16 := iblk0 V c 1 t
abbrev bU (c : Dev nD) (t : Fin cfg0.N) : FVec Ideal S256x1024 .bf16 := iblk0 V c 2 t
abbrev bG (c : Dev nD) (t : Fin cfg0.N) : FVec Ideal S1x1024 .f32 := iblk0 V c 3 t
abbrev bB (c : Dev nD) (t : Fin cfg0.N) : FVec Ideal S1x1024 .f32 := iblk0 V c 4 t
abbrev bW (c : Dev nD) (t : Fin cfg0.N) : FVec Ideal S4x256x256 .bf16 := iblk0 V c 5 t
abbrev bC (c : Dev nD) (t : Fin cfg0.N) : FVec Ideal S1x1024 .f32 := iblk0 V c 6 t

/-- One element of a tile of the window means less the input: group `g`, with the tile's operands `s` and `u`. -/
theorem tile_pm (c : Dev nD) (t : Fin cfg0.N) (g : Fin 4) (s u : FVec Ideal S256x256 .bf16) (hs : ∀ r k, s (ix2 r k) = bS V c t (ix2 r (col g k)))
    (hu : ∀ r k, u (ix2 r k) = bU V c t (ix2 r (col g k))) (r k : Fin 256) (i : S4096x1024.Idx)
    (h0 : (i 0 : ℕ) = 256 * t.val + (r : ℕ)) (h1 : (i 1 : ℕ) = 256 * (g : ℕ) + (k : ℕ)) :
    s (ix2 r k) * inv (256 * (grid0.coords t 0 : ℕ) + (r : ℕ)) (g : ℕ) - u (ix2 r k) = PM (V c main_arg2) (V c main_arg3) i := by
  have hc := (idx0 t).2.2.2.2.2.2.2.2.2
  rw [hs, hu]
  unfold PM
  refine congrArg₂ (fun p q : EReal => p - q) (congrArg₂ (fun p q : EReal => p * q) ?_ (congrArg₂ inv (by omega) ?_)) ?_
  · unfold col; blk_ext [iblk0, idx0 t]
  · show _ = (i 1 : ℕ) / 256
    omega
  · unfold col; blk_ext [iblk0, idx0 t]

theorem p9_at (i : grid0.Coords) (s u : FVec Ideal S256x256 .bf16) (r k : Fin 256) : k0_pay9 (F := Ideal) (k0_pay8 (k0_pay3 i) s) u (ix2 r k)
    = s (ix2 r k) * inv (256 * (i 0 : ℕ) + (r : ℕ)) 0 - u (ix2 r k) := by pointwise [k0_pay9, f2]
theorem p11_at (i : grid0.Coords) (s u : FVec Ideal S256x256 .bf16) (r k : Fin 256) : k0_pay11 (F := Ideal) (k0_pay5 (k0_pay3 i)) s u (ix2 r k)
    = s (ix2 r k) * inv (256 * (i 0 : ℕ) + (r : ℕ)) 1 - u (ix2 r k) := by pointwise [k0_pay11, f4]
theorem p13_at (i : grid0.Coords) (s u : FVec Ideal S256x256 .bf16) (r k : Fin 256) : k0_pay13 (F := Ideal) (k0_pay6 (k0_pay3 i)) s u (ix2 r k)
    = s (ix2 r k) * inv (256 * (i 0 : ℕ) + (r : ℕ)) 2 - u (ix2 r k) := by pointwise [k0_pay13, f8]
theorem p15_at (i : grid0.Coords) (s u : FVec Ideal S256x256 .bf16) (r k : Fin 256) : k0_pay15 (F := Ideal) (k0_pay7 (k0_pay3 i)) s u (ix2 r k)
    = s (ix2 r k) * inv (256 * (i 0 : ℕ) + (r : ℕ)) 3 - u (ix2 r k) := by pointwise [k0_pay15, f16]

/-- A block of the window means less the input. -/
theorem core_pm (c : Dev nD) (t : Fin cfg0.N) (y : S256x1024.Idx) (i : S4096x1024.Idx) (h0 : (i 0 : ℕ) = 256 * t.val + (y 0 : ℕ)) (h1 : (i 1 : ℕ) = (y 1 : ℕ)) :
    pmOut (F := Ideal) (grid0.coords t) (iblk0 V c 1 t) (iblk0 V c 2 t) y = PM (V c main_arg2) (V c main_arg3) i := by
  unfold pmOut
  canon_tiles x h
  all_goals
    obtain ⟨r, k, rfl⟩ : ∃ (r k : Fin 256), x = ix2 r k := ⟨x 0, x 1, eq_ix2 x⟩
    simp only [ix2_0, ix2_1] at *
  · refine (p15_at _ _ _ r k).trans (tile_pm V c t 3 _ _ (fun r k => ?_) (fun r k => ?_) r k i (by omega) (by show _ = 256 * 3 + _; omega))
    all_goals (pointwise <;> first | rfl | (unfold col; blk_ext))
  · refine (p13_at _ _ _ r k).trans (tile_pm V c t 2 _ _ (fun r k => ?_) (fun r k => ?_) r k i (by omega) (by show _ = 256 * 2 + _; omega))
    all_goals (pointwise <;> first | rfl | (unfold col; blk_ext))
  · refine (p11_at _ _ _ r k).trans (tile_pm V c t 1 _ _ (fun r k => ?_) (fun r k => ?_) r k i (by omega) (by show _ = 256 * 1 + _; omega))
    all_goals (pointwise <;> first | rfl | (unfold col; blk_ext))
  · refine (p9_at _ _ _ r k).trans (tile_pm V c t 0 _ _ (fun r k => ?_) (fun r k => ?_) r k i (by omega) (by show _ = 256 * 0 + _; omega))
    all_goals (pointwise <;> first | rfl | (unfold col; blk_ext))

theorem pm (c : Dev nD) : (dat0 V c).arrAt 8 cfg0.N = PM (V c main_arg2) (V c main_arg3) := by
  refine (dat0 V c).arrAt_eq_of_covers 8 _ (by decide +kernel) fun t _ y => ?_
  blk_simp
  rw [after0_8]
  refine core_pm V c t y _ ?_ ?_
  all_goals (blk_simp [idx0 t] <;> try omega)

/-- A row of a block, -/
abbrev rowb {φ : FTy} (x : FVec Ideal S256x1024 φ) (r : Fin 256) : Fin 1024 → EReal := fun k => x (ix2 r k)

/-- what the body makes of it. -/
theorem pay2_at (a : FVec Ideal S256x1024 .bf16) (g b : FVec Ideal S1x1024 .f32) (r : Fin 256) (k : Fin 1024) :
    k0_pay2 (F := Ideal) a g b (ix2 r k) = lin (rowb a r) (one g) (one b) k * sgmT (lin (rowb a r) (one g) (one b) k) := by
  pointwise [k0_pay2, lin, hat, cen, rst, vare, mean, sgmT]

/-- One element of a tile of scaled products. -/
theorem tile_z (c : Dev nD) (t : Fin cfg0.N) (g : Fin 4) (p : FVec Ideal S256x256 .bf16) (w : FVec Ideal S1x256x256 .bf16) (b : FVec Ideal S1x256 .f32)
    (hp : ∀ (r k : Fin 256) (i : S4096x1024.Idx), (i 0 : ℕ) = 256 * t.val + (r : ℕ) → (i 1 : ℕ) = 256 * (g : ℕ) + (k : ℕ) →
      p (ix2 r k) = PM (V c main_arg2) (V c main_arg3) i)
    (hw : ∀ j k, w (ix3 0 j k) = bW V c t (ix3 g j k)) (hb : ∀ k, b (ix2 0 k) = bC V c t (ix2 0 (col g k))) (r k : Fin 256) (i : S4096x2048.Idx)
    (h0 : (i 0 : ℕ) = 256 * t.val + (r : ℕ)) (h1 : (i 1 : ℕ) = 1024 + (256 * (g : ℕ) + (k : ℕ))) :
    (∑ j : Fin 256, p (ix2 r j) * w (ix3 0 j k)) * b (ix2 0 k)
      = Z (V c main_v3) (PM (V c main_arg2) (V c main_arg3)) (V c main_v4) (V c main_v5) (V c main_v7) (V c main_v6) i := by
  rw [Z_right _ _ _ _ _ _ i (col g k) h1, grp_col, lan_col, hb]
  refine congrArg₂ (fun p q : EReal => p * q) (Finset.sum_congr rfl fun j _ => congrArg₂ (fun p q : EReal => p * q) ?_ ?_) ?_
  · exact hp r j (ix2 (i 0) (col g j)) h0 rfl
  · rw [hw]; blk_ext [iblk0, idx0 t]
  · unfold col; blk_ext [iblk0, idx0 t]

theorem p10_at (v : FVec Ideal S256x256 .f32) (u : FVec Ideal S256x256 .bf16) (w : FVec Ideal S1x256x256 .bf16) (b : FVec Ideal S1x256 .f32) (r k : Fin 256) :
    k0_pay10 (F := Ideal) v u w b (ix2 r k) = (∑ j : Fin 256, k0_pay9 (F := Ideal) v u (ix2 r j) * w (ix3 0 j k)) * b (ix2 0 k) := by pointwise [k0_pay10]
theorem p12_at (v : FVec Ideal S256x1 .f32) (s u : FVec Ideal S256x256 .bf16) (w : FVec Ideal S1x256x256 .bf16) (b : FVec Ideal S1x256 .f32) (r k : Fin 256) :
    k0_pay12 (F := Ideal) v s u w b (ix2 r k) = (∑ j : Fin 256, k0_pay11 (F := Ideal) v s u (ix2 r j) * w (ix3 0 j k)) * b (ix2 0 k) := by pointwise [k0_pay12]
theorem p14_at (v : FVec Ideal S256x1 .f32) (s u : FVec Ideal S256x256 .bf16) (w : FVec Ideal S1x256x256 .bf16) (b : FVec Ideal S1x256 .f32) (r k : Fin 256) :
    k0_pay14 (F := Ideal) v s u w b (ix2 r k) = (∑ j : Fin 256, k0_pay13 (F := Ideal) v s u (ix2 r j) * w (ix3 0 j k)) * b (ix2 0 k) := by pointwise [k0_pay14]
theorem p16_at (v : FVec Ideal S256x1 .f32) (s u : FVec Ideal S256x256 .bf16) (w : FVec Ideal S1x256x256 .bf16) (b : FVec Ideal S1x256 .f32) (r k : Fin 256) :
    k0_pay1 (F := Ideal) (k0_pay16 v s u w) b (ix2 r k) = (∑ j : Fin 256, k0_pay15 (F := Ideal) v s u (ix2 r j) * w (ix3 0 j k)) * b (ix2 0 k) := by
  pointwise [k0_pay16, k0_pay1]

/-- The five pieces of a block of the result cover it. -/
theorem cover_z (p3 p2 p1 p0 : FVec Ideal S256x256 .bf16) (p : FVec Ideal S256x1024 .bf16) (y : S256x2048.Idx) :
    ∃ q ∈ ([⟨Rect.unit (s := S256x2048) ![0, 1792] S256x256.size inb_S256x2048_S256x256_0_1792, p3⟩,
      ⟨Rect.unit (s := S256x2048) ![0, 1536] S256x256.size inb_S256x2048_S256x256_0_1536, p2⟩,
      ⟨Rect.unit (s := S256x2048) ![0, 1280] S256x256.size inb_S256x2048_S256x256_0_1280, p1⟩,
      ⟨Rect.unit (s := S256x2048) ![0, 1024] S256x256.size inb_S256x2048_S256x256_0_1024, p0⟩,
      ⟨Rect.unit (s := S256x2048) ![0, 0] S256x1024.size inb_S256x2048_S256x1024_0_0, p⟩] : List (View.Piece (Elt Ideal) S256x2048 .bf16)), y ∈ q.1.set := by
  have h0 : (y 0 : ℕ) < 256 := (y 0).isLt
  have h1 : (y 1 : ℕ) < 2048 := (y 1).isLt
  by_cases a3 : 1792 ≤ (y 1 : ℕ)
  · exact ⟨_, .head _, (Rect.mem_set_unit (inb := inb_S256x2048_S256x256_0_1792)).mpr (Fin.forall_fin_two.mpr ⟨⟨Nat.zero_le _, by simpa using h0⟩, ⟨a3, by simpa using h1⟩⟩)⟩
  by_cases a2 : 1536 ≤ (y 1 : ℕ)
  · exact ⟨_, .tail _ (.head _), (Rect.mem_set_unit (inb := inb_S256x2048_S256x256_0_1536)).mpr (Fin.forall_fin_two.mpr ⟨⟨Nat.zero_le _, by simpa using h0⟩, ⟨a2, by simp; omega⟩⟩)⟩
  by_cases a1 : 1280 ≤ (y 1 : ℕ)
  · exact ⟨_, .tail _ (.tail _ (.head _)), (Rect.mem_set_unit (inb := inb_S256x2048_S256x256_0_1280)).mpr (Fin.forall_fin_two.mpr ⟨⟨Nat.zero_le _, by simpa using h0⟩, ⟨a1, by simp; omega⟩⟩)⟩
  by_cases a0 : 1024 ≤ (y 1 : ℕ)
  · exact ⟨_, .tail _ (.tail _ (.tail _ (.head _))), (Rect.mem_set_unit (inb := inb_S256x2048_S256x256_0_1024)).mpr (Fin.forall_fin_two.mpr ⟨⟨Nat.zero_le _, by simpa using h0⟩, ⟨a0, by simp; omega⟩⟩)⟩
  · exact ⟨_, .tail _ (.tail _ (.tail _ (.tail _ (.head _)))), (Rect.mem_set_unit (inb := inb_S256x2048_S256x1024_0_0)).mpr (Fin.forall_fin_two.mpr ⟨⟨Nat.zero_le _, by simpa using h0⟩, ⟨Nat.zero_le _, by simp; omega⟩⟩)⟩

theorem core_z (c : Dev nD) (t : Fin cfg0.N) (y : S256x2048.Idx) (i : S4096x2048.Idx) (h0 : (i 0 : ℕ) = 256 * t.val + (y 0 : ℕ)) (h1 : (i 1 : ℕ) = (y 1 : ℕ)) :
    zOut (F := Ideal) (grid0.coords t) (iblk0 V c 0 t) (iblk0 V c 1 t) (iblk0 V c 2 t) (iblk0 V c 3 t) (iblk0 V c 4 t) (iblk0 V c 5 t) (iblk0 V c 6 t) y
      = Z (V c main_v3) (PM (V c main_arg2) (V c main_arg3)) (V c main_v4) (V c main_v5) (V c main_v7) (V c main_v6) i := by
  unfold zOut
  canon_tiles x h using (cover_z _ _ _ _ _ y)
  · obtain ⟨r, k, rfl⟩ : ∃ (r k : Fin 256), x = ix2 r k := ⟨x 0, x 1, eq_ix2 x⟩
    simp only [ix2_0, ix2_1] at *
    refine (p16_at _ _ _ _ _ r k).trans (tile_z V c t 3 _ _ _ (fun r k i h0 h1 => (p15_at _ _ _ r k).trans
      (tile_pm V c t 3 _ _ (fun r k => ?_) (fun r k => ?_) r k i h0 h1)) (fun j k => ?_) (fun k => ?_) r k i (by omega) (by show _ = 1024 + (256 * 3 + _); omega))
    all_goals (pointwise <;> first | rfl | (unfold col; blk_ext))
  · obtain ⟨r, k, rfl⟩ : ∃ (r k : Fin 256), x = ix2 r k := ⟨x 0, x 1, eq_ix2 x⟩
    simp only [ix2_0, ix2_1] at *
    refine (p14_at _ _ _ _ _ r k).trans (tile_z V c t 2 _ _ _ (fun r k i h0 h1 => (p13_at _ _ _ r k).trans
      (tile_pm V c t 2 _ _ (fun r k => ?_) (fun r k => ?_) r k i h0 h1)) (fun j k => ?_) (fun k => ?_) r k i (by omega) (by show _ = 1024 + (256 * 2 + _); omega))
    all_goals (pointwise <;> first | rfl | (unfold col; blk_ext))
  · obtain ⟨r, k, rfl⟩ : ∃ (r k : Fin 256), x = ix2 r k := ⟨x 0, x 1, eq_ix2 x⟩
    simp only [ix2_0, ix2_1] at *
    refine (p12_at _ _ _ _ _ r k).trans (tile_z V c t 1 _ _ _ (fun r k i h0 h1 => (p11_at _ _ _ r k).trans
      (tile_pm V c t 1 _ _ (fun r k => ?_) (fun r k => ?_) r k i h0 h1)) (fun j k => ?_) (fun k => ?_) r k i (by omega) (by show _ = 1024 + (256 * 1 + _); omega))
    all_goals (pointwise <;> first | rfl | (unfold col; blk_ext))
  · obtain ⟨r, k, rfl⟩ : ∃ (r k : Fin 256), x = ix2 r k := ⟨x 0, x 1, eq_ix2 x⟩
    simp only [ix2_0, ix2_1] at *
    refine (p10_at _ _ _ _ r k).trans (tile_z V c t 0 _ _ _ (fun r k i h0 h1 => (p9_at _ _ _ r k).trans
      (tile_pm V c t 0 _ _ (fun r k => ?_) (fun r k => ?_) r k i h0 h1)) (fun j k => ?_) (fun k => ?_) r k i (by omega) (by show _ = 1024 + (256 * 0 + _); omega))
    all_goals (pointwise <;> first | rfl | (unfold col; blk_ext))
  · obtain ⟨r, k, rfl⟩ : ∃ (r : Fin 256) (k : Fin 1024), x = ix2 r k := ⟨x 0, x 1, eq_ix2 x⟩
    simp only [ix2_0, ix2_1] at *
    rw [Z_left _ _ _ _ _ _ i k (by omega)]
    have ea : rowb (bA V c t) r = row (φ := .bf16) (V c main_v3) (i 0) := funext fun k => by
      show bA V c t (ix2 r k) = (V c main_v3 : FVec Ideal S4096x1024 .bf16) (ix2 (i 0) k)
      blk_ext [iblk0, idx0 t]
    have eg : one (bG V c t) = one (φ := .f32) (V c main_v4) := funext fun k => by
      show bG V c t (ix2 0 k) = (V c main_v4 : FVec Ideal S1x1024 .f32) (ix2 0 k)
      blk_ext [iblk0, idx0 t]
    have eb : one (bB V c t) = one (φ := .f32) (V c main_v5) := funext fun k => by
      show bB V c t (ix2 0 k) = (V c main_v5 : FVec Ideal S1x1024 .f32) (ix2 0 k)
      blk_ext [iblk0, idx0 t]
    rw [← ea, ← eg, ← eb]
    refine (pay2_at _ _ _ r k).trans ?_
    rw [View.ld_unit_lit' (S := S256x1024) (off := ![0, 0]) _ _ (by decide), View.ld_unit_lit' (S := S1x1024) (off := ![0, 0]) _ _ (by decide),
      View.ld_unit_lit' (S := S1x1024) (off := ![0, 0]) _ _ (by decide)]

theorem z (c : Dev nD) : (dat0 V c).arrAt 7 cfg0.N
    = Z (V c main_v3) (PM (V c main_arg2) (V c main_arg3)) (V c main_v4) (V c main_v5) (V c main_v7) (V c main_v6) := by
  refine (dat0 V c).arrAt_eq_of_covers 7 _ (by decide +kernel) fun t _ y => ?_
  blk_simp
  rw [after0_7]
  refine core_z V c t y _ ?_ ?_
  all_goals (blk_simp [idx0 t] <;> try omega)

end Cert.Kernel7Ideal.Even

end
-- ==== Proof.EvenB.lean ====
/- The even layer's backward call: what its three row-by-row results hold. -/
module

public import proofs.«01_k».proof.Proof.EvenZ

@[expose] public section

set_option maxRecDepth 16384

noncomputable section

namespace Cert.Kernel7Ideal.Even

open Idealize.ShloMosaic Idealize.ShloMosaic.TcCoe Idealize.SL.Sem
open Idealize.ShloMosaic.Pipeline (Dat)
open Cert.Kernel7Ideal Cert.Kernel7Ideal.Gen Cert.Scalars

variable (V : (c : Dev nD) → (b : Ref sig .tc) → Buf (Elt Ideal) ((c : Thread nD τ).loc b))

theorem idx1 : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![0, 0, 0] ∧ win1_6.index t = ![0, 0]
    ∧ win1_7.index t = ![t.val, 0] ∧ win1_8.index t = ![t.val, 0] ∧ win1_9.index t = ![t.val, 0] ∧ win1_10.index t = ![0, 0]
    ∧ win1_11.index t = ![0, 0, 0] ∧ (grid1.coords t 0 : ℕ) = t.val := (by decide +kernel : ∀ t : Fin grid1.N, _)

/-- The blocks of the backward call's operands at a point. -/
abbrev dD (c : Dev nD) (t : Fin cfg1.N) : FVec Ideal S256x2048 .bf16 := iblk1 V c 0 t
abbrev dA (c : Dev nD) (t : Fin cfg1.N) : FVec Ideal S256x1024 .bf16 := iblk1 V c 1 t
abbrev dP (c : Dev nD) (t : Fin cfg1.N) : FVec Ideal S256x1024 .bf16 := iblk1 V c 2 t
abbrev dG (c : Dev nD) (t : Fin cfg1.N) : FVec Ideal S1x1024 .f32 := iblk1 V c 3 t
abbrev dB (c : Dev nD) (t : Fin cfg1.N) : FVec Ideal S1x1024 .f32 := iblk1 V c 4 t
abbrev dW (c : Dev nD) (t : Fin cfg1.N) : FVec Ideal S4x256x256 .bf16 := iblk1 V c 5 t
abbrev dC (c : Dev nD) (t : Fin cfg1.N) : FVec Ideal S1x1024 .f32 := iblk1 V c 6 t

section

variable (a d : FVec Ideal S256x1024 .bf16) (g b : FVec Ideal S1x1024 .f32) (r : Fin 256) (k : Fin 1024)

theorem q6_at : k1_pay6 (F := Ideal) a (ix2 r k) = cen (rowb a r) k := by pointwise [k1_pay6, cen, mean]
theorem q7_at : k1_pay7 (F := Ideal) a (ix2 r 0) = rst (rowb a r) := by pointwise [k1_pay7, q6_at, rst, vare]
theorem q8_at : k1_pay8 (F := Ideal) a (ix2 r k) = hat (rowb a r) k := by pointwise [k1_pay8, q7_at, q6_at, hat]
theorem q10_at : k1_pay10 (F := Ideal) a g b (ix2 r k) = lin (rowb a r) (one g) (one b) k := by pointwise [k1_pay10, k1_pay9, q8_at, lin]
theorem q11_at : k1_pay11 (F := Ideal) a g b (ix2 r k) = sgmT (lin (rowb a r) (one g) (one b) k) := by pointwise [k1_pay11, q10_at, sgmT]
theorem q13_at : k1_pay13 (F := Ideal) (k1_pay10 a g b) (k1_pay11 a g b) (k1_pay12 d) unit1 (ix2 r k)
    = dlin (rowb a r) (one g) (one b) (rowb d r) k := by pointwise [k1_pay13, k1_pay12, q10_at, q11_at, unit1, dlin]
theorem q13_one : k1_pay13 (F := Ideal) (k1_pay10 a g b) (k1_pay11 a g b) (k1_pay12 d) (1 : EReal) (ix2 r k)
    = dlin (rowb a r) (one g) (one b) (rowb d r) k := (congrArg (k1_pay13 (F := Ideal) _ _ _ · (ix2 r k)) one_f32.symm).trans (q13_at a d g b r k)
theorem q14_at : k1_pay14 (F := Ideal) (k1_pay7 a) (k1_pay8 a) (k1_pay9 g) (k1_pay10 a g b) (k1_pay11 a g b) (k1_pay12 d) unit1 (ix2 r k)
    = dnorm (rowb a r) (fun k => dlin (rowb a r) (one g) (one b) (rowb d r) k * g (ix2 0 k)) k := by
  pointwise [k1_pay14, k1_pay9, q13_one, q8_at, q7_at, dnorm, wid]

end

section

variable (dz : FVec Ideal S256x2048 .bf16) (a : FVec Ideal S256x1024 .bf16) (g b : FVec Ideal S1x1024 .f32) (r : Fin 256) (k : Fin 1024)

/-- The first half of a wide block's row. -/
abbrev rowbl {φ : FTy} (x : FVec Ideal S256x2048 φ) (r : Fin 256) : Fin 1024 → EReal := fun k => x (ix2 r (lft k))

theorem ldA_eq : ldA (F := Ideal) a = a := View.ld_unit_lit' (S := S256x1024) (off := ![0, 0]) _ _ (by decide)
theorem ldR_eq : ldR (F := Ideal) g = g := View.ld_unit_lit' (S := S1x1024) (off := ![0, 0]) _ _ (by decide)
theorem ldZ_row : rowb (φ := .bf16) (ldZ (F := Ideal) dz) r = rowbl dz r := funext fun k => by
  show ldZ (F := Ideal) dz (ix2 r k) = dz (ix2 r (lft k))
  show dz ((Rect.unit (s := S256x2048) ![0, 0] S256x1024.size inb_S256x2048_S256x1024_0_0).emb (ix2 r k)) = _
  unfold lft
  blk_ext

theorem dlin_at : k1_pay13 (F := Ideal) (k1_pay10 (ldA a) (ldR g) (ldR b)) (k1_pay11 (ldA a) (ldR g) (ldR b)) (k1_pay12 (ldZ dz)) unit1 (ix2 r k)
    = dlin (rowb a r) (one g) (one b) (rowbl dz r) k := by
  rw [q13_at, ldZ_row, ldA_eq, ldR_eq, ldR_eq]

theorem gradA_at : gradA (F := Ideal) dz a g b (ix2 r k)
    = dnorm (rowb a r) (fun k => dlin (rowb a r) (one g) (one b) (rowbl dz r) k * g (ix2 0 k)) k := by
  unfold gradA
  rw [q14_at, ldZ_row, ldA_eq, ldR_eq, ldR_eq]

theorem daOut_at : daOut (F := Ideal) dz a g b (ix2 r k)
    = dnorm (rowb a r) (fun k => dlin (rowb a r) (one g) (one b) (rowbl dz r) k * g (ix2 0 k)) k := by
  refine Eq.trans ?_ (gradA_at dz a g b r k)
  unfold daOut gradA
  canon_tiles x h
  obtain ⟨r', k', rfl⟩ : ∃ (r : Fin 256) (k : Fin 1024), x = ix2 r k := ⟨x 0, x 1, eq_ix2 x⟩
  simp only [ix2_0, ix2_1] at *
  obtain rfl : r' = r := Fin.ext (by omega)
  obtain rfl : k' = k := Fin.ext (by omega)
  rfl

end

/-- The row of the array that row `r` of the block at a point is. -/
def at1 (t : Fin cfg1.N) (r : Fin 256) : Fin 4096 := ⟨256 * t.val + (r : ℕ), by have : t.val < 16 := lt_of_lt_of_eq t.isLt N_1; omega⟩

section

variable (c : Dev nD) (t : Fin cfg1.N) (r : Fin 256)

theorem row_a : rowb (dA V c t) r = row (φ := .bf16) (V c main_v3) (at1 t r) := funext fun k => by
  show dA V c t (ix2 r k) = (V c main_v3 : FVec Ideal S4096x1024 .bf16) (ix2 (at1 t r) k)
  unfold at1
  blk_ext [iblk1, idx1 t]
theorem row_d : rowbl (dD V c t) r = rowl (φ := .bf16) (V c main_arg8) (at1 t r) := funext fun k => by
  show dD V c t (ix2 r (lft k)) = (V c main_arg8 : FVec Ideal S4096x2048 .bf16) (ix2 (at1 t r) (lft k))
  unfold at1
  blk_ext [iblk1, idx1 t]
theorem one_g : one (dG V c t) = one (φ := .f32) (V c main_v4) := funext fun k => by
  show dG V c t (ix2 0 k) = (V c main_v4 : FVec Ideal S1x1024 .f32) (ix2 0 k)
  blk_ext [iblk1, idx1 t]
theorem one_b : one (dB V c t) = one (φ := .f32) (V c main_v5) := funext fun k => by
  show dB V c t (ix2 0 k) = (V c main_v5 : FVec Ideal S1x1024 .f32) (ix2 0 k)
  blk_ext [iblk1, idx1 t]

theorem dlin_blk (k : Fin 1024) : dlin (rowb (dA V c t) r) (one (dG V c t)) (one (dB V c t)) (rowbl (dD V c t) r) k
    = dlin (row (φ := .bf16) (V c main_v3) (at1 t r)) (one (φ := .f32) (V c main_v4)) (one (φ := .f32) (V c main_v5)) (rowl (φ := .bf16) (V c main_arg8) (at1 t r)) k := by
  rw [row_a, row_d, one_g, one_b]

theorem grad_blk (k : Fin 1024) : dnorm (rowb (dA V c t) r) (fun k => dlin (rowb (dA V c t) r) (one (dG V c t)) (one (dB V c t)) (rowbl (dD V c t) r) k * dG V c t (ix2 0 k)) k
    = DA (V c main_v3) (V c main_v4) (V c main_v5) (V c main_arg8) (ix2 (at1 t r) k) := by
  have e : ∀ k, dG V c t (ix2 0 k) = (V c main_v4 : FVec Ideal S1x1024 .f32) (ix2 0 k) := fun k => congrFun (one_g V c t) k
  simp only [e]
  rw [row_a, row_d, one_g, one_b]
  rfl

end

theorem da (c : Dev nD) : (dat1 V c).arrAt 7 cfg1.N = DA (V c main_v3) (V c main_v4) (V c main_v5) (V c main_arg8) := by
  refine (dat1 V c).arrAt_eq_of_covers 7 _ (by decide +kernel) fun t _ y => ?_
  blk_simp
  rw [after1_7]
  obtain ⟨r, k, rfl⟩ : ∃ (r : Fin 256) (k : Fin 1024), y = ix2 r k := ⟨y 0, y 1, eq_ix2 y⟩
  refine ((daOut_at _ _ _ _ r k).trans (grad_blk V c t r k)).trans (congrArg (DA (V c main_v3) (V c main_v4) (V c main_v5) (V c main_arg8)) ?_)
  unfold at1
  blk_ext [idx1 t]

/-- One element of a tile of the pooled rows' gradient: group `g`, with the tile's operands. -/
theorem tile_dp (c : Dev nD) (t : Fin cfg1.N) (g : Fin 4) (w : FVec Ideal S1x256x256 .bf16) (d : FVec Ideal S256x256 .bf16) (b : FVec Ideal S1x256 .f32)
    (hw : ∀ j k, w (ix3 0 j k) = dW V c t (ix3 g j k)) (hd : ∀ r k, d (ix2 r k) = dD V c t (ix2 r (rgt (col g k))))
    (hb : ∀ k, b (ix2 0 k) = dC V c t (ix2 0 (col g k))) (r k : Fin 256) (i : S4096x1024.Idx)
    (h0 : (i 0 : ℕ) = 256 * t.val + (r : ℕ)) (h1 : (i 1 : ℕ) = 256 * (g : ℕ) + (k : ℕ)) :
    ∑ j : Fin 256, (d (ix2 r j) * b (ix2 0 j)) * w (ix3 0 k j) = DP (V c main_v7) (V c main_v6) (V c main_arg8) i := by
  have eg : grp (i 1) = g := Fin.ext (by show (i 1 : ℕ) / 256 = _; omega)
  have el : lan (i 1) = k := Fin.ext (by show (i 1 : ℕ) % 256 = _; omega)
  unfold DP dq
  rw [eg, el]
  refine Finset.sum_congr rfl fun j _ => congrArg₂ (fun p q : EReal => p * q) (congrArg₂ (fun p q : EReal => p * q) ?_ ?_) ?_
  · rw [hd]; unfold rgt col; blk_ext [iblk1, idx1 t]
  · rw [hb]; unfold col; blk_ext [iblk1, idx1 t]
  · rw [hw]; blk_ext [iblk1, idx1 t]

section

variable (w : FVec Ideal S1x256x256 .bf16) (d : FVec Ideal S256x256 .bf16) (b : FVec Ideal S1x256 .f32) (r k : Fin 256)

theorem q30_at : k1_pay30 (F := Ideal) w d b (ix2 r k) = ∑ j : Fin 256, (d (ix2 r j) * b (ix2 0 j)) * w (ix3 0 k j) := by
  pointwise [k1_pay30, k1_pay29, k1_pay27, k1_pay26]
theorem q40_at : k1_pay40 (F := Ideal) w d b (ix2 r k) = ∑ j : Fin 256, (d (ix2 r j) * b (ix2 0 j)) * w (ix3 0 k j) := by
  pointwise [k1_pay40, k1_pay39, k1_pay37, k1_pay36]
theorem q50_at : k1_pay50 (F := Ideal) w d b (ix2 r k) = ∑ j : Fin 256, (d (ix2 r j) * b (ix2 0 j)) * w (ix3 0 k j) := by
  pointwise [k1_pay50, k1_pay49, k1_pay47, k1_pay46]
theorem q60_at : k1_pay60 (F := Ideal) w d b (ix2 r k) = ∑ j : Fin 256, (d (ix2 r j) * b (ix2 0 j)) * w (ix3 0 k j) := by
  pointwise [k1_pay60, k1_pay59, k1_pay57, k1_pay56]

end

section

variable (c : Dev nD) (t : Fin cfg1.N) (r k : Fin 256) (i : S4096x1024.Idx) (h0 : (i 0 : ℕ) = 256 * t.val + (r : ℕ))
include h0

theorem grad0 (h1 : (i 1 : ℕ) = 256 * 0 + (k : ℕ)) : gradP0 (F := Ideal) (iblk1 V c 0 t) (iblk1 V c 5 t) (iblk1 V c 6 t) (ix2 r k)
    = DP (V c main_v7) (V c main_v6) (V c main_arg8) i := by
  unfold gradP0
  refine (q30_at _ _ _ r k).trans (tile_dp V c t 0 _ _ _ (fun j k => ?_) (fun r k => ?_) (fun k => ?_) r k i h0 h1)
  all_goals (pointwise <;> first | rfl | (unfold rgt col; blk_ext) | (unfold col; blk_ext))
theorem grad1 (h1 : (i 1 : ℕ) = 256 * 1 + (k : ℕ)) : gradP1 (F := Ideal) (iblk1 V c 0 t) (iblk1 V c 5 t) (iblk1 V c 6 t) (ix2 r k)
    = DP (V c main_v7) (V c main_v6) (V c main_arg8) i := by
  unfold gradP1
  refine (q40_at _ _ _ r k).trans (tile_dp V c t 1 _ _ _ (fun j k => ?_) (fun r k => ?_) (fun k => ?_) r k i h0 h1)
  all_goals (pointwise <;> first | rfl | (unfold rgt col; blk_ext) | (unfold col; blk_ext))
theorem grad2 (h1 : (i 1 : ℕ) = 256 * 2 + (k : ℕ)) : gradP2 (F := Ideal) (iblk1 V c 0 t) (iblk1 V c 5 t) (iblk1 V c 6 t) (ix2 r k)
    = DP (V c main_v7) (V c main_v6) (V c main_arg8) i := by
  unfold gradP2
  refine (q50_at _ _ _ r k).trans (tile_dp V c t 2 _ _ _ (fun j k => ?_) (fun r k => ?_) (fun k => ?_) r k i h0 h1)
  all_goals (pointwise <;> first | rfl | (unfold rgt col; blk_ext) | (unfold col; blk_ext))
theorem grad3 (h1 : (i 1 : ℕ) = 256 * 3 + (k : ℕ)) : gradP3 (F := Ideal) (iblk1 V c 0 t) (iblk1 V c 5 t) (iblk1 V c 6 t) (ix2 r k)
    = DP (V c main_v7) (V c main_v6) (V c main_arg8) i := by
  unfold gradP3
  refine (q60_at _ _ _ r k).trans (tile_dp V c t 3 _ _ _ (fun j k => ?_) (fun r k => ?_) (fun k => ?_) r k i h0 h1)
  all_goals (pointwise <;> first | rfl | (unfold rgt col; blk_ext) | (unfold col; blk_ext))

end

section

variable (p : FVec Ideal S256x256 .f32) (v : FVec Ideal S256x1 .f32) (r k : Fin 256)

theorem q33_at : k1_pay33 (F := Ideal) p (ix2 r k) = p (ix2 r k) := by pointwise [k1_pay33]
theorem q43_at : k1_pay43 (F := Ideal) p (ix2 r k) = p (ix2 r k) := by pointwise [k1_pay43]
theorem q53_at : k1_pay53 (F := Ideal) p (ix2 r k) = p (ix2 r k) := by pointwise [k1_pay53]
theorem q2_at : k1_pay2 (F := Ideal) p (ix2 r k) = p (ix2 r k) := by pointwise [k1_pay2]
theorem q34_at : k1_pay34 (F := Ideal) v p (ix2 r k) = p (ix2 r k) * v (ix2 r 0) := by pointwise [k1_pay34]
theorem q44_at : k1_pay44 (F := Ideal) v p (ix2 r k) = p (ix2 r k) * v (ix2 r 0) := by pointwise [k1_pay44]
theorem q54_at : k1_pay54 (F := Ideal) v p (ix2 r k) = p (ix2 r k) * v (ix2 r 0) := by pointwise [k1_pay54]
theorem q3_at : k1_pay3 (F := Ideal) v p (ix2 r k) = p (ix2 r k) * v (ix2 r 0) := by pointwise [k1_pay3]

end

theorem core_dp (c : Dev nD) (t : Fin cfg1.N) (y : S256x1024.Idx) (i : S4096x1024.Idx) (h0 : (i 0 : ℕ) = 256 * t.val + (y 0 : ℕ)) (h1 : (i 1 : ℕ) = (y 1 : ℕ)) :
    dpOut (F := Ideal) (iblk1 V c 0 t) (iblk1 V c 5 t) (iblk1 V c 6 t) y = DP (V c main_v7) (V c main_v6) (V c main_arg8) i := by
  unfold dpOut
  canon_tiles x h
  all_goals
    obtain ⟨r, k, rfl⟩ : ∃ (r k : Fin 256), x = ix2 r k := ⟨x 0, x 1, eq_ix2 x⟩
    simp only [ix2_0, ix2_1] at *
  · exact (q2_at _ r k).trans (grad3 V c t r k i (by omega) (by omega))
  · exact (q53_at _ r k).trans (grad2 V c t r k i (by omega) (by omega))
  · exact (q43_at _ r k).trans (grad1 V c t r k i (by omega) (by omega))
  · exact (q33_at _ r k).trans (grad0 V c t r k i (by omega) (by omega))

theorem dp (c : Dev nD) : (dat1 V c).arrAt 9 cfg1.N = DP (V c main_v7) (V c main_v6) (V c main_arg8) := by
  refine (dat1 V c).arrAt_eq_of_covers 9 _ (by decide +kernel) fun t _ y => ?_
  blk_simp
  rw [after1_9]
  refine core_dp V c t y _ ?_ ?_
  all_goals (blk_simp [idx1 t] <;> try omega)

/-- A gradient times one over the count is the window sums' gradient. -/
theorem tile_ds (c : Dev nD) (t : Fin cfg1.N) (g : Fin 4) (p u : EReal) (r k : Fin 256) (i : S4096x1024.Idx)
    (h0 : (i 0 : ℕ) = 256 * t.val + (r : ℕ)) (h1 : (i 1 : ℕ) = 256 * (g : ℕ) + (k : ℕ)) (hp : p = DP (V c main_v7) (V c main_v6) (V c main_arg8) i)
    (hu : u = inv (256 * (grid1.coords t 0 : ℕ) + (r : ℕ)) (g : ℕ)) : p * u = DS (V c main_v7) (V c main_v6) (V c main_arg8) i := by
  have hc := (idx1 t).2.2.2.2.2.2.2.2.2.2.2.2
  rw [hp, hu]
  unfold DS
  refine congrArg₂ (fun p q : EReal => p * q) rfl (congrArg₂ inv (by omega) ?_)
  show _ = (i 1 : ℕ) / 256
  omega

theorem core_ds (c : Dev nD) (t : Fin cfg1.N) (y : S256x1024.Idx) (i : S4096x1024.Idx) (h0 : (i 0 : ℕ) = 256 * t.val + (y 0 : ℕ)) (h1 : (i 1 : ℕ) = (y 1 : ℕ)) :
    dsOut (F := Ideal) (grid1.coords t) (iblk1 V c 0 t) (iblk1 V c 5 t) (iblk1 V c 6 t) y = DS (V c main_v7) (V c main_v6) (V c main_arg8) i := by
  unfold dsOut
  have hi : (grid1.coords t 0 : ℕ) < 16 := (grid1.coords t 0).isLt
  canon_tiles x h
  all_goals
    obtain ⟨r, k, rfl⟩ : ∃ (r k : Fin 256), x = ix2 r k := ⟨x 0, x 1, eq_ix2 x⟩
    simp only [ix2_0, ix2_1] at *
  · exact (q3_at _ _ r k).trans (tile_ds V c t 3 _ _ r k i (by omega) (by show _ = 256 * 3 + _; omega) (grad3 V c t r k i (by omega) (by omega)) (b16 _ hi r))
  · exact (q54_at _ _ r k).trans (tile_ds V c t 2 _ _ r k i (by omega) (by show _ = 256 * 2 + _; omega) (grad2 V c t r k i (by omega) (by omega)) (b8 _ hi r))
  · exact (q44_at _ _ r k).trans (tile_ds V c t 1 _ _ r k i (by omega) (by show _ = 256 * 1 + _; omega) (grad1 V c t r k i (by omega) (by omega)) (b4 _ hi r))
  · exact (q34_at _ _ r k).trans (tile_ds V c t 0 _ _ r k i (by omega) (by show _ = 256 * 0 + _; omega) (grad0 V c t r k i (by omega) (by omega)) (b2 _ hi r))

theorem ds (c : Dev nD) : (dat1 V c).arrAt 8 cfg1.N = DS (V c main_v7) (V c main_v6) (V c main_arg8) := by
  refine (dat1 V c).arrAt_eq_of_covers 8 _ (by decide +kernel) fun t _ y => ?_
  blk_simp
  rw [after1_8]
  refine core_ds V c t y _ ?_ ?_
  all_goals (blk_simp [idx1 t] <;> try omega)

end Cert.Kernel7Ideal.Even

end
-- ==== Proof.EvenC.lean ====
/- The even layer's backward call: what its two blocks of sums hold. -/
module

public import proofs.«01_k».proof.Proof.EvenB

@[expose] public section

set_option maxRecDepth 16384

noncomputable section

namespace Cert.Kernel7Ideal.Even

open Idealize.ShloMosaic Idealize.ShloMosaic.TcCoe Idealize.SL.Sem
open Idealize.ShloMosaic.Pipeline (Dat)
open Cert.Kernel7Ideal Cert.Kernel7Ideal.Gen Cert.Scalars

variable (V : (c : Dev nD) → (b : Ref sig .tc) → Buf (Elt Ideal) ((c : Thread nD τ).loc b))

/-- Off the later writes a buffer reads the earlier ones. -/
theorem canon_off {s : Shape} {e : EltTy} (L' : List (View.Piece (Elt Ideal) s e)) (y : s.Idx) :
    ∀ L : List (View.Piece (Elt Ideal) s e), (∀ q ∈ L, y ∉ q.1.set) → View.canon (Val := Elt Ideal) (L ++ L') y = View.canon (Val := Elt Ideal) L' y
  | [], _ => rfl
  | q :: L, h => by
    rw [List.cons_append, View.canon_cons_of_not_mem _ _ (h q (.head _))]
    exact canon_off L' y L fun p hp => h p (.tail _ hp)

/-- Two of the arrays the call reads. -/
abbrev aZ (c : Dev nD) : FVec Ideal S4096x2048 .bf16 := V c main_arg8
abbrev aP (c : Dev nD) : FVec Ideal S4096x1024 .bf16 := V c main_v8_1

/-- A row's share of the sums, over the arrays the call reads. -/
abbrev sh (c : Dev nD) : ℕ → Fin 1024 → Fin 4096 → EReal :=
  share (V c main_v3) (V c main_v8_1) (V c main_v4) (V c main_v5) (V c main_v6) (V c main_arg8)

/-- A block of sums after one more step. -/
def more (c : Dev nD) (t : Fin cfg1.N) (x : FVec Ideal S8x1024 .f32) : FVec Ideal S8x1024 .f32 := fun y =>
  x y + ∑ r : Fin 256, sh V c (y 0 : ℕ) (y 1) (at1 t r)

theorem sh_0 (c : Dev nD) (l : Fin 1024) (i : Fin 4096) : sh V c 0 l i
    = dlin (row (φ := .bf16) (V c main_v3) i) (one (φ := .f32) (V c main_v4)) (one (φ := .f32) (V c main_v5)) (rowl (φ := .bf16) (V c main_arg8) i) l
      * hat (row (φ := .bf16) (V c main_v3) i) l := rfl
theorem sh_1 (c : Dev nD) (l : Fin 1024) (i : Fin 4096) : sh V c 1 l i
    = dlin (row (φ := .bf16) (V c main_v3) i) (one (φ := .f32) (V c main_v4)) (one (φ := .f32) (V c main_v5)) (rowl (φ := .bf16) (V c main_arg8) i) l := rfl
theorem sh_2 (c : Dev nD) (l : Fin 1024) (i : Fin 4096) : sh V c 2 l i
    = DA (V c main_v3) (V c main_v4) (V c main_v5) (V c main_arg8) (ix2 i l) := rfl
theorem sh_3 (c : Dev nD) (l : Fin 1024) (i : Fin 4096) : sh V c 3 l i
    = aZ V c (ix2 i (rgt l)) * prod (V c main_v8_1) (V c main_v6) i (grp l) (lan l) := rfl

/-- An element of a row the step adds its rows' shares to. -/
theorem more_at (c : Dev nD) (t : Fin cfg1.N) (x : FVec Ideal S8x1024 .f32) (y : S8x1024.Idx) (n : ℕ) (l : Fin 1024) (f : Fin 256 → EReal) (u : EReal)
    (h0 : (y 0 : ℕ) = n) (h1 : (y 1 : ℕ) = (l : ℕ)) (hu : u = x y) (hf : ∀ r, f r = sh V c n l (at1 t r)) :
    u + ∑ r : Fin 256, f r = more V c t x y := by
  have e : (y 1 : Fin 1024) = l := Fin.ext h1
  unfold more
  rw [hu, h0, e]
  exact congrArg (x y + ·) (Finset.sum_congr rfl fun r _ => hf r)

section

variable (h l s d : FVec Ideal S256x1024 .f32) (v : FVec Ideal S1x1024 .f32) (k : Fin 1024)

theorem r16_at : k1_pay16 (F := Ideal) h l s d unit1 v (ix2 0 k)
    = v (ix2 0 k) + ∑ r : Fin 256, k1_pay13 (F := Ideal) l s d unit1 (ix2 r k) * h (ix2 r k) := by pointwise [k1_pay16]
theorem r17_at : k1_pay17 (F := Ideal) l s d unit1 v (ix2 0 k)
    = v (ix2 0 k) + ∑ r : Fin 256, k1_pay13 (F := Ideal) l s d unit1 (ix2 r k) := by pointwise [k1_pay17]
theorem r18_at : k1_pay18 (F := Ideal) l v (ix2 0 k) = v (ix2 0 k) + ∑ r : Fin 256, l (ix2 r k) := by pointwise [k1_pay18]

end

section

variable (p : FVec Ideal S256x256 .bf16) (w : FVec Ideal S1x256x256 .bf16) (d : FVec Ideal S256x256 .bf16) (v : FVec Ideal S1x256 .f32) (k : Fin 256)

theorem r28_at : k1_pay28 (F := Ideal) p w d v (ix2 0 k) = v (ix2 0 k) + ∑ r : Fin 256, d (ix2 r k) * ∑ j : Fin 256, p (ix2 r j) * w (ix3 0 j k) := by
  pointwise [k1_pay28, k1_pay27, k1_pay26, k1_pay25]
theorem r38_at : k1_pay38 (F := Ideal) p w d v (ix2 0 k) = v (ix2 0 k) + ∑ r : Fin 256, d (ix2 r k) * ∑ j : Fin 256, p (ix2 r j) * w (ix3 0 j k) := by
  pointwise [k1_pay38, k1_pay37, k1_pay36, k1_pay35]
theorem r48_at : k1_pay48 (F := Ideal) p w d v (ix2 0 k) = v (ix2 0 k) + ∑ r : Fin 256, d (ix2 r k) * ∑ j : Fin 256, p (ix2 r j) * w (ix3 0 j k) := by
  pointwise [k1_pay48, k1_pay47, k1_pay46, k1_pay45]
theorem r58_at : k1_pay58 (F := Ideal) p w d v (ix2 0 k) = v (ix2 0 k) + ∑ r : Fin 256, d (ix2 r k) * ∑ j : Fin 256, p (ix2 r j) * w (ix3 0 j k) := by
  pointwise [k1_pay58, k1_pay57, k1_pay56, k1_pay55]

end

/-- One element of a tile of the last row: group `g`, with the tile's operands. -/
theorem tile_v (c : Dev nD) (t : Fin cfg1.N) (g : Fin 4) (x : FVec Ideal S8x1024 .f32) (p : FVec Ideal S256x256 .bf16) (w : FVec Ideal S1x256x256 .bf16)
    (d : FVec Ideal S256x256 .bf16) (u : EReal) (hp : ∀ r k, p (ix2 r k) = dP V c t (ix2 r (col g k))) (hw : ∀ j k, w (ix3 0 j k) = dW V c t (ix3 g j k))
    (hd : ∀ r k, d (ix2 r k) = dD V c t (ix2 r (rgt (col g k)))) (k : Fin 256) (y : S8x1024.Idx) (h0 : (y 0 : ℕ) = 3)
    (h1 : (y 1 : ℕ) = 256 * (g : ℕ) + (k : ℕ)) (hu : u = x y) :
    u + ∑ r : Fin 256, d (ix2 r k) * ∑ j : Fin 256, p (ix2 r j) * w (ix3 0 j k) = more V c t x y := by
  refine more_at V c t x y 3 (col g k) _ u h0 h1 hu fun r => ?_
  rw [sh_3, grp_col, lan_col, hd]
  refine congrArg₂ (fun p q : EReal => p * q) ?_ (Finset.sum_congr rfl fun j _ => congrArg₂ (fun p q : EReal => p * q) ?_ ?_)
  · unfold rgt col at1; blk_ext [iblk1, idx1 t]
  · rw [hp]; unfold col at1; blk_ext [iblk1, idx1 t]
  · rw [hw]; blk_ext [iblk1, idx1 t]

theorem step_v (c : Dev nD) (t : Fin cfg1.N) (x : FVec Ideal S8x1024 .f32) (y : S8x1024.Idx) :
    vecOut (F := Ideal) (iblk1 V c 0 t) (iblk1 V c 1 t) (iblk1 V c 2 t) (iblk1 V c 3 t) (iblk1 V c 4 t) (iblk1 V c 5 t) x y = more V c t x y := by
  have hy1 : (y 1 : ℕ) < 1024 := (y 1).isLt
  unfold vecOut
  by_cases hy : (y 0 : ℕ) < 4
  · refine View.canon_append_of_pieces (Val := Elt Ideal) (e := .f32) (more V c t x) _ _ ?_ y ?_
    · intro q hq
      unfold vecRows at hq
      simp only [List.mem_cons, List.not_mem_nil, or_false] at hq
      rcases hq with rfl | rfl | rfl | rfl | rfl | rfl | rfl
      all_goals intro z
      · obtain ⟨o, k, rfl⟩ : ∃ (o : Fin 1) (k : Fin 256), z = ix2 o k := ⟨z 0, z 1, eq_ix2 z⟩
        obtain rfl : o = 0 := Subsingleton.elim _ _
        refine (r58_at _ _ _ _ k).trans (tile_v V c t 3 x _ _ _ _ (fun r k => ?_) (fun j k => ?_) (fun r k => ?_) k _ ?_ ?_ ?_)
        · pointwise <;> first | rfl | (unfold col; blk_ext)
        · pointwise <;> first | rfl | blk_ext
        · pointwise <;> first | rfl | (unfold rgt col; blk_ext)
        · rfl
        · show 768 + 1 * (k : ℕ) = 256 * 3 + _; omega
        · rfl
      · obtain ⟨o, k, rfl⟩ : ∃ (o : Fin 1) (k : Fin 256), z = ix2 o k := ⟨z 0, z 1, eq_ix2 z⟩
        obtain rfl : o = 0 := Subsingleton.elim _ _
        refine (r48_at _ _ _ _ k).trans (tile_v V c t 2 x _ _ _ _ (fun r k => ?_) (fun j k => ?_) (fun r k => ?_) k _ ?_ ?_ ?_)
        · pointwise <;> first | rfl | (unfold col; blk_ext)
        · pointwise <;> first | rfl | blk_ext
        · pointwise <;> first | rfl | (unfold rgt col; blk_ext)
        · rfl
        · show 512 + 1 * (k : ℕ) = 256 * 2 + _; omega
        · rfl
      · obtain ⟨o, k, rfl⟩ : ∃ (o : Fin 1) (k : Fin 256), z = ix2 o k := ⟨z 0, z 1, eq_ix2 z⟩
        obtain rfl : o = 0 := Subsingleton.elim _ _
        refine (r38_at _ _ _ _ k).trans (tile_v V c t 1 x _ _ _ _ (fun r k => ?_) (fun j k => ?_) (fun r k => ?_) k _ ?_ ?_ ?_)
        · pointwise <;> first | rfl | (unfold col; blk_ext)
        · pointwise <;> first | rfl | blk_ext
        · pointwise <;> first | rfl | (unfold rgt col; blk_ext)
        · rfl
        · show 256 + 1 * (k : ℕ) = 256 * 1 + _; omega
        · rfl
      · obtain ⟨o, k, rfl⟩ : ∃ (o : Fin 1) (k : Fin 256), z = ix2 o k := ⟨z 0, z 1, eq_ix2 z⟩
        obtain rfl : o = 0 := Subsingleton.elim _ _
        refine (r28_at _ _ _ _ k).trans (tile_v V c t 0 x _ _ _ _ (fun r k => ?_) (fun j k => ?_) (fun r k => ?_) k _ ?_ ?_ ?_)
        · pointwise <;> first | rfl | (unfold col; blk_ext)
        · pointwise <;> first | rfl | blk_ext
        · pointwise <;> first | rfl | (unfold rgt col; blk_ext)
        · rfl
        · show 0 + 1 * (k : ℕ) = 256 * 0 + _; omega
        · rfl
      · obtain ⟨o, k, rfl⟩ : ∃ (o : Fin 1) (k : Fin 1024), z = ix2 o k := ⟨z 0, z 1, eq_ix2 z⟩
        obtain rfl : o = 0 := Subsingleton.elim _ _
        refine (r18_at _ _ k).trans (more_at V c t x _ 2 k _ _ rfl (by show 0 + 1 * (k : ℕ) = _; omega) rfl fun r => ?_)
        exact (gradA_at _ _ _ _ r k).trans (grad_blk V c t r k)
      · obtain ⟨o, k, rfl⟩ : ∃ (o : Fin 1) (k : Fin 1024), z = ix2 o k := ⟨z 0, z 1, eq_ix2 z⟩
        obtain rfl : o = 0 := Subsingleton.elim _ _
        refine (r17_at _ _ _ _ k).trans (more_at V c t x _ 1 k _ _ rfl (by show 0 + 1 * (k : ℕ) = _; omega) rfl fun r => ?_)
        exact (dlin_at _ _ _ _ r k).trans (dlin_blk V c t r k)
      · obtain ⟨o, k, rfl⟩ : ∃ (o : Fin 1) (k : Fin 1024), z = ix2 o k := ⟨z 0, z 1, eq_ix2 z⟩
        obtain rfl : o = 0 := Subsingleton.elim _ _
        refine (r16_at _ _ _ _ _ k).trans (more_at V c t x _ 0 k _ _ rfl (by show 0 + 1 * (k : ℕ) = _; omega) rfl fun r => ?_)
        rw [sh_0]
        refine congrArg₂ (fun p q : EReal => p * q) ((dlin_at _ _ _ _ r k).trans (dlin_blk V c t r k)) ?_
        rw [q8_at, ldA_eq]
        exact congrArg (hat · k) (row_a V c t r)
    · unfold vecRows
      by_cases b3 : (y 0 : ℕ) = 3
      · by_cases a3 : 768 ≤ (y 1 : ℕ)
        · exact ⟨_, .head _, (Rect.mem_set_unit (inb := inb_S8x1024_S1x256_3_768)).mpr (Fin.forall_fin_two.mpr ⟨⟨by simp; omega, by simp; omega⟩, ⟨a3, by simp; omega⟩⟩)⟩
        by_cases a2 : 512 ≤ (y 1 : ℕ)
        · exact ⟨_, .tail _ (.head _), (Rect.mem_set_unit (inb := inb_S8x1024_S1x256_3_512)).mpr (Fin.forall_fin_two.mpr ⟨⟨by simp; omega, by simp; omega⟩, ⟨a2, by simp; omega⟩⟩)⟩
        by_cases a1 : 256 ≤ (y 1 : ℕ)
        · exact ⟨_, .tail _ (.tail _ (.head _)), (Rect.mem_set_unit (inb := inb_S8x1024_S1x256_3_256)).mpr (Fin.forall_fin_two.mpr ⟨⟨by simp; omega, by simp; omega⟩, ⟨a1, by simp; omega⟩⟩)⟩
        · exact ⟨_, .tail _ (.tail _ (.tail _ (.head _))), (Rect.mem_set_unit (inb := inb_S8x1024_S1x256_3_0)).mpr (Fin.forall_fin_two.mpr ⟨⟨by simp; omega, by simp; omega⟩, ⟨Nat.zero_le _, by simp; omega⟩⟩)⟩
      by_cases b2 : (y 0 : ℕ) = 2
      · exact ⟨_, .tail _ (.tail _ (.tail _ (.tail _ (.head _)))), (Rect.mem_set_unit (inb := inb_S8x1024_S1x1024_2_0)).mpr (Fin.forall_fin_two.mpr ⟨⟨by simp; omega, by simp; omega⟩, ⟨Nat.zero_le _, by simp; omega⟩⟩)⟩
      by_cases b1 : (y 0 : ℕ) = 1
      · exact ⟨_, .tail _ (.tail _ (.tail _ (.tail _ (.tail _ (.head _))))), (Rect.mem_set_unit (inb := inb_S8x1024_S1x1024_1_0)).mpr (Fin.forall_fin_two.mpr ⟨⟨by simp; omega, by simp; omega⟩, ⟨Nat.zero_le _, by simp; omega⟩⟩)⟩
      · exact ⟨_, .tail _ (.tail _ (.tail _ (.tail _ (.tail _ (.tail _ (.head _)))))), (Rect.mem_set_unit (inb := inb_S8x1024_S1x1024_0_0)).mpr (Fin.forall_fin_two.mpr ⟨⟨Nat.zero_le _, by simp; omega⟩, ⟨Nat.zero_le _, by simp; omega⟩⟩)⟩
  · rw [canon_off _ y _ ?_]
    · have e : more V c t x y = x y := by
        unfold more sh share
        rw [Finset.sum_eq_zero fun r _ => by rw [if_neg (by omega), if_neg (by omega), if_neg (by omega), if_neg (by omega)], add_zero]
      rw [e]
      canon_tiles z h
      refine congrArg x ?_
      blk_ext
    · intro q hq
      unfold vecRows at hq
      simp only [List.mem_cons, List.not_mem_nil, or_false] at hq
      have H : ∀ (n l w : ℕ) (inb : ∀ a, (![n, l] : Fin 2 → ℕ) a + (![1, w] : Fin 2 → ℕ) a ≤ S8x1024.size a), n < 4 →
          y ∉ (Rect.unit (s := S8x1024) ![n, l] ![1, w] inb).set := by
        intro n l w inb hn hm
        have h : (y 0 : ℕ) < n + 1 := ((Rect.mem_set_unit (inb := inb)).mp hm 0).2
        omega
      rcases hq with rfl | rfl | rfl | rfl | rfl | rfl | rfl
      · exact H 3 768 256 inb_S8x1024_S1x256_3_768 (by omega)
      · exact H 3 512 256 inb_S8x1024_S1x256_3_512 (by omega)
      · exact H 3 256 256 inb_S8x1024_S1x256_3_256 (by omega)
      · exact H 3 0 256 inb_S8x1024_S1x256_3_0 (by omega)
      · exact H 2 0 1024 inb_S8x1024_S1x1024_2_0 (by omega)
      · exact H 1 0 1024 inb_S8x1024_S1x1024_1_0 (by omega)
      · exact H 0 0 1024 inb_S8x1024_S1x1024_0_0 (by omega)

theorem vec (c : Dev nD) : (dat1 V c).arrAt 10 cfg1.N = VEC (V c main_v3) (V c main_v8_1) (V c main_v4) (V c main_v5) (V c main_v6) (V c main_arg8) := by
  refine (dat1 V c).arrAt_eq_of_after_last 10 t1_15 (by decide +kernel) _ fun j => ?_
  blk_simp
  rw [after1_10, Pipeline.eq_sum_fin_of_reset_step_apply_last (fun n h => (sums V c n h).1) 16 (fun _ => (0 : EReal))
    (fun t j => ∑ r : Fin 256, sh V c (j 0 : ℕ) (j 1) (at1 t r))
    (fun t h j => by
      obtain ⟨n, hn⟩ := t
      obtain rfl : n = 0 := by have := lt_of_lt_of_eq hn N_1; dsimp only at h; omega
      show (sums V c 0 hn).1 j = _
      rw [sums_zero1]
      refine (step_v V c ⟨0, hn⟩ _ j).trans (congrArg (· + _) ?_)
      pointwise [k1_pay4])
    (fun t h j => by
      obtain ⟨n, hn⟩ := t
      cases n with
      | zero => exact absurd rfl h
      | succ n =>
        show (sums V c (n + 1) hn).1 j = _
        rw [sums_succ1]
        exact step_v V c ⟨n + 1, hn⟩ _ j) (le_of_eq N_1) t1_15 rfl j, zero_add]
  unfold VEC
  refine Fin.sum_mul_add_congr fun t k hl => ?_
  refine congrArg (sh V c (j 0 : ℕ) (j 1)) (Fin.ext ?_)
  show 256 * (t : ℕ) + (k : ℕ) = (t : ℕ) * 256 + (k : ℕ)
  omega

section

variable (p d : FVec Ideal S256x256 .bf16) (b : FVec Ideal S1x256 .f32) (v : FVec Ideal S1x256x256 .f32) (i k : Fin 256)

theorem r31_at : k1_pay32 (F := Ideal) (k1_pay31 p d b v) (ix3 0 i k) = v (ix3 0 i k) + ∑ r : Fin 256, p (ix2 r i) * (d (ix2 r k) * b (ix2 0 k)) := by
  pointwise [k1_pay32, k1_pay31, k1_pay29, k1_pay27, k1_pay25]
theorem r41_at : k1_pay42 (F := Ideal) (k1_pay41 p d b v) (ix3 0 i k) = v (ix3 0 i k) + ∑ r : Fin 256, p (ix2 r i) * (d (ix2 r k) * b (ix2 0 k)) := by
  pointwise [k1_pay42, k1_pay41, k1_pay39, k1_pay37, k1_pay35]
theorem r52_at : k1_pay52 (F := Ideal) (k1_pay45 p) (k1_pay49 d b) (k1_pay51 v) (ix3 0 i k)
    = v (ix3 0 i k) + ∑ r : Fin 256, p (ix2 r i) * (d (ix2 r k) * b (ix2 0 k)) := by
  pointwise [k1_pay52, k1_pay51, k1_pay49, k1_pay47, k1_pay45]
theorem r1_at : k1_pay1 (F := Ideal) (k1_pay55 p) (k1_pay59 d b) v (ix3 0 i k)
    = v (ix3 0 i k) + ∑ r : Fin 256, p (ix2 r i) * (d (ix2 r k) * b (ix2 0 k)) := by
  pointwise [k1_pay1, k1_pay59, k1_pay57, k1_pay55]

end

/-- A row's share of the weights' gradient. -/
def shw (c : Dev nD) (g : Fin 4) (a b : Fin 256) (i : Fin 4096) : EReal :=
  aP V c (ix2 i (col g a)) * dq (V c main_v7) (V c main_arg8) i (col g b)

/-- The weights' gradient after one more step. -/
def morew (c : Dev nD) (t : Fin cfg1.N) (x : FVec Ideal S4x256x256 .f32) : FVec Ideal S4x256x256 .f32 := fun y =>
  x y + ∑ r : Fin 256, shw V c (y 0) (y 1) (y 2) (at1 t r)

/-- One element of a part of the weights' gradient: group `g`, with the part's operands. -/
theorem tile_w (c : Dev nD) (t : Fin cfg1.N) (g : Fin 4) (x : FVec Ideal S4x256x256 .f32) (p d : FVec Ideal S256x256 .bf16) (b : FVec Ideal S1x256 .f32) (u : EReal)
    (hp : ∀ r k, p (ix2 r k) = dP V c t (ix2 r (col g k))) (hd : ∀ r k, d (ix2 r k) = dD V c t (ix2 r (rgt (col g k))))
    (hb : ∀ k, b (ix2 0 k) = dC V c t (ix2 0 (col g k))) (i k : Fin 256) (y : S4x256x256.Idx) (h0 : (y 0 : ℕ) = (g : ℕ))
    (h1 : (y 1 : ℕ) = (i : ℕ)) (h2 : (y 2 : ℕ) = (k : ℕ)) (hu : u = x y) :
    u + ∑ r : Fin 256, p (ix2 r i) * (d (ix2 r k) * b (ix2 0 k)) = morew V c t x y := by
  have e0 : (y 0 : Fin 4) = g := Fin.ext h0
  have e1 : (y 1 : Fin 256) = i := Fin.ext h1
  have e2 : (y 2 : Fin 256) = k := Fin.ext h2
  unfold morew
  rw [hu, e0, e1, e2]
  refine congrArg (x y + ·) (Finset.sum_congr rfl fun r _ => ?_)
  unfold shw dq
  refine congrArg₂ (fun p q : EReal => p * q) ?_ (congrArg₂ (fun p q : EReal => p * q) ?_ ?_)
  · rw [hp]; unfold col at1; blk_ext [iblk1, idx1 t]
  · rw [hd]; unfold rgt col at1; blk_ext [iblk1, idx1 t]
  · rw [hb]; unfold col; blk_ext [iblk1, idx1 t]

theorem step_w (c : Dev nD) (t : Fin cfg1.N) (x : FVec Ideal S4x256x256 .f32) (y : S4x256x256.Idx) :
    dwOut (F := Ideal) (iblk1 V c 0 t) (iblk1 V c 2 t) (iblk1 V c 6 t) x y = morew V c t x y := by
  have hy0 : (y 0 : ℕ) < 4 := (y 0).isLt
  have hy1 : (y 1 : ℕ) < 256 := (y 1).isLt
  have hy2 : (y 2 : ℕ) < 256 := (y 2).isLt
  unfold dwOut
  refine View.canon_append_of_pieces (Val := Elt Ideal) (e := .f32) (morew V c t x) _ _ ?_ y ?_
  · intro q hq
    unfold dwParts at hq
    simp only [List.mem_cons, List.not_mem_nil, or_false] at hq
    rcases hq with rfl | rfl | rfl | rfl
    all_goals
      intro z
      obtain ⟨o, i, k, rfl⟩ : ∃ (o : Fin 1) (i k : Fin 256), z = ix3 o i k := ⟨z 0, z 1, z 2, eq_ix3 z⟩
      obtain rfl : o = 0 := Subsingleton.elim _ _
    · refine (r1_at _ _ _ _ i k).trans (tile_w V c t 3 x _ _ _ _ (fun r k => ?_) (fun r k => ?_) (fun k => ?_) i k _ ?_ ?_ ?_ ?_)
      · pointwise <;> first | rfl | (unfold col; blk_ext)
      · pointwise <;> first | rfl | (unfold rgt col; blk_ext)
      · pointwise <;> first | rfl | (unfold col; blk_ext)
      · rfl
      · show 0 + 1 * (i : ℕ) = _; omega
      · show 0 + 1 * (k : ℕ) = _; omega
      · rfl
    · refine (r52_at _ _ _ _ i k).trans (tile_w V c t 2 x _ _ _ _ (fun r k => ?_) (fun r k => ?_) (fun k => ?_) i k _ ?_ ?_ ?_ ?_)
      · pointwise <;> first | rfl | (unfold col; blk_ext)
      · pointwise <;> first | rfl | (unfold rgt col; blk_ext)
      · pointwise <;> first | rfl | (unfold col; blk_ext)
      · rfl
      · show 0 + 1 * (i : ℕ) = _; omega
      · show 0 + 1 * (k : ℕ) = _; omega
      · rfl
    · refine (r41_at _ _ _ _ i k).trans (tile_w V c t 1 x _ _ _ _ (fun r k => ?_) (fun r k => ?_) (fun k => ?_) i k _ ?_ ?_ ?_ ?_)
      · pointwise <;> first | rfl | (unfold col; blk_ext)
      · pointwise <;> first | rfl | (unfold rgt col; blk_ext)
      · pointwise <;> first | rfl | (unfold col; blk_ext)
      · rfl
      · show 0 + 1 * (i : ℕ) = _; omega
      · show 0 + 1 * (k : ℕ) = _; omega
      · rfl
    · refine (r31_at _ _ _ _ i k).trans (tile_w V c t 0 x _ _ _ _ (fun r k => ?_) (fun r k => ?_) (fun k => ?_) i k _ ?_ ?_ ?_ ?_)
      · pointwise <;> first | rfl | (unfold col; blk_ext)
      · pointwise <;> first | rfl | (unfold rgt col; blk_ext)
      · pointwise <;> first | rfl | (unfold col; blk_ext)
      · rfl
      · show 0 + 1 * (i : ℕ) = _; omega
      · show 0 + 1 * (k : ℕ) = _; omega
      · rfl
  · unfold dwParts
    have H : ∀ (n : ℕ) (inb : ∀ a, (![n, 0, 0] : Fin 3 → ℕ) a + S1x256x256.size a ≤ S4x256x256.size a), (y 0 : ℕ) = n →
        y ∈ (Rect.unit (s := S4x256x256) ![n, 0, 0] S1x256x256.size inb).set := by
      intro n inb hn
      refine (Rect.mem_set_unit (inb := inb)).mpr fun a => ?_
      fin_cases a
      · exact ⟨by simp; omega, by simp; omega⟩
      · exact ⟨Nat.zero_le _, by simp; omega⟩
      · exact ⟨Nat.zero_le _, by simp; omega⟩
    by_cases a3 : (y 0 : ℕ) = 3
    · exact ⟨_, .head _, H 3 inb_S4x256x256_S1x256x256_3_0_0 a3⟩
    by_cases a2 : (y 0 : ℕ) = 2
    · exact ⟨_, .tail _ (.head _), H 2 inb_S4x256x256_S1x256x256_2_0_0 a2⟩
    by_cases a1 : (y 0 : ℕ) = 1
    · exact ⟨_, .tail _ (.tail _ (.head _)), H 1 inb_S4x256x256_S1x256x256_1_0_0 a1⟩
    · exact ⟨_, .tail _ (.tail _ (.tail _ (.head _))), H 0 inb_S4x256x256_S1x256x256_0_0_0 (by omega)⟩

theorem dw (c : Dev nD) : (dat1 V c).arrAt 11 cfg1.N = DW (V c main_v8_1) (V c main_v7) (V c main_arg8) := by
  refine (dat1 V c).arrAt_eq_of_after_last 11 t1_15 (by decide +kernel) _ fun j => ?_
  blk_simp
  rw [after1_11, Pipeline.eq_sum_fin_of_reset_step_apply_last (fun n h => (sums V c n h).2) 16 (fun _ => (0 : EReal))
    (fun t j => ∑ r : Fin 256, shw V c (j 0) (j 1) (j 2) (at1 t r))
    (fun t h j => by
      obtain ⟨n, hn⟩ := t
      obtain rfl : n = 0 := by have := lt_of_lt_of_eq hn N_1; dsimp only at h; omega
      show (sums V c 0 hn).2 j = _
      rw [sums_zero2]
      refine (step_w V c ⟨0, hn⟩ _ j).trans (congrArg (· + _) ?_)
      pointwise [k1_pay5])
    (fun t h j => by
      obtain ⟨n, hn⟩ := t
      cases n with
      | zero => exact absurd rfl h
      | succ n =>
        show (sums V c (n + 1) hn).2 j = _
        rw [sums_succ2]
        exact step_w V c ⟨n + 1, hn⟩ _ j) (le_of_eq N_1) t1_15 rfl j, zero_add]
  unfold DW
  refine Fin.sum_mul_add_congr fun t k hl => ?_
  refine congrArg (shw V c (j 0) (j 1) (j 2)) (Fin.ext ?_)
  show 256 * (t : ℕ) + (k : ℕ) = (t : ℕ) * 256 + (k : ℕ)
  omega

end Cert.Kernel7Ideal.Even

end
-- ==== Proof.EvenVal.lean ====
/- The even layer's two calls: the six results of the run from the arguments. -/
module

public import proofs.«01_k».proof.Proof.EvenC
public import proofs.«01_k».proof.Proof.EvenRun
public import Idealize.ShloMosaic.Lib.StableHlo.ReadAt

@[expose] public section

set_option maxRecDepth 16384

noncomputable section

namespace Cert.Kernel7Ideal.Even

open Idealize.ShloMosaic Idealize.ShloMosaic.TcCoe Idealize.SL.Sem
open Idealize.ShloMosaic.Pipeline (Dat)
open Cert.Kernel7Ideal Cert.Kernel7Ideal.Gen Cert.Scalars

/-- A vector as a row, -/
def rowOf (x : FVec Ideal S1024 .f32) : FVec Ideal S1x1024 .f32 := fun y => x (ix1 (y 1))
/-- and the norm's input: the convolution with its bias. -/
def biased (x : FVec Ideal S4096x1024 .f32) (b : FVec Ideal S1024 .f32) : FVec Ideal S4096x1024 .bf16 := fun y => x y + b (ix1 (y 1))

variable (m : (ℓ : Loc nD τ sig) → Buf (Elt Ideal) ℓ) (ρ : Dev nD → PrngReg)

theorem entry_a (c : Dev nD) : V1 m ρ c main_v3 = biased (m ((c : Thread nD τ).loc main_arg0)) (m ((c : Thread nD τ).loc main_arg1)) := by
  refine funext fun (y : S4096x1024.Idx) => ?_
  obtain ⟨i, k, rfl⟩ : ∃ (i : Fin 4096) (k : Fin 1024), y = ix2 i k := ⟨y 0, y 1, eq_ix2 y⟩
  unfold biased V1 W1 hostOps0
  after_reads_simp
  pointwise
theorem entry_g (c : Dev nD) : V1 m ρ c main_v4 = rowOf (m ((c : Thread nD τ).loc main_arg4)) := by
  refine funext fun (y : S1x1024.Idx) => ?_
  obtain ⟨i, k, rfl⟩ : ∃ (i : Fin 1) (k : Fin 1024), y = ix2 i k := ⟨y 0, y 1, eq_ix2 y⟩
  unfold rowOf V1 W1 hostOps0
  after_reads_simp
  pointwise
theorem entry_b (c : Dev nD) : V1 m ρ c main_v5 = rowOf (m ((c : Thread nD τ).loc main_arg5)) := by
  refine funext fun (y : S1x1024.Idx) => ?_
  obtain ⟨i, k, rfl⟩ : ∃ (i : Fin 1) (k : Fin 1024), y = ix2 i k := ⟨y 0, y 1, eq_ix2 y⟩
  unfold rowOf V1 W1 hostOps0
  after_reads_simp
  pointwise
theorem entry_w (c : Dev nD) : V1 m ρ c main_v6 = m ((c : Thread nD τ).loc main_arg6) := by
  unfold V1 W1 hostOps0
  after_reads_simp
  rfl
theorem entry_s (c : Dev nD) : V1 m ρ c main_v7 = rowOf (m ((c : Thread nD τ).loc main_arg7)) := by
  refine funext fun (y : S1x1024.Idx) => ?_
  obtain ⟨i, k, rfl⟩ : ∃ (i : Fin 1) (k : Fin 1024), y = ix2 i k := ⟨y 0, y 1, eq_ix2 y⟩
  unfold rowOf V1 W1 hostOps0
  after_reads_simp
  pointwise

/-- The arguments, at the launch. -/
abbrev x0 (c : Dev nD) : FVec Ideal S4096x1024 .f32 := m ((c : Thread nD τ).loc main_arg0)
abbrev x1 (c : Dev nD) : FVec Ideal S1024 .f32 := m ((c : Thread nD τ).loc main_arg1)
abbrev x2 (c : Dev nD) : FVec Ideal S4096x1024 .bf16 := m ((c : Thread nD τ).loc main_arg2)
abbrev x3 (c : Dev nD) : FVec Ideal S4096x3072 .bf16 := m ((c : Thread nD τ).loc main_arg3)
abbrev x4 (c : Dev nD) : FVec Ideal S1024 .f32 := m ((c : Thread nD τ).loc main_arg4)
abbrev x5 (c : Dev nD) : FVec Ideal S1024 .f32 := m ((c : Thread nD τ).loc main_arg5)
abbrev x6 (c : Dev nD) : FVec Ideal S4x256x256 .bf16 := m ((c : Thread nD τ).loc main_arg6)
abbrev x7 (c : Dev nD) : FVec Ideal S1024 .f32 := m ((c : Thread nD τ).loc main_arg7)
abbrev x8 (c : Dev nD) : FVec Ideal S4096x2048 .bf16 := m ((c : Thread nD τ).loc main_arg8)

/-- What the backward call reads. -/
theorem mid_a (c : Dev nD) : V2 m ρ c main_v3 = biased (x0 m c) (x1 m c) := (kept0 m ρ c main_v3 (by decide +kernel)).trans (entry_a m ρ c)
theorem mid_g (c : Dev nD) : V2 m ρ c main_v4 = rowOf (x4 m c) := (kept0 m ρ c main_v4 (by decide +kernel)).trans (entry_g m ρ c)
theorem mid_b (c : Dev nD) : V2 m ρ c main_v5 = rowOf (x5 m c) := (kept0 m ρ c main_v5 (by decide +kernel)).trans (entry_b m ρ c)
theorem mid_w (c : Dev nD) : V2 m ρ c main_v6 = x6 m c := (kept0 m ρ c main_v6 (by decide +kernel)).trans (entry_w m ρ c)
theorem mid_s (c : Dev nD) : V2 m ρ c main_v7 = rowOf (x7 m c) := (kept0 m ρ c main_v7 (by decide +kernel)).trans (entry_s m ρ c)
theorem mid_d (c : Dev nD) : V2 m ρ c main_arg8 = x8 m c := W2_arg m ρ c main_arg8 (by decide)
theorem mid_p (c : Dev nD) : V2 m ρ c main_v8_1 = PM (x2 m c) (x3 m c) := by
  refine (exit0 m ρ c 8).symm.trans ((pm (V1 m ρ) c).trans ?_)
  rw [show V1 m ρ c main_arg2 = x2 m c from W1_arg m ρ c main_arg2 (by decide), show V1 m ρ c main_arg3 = x3 m c from W1_arg m ρ c main_arg3 (by decide)]
theorem mid_z (c : Dev nD) : V2 m ρ c main_v8_0 = Z (biased (x0 m c) (x1 m c)) (PM (x2 m c) (x3 m c)) (rowOf (x4 m c)) (rowOf (x5 m c)) (rowOf (x7 m c)) (x6 m c) := by
  refine (exit0 m ρ c 7).symm.trans ((z (V1 m ρ) c).trans ?_)
  rw [show V1 m ρ c main_arg2 = x2 m c from W1_arg m ρ c main_arg2 (by decide), show V1 m ρ c main_arg3 = x3 m c from W1_arg m ρ c main_arg3 (by decide),
    entry_a, entry_g, entry_b, entry_w, entry_s]

/-- The results and the arguments after the run. -/
theorem run : θ_run defs (onTc (τ := τ) (main (F := Ideal))) ⟨m, fun _ => 0, ρ⟩ (fun r => ∀ c : Dev nD,
      r.2.mem ((c.tc : Thread nD τ).loc main_v8_0)
        = Z (biased (x0 m c) (x1 m c)) (PM (x2 m c) (x3 m c)) (rowOf (x4 m c)) (rowOf (x5 m c)) (rowOf (x7 m c)) (x6 m c)
      ∧ r.2.mem ((c.tc : Thread nD τ).loc main_v9_0) = DA (biased (x0 m c) (x1 m c)) (rowOf (x4 m c)) (rowOf (x5 m c)) (x8 m c)
      ∧ r.2.mem ((c.tc : Thread nD τ).loc main_v9_1) = DS (rowOf (x7 m c)) (x6 m c) (x8 m c)
      ∧ r.2.mem ((c.tc : Thread nD τ).loc main_v9_2) = DP (rowOf (x7 m c)) (x6 m c) (x8 m c)
      ∧ r.2.mem ((c.tc : Thread nD τ).loc main_v9_3)
        = VEC (biased (x0 m c) (x1 m c)) (PM (x2 m c) (x3 m c)) (rowOf (x4 m c)) (rowOf (x5 m c)) (x6 m c) (x8 m c)
      ∧ r.2.mem ((c.tc : Thread nD τ).loc main_v9_4) = DW (PM (x2 m c) (x3 m c)) (rowOf (x7 m c)) (x8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (run_all m ρ)
  have hu := fun b hb => h.1 c _ (mem_uc b hb)
  refine ⟨(hu main_v8_0 (by decide)).trans ((rest1 m ρ c main_v8_0 (by decide +kernel)).trans (mid_z m ρ c)),
    (hu main_v9_0 (by decide)).trans ((exit1 m ρ c 7).symm.trans ((da (V2 m ρ) c).trans ?_)),
    (hu main_v9_1 (by decide)).trans ((exit1 m ρ c 8).symm.trans ((ds (V2 m ρ) c).trans ?_)),
    (hu main_v9_2 (by decide)).trans ((exit1 m ρ c 9).symm.trans ((dp (V2 m ρ) c).trans ?_)),
    (hu main_v9_3 (by decide)).trans ((exit1 m ρ c 10).symm.trans ((vec (V2 m ρ) c).trans ?_)),
    (hu main_v9_4 (by decide)).trans ((exit1 m ρ c 11).symm.trans ((dw (V2 m ρ) c).trans ?_)),
    (hu main_arg0 (by decide)).trans (W3_arg m ρ c main_arg0 (by decide)), (hu main_arg1 (by decide)).trans (W3_arg m ρ c main_arg1 (by decide)),
    (hu main_arg2 (by decide)).trans (W3_arg m ρ c main_arg2 (by decide)), (hu main_arg3 (by decide)).trans (W3_arg m ρ c main_arg3 (by decide)),
    (hu main_arg4 (by decide)).trans (W3_arg m ρ c main_arg4 (by decide)), (hu main_arg5 (by decide)).trans (W3_arg m ρ c main_arg5 (by decide)),
    (hu main_arg6 (by decide)).trans (W3_arg m ρ c main_arg6 (by decide)), (hu main_arg7 (by decide)).trans (W3_arg m ρ c main_arg7 (by decide)),
    (hu main_arg8 (by decide)).trans (W3_arg m ρ c main_arg8 (by decide))⟩
  · rw [mid_a, mid_g, mid_b, mid_d]
  · rw [mid_s, mid_w, mid_d]
  · rw [mid_s, mid_w, mid_d]
  · rw [mid_a, mid_p, mid_g, mid_b, mid_w, mid_d]
  · rw [mid_p, mid_s, mid_d]

end Cert.Kernel7Ideal.Even

end
-- ==== Proof.EvenRef.lean ====
/- The even layer's pair: what the reference's six results are, element by element, and that they are the kernel's. -/
module

public import proofs.«01_k».proof.Proof.EvenNorm
public import proofs.«01_k».proof.Proof.EvenVal
public import proofs.«01_k».proof.Proof.Gen.Pre_finite7
public import proofs.«01_k».proof.Proof.Finite
public import Idealize.ShloMosaic.Lib.Pointwise

@[expose] public section

set_option maxRecDepth 16384

noncomputable section

namespace Cert.Reference7Ideal.Even

open Idealize.ShloMosaic Idealize.ShloMosaic.TcCoe Idealize.SL.Sem
open Cert.Reference7Ideal Cert.Reference7Ideal.Read Cert.Scalars
open Cert.Kernel7Ideal.Even (col grp lan rgt lft cnt cntw PM prod Z DA dq DP DS share VEC DW rowOf biased mul_inv_cnt grp_col lan_col col_grp)

variable (x0 : FVec Ideal S4096x1024 .f32) (x1 x4 x5 : FVec Ideal S1024 .f32) (x2 : FVec Ideal S4096x1024 .bf16)
  (x3 : FVec Ideal S4096x3072 .bf16) (x6 : FVec Ideal S4x256x256 .f32) (x7 : FVec Ideal S1024 .f32) (x8 : FVec Ideal S4096x2048 .bf16)

/-- A row's count does not change when its sequence is forgotten. -/
theorem cnt_mod (r g : ℕ) : cnt (r % 2048) g = cnt r g := by
  unfold cnt cntw
  rw [Nat.mod_mod]
theorem cnt_small (s : Fin 2048) (g : ℕ) (n : BitVec 32) (hn : n = BitVec.ofNat 32 (2 ^ (g + 1))) :
    FloatOps.sitofp (F := Ideal) .f32 (IntOp.minsi (IntOp.addi (BitVec.ofNat 32 (s : ℕ)) 1#32) n) = cnt (s : ℕ) g := by
  unfold cnt cntw
  rw [hn, Nat.mod_eq_of_lt s.isLt, BitVec.ofNat_add]
  rfl

theorem counts (y : S1x2048x4x1.Idx) : val_main_v49 (F := Ideal) y = cnt (y 1 : ℕ) (y 2 : ℕ) := by
  obtain ⟨a, s, g, b, rfl⟩ : ∃ (a : Fin 1) (s : Fin 2048) (g : Fin 4) (b : Fin 1), y = ix4 a s g b := ⟨y 0, y 1, y 2, y 3, eq_ix4 y⟩
  fin_cases g
  all_goals
    pointwise [val_main_v49, val_main_v48, val_main_v47, val_main_v46, val_main_v45, val_main_v44, val_main_v43, val_main_v42,
      val_main_v41, val_main_v40, val_main_v39, val_main_v38, val_main_v37, val_main_v36, val_main_v35, val_main_v34, val_main_v33,
      val_main_v32, val_main_c, val_main_c_5, val_main_c_6, val_main_c_7, val_main_c_8]
    exact cnt_small s _ _ rfl
theorem v54 (y : S4096x1024.Idx) : val_main_v54 (F := Ideal) x2 x3 y = PM x2 x3 y := by
  obtain ⟨i, l, rfl⟩ : ∃ (i : Fin 4096) (l : Fin 1024), y = ix2 i l := ⟨y 0, y 1, eq_ix2 y⟩
  pointwise [val_main_v54, val_main_v53, val_main_v52, val_main_v51, val_main_v50, val_main_v2, val_main_v1, val_main_v0, counts]
  rw [cnt_mod]
  exact congrArg (· - _) (mul_inv_cnt _ _ (grp l)).symm
theorem v55 (y : S4096x4x256.Idx) : val_main_v55 (F := Ideal) x2 x3 y = PM x2 x3 (ix2 (y 0) (col (y 1) (y 2))) := by
  obtain ⟨i, g, k, rfl⟩ : ∃ (i : Fin 4096) (g : Fin 4) (k : Fin 256), y = ix3 i g k := ⟨y 0, y 1, y 2, eq_ix3 y⟩
  pointwise [val_main_v55, v54]
  exact congrArg (fun l => PM x2 x3 (ix2 i l) ) (Fin.ext (by show (g : ℕ) * 256 + (k : ℕ) = 256 * (g : ℕ) + (k : ℕ); omega))
theorem v57 (y : S4096x4x256.Idx) : val_main_v57 (F := Ideal) x2 x3 x6 y = prod (PM x2 x3) x6 (y 0) (y 1) (y 2) := by
  pointwise [val_main_v57, val_main_v56, v55, prod]
  exact Finset.sum_congr rfl fun j _ => mul_comm _ _
theorem v58 (y : S4096x1024.Idx) : val_main_v58 (F := Ideal) x2 x3 x6 y = prod (PM x2 x3) x6 (y 0) (grp (y 1)) (lan (y 1)) := by
  obtain ⟨i, l, rfl⟩ : ∃ (i : Fin 4096) (l : Fin 1024), y = ix2 i l := ⟨y 0, y 1, eq_ix2 y⟩
  pointwise [val_main_v58, v57]
  rfl
theorem v70 (y : S4096x1024.Idx) : val_main_v70 (F := Ideal) x7 x8 y = dq (rowOf x7) x8 (y 0) (y 1) := by
  obtain ⟨i, l, rfl⟩ : ∃ (i : Fin 4096) (l : Fin 1024), y = ix2 i l := ⟨y 0, y 1, eq_ix2 y⟩
  pointwise [val_main_v70, val_main_v69, val_main_v65, val_main_v63, val_main_v59, dq, rowOf]
  rfl
theorem v73 (y : S4x256x4096.Idx) : val_main_v73 (F := Ideal) x7 x8 y = dq (rowOf x7) x8 (y 2) (col (y 0) (y 1)) := by
  obtain ⟨g, k, i, rfl⟩ : ∃ (g : Fin 4) (k : Fin 256) (i : Fin 4096), y = ix3 g k i := ⟨y 0, y 1, y 2, eq_ix3 y⟩
  pointwise [val_main_v73, val_main_v72, v70]
  exact congrArg (fun l => dq (rowOf x7) x8 i l ) (Fin.ext (by show (g : ℕ) * 256 + (k : ℕ) = 256 * (g : ℕ) + (k : ℕ); omega))
theorem v75 (y : S4096x4x256.Idx) : val_main_v75 (F := Ideal) x6 x7 x8 y
    = ∑ j : Fin 256, dq (rowOf x7) x8 (y 0) (col (y 1) j) * x6 (ix3 (y 1) (y 2) j) := by
  pointwise [val_main_v75, val_main_v74, v73]
theorem v78 (y : S4096x1024.Idx) : val_main_v78 (F := Ideal) x6 x7 x8 y = DP (rowOf x7) x6 x8 y := by
  obtain ⟨i, l, rfl⟩ : ∃ (i : Fin 4096) (l : Fin 1024), y = ix2 i l := ⟨y 0, y 1, eq_ix2 y⟩
  pointwise [val_main_v78, v75, DP]
  rfl
theorem dpref : DP (rowOf x7) x6 x8 = val_main_v130 (F := Ideal) x6 x7 x8 := by
  funext y
  pointwise [val_main_v130, val_main_v129, val_main_v79, v78]
  exact (neg_neg _).symm
theorem dsref : DS (rowOf x7) x6 x8 = val_main_v128 (F := Ideal) x6 x7 x8 := by
  refine funext fun (y : S4096x1024.Idx) => ?_
  obtain ⟨i, l, rfl⟩ : ∃ (i : Fin 4096) (l : Fin 1024), y = ix2 i l := ⟨y 0, y 1, eq_ix2 y⟩
  pointwise [val_main_v128, val_main_v83, val_main_v82, val_main_v81, val_main_v80, v78, counts, DS]
  rw [cnt_mod]
  exact mul_inv_cnt _ _ (grp l)
theorem dwref : DW (PM x2 x3) (rowOf x7) x8 = val_main_v77 (F := Ideal) x2 x3 x7 x8 := by
  funext y
  pointwise [val_main_v77, val_main_v76, v55, v73, DW]
  exact Finset.sum_congr rfl fun i _ => mul_comm _ _
theorem v67 (y : S1024.Idx) : val_main_v71 (F := Ideal) x2 x3 x6 x8 y
    = ∑ i : Fin 4096, x8 (ix2 i (rgt (y 0))) * prod (PM x2 x3) x6 i (grp (y 0)) (lan (y 0)) := by
  obtain ⟨l, rfl⟩ : ∃ (l : Fin 1024), y = ix1 l := ⟨y 0, eq_ix1 y⟩
  pointwise [val_main_v71, val_main_v68, val_main_v67, val_main_v66, val_main_v65, val_main_v63, val_main_cst_9, val_main_cst_10, v58]
  exact (Fin.sum_univ_one _).trans (Finset.sum_congr rfl fun i _ => mul_comm _ _)
theorem zref : Z (biased x0 x1) (PM x2 x3) (rowOf x4) (rowOf x5) (rowOf x7) x6 = val_main_v126 (F := Ideal) x0 x1 x2 x3 x4 x5 x6 x7 := by
  refine funext fun (y : S4096x2048.Idx) => ?_
  obtain ⟨i, l, rfl⟩ : ∃ (i : Fin 4096) (l : Fin 2048), y = ix2 i l := ⟨y 0, y 1, eq_ix2 y⟩
  pointwise [val_main_v126, val_main_v62, val_main_v61, val_main_v60, val_main_v59, v58, swish]
  by_cases h : (l : ℕ) < 1024
  · rw [dif_pos h]
    refine (Cert.Kernel7Ideal.Even.Z_left _ _ _ _ _ _ (ix2 i l) ⟨(l : ℕ), h⟩ rfl).trans ?_
    rw [sgmT_eq]
    rfl
  · rw [dif_neg h]
    exact Cert.Kernel7Ideal.Even.Z_right _ _ _ _ _ _ (ix2 i l) ⟨(l : ℕ) - 1024, by omega⟩ (by show (l : ℕ) = 1024 + ((l : ℕ) - 1024); omega)
variable (h4 : ∀ i, IsReal (x4 i)) (h8 : ∀ i, IsReal (x8 i))
include h4 h8
theorem daref : DA (biased x0 x1) (rowOf x4) (rowOf x5) x8 = val_main_v127 (F := Ideal) x0 x1 x4 x5 x8 := by
  funext y
  pointwise [val_main_v127, v115 x0 x1 x4 x5 x8 h4 h8, DA]
  rfl
theorem vecref : VEC (biased x0 x1) (PM x2 x3) (rowOf x4) (rowOf x5) x6 x8 = val_main_v125 (F := Ideal) x0 x1 x2 x3 x4 x5 x6 x8 := by
  refine funext fun (y : S8x1024.Idx) => ?_
  obtain ⟨n, l, rfl⟩ : ∃ (n : Fin 8) (l : Fin 1024), y = ix2 n l := ⟨y 0, y 1, eq_ix2 y⟩
  fin_cases n
  all_goals
    pointwise [val_main_v125, val_main_v124, val_main_v123, val_main_v122, val_main_v121, val_main_v120, val_main_v119, val_main_cst_23,
      v118 x0 x1 x4 x5 x8 h4 h8, v87 x0 x1 x4 x5 x8 h8, v93 x0 x1 x4 x5 x8 h8, v67, VEC, share]
  all_goals first | exact Finset.sum_const_zero | rfl
omit h4 h8

/-- The two arrays that the precondition tests hold real numbers. -/
theorem real_of_pre (fin : (Cert.Pre_finite7.fn (F := Ideal) x0 x1 x2 x3 x4 x5 x6 x7 x8).1 = (fun _ => 1#1)
      ∧ (Cert.Pre_finite7.fn (F := Ideal) x0 x1 x2 x3 x4 x5 x6 x7 x8).2 = (fun _ => 1#1)) :
    (∀ i, IsReal (x4 i)) ∧ (∀ i, IsReal (x8 i)) := by
  unfold Cert.Pre_finite7.fn at fin
  dsimp only at fin
  exact ⟨real_of_all x4 _ inf_f32 _ _ _ fin.1, real_of_all x8 _ inf_bf16 _ _ _ fin.2⟩

end Cert.Reference7Ideal.Even

end
-- ==== Proof.EvenClaim.lean ====
/- The even layer's pair: the claim that kernel and reference end with equal results. -/
module

public import proofs.«01_k».proof.Defs
public import proofs.«01_k».proof.Proof.Gen.Reference7Ideal.Run
public import proofs.«01_k».proof.Proof.EvenRef
public import Idealize.ShloMosaic.Lib.Claim

@[expose] public section

set_option maxRecDepth 16384

noncomputable section

namespace Cert.Proof.Even

open Idealize.ShloMosaic Idealize.ShloMosaic.TcCoe Idealize.SL.Sem

/-- What the reference starts from, once the arguments agree. -/
theorem start (m : (ℓ : Loc Cert.Reference7Ideal.nD Cert.Reference7Ideal.τ Cert.Reference7Ideal.sig) → Buf (Elt Ideal) ℓ)
    (c : Dev Cert.Reference7Ideal.nD) (b : Ref Cert.Reference7Ideal.sig .tc)
    (x : Buf (Elt Ideal) ((c.tc : Thread Cert.Reference7Ideal.nD Cert.Reference7Ideal.τ).loc b))
    (h : m ((c.tc : Thread Cert.Reference7Ideal.nD Cert.Reference7Ideal.τ).loc b) = x) :
    StableHlo.launchContents m c (Proc.tc.devRef b) = x := h

theorem algebraic : Cert.algebraic_Kernel7Ideal_Reference7Ideal_pre_finite7 := by
  pair_intro
  · run_from Cert.Kernel7Ideal.Even.run m g
  · run_from Cert.Reference7Ideal.Value.run m' g'
    · obtain ⟨e0, e1, e2, e3, e4, e5, e6, e7, e8⟩ := hagree c
      rw [Cert.Reference7Ideal.Read.val_main_v126_eq, start _ _ _ _ e0, start _ _ _ _ e1, start _ _ _ _ e2, start _ _ _ _ e3, start _ _ _ _ e4, start _ _ _ _ e5, start _ _ _ _ e6, start _ _ _ _ e7]
      exact (Cert.Reference7Ideal.Even.zref _ _ _ _ _ _ _ _).symm
    · obtain ⟨e0, e1, e2, e3, e4, e5, e6, e7, e8⟩ := hagree c
      have h := Cert.Reference7Ideal.Even.real_of_pre _ _ _ _ _ _ _ _ _ (hpre c)
      rw [Cert.Reference7Ideal.Read.val_main_v127_eq, start _ _ _ _ e0, start _ _ _ _ e1, start _ _ _ _ e4, start _ _ _ _ e5, start _ _ _ _ e8]
      exact (Cert.Reference7Ideal.Even.daref _ _ _ _ _ h.1 h.2).symm
    · obtain ⟨e0, e1, e2, e3, e4, e5, e6, e7, e8⟩ := hagree c
      rw [Cert.Reference7Ideal.Read.val_main_v128_eq, start _ _ _ _ e6, start _ _ _ _ e7, start _ _ _ _ e8]
      exact (Cert.Reference7Ideal.Even.dsref _ _ _).symm
    · obtain ⟨e0, e1, e2, e3, e4, e5, e6, e7, e8⟩ := hagree c
      rw [Cert.Reference7Ideal.Read.val_main_v130_eq, start _ _ _ _ e6, start _ _ _ _ e7, start _ _ _ _ e8]
      exact (Cert.Reference7Ideal.Even.dpref _ _ _).symm
    · obtain ⟨e0, e1, e2, e3, e4, e5, e6, e7, e8⟩ := hagree c
      have h := Cert.Reference7Ideal.Even.real_of_pre _ _ _ _ _ _ _ _ _ (hpre c)
      rw [Cert.Reference7Ideal.Read.val_main_v125_eq, start _ _ _ _ e0, start _ _ _ _ e1, start _ _ _ _ e2, start _ _ _ _ e3, start _ _ _ _ e4, start _ _ _ _ e5, start _ _ _ _ e6, start _ _ _ _ e8]
      exact (Cert.Reference7Ideal.Even.vecref _ _ _ _ _ _ _ _ h.1 h.2).symm
    · obtain ⟨e0, e1, e2, e3, e4, e5, e6, e7, e8⟩ := hagree c
      rw [Cert.Reference7Ideal.Read.val_main_v77_eq, start _ _ _ _ e2, start _ _ _ _ e3, start _ _ _ _ e7, start _ _ _ _ e8]
      exact (Cert.Reference7Ideal.Even.dwref _ _ _ _).symm

end Cert.Proof.Even

end
-- ==== Proof.RmsFClaim.lean ====
/- The forward norm's pair: what the call leaves in its result, and the claim that kernel and reference end with equal results. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.NormRow
public import Idealize.ShloMosaic.Lib.Pipeline.ValueKit
public import Idealize.ShloMosaic.Lib.Pointwise
public import Idealize.ShloMosaic.Lib.Claim

@[expose] public section

set_option maxRecDepth 16384

noncomputable section

namespace Cert.Proof.RmsF

open Idealize.ShloMosaic Idealize.ShloMosaic.TcCoe Idealize.SL.Sem
open Idealize.ShloMosaic.Pipeline (Dat)
open Cert.Kernel8Ideal Cert.Kernel8Ideal.Gen Cert.Scalars

/-- The normed rows, by the gain as one row, -/
def NORM (H : FVec Ideal S4096x2048 .f32) (G : FVec Ideal S1x2048 .f32) : FVec Ideal S4096x2048 .bf16 :=
  fun y => H y * rinv (fun k => H (ix2 (y 0) k)) * G (ix2 0 (y 1))
/-- and by the gain itself. -/
def NORMG (H : FVec Ideal S4096x2048 .f32) (G : FVec Ideal S2048 .f32) : FVec Ideal S4096x2048 .bf16 :=
  fun y => H y * rinv (fun k => H (ix2 (y 0) k)) * G (ix1 (y 1))

variable (m : (ℓ : Loc nD τ sig) → Buf (Elt Ideal) ℓ) (ρ : Dev nD → PrngReg)

theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

theorem norm (c : Dev nD) : (dats m 0 c).arrAt 2 cfg0.N = NORM (V m c main_arg0) (V m c main_v0) := by
  refine (dats m 0 c).arrAt_eq_of_covers 2 _ (by decide +kernel) fun t _ y => ?_
  blk_simp
  rw [after0_2]
  frame_out
  pointwise [k0_pay1, NORM, rinv, msq]
  blk_point [iblk, V, idx t]

theorem gain_row (c : Dev nD) (k : Fin 2048) :
    (V m c main_v0 : FVec Ideal S1x2048 .f32) (ix2 0 k) = m ((c : Thread nD τ).loc main_arg1) (ix1 k) := by
  rw [show (V m c main_v0 : FVec Ideal S1x2048 .f32)
    = shapeCast S1x2048 (m ((c : Thread nD τ).loc main_arg1) : FVec Ideal S2048 .f32) shapeCasts_S2048_S1x2048 from rfl]
  pointwise

theorem run : θ_run defs (onTc (τ := τ) (main (F := Ideal))) ⟨m, fun _ => 0, ρ⟩ (fun r => ∀ c : Dev nD,
      r.2.mem ((c.tc : Thread nD τ).loc main_v1) = NORMG (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (Cert.Kernel8Ideal.Value.run_blocks m ρ)
  obtain ⟨h0, hr⟩ := h c
  exact ⟨(h0.trans (norm m c)).trans (funext fun y => congrArg _ (gain_row m c (y 1))), hr⟩

theorem ref (H : FVec Ideal S4096x2048 .f32) (G : FVec Ideal S2048 .f32) :
    Cert.Reference8Ideal.Read.val_main_v13 (F := Ideal) H G = NORMG H G := by
  refine funext fun (y : S4096x2048.Idx) => ?_
  obtain ⟨i, k, rfl⟩ : ∃ (i : Fin 4096) (k : Fin 2048), y = ix2 i k := ⟨y 0, y 1, eq_ix2 y⟩
  pointwise [Cert.Reference8Ideal.Read.val_main_v13, Cert.Reference8Ideal.Read.val_main_v12, Cert.Reference8Ideal.Read.val_main_v11,
    Cert.Reference8Ideal.Read.val_main_v10, Cert.Reference8Ideal.Read.val_main_v9, Cert.Reference8Ideal.Read.val_main_v8,
    Cert.Reference8Ideal.Read.val_main_v7, Cert.Reference8Ideal.Read.val_main_v6, Cert.Reference8Ideal.Read.val_main_v5,
    Cert.Reference8Ideal.Read.val_main_v4, Cert.Reference8Ideal.Read.val_main_v3, Cert.Reference8Ideal.Read.val_main_v2,
    Cert.Reference8Ideal.Read.val_main_v1, Cert.Reference8Ideal.Read.val_main_v0, Cert.Reference8Ideal.Read.val_main_cst,
    Cert.Reference8Ideal.Read.val_main_cst_0, Cert.Reference8Ideal.Read.val_main_cst_1, NORMG, rinv, msq]

theorem algebraic : Cert.algebraic_Kernel8Ideal_Reference8Ideal := by
  pair_intro
  · run_from run m g
  · run_from Cert.Reference8Ideal.Value.run m' g'
    · exact ref _ _

end Cert.Proof.RmsF

end
-- ==== Proof.ConvFValue.lean ====
/- The forward call of the long gated convolution: its stores as a list of tiles, each tile's value, and what it leaves in its result. -/
module

public import proofs.«01_k».proof.Proof.Gen.Kernel9Ideal.Value
public import proofs.«01_k».proof.Proof.ConvEBack

@[expose] public section

set_option maxRecDepth 16384

noncomputable section

namespace Cert.Kernel9Ideal.ConvF

open Idealize.ShloMosaic Idealize.ShloMosaic.TcCoe Idealize.SL.Sem
open Idealize.ShloMosaic.Pipeline (Dat)
open Cert.Kernel9Ideal Cert.Kernel9Ideal.Gen Cert.Scalars
open Cert.Kernel5Ideal.ConvE (rem8 rem8_at sh toff tinb xinb woff winb moved slc moved_at slice_at sum_sh rowsX rowsXV scrX X back back_of)

variable (m : (ℓ : Loc nD τ sig) → Buf (Elt Ideal) ℓ)

/-- The rows of the gated input at point `t`: its block's, -/
def xA (c : Dev nD) (t : Fin cfg0.N) : FVec Ideal S256x512 .f32 := k0_pay5 (k0_pay3 (iblk m c 0 t)) (k0_pay4 (iblk m c 2 t))
/-- and those before it. -/
def xB (c : Dev nD) (t : Fin cfg0.N) : FVec Ideal S32x512 .f32 := k0_pay2 (grid0.coords t) (iblk m c 1 t) (iblk m c 3 t)

/-- Tile `n` of the scratch block once it is filled. -/
def tile (c : Dev nD) (t : Fin cfg0.N) (n : ℕ) : FVec Ideal S96x128 .f32 :=
  scM0_0.view.readCov (Val := Elt Ideal) [⟨Rect.unit ![32, 0] ![256, 512] inb_S288x512_S256x512_32_0, xA m c t⟩,
    ⟨Rect.unit ![0, 0] ![32, 512] inb_S288x512_S32x512_0_0, xB m c t⟩] (Rect.unit (s := S288x512) (toff n) ![96, 128] (tinb n)).toLoadRect

/-- The first `p` taps of tile `n` of the result. -/
def acc (W : FVec Ideal S31x512 .f32) (x : FVec Ideal S96x128 .f32) (n : ℕ) : ℕ → FVec Ideal S64x128 .f32
  | 0 => broadcast S64x128 (Scalar.ofBits (F := Ideal) .f32 0x00000000#32)
  | p + 1 => addf (F := Ideal) (φ := .f32) (acc W x n p) (mulf (F := Ideal) (φ := .f32)
      (broadcastTo S64x128 (View.ld (Val := Elt Ideal) (e' := .f32) W (Rect.unit (s := S31x512) (woff (31 * n + p)) ![1, 128] (winb (31 * n + p)))) broadcasts_S1x128_S64x128)
      (extractStridedSlice S64x128 ![32 - 8 * (p % 4), 0] (moved (p / 4) x) (slc _ (by omega))))

/-- Where tile `n`'s lanes lie in the row of biases. -/
def boff (n : ℕ) : Fin 2 → ℕ := ![0, 128 * (n / 4 % 4)]

theorem binb (n : ℕ) : ∀ a, boff n a + (![1, 128] : Fin 2 → ℕ) a ≤ S1x512.size a :=
  Fin.forall_fin_two.mpr ⟨show 0 + 1 ≤ 1 by omega, show 128 * (n / 4 % 4) + 128 ≤ 512 by omega⟩

/-- Tile `n` as stored: all taps, and the bias. -/
def full (W : FVec Ideal S31x512 .f32) (B : FVec Ideal S1x512 .f32) (x : FVec Ideal S96x128 .f32) (n : ℕ) : FVec Ideal S64x128 .bf16 :=
  truncf .bf16 (addf (F := Ideal) (φ := .f32) (acc W x n 31)
    (broadcastTo S64x128 (shapeCast S1x128 (View.ld (Val := Elt Ideal) (e' := .f32) B (Rect.unit (s := S1x512) (boff n) ![1, 128] (binb n))) shapeCasts_S1x128_S1x128) broadcasts_S1x128_S64x128)) bitsLt_bf16_f32

theorem out (c : Dev nD) (t : Fin cfg0.N) (y : S256x512.Idx) :
    outsAt0 m c t y = View.canon (Val := Elt Ideal) (e := .bf16) (TileList.pieces toff xinb
      (fun n => full (iblk m c 4 t) (iblk m c 5 t) (tile m c t n) n) 16) y := by
  unfold outsAt0; frame_out
  refine congrFun (congrArg (View.canon (Val := Elt Ideal) (s := S256x512) (e := .bf16)) ?_) y
  sl_kernel_rfl

/-- The point's rows of the gated input. -/
def xsR (c : Dev nD) (t : Fin cfg0.N) : ℕ → Fin 512 → EReal := rowsX (xA m c t) (xB m c t)

theorem tile_x (c : Dev nD) (t : Fin cfg0.N) (n : ℕ) (i : Fin 96) (l : Fin 128) : tile m c t n (ix2 i l)
    = xsR m c t (64 * (n % 4) + (i : ℕ)) ⟨128 * (n / 4 % 4) + (l : ℕ), by omega⟩ := by
  unfold tile
  refine (congrFun (scrX _ _ _ _) _).trans ?_
  pointwise [rowsXV, xsR]
  rfl

/-- One term of the result, at row `a` of the point's block and lane `l`. -/
def term (W : FVec Ideal S31x512 .f32) (x : ℕ → Fin 512 → EReal) (a : ℕ) (l : ℕ) (s : ℕ) : EReal :=
  if h : l < 512 ∧ s < 31 then W (ix2 (⟨30 - s, by omega⟩ : Fin 31) (⟨l, h.1⟩ : Fin 512)) * x (32 + a - s) ⟨l, h.1⟩ else 0

theorem acc_at (c : Dev nD) (t : Fin cfg0.N) (n : ℕ) (a : Fin 64) (l : Fin 128) (p : ℕ) (hp : p ≤ 31) :
    acc (iblk m c 4 t) (tile m c t n) n p (ix2 a l)
      = (∑ q ∈ Finset.range p, term (iblk m c 4 t) (xsR m c t) (64 * (n % 4) + (a : ℕ)) (128 * (n / 4 % 4) + (l : ℕ)) (sh q) : EReal) := by
  induction p with
  | zero => rw [Finset.sum_range_zero]; pointwise [acc]
  | succ p ih =>
    have ha := a.isLt
    have hl := l.isLt
    rw [Finset.sum_range_succ, ← ih (by omega)]
    show (acc _ _ n p (ix2 a l) + _ * _ : EReal) = _
    refine congrArg (fun q : EReal => _ + q) ?_
    unfold term sh
    rw [dif_pos (by omega)]
    refine congrArg₂ (fun p q : EReal => p * q) ?_ ?_
    · pointwise [woff, sh]
      blk_ext
    · refine (slice_at _ (by omega) _ _ a l).trans ((moved_at _ (by omega) _ _ l (by dsimp only; omega)).trans ((tile_x m c t _ _ l).trans ?_))
      dsimp only
      exact congrArg (xsR m c t · _) (by omega)

/-- The result at row `a` of the point's block, lane `l`. -/
def rowP (W : FVec Ideal S31x512 .f32) (B : FVec Ideal S1x512 .f32) (x : ℕ → Fin 512 → EReal) (a l : ℕ) : EReal :=
  ∑ s : Fin 31, term W x a l (s : ℕ) + if h : l < 512 then B (ix2 0 (⟨l, h⟩ : Fin 512)) else 0

theorem bias_at (B : FVec Ideal S1x512 .f32) (n : ℕ) (a : Fin 64) (l : Fin 128) :
    broadcastTo S64x128 (shapeCast S1x128 (View.ld (Val := Elt Ideal) (e' := .f32) B (Rect.unit (s := S1x512) (boff n) ![1, 128] (binb n))) shapeCasts_S1x128_S1x128) broadcasts_S1x128_S64x128 (ix2 a l)
      = if h : 128 * (n / 4 % 4) + (l : ℕ) < 512 then B (ix2 0 (⟨128 * (n / 4 % 4) + (l : ℕ), h⟩ : Fin 512)) else 0 := by
  have hl := l.isLt
  rw [dif_pos (by omega)]
  pointwise [boff]
  blk_ext

theorem pt (c : Dev nD) (t : Fin cfg0.N) (y : S256x512.Idx) :
    outsAt0 m c t y = rowP (iblk m c 4 t) (iblk m c 5 t) (xsR m c t) (y 0 : ℕ) (y 1 : ℕ) := by
  have h0 : (y 0 : ℕ) < 256 := (y 0).isLt
  have h1 : (y 1 : ℕ) < 512 := (y 1).isLt
  rw [out]
  refine TileList.canon_pieces (e := .bf16) toff xinb _ (fun a l => (rowP (iblk m c 4 t) (iblk m c 5 t) (xsR m c t) a l : EReal)) (fun n x => ?_) 16 y
    ⟨4 * ((y 1 : ℕ) / 128) + (y 0 : ℕ) / 64, by omega, ?_⟩
  · obtain ⟨a, l, rfl⟩ : ∃ (a : Fin 64) (l : Fin 128), x = ix2 a l := ⟨x 0, x 1, eq_ix2 x⟩
    exact congrArg₂ (fun p q : EReal => p + q) ((acc_at m c t n a l 31 le_rfl).trans (sum_sh _)) (bias_at _ n a l)
  · show (64 * _ ≤ _ ∧ _ < 64 * _ + 64) ∧ 128 * _ ≤ _ ∧ _ < 128 * _ + 128
    omega

/-- The arguments' contents. -/
abbrev aU (c : Dev nD) : FVec Ideal S4096x3072 .bf16 := m ((c : Thread nD τ).loc main_arg0)
abbrev aW (c : Dev nD) : FVec Ideal S31x1024 .f32 := m ((c : Thread nD τ).loc main_arg1)
abbrev aB (c : Dev nD) : FVec Ideal S1024 .f32 := m ((c : Thread nD τ).loc main_arg2)

/-- The convolution at row `r`, column `l`. -/
def CONVat (U : FVec Ideal S4096x3072 .bf16) (W : FVec Ideal S31x1024 .f32) (B : FVec Ideal S1024 .f32) (r : ℕ) (l : Fin 1024) : EReal :=
  ∑ s : Fin 31, W (ix2 (⟨30 - (s : ℕ), by omega⟩ : Fin 31) l) * back (X U · (l : ℕ)) (s : ℕ) r + B (ix1 l)

/-- The same as an array. -/
def CONV (U : FVec Ideal S4096x3072 .bf16) (W : FVec Ideal S31x1024 .f32) (B : FVec Ideal S1024 .f32) : FVec Ideal S4096x1024 .bf16 := fun y =>
  CONVat U W B (y 0 : ℕ) (y 1)

theorem idx : ∀ t : Fin cfg0.N, win0_0.index t = ![t.val % 16, t.val / 16] ∧ win0_1.index t = ![t.val % 16 * 8 - 1, t.val / 16]
    ∧ win0_2.index t = ![t.val % 16, t.val / 16 + 2] ∧ win0_3.index t = ![t.val % 16 * 8 - 1, t.val / 16 + 2]
    ∧ win0_4.index t = ![0, t.val / 16] ∧ win0_5.index t = ![0, t.val / 16] ∧ win0_6.index t = ![t.val % 16, t.val / 16] :=
  (by decide +kernel : ∀ t : Fin grid0.N, _)

theorem crd : ∀ t : Fin cfg0.N, (grid0.coords t 1 : ℕ) = t.val % 16 := (by decide +kernel : ∀ t : Fin grid0.N, _)

theorem halo (i : grid0.Coords) (x1 x3 : FVec Ideal S32x512 .bf16) (a : Fin 32) (l : Fin 512) :
    k0_pay2 (F := Ideal) i x1 x3 (ix2 a l) = if (i 1 : ℕ) % 8 = 0 then 0 else x1 (ix2 a l) * sgm (x3 (ix2 a l)) := by
  have hi : (i 1 : ℕ) < 16 := (i 1).isLt
  have hc : ∀ k : Fin 16, Scalar.cmpi .eq (rem8 (k : ℕ)) 0#32 = if (k : ℕ) % 8 = 0 then 1#1 else 0#1 := by decide +kernel
  have e : k0_pay2 (F := Ideal) i x1 x3 (ix2 a l) = if Scalar.cmpi .eq (rem8 (i 1 : ℕ)) 0#32 = 1#1 then 0 else x1 (ix2 a l) * sgmT (x3 (ix2 a l)) := by
    pointwise [k0_pay2]
    rfl
  rw [e, hc ⟨(i 1 : ℕ), hi⟩, sgmT_eq]
  by_cases h : (i 1 : ℕ) % 8 = 0
  · rw [if_pos h, if_pos h, if_pos rfl]
  · rw [if_neg h, if_neg h, if_neg (by decide)]

theorem xs (c : Dev nD) (t : Fin cfg0.N) (k : ℕ) (hk : k < 288) (l : Fin 512) :
    xsR m c t k l = if k < 32 ∧ t.val % 16 % 8 = 0 then 0 else X (aU m c) (256 * (t.val % 16) + k - 32) (512 * (t.val / 16) + l) := by
  have ht : t.val < 32 := lt_of_lt_of_eq t.isLt N_0
  have hl := l.isLt
  unfold xsR rowsX
  by_cases h : k < 32
  · rw [dif_pos h, xB, halo, crd]
    by_cases h2 : t.val % 16 % 8 = 0
    · rw [if_pos h2, if_pos ⟨h, h2⟩]
    · rw [if_neg h2, if_neg (fun h' => h2 h'.2), X, dif_pos (by omega)]
      refine congrArg₂ (fun p q : EReal => p * sgm q) ?_ ?_
      all_goals blk_ext [iblk, V, V_main_arg0, idx t]
  · rw [dif_neg h, dif_pos hk, if_neg (fun h' => h h'.1), X, dif_pos (by omega), xA, ← sgmT_eq]
    pointwise [k0_pay5, k0_pay4, k0_pay3]
    refine congrArg₂ (fun p q : EReal => p * sgmT q) ?_ ?_
    all_goals blk_ext [iblk, V, idx t]

theorem bias_row (c : Dev nD) (k : Fin 1024) : (V m c main_v0 : FVec Ideal S1x1024 .f32) (ix2 0 k) = aB m c (ix1 k) := by
  rw [show (V m c main_v0 : FVec Ideal S1x1024 .f32) = shapeCast S1x1024 (aB m c) shapeCasts_S1024_S1x1024 from rfl]
  pointwise

theorem core (c : Dev nD) (t : Fin cfg0.N) (a l : ℕ) (r : ℕ) (q : Fin 1024) (h0 : a < 256) (h1 : l < 512)
    (hr : r = 256 * (t.val % 16) + a) (hq : (q : ℕ) = 512 * (t.val / 16) + l) :
    rowP (iblk m c 4 t) (iblk m c 5 t) (xsR m c t) a l = CONVat (aU m c) (aW m c) (aB m c) r q := by
  have ht : t.val < 32 := lt_of_lt_of_eq t.isLt N_0
  unfold rowP CONVat
  refine congrArg₂ (fun p q : EReal => p + q) (Finset.sum_congr rfl fun s _ => ?_) ?_
  · have hs := s.isLt
    unfold term
    rw [dif_pos (by omega), xs m c t _ (by omega)]
    refine congrArg₂ (fun p q : EReal => p * q) ?_ ?_
    · blk_ext [iblk, V, idx t]
    · dsimp only
      rw [← hq, back_of (X (aU m c) · (q : ℕ)) _ a (s : ℕ) _ (by omega) h0 (by omega), ← hr]
  · rw [dif_pos h1, ← bias_row]
    blk_ext [iblk, idx t]

theorem conv (c : Dev nD) : (dats m 0 c).arrAt 6 cfg0.N = CONV (aU m c) (aW m c) (aB m c) := by
  refine (dats m 0 c).arrAt_eq_of_covers 6 _ (by decide +kernel) fun t _ y => ?_
  have ht : t.val < 32 := lt_of_lt_of_eq t.isLt N_0
  blk_simp
  rw [after0_6, pt]
  refine core m c t _ _ _ _ (y 0).isLt (y 1).isLt ?_ ?_
  all_goals (blk_simp [idx t] <;> try omega)

end Cert.Kernel9Ideal.ConvF

end
-- ==== Proof.ConvFClaim.lean ====
/- The long gated convolution's forward pair: the reference's result, and the claim that kernel and reference end with equal results. -/
module

public import proofs.«01_k».proof.Defs
public import proofs.«01_k».proof.Proof.Gen.Reference9Ideal.Run
public import proofs.«01_k».proof.Proof.Gen.Reference9Ideal.Read
public import proofs.«01_k».proof.Proof.ConvFValue
public import proofs.«01_k».proof.Proof.ConvERef
public import Idealize.ShloMosaic.Lib.Claim

@[expose] public section

set_option maxRecDepth 16384

noncomputable section

namespace Cert.Proof.ConvF

open Idealize.ShloMosaic Idealize.ShloMosaic.TcCoe Idealize.SL.Sem
open Cert.Kernel9Ideal Cert.Kernel9Ideal.Gen Cert.Kernel9Ideal.ConvF
open Cert.Kernel5Ideal.ConvE (X back)
open Cert.Reference9Ideal.Read

variable (m : (ℓ : Loc nD τ sig) → Buf (Elt Ideal) ℓ) (ρ : Dev nD → PrngReg)

/-- The kernel's run, its result in plain terms of its arguments. -/
theorem run : θ_run defs (onTc (τ := τ) (main (F := Ideal))) ⟨m, fun _ => 0, ρ⟩ (fun r => ∀ c : Dev nD,
      r.2.mem ((c.tc : Thread nD τ).loc main_v1) = CONV (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.Kernel9Ideal.Value.run_blocks m ρ)
  obtain ⟨h0, hr⟩ := h c
  exact ⟨h0.trans (conv m c), hr⟩

/-- The shifted gated input, read off the same lines of the backward pair's reference. -/
theorem moved (U : FVec Ideal S4096x3072 .bf16) (b : Fin 2) (l : Fin 1024) (k : Fin 31) (t : Fin 2048) : val_main_v25 (F := Ideal) U (ix4 b l k t)
    = back (X U · (l : ℕ)) (30 - (k : ℕ)) (2048 * (b : ℕ) + (t : ℕ)) :=
  Cert.Reference5Ideal.ConvE.moved U b l k t

theorem taps (U : FVec Ideal S4096x3072 .bf16) (W : FVec Ideal S31x1024 .f32) (b : Fin 2) (t : Fin 2048) (l : Fin 1024) :
    val_main_v30 (F := Ideal) U W (ix3 b t l)
      = (∑ s : Fin 31, W (ix2 (⟨30 - (s : ℕ), by omega⟩ : Fin 31) l) * back (X U · (l : ℕ)) (s : ℕ) (2048 * (b : ℕ) + (t : ℕ)) : EReal) := by
  pointwise [val_main_v30, val_main_v29, val_main_v28, val_main_v27, val_main_v26, val_main_cst_1]
  simp only [moved]
  rw [← Equiv.sum_comp Fin.revPerm]
  refine Finset.sum_congr rfl fun q _ => ?_
  have hq := q.isLt
  have hr : ((Fin.revPerm q : Fin 31) : ℕ) = 30 - (q : ℕ) := by
    show 31 - ((q : ℕ) + 1) = _
    omega
  have hw : (⟨30 - (q : ℕ), by omega⟩ : Fin 31) = Fin.revPerm q := Fin.ext hr.symm
  rw [hw, hr, show 30 - (30 - (q : ℕ)) = (q : ℕ) by omega]

theorem ref (U : FVec Ideal S4096x3072 .bf16) (W : FVec Ideal S31x1024 .f32) (B : FVec Ideal S1024 .f32) :
    CONV U W B = val_main_v35 (F := Ideal) U W B := by
  refine HostSum.ext2 fun i l => ?_
  have h0 := i.isLt
  pointwise [val_main_v35, val_main_v34, val_main_v33, val_main_v32, val_main_v31]
  rw [taps, Nat.div_add_mod]
  rfl

theorem algebraic : Cert.algebraic_Kernel9Ideal_Reference9Ideal := by
  pair_intro
  · run_from Cert.Proof.ConvF.run m g
  · run_from Cert.Reference9Ideal.Value.run m' g'
    · rw [val_main_v35_eq]
      exact (ref _ _ _).symm

end Cert.Proof.ConvF

end
-- ==== Proof.PoolFValue.lean ====
/- The forward call of the pooling mixer's window sums: its stores as a list of tiles, each tile's value, and what it leaves in its result. -/
module

public import proofs.«01_k».proof.Proof.Gen.Kernel10Ideal.Value
public import proofs.«01_k».proof.Proof.ConvEBack
public import proofs.«01_k».proof.Proof.PoolG
public import Idealize.ShloMosaic.Lib.StableHlo.ReadAt

@[expose] public section

set_option maxRecDepth 16384

noncomputable section

namespace Cert.Kernel10Ideal.PoolF

open Idealize.ShloMosaic Idealize.ShloMosaic.TcCoe Idealize.SL.Sem
open Idealize.ShloMosaic.Pipeline (Dat)
open Cert.Kernel10Ideal Cert.Kernel10Ideal.Gen Cert.Scalars
open Cert.Kernel6Ideal.Pool (rem8 live sh toff tinb xinb sh_lt woff winb slc slice_at sum_sh live_le)
open Cert.Kernel5Ideal.ConvE (moved moved_at back back_of)

variable (m : (ℓ : Loc nD τ sig) → Buf (Elt Ideal) ℓ)

/-- The input's rows at point `t`: its block's, -/
def xA (c : Dev nD) (t : Fin cfg0.N) : FVec Ideal S256x1024 .f32 := k0_pay3 (iblk m c 0 t)
/-- and those before it. -/
def xB (c : Dev nD) (t : Fin cfg0.N) : FVec Ideal S32x1024 .f32 := k0_pay2 (grid0.coords t) (iblk m c 1 t)

/-- The scratch block's contents: the rows before above, the block's below, -/
def rows (A : FVec Ideal S256x1024 .f32) (B : FVec Ideal S32x1024 .f32) (a : ℕ) (l : Fin 1024) : EReal :=
  if h : a < 32 then B (ix2 (⟨a, h⟩ : Fin 32) l) else if h' : a < 288 then A (ix2 (⟨a - 32, by omega⟩ : Fin 256) l) else 0

/-- the same by its index. -/
def rowsV (A : FVec Ideal S256x1024 .f32) (B : FVec Ideal S32x1024 .f32) : FVec Ideal S288x1024 .f32 := fun y => rows A B (y 0 : ℕ) (y 1)

/-- The stores that fill it. -/
def fill (A : FVec Ideal S256x1024 .f32) (B : FVec Ideal S32x1024 .f32) : List (View.Piece (Elt Ideal) S288x1024 .f32) :=
  [⟨Rect.unit ![32, 0] ![256, 1024] inb_S288x1024_S256x1024_32_0, A⟩, ⟨Rect.unit ![0, 0] ![32, 1024] inb_S288x1024_S32x1024_0_0, B⟩]

theorem scr (v : View sig .tc .vmem S288x1024 .f32) (A : FVec Ideal S256x1024 .f32) (B : FVec Ideal S32x1024 .f32) (r : Rect S288x1024) :
    v.readCov (Val := Elt Ideal) (fill A B) r.toLoadRect = View.ld (Val := Elt Ideal) (e' := .f32) (rowsV A B) r := by
  rw [View.readCov_eq_canon']
  funext j
  show (View.canon (Val := Elt Ideal) (e := .f32) _ (r.emb j)) = rowsV A B (r.emb j)
  generalize r.emb j = y
  have hc : ∃ p ∈ fill A B, y ∈ p.1.set := by
    have h0 : (y 0 : ℕ) < 288 := (y 0).isLt
    have h1 : (y 1 : ℕ) < 1024 := (y 1).isLt
    by_cases h : 32 ≤ (y 0 : ℕ)
    · exact ⟨_, List.mem_cons_self, (Rect.mem_set_unit (inb := inb_S288x1024_S256x1024_32_0)).mpr (Fin.forall_fin_two.mpr ⟨⟨h, by simpa using h0⟩, ⟨Nat.zero_le _, by simpa using h1⟩⟩)⟩
    · exact ⟨_, List.mem_cons_of_mem _ List.mem_cons_self, (Rect.mem_set_unit (inb := inb_S288x1024_S32x1024_0_0)).mpr (Fin.forall_fin_two.mpr ⟨⟨Nat.zero_le _, by simp; omega⟩, ⟨Nat.zero_le _, by simpa using h1⟩⟩)⟩
  unfold fill at hc ⊢
  canon_tiles x h using hc
  · have hx := (x 0).isLt
    show A x = rows A B _ _
    unfold rows
    rw [dif_neg (by omega), dif_pos (by omega)]
    blk_ext
  · show B x = rows A B _ _
    unfold rows
    rw [dif_pos (by omega)]
    blk_ext

/-- Tile `n` of the scratch block once it is filled. -/
def tile (c : Dev nD) (t : Fin cfg0.N) (n : ℕ) : FVec Ideal S96x128 .f32 :=
  scM0_0.view.readCov (Val := Elt Ideal) (fill (xA m c t) (xB m c t)) (Rect.unit (s := S288x1024) (toff n) ![96, 128] (tinb n)).toLoadRect

/-- The first `p` taps of tile `n`. -/
def acc (W : FVec Ideal S16x1024 .f32) (x : FVec Ideal S96x128 .f32) (n : ℕ) : ℕ → FVec Ideal S64x128 .f32
  | 0 => broadcast S64x128 (Scalar.ofBits (F := Ideal) .f32 0x00000000#32)
  | p + 1 => addf (F := Ideal) (φ := .f32) (acc W x n p) (mulf (F := Ideal) (φ := .f32)
      (broadcastTo S64x128 (shapeCast S1x128 (View.ld (Val := Elt Ideal) (e' := .f32) W (Rect.unit (s := S16x1024) (woff n p) ![1, 128] (winb n p))) shapeCasts_S1x128_S1x128) broadcasts_S1x128_S64x128)
      (extractStridedSlice S64x128 ![32 - 8 * (sh (n / 4 % 8) p / 8), 0] (moved (sh (n / 4 % 8) p % 8) x) (slc _ (by omega))))

theorem out (c : Dev nD) (t : Fin cfg0.N) (y : S256x1024.Idx) :
    outsAt0 m c t y = View.canon (Val := Elt Ideal) (e := .bf16) (TileList.pieces toff xinb
      (fun n => truncf .bf16 (acc (iblk m c 2 t) (tile m c t n) n (live (n / 4 % 8))) bitsLt_bf16_f32) 32) y := by
  unfold outsAt0; frame_out
  refine congrFun (congrArg (View.canon (Val := Elt Ideal) (s := S256x1024) (e := .bf16)) ?_) y
  sl_kernel_rfl

/-- The point's scratch rows. -/
def xsR (c : Dev nD) (t : Fin cfg0.N) : ℕ → Fin 1024 → EReal := rows (xA m c t) (xB m c t)

theorem tile_x (c : Dev nD) (t : Fin cfg0.N) (n : ℕ) (i : Fin 96) (l : Fin 128) : tile m c t n (ix2 i l)
    = xsR m c t (64 * (n % 4) + (i : ℕ)) ⟨128 * (n / 4 % 8) + (l : ℕ), by omega⟩ := by
  unfold tile; rw [scr]
  pointwise [rowsV, xsR]
  rfl

/-- One term of the sum, at row `a` of the point's block and lane `l`. -/
def term (W : FVec Ideal S16x1024 .f32) (x : ℕ → Fin 1024 → EReal) (a : ℕ) (l : ℕ) (s : ℕ) : EReal :=
  if h : l < 1024 ∧ s < 16 then W (ix2 (⟨15 - s, by omega⟩ : Fin 16) (⟨l, h.1⟩ : Fin 1024)) * x (32 + a - s) ⟨l, h.1⟩ else 0

theorem acc_at (c : Dev nD) (t : Fin cfg0.N) (n : ℕ) (a : Fin 64) (l : Fin 128) (p : ℕ) :
    acc (iblk m c 2 t) (tile m c t n) n p (ix2 a l)
      = (∑ q ∈ Finset.range p, term (iblk m c 2 t) (xsR m c t) (64 * (n % 4) + (a : ℕ)) (128 * (n / 4 % 8) + (l : ℕ)) (sh (n / 4 % 8) q) : EReal) := by
  induction p with
  | zero => rw [Finset.sum_range_zero]; pointwise [acc]
  | succ p ih =>
    have ha := a.isLt
    have hl := l.isLt
    have hs := sh_lt (n / 4 % 8) p
    rw [Finset.sum_range_succ, ← ih]
    show (acc _ _ n p (ix2 a l) + _ * _ : EReal) = _
    refine congrArg (fun q : EReal => _ + q) ?_
    unfold term
    rw [dif_pos (by omega)]
    refine congrArg₂ (fun p q : EReal => p * q) ?_ ?_
    · pointwise [woff]
      blk_ext
    · refine (slice_at _ (by omega) _ _ a l).trans ((moved_at _ (by omega) _ _ l (by dsimp only; omega)).trans ((tile_x m c t _ _ l).trans ?_))
      dsimp only
      exact congrArg (xsR m c t · _) (by omega)

/-- The value at row `a` of the point's block, lane `l`. -/
def rowP (W : FVec Ideal S16x1024 .f32) (x : ℕ → Fin 1024 → EReal) (a l : ℕ) : EReal := ∑ s : Fin (live (l / 128)), term W x a l (s : ℕ)

theorem pt (c : Dev nD) (t : Fin cfg0.N) (y : S256x1024.Idx) :
    outsAt0 m c t y = rowP (iblk m c 2 t) (xsR m c t) (y 0 : ℕ) (y 1 : ℕ) := by
  have h0 : (y 0 : ℕ) < 256 := (y 0).isLt
  have h1 : (y 1 : ℕ) < 1024 := (y 1).isLt
  refine (out m c t y).trans ?_
  refine TileList.canon_pieces (e := .bf16) toff xinb _ (fun a l => (rowP (iblk m c 2 t) (xsR m c t) a l : EReal)) (fun n x => ?_) 32 y
    ⟨4 * ((y 1 : ℕ) / 128) + (y 0 : ℕ) / 64, by omega, ?_⟩
  · obtain ⟨a, l, rfl⟩ : ∃ (a : Fin 64) (l : Fin 128), x = ix2 a l := ⟨x 0, x 1, eq_ix2 x⟩
    have hl := l.isLt
    have e : (toff n 1 + (l : ℕ)) / 128 = n / 4 % 8 := by
      show (128 * (n / 4 % 8) + (l : ℕ)) / 128 = _
      omega
    refine ((acc_at m c t n a l _).trans (sum_sh _ _ (by omega))).trans ?_
    show _ = rowP _ _ (toff n 0 + (a : ℕ)) (toff n 1 + (l : ℕ))
    unfold rowP
    rw [e]
    rfl
  · show (64 * _ ≤ _ ∧ _ < 64 * _ + 64) ∧ 128 * _ ≤ _ ∧ _ < 128 * _ + 128
    omega

/-- The argument's contents. -/
abbrev aU (c : Dev nD) : FVec Ideal S4096x3072 .bf16 := m ((c : Thread nD τ).loc main_arg0)

/-- The pooled rows at row `r`, column `l`; zero outside. -/
def Un (U : FVec Ideal S4096x3072 .bf16) (r l : ℕ) : EReal :=
  if h : r < 4096 ∧ l < 1024 then U (ix2 (⟨r, h.1⟩ : Fin 4096) (⟨2048 + l, by omega⟩ : Fin 3072)) else 0

/-- The windows' sums: as many rows back as the column's window is long. -/
def SUMS (U : FVec Ideal S4096x3072 .bf16) : FVec Ideal S4096x1024 .bf16 := fun y =>
  ∑ s : Fin (live ((y 1 : ℕ) / 128)), back (Un U · (y 1 : ℕ)) (s : ℕ) (y 0 : ℕ)

theorem idx : ∀ t : Fin cfg0.N, win0_0.index t = ![t.val, 2] ∧ win0_1.index t = ![t.val * 8 - 1, 2] ∧ win0_2.index t = ![0, 0]
    ∧ win0_3.index t = ![t.val, 0] :=
  (by decide +kernel : ∀ t : Fin grid0.N, _)

theorem crd : ∀ t : Fin cfg0.N, (grid0.coords t 1 : ℕ) = t.val := (by decide +kernel : ∀ t : Fin grid0.N, _)

theorem halo (i : grid0.Coords) (x1 : FVec Ideal S32x1024 .bf16) (a : Fin 32) (l : Fin 1024) :
    k0_pay2 (F := Ideal) i x1 (ix2 a l) = if (i 1 : ℕ) % 8 = 0 then 0 else x1 (ix2 a l) := by
  have hi : (i 1 : ℕ) < 16 := (i 1).isLt
  have hc : ∀ k : Fin 16, Scalar.cmpi .eq (rem8 (k : ℕ)) 0#32 = if (k : ℕ) % 8 = 0 then 1#1 else 0#1 := by decide +kernel
  have e : k0_pay2 (F := Ideal) i x1 (ix2 a l) = if Scalar.cmpi .eq (rem8 (i 1 : ℕ)) 0#32 = 1#1 then 0 else x1 (ix2 a l) := by
    pointwise [k0_pay2]
    rfl
  rw [e, hc ⟨(i 1 : ℕ), hi⟩]
  by_cases h : (i 1 : ℕ) % 8 = 0
  · rw [if_pos h, if_pos h, if_pos rfl]
  · rw [if_neg h, if_neg h, if_neg (by decide)]

theorem xs (c : Dev nD) (t : Fin cfg0.N) (k : ℕ) (hk : k < 288) (l : Fin 1024) :
    xsR m c t k l = if k < 32 ∧ t.val % 8 = 0 then 0 else Un (aU m c) (256 * t.val + k - 32) (l : ℕ) := by
  have ht : t.val < 16 := lt_of_lt_of_eq t.isLt N_0
  have hl := l.isLt
  unfold xsR rows
  by_cases h : k < 32
  · rw [dif_pos h, xB, halo, crd]
    by_cases h2 : t.val % 8 = 0
    · rw [if_pos h2, if_pos ⟨h, h2⟩]
    · rw [if_neg h2, if_neg (fun h' => h2 h'.2), Un, dif_pos (by omega)]
      refine Eq.trans ?_ (congrFun (V_main_arg0 m c) _)
      blk_point [iblk, idx t]
  · rw [dif_neg h, dif_pos hk, if_neg (fun h' => h h'.1), Un, dif_pos (by omega), xA]
    refine Eq.trans ?_ (congrFun (V_main_arg0 m c) _)
    pointwise [k0_pay3]
    blk_point [iblk, idx t]

/-- Every tap that a tile sums is one. -/
theorem taps (c : Dev nD) (k : Fin 16) (l : Fin 1024) (h : 16 ≤ (k : ℕ) + live ((l : ℕ) / 128)) :
    V m c main_v28 (ix2 k l) = (1 : EReal) := by
  have hk := k.isLt
  have hl := l.isLt
  unfold V hostOps0
  after_reads_simp
  generalize (fun b => m (c, b)) = F
  dsimp only [Matrix.cons_val, Matrix.cons_val_zero, Matrix.cons_val_one]
  after_reads_simp
  all_goals try simp -implicitDefEqProofs only [StableHlo.TRef.toBuf, StableHlo.TRef.ofBuf, cast_cast, cast_eq]
  clean_types
  pointwise
  after_reads_simp
  pointwise
  unfold live at h
  have q : (l : ℕ) / 128 / 2 % 4 = 0 ∧ (l : ℕ) < 256 ∨ (l : ℕ) / 128 / 2 % 4 = 1 ∧ ¬ (l : ℕ) < 256 ∧ (l : ℕ) < 512
      ∨ (l : ℕ) / 128 / 2 % 4 = 2 ∧ ¬ (l : ℕ) < 512 ∧ (l : ℕ) < 768 ∨ (l : ℕ) / 128 / 2 % 4 = 3 ∧ ¬ (l : ℕ) < 768 := by omega
  rcases q with ⟨q, h1⟩ | ⟨q, h1, h2⟩ | ⟨q, h1, h2⟩ | ⟨q, h1⟩
  all_goals
    rw [q] at h
    norm_num at h
    split_ifs
    all_goals first | omega | rfl

theorem core (c : Dev nD) (t : Fin cfg0.N) (a l : ℕ) (i : S4096x1024.Idx) (h0 : a < 256)
    (hr : (i 0 : ℕ) = 256 * t.val + a) (hq : (i 1 : ℕ) = l) :
    rowP (iblk m c 2 t) (xsR m c t) a l = SUMS (aU m c) i := by
  have ht : t.val < 16 := lt_of_lt_of_eq t.isLt N_0
  have hl : (i 1 : ℕ) < 1024 := (i 1).isLt
  subst hq
  unfold rowP SUMS
  refine Finset.sum_congr rfl fun s _ => ?_
  have hs := s.isLt
  have hs' := live_le ((i 1 : ℕ) / 128)
  unfold term
  rw [dif_pos (by omega), xs m c t _ (by omega)]
  have hw : iblk (F := Ideal) m c 2 t (ix2 (⟨15 - (s : ℕ), by omega⟩ : Fin 16) (⟨(i 1 : ℕ), hl⟩ : Fin 1024)) = (1 : EReal) := by
    refine Eq.trans ?_ (taps m c (⟨15 - (s : ℕ), by omega⟩ : Fin 16) ⟨(i 1 : ℕ), hl⟩ (by dsimp only; omega))
    blk_point [iblk, idx t]
  refine (congrArg (fun p : EReal => p * _) hw).trans ((one_mul _).trans ?_)
  dsimp only
  rw [back_of (Un (aU m c) · (i 1 : ℕ)) _ a (s : ℕ) _ (by omega) h0 (by omega), ← hr]

theorem sums (c : Dev nD) : (dats m 0 c).arrAt 3 cfg0.N = SUMS (aU m c) := by
  refine (dats m 0 c).arrAt_eq_of_covers 3 _ (by decide +kernel) fun t _ y => ?_
  have ht : t.val < 16 := lt_of_lt_of_eq t.isLt N_0
  blk_simp
  rw [after0_3, pt]
  refine core m c t _ _ _ (y 0).isLt ?_ ?_
  all_goals (blk_simp [idx t] <;> try omega)

end Cert.Kernel10Ideal.PoolF

end
-- ==== Proof.PoolFClaim.lean ====
/- The pooling mixer's forward pair: the reference's result, and the claim that kernel and reference end with equal results. -/
module

public import proofs.«01_k».proof.Defs
public import proofs.«01_k».proof.Proof.Gen.Reference10Ideal.Run
public import proofs.«01_k».proof.Proof.Gen.Reference10Ideal.Read
public import proofs.«01_k».proof.Proof.Gen.Pre_finite10
public import proofs.«01_k».proof.Proof.PoolFValue
public import proofs.«01_k».proof.Proof.WindowSum
public import proofs.«01_k».proof.Proof.Finite
public import proofs.«01_k».proof.Proof.HostSum
public import Idealize.ShloMosaic.Lib.Claim

@[expose] public section

set_option maxRecDepth 16384

noncomputable section

namespace Cert.Proof.PoolF

open Idealize.ShloMosaic Idealize.ShloMosaic.TcCoe Idealize.SL.Sem
open Cert.Kernel10Ideal Cert.Kernel10Ideal.Gen Cert.Kernel10Ideal.PoolF Cert.Scalars
open Cert.Kernel5Ideal.ConvE (back)
open Cert.Kernel6Ideal.Pool (live)
open Cert.Reference10Ideal.Read

variable (m : (ℓ : Loc nD τ sig) → Buf (Elt Ideal) ℓ) (ρ : Dev nD → PrngReg)

/-- The kernel's run, its result in plain terms of its argument. -/
theorem run : θ_run defs (onTc (τ := τ) (main (F := Ideal))) ⟨m, fun _ => 0, ρ⟩ (fun r => ∀ c : Dev nD,
      r.2.mem ((c.tc : Thread nD τ).loc main_v29) = SUMS (m ((c : Thread nD τ).loc main_arg0))
      ∧ r.2.mem ((c.tc : Thread nD τ).loc main_arg0) = m ((c.tc : Thread nD τ).loc main_arg0)) := by
  refine (θ_run defs _ _).mono (fun r h c => ?_) (Cert.Kernel10Ideal.Value.run_blocks m ρ)
  obtain ⟨h0, hr⟩ := h c
  exact ⟨h0.trans (sums m c), hr⟩

/-- The last `w` of the numbers up to `t`, by the sums from the start. -/
theorem last (g : ℕ → ℝ) (t : ℕ) : ∀ w : ℕ, (∑ s ∈ Finset.range w, if s ≤ t then g (t - s) else 0)
    = ∑ j ∈ Finset.range (t + 1), g j - ∑ j ∈ Finset.range (t + 1 - w), g j
  | 0 => by rw [Finset.sum_range_zero, Nat.sub_zero, sub_self]
  | w + 1 => by
    rw [Finset.sum_range_succ, last g t w]
    by_cases h : w ≤ t
    · have e := Finset.sum_range_succ g (t - w)
      rw [if_pos h, show t + 1 - w = (t - w) + 1 by omega, show t + 1 - (w + 1) = t - w by omega, e]
      ring
    · rw [if_neg h, show t + 1 - w = 0 by omega, show t + 1 - (w + 1) = 0 by omega, add_zero]

/-- The same of real numbers among the extended ones. -/
theorem last_coe (f : ℕ → EReal) (g : ℕ → ℝ) (hg : ∀ j, f j = (g j : EReal)) (t w : ℕ) : (∑ s : Fin w, if (s : ℕ) ≤ t then f (t - (s : ℕ)) else 0)
    = ((∑ j ∈ Finset.range (t + 1), g j - ∑ j ∈ Finset.range (t + 1 - w), g j : ℝ) : EReal) := by
  rw [← last g t w, ← Fin.sum_univ_eq_sum_range (fun s => if s ≤ t then g (t - s) else 0) w, coe_sum]
  refine Finset.sum_congr rfl fun s _ => ?_
  by_cases h : (s : ℕ) ≤ t
  · rw [if_pos h, if_pos h, hg]
  · rw [if_neg h, if_neg h, EReal.coe_zero]

variable (U : FVec Ideal S4096x3072 .bf16)

/-- The pooled rows, a sequence apart. -/
theorem rows_at (a : Fin 2) (i : Fin 2048) (l : Fin 1024) : val_main_v2 (F := Ideal) U (ix3 a i l) = Un U (2048 * (a : ℕ) + (i : ℕ)) (l : ℕ) := by
  have ha := a.isLt
  have hi := i.isLt
  have hl := l.isLt
  unfold Un
  rw [dif_pos (by omega)]
  pointwise [val_main_v2, val_main_v1, val_main_v0]
  blk_point

/-- The cumulative sums. -/
theorem cums (a : Fin 2) (i : Fin 2048) (l : Fin 1024) : val_main_v3 (F := Ideal) U (ix3 a i l)
    = ∑ k : Fin 2048, if (k : ℕ) ≤ (i : ℕ) then Un U (2048 * (a : ℕ) + ((i : ℕ) - (k : ℕ))) (l : ℕ) else 0 := by
  unfold val_main_v3 Host.reduceWindowAdd
  rw [Ideal.hostReduceWindowAdd_def]
  refine (Cert.WindowSum.fromStart rfl _ (val_main_v2 (F := Ideal) U) _ (Ideal.ofBits_zero .f32) a i l).trans ?_
  refine Finset.sum_congr rfl fun k _ => ?_
  by_cases h : (k : ℕ) ≤ (i : ℕ)
  · rw [dif_pos h, if_pos h, rows_at]
  · rw [dif_neg h, if_neg h]

/-- The sums' differences: what a window's length before is taken off. -/
theorem lags (a : Fin 2) (i : Fin 2048) (l : Fin 1024) : val_main_v17 (F := Ideal) U (ix3 a i l)
    = val_main_v3 (F := Ideal) U (ix3 a i l) - (if live ((l : ℕ) / 128) ≤ (i : ℕ) then
        val_main_v3 (F := Ideal) U (ix3 a (⟨(i : ℕ) - live ((l : ℕ) / 128), by omega⟩ : Fin 2048) l) else 0) := by
  have ha := a.isLt
  have hi := i.isLt
  have hl := l.isLt
  generalize hx : val_main_v3 (F := Ideal) U = x
  pointwise [val_main_v17, val_main_v16, val_main_v15, val_main_v14, val_main_v13, val_main_v12, val_main_v11, val_main_v10, val_main_v9, val_main_v8,
    val_main_v7, val_main_v6, val_main_v5, val_main_v4, val_main_cst, val_main_cst_0, val_main_cst_1, val_main_cst_2]
  have q : (l : ℕ) < 256 ∧ live ((l : ℕ) / 128) = 2 ∨ (256 ≤ (l : ℕ) ∧ (l : ℕ) < 512) ∧ live ((l : ℕ) / 128) = 4
      ∨ (512 ≤ (l : ℕ) ∧ (l : ℕ) < 768) ∧ live ((l : ℕ) / 128) = 8 ∨ 768 ≤ (l : ℕ) ∧ live ((l : ℕ) / 128) = 16 := by
    unfold live
    have q' : (l : ℕ) / 128 / 2 % 4 = 0 ∧ (l : ℕ) < 256 ∨ (l : ℕ) / 128 / 2 % 4 = 1 ∧ 256 ≤ (l : ℕ) ∧ (l : ℕ) < 512
        ∨ (l : ℕ) / 128 / 2 % 4 = 2 ∧ 512 ≤ (l : ℕ) ∧ (l : ℕ) < 768 ∨ (l : ℕ) / 128 / 2 % 4 = 3 ∧ 768 ≤ (l : ℕ) := by omega
    rcases q' with ⟨q, h1⟩ | ⟨q, h1⟩ | ⟨q, h1⟩ | ⟨q, h1⟩
    · exact .inl ⟨h1, by rw [q]; rfl⟩
    · exact .inr (.inl ⟨h1, by rw [q]; rfl⟩)
    · exact .inr (.inr (.inl ⟨h1, by rw [q]; rfl⟩))
    · exact .inr (.inr (.inr ⟨h1, by rw [q]; rfl⟩))
  rw [hx]
  refine congrArg (fun p : EReal => _ - p) ?_
  have one : ∀ w : ℕ, live ((l : ℕ) / 128) = w → ∀ j : Fin 1024, j = l →
      (if h : (i : ℕ) < w then (0 : EReal) else x (ix3 a (⟨(i : ℕ) - w, by omega⟩ : Fin 2048) j))
        = if live ((l : ℕ) / 128) ≤ (i : ℕ) then x (ix3 a (⟨(i : ℕ) - live ((l : ℕ) / 128), by omega⟩ : Fin 2048) l) else 0 := by
    intro w hw j hj
    subst hw hj
    by_cases h : (i : ℕ) < live ((j : ℕ) / 128)
    · rw [dif_pos h, if_neg (by omega)]
    · rw [dif_neg h, if_pos (by omega)]
  rcases q with ⟨h, w⟩ | ⟨h, w⟩ | ⟨h, w⟩ | ⟨h, w⟩
  · rw [dif_pos h]
    exact one 2 w l rfl
  · rw [dif_neg (by omega), dif_pos (by omega)]
    exact one 4 w ⟨256 + ((l : ℕ) - 256), by omega⟩ (Fin.ext (by dsimp only; omega))
  · rw [dif_neg (by omega), dif_neg (by omega), dif_pos (by omega)]
    exact one 8 w ⟨512 + ((l : ℕ) - 256 - 256), by omega⟩ (Fin.ext (by dsimp only; omega))
  · rw [dif_neg (by omega), dif_neg (by omega), dif_neg (by omega)]
    exact one 16 w ⟨768 + ((l : ℕ) - 256 - 256 - 256), by omega⟩ (Fin.ext (by dsimp only; omega))

/-- Of real numbers: the reference's window sums are the kernel's. -/
theorem windows (hU : ∀ r l, IsReal (Un U r l)) (a : Fin 2) (i : Fin 2048) (l : Fin 1024) : val_main_v17 (F := Ideal) U (ix3 a i l)
    = ∑ s : Fin (live ((l : ℕ) / 128)), back (Un U · (l : ℕ)) (s : ℕ) (2048 * (a : ℕ) + (i : ℕ)) := by
  have hi := i.isLt
  choose g hg using fun j : ℕ => hU (2048 * (a : ℕ) + j) (l : ℕ)
  have hc : ∀ (j : ℕ) (hj : j < 2048), val_main_v3 (F := Ideal) U (ix3 a (⟨j, hj⟩ : Fin 2048) l) = ((∑ k ∈ Finset.range (j + 1), g k : ℝ) : EReal) := by
    intro j hj
    refine (cums U a ⟨j, hj⟩ l).trans ((last_coe (fun k => Un U (2048 * (a : ℕ) + k) (l : ℕ)) g hg j 2048).trans ?_)
    rw [show j + 1 - 2048 = 0 by omega, Finset.sum_range_zero, sub_zero]
  generalize hw : live ((l : ℕ) / 128) = w
  have hr : (∑ s : Fin w, back (Un U · (l : ℕ)) (s : ℕ) (2048 * (a : ℕ) + (i : ℕ)))
      = ∑ s : Fin w, if (s : ℕ) ≤ (i : ℕ) then Un U (2048 * (a : ℕ) + ((i : ℕ) - (s : ℕ))) (l : ℕ) else 0 := by
    refine Finset.sum_congr rfl fun s _ => ?_
    unfold back
    by_cases h : (s : ℕ) ≤ (i : ℕ)
    · rw [if_pos h, if_pos (by omega)]
      exact congrArg (Un U · (l : ℕ)) (by omega)
    · rw [if_neg h, if_neg (by omega)]
  rw [hr, last_coe (fun k => Un U (2048 * (a : ℕ) + k) (l : ℕ)) g hg, lags, EReal.coe_sub]
  refine congrArg₂ (fun p q : EReal => p - q) (hc (i : ℕ) hi) ?_
  simp only [hw]
  by_cases h : w ≤ (i : ℕ)
  · rw [if_pos h, hc, show (i : ℕ) + 1 - w = (i : ℕ) - w + 1 by omega]
  · rw [if_neg h, show (i : ℕ) + 1 - w = 0 by omega, Finset.sum_range_zero, EReal.coe_zero]

theorem ref (hU : ∀ r l, IsReal (Un U r l)) : SUMS U = val_main_v19 (F := Ideal) U := by
  refine HostSum.ext2 fun i l => ?_
  have h0 := i.isLt
  pointwise [val_main_v19, val_main_v18]
  rw [windows U hU, Nat.div_add_mod]
  rfl

/-- The columns that the precondition tests hold real numbers. -/
theorem real_of_pre (fin : Cert.Pre_finite10.fn (F := Ideal) U = fun _ => 1#1) (r l : ℕ) : IsReal (Un U r l) := by
  unfold Cert.Pre_finite10.fn at fin
  dsimp only at fin
  unfold Un
  split
  · rename_i h
    have e := real_of_all _ _ inf_bf16 _ _ _ fin (ix2 (⟨r, h.1⟩ : Fin 4096) (⟨l, h.2⟩ : Fin 1024))
    obtain ⟨x, hx⟩ := e
    refine ⟨x, Eq.trans (congrArg U ?_) hx⟩
    blk_ext <;> rfl
  · exact ⟨0, by norm_cast⟩

/-- The reference's run, its result by name. -/
theorem refRun (m' : (ℓ : Loc Cert.Reference10Ideal.nD Cert.Reference10Ideal.τ Cert.Reference10Ideal.sig) → Buf (Elt Ideal) ℓ)
    (ρ' : Dev Cert.Reference10Ideal.nD → PrngReg) :
    θ_run Cert.Reference10Ideal.defs (onTc (τ := Cert.Reference10Ideal.τ) (Cert.Reference10Ideal.main (F := Ideal))) ⟨m', fun _ => 0, ρ'⟩
      (fun r => ∀ c : Dev Cert.Reference10Ideal.nD,
        r.2.mem ((c.tc : Thread Cert.Reference10Ideal.nD Cert.Reference10Ideal.τ).loc Cert.Reference10Ideal.main_v19)
            = val_main_v19 (F := Ideal) (m' ((c.tc : Thread Cert.Reference10Ideal.nD Cert.Reference10Ideal.τ).loc Cert.Reference10Ideal.main_arg0))
        ∧ r.2.mem ((c.tc : Thread Cert.Reference10Ideal.nD Cert.Reference10Ideal.τ).loc Cert.Reference10Ideal.main_arg0)
            = m' ((c.tc : Thread Cert.Reference10Ideal.nD Cert.Reference10Ideal.τ).loc Cert.Reference10Ideal.main_arg0)) := by
  refine (θ_run _ _ _).mono (fun r h c => ?_) (Cert.Reference10Ideal.Value.run m' ρ')
  obtain ⟨h0, hr⟩ := h c
  exact ⟨h0.trans (val_main_v19_eq _), hr⟩

theorem algebraic : Cert.algebraic_Kernel10Ideal_Reference10Ideal_pre_finite10 := by
  pair_intro
  · run_from Cert.Proof.PoolF.run m g
  · refine (θ_run _ _ _).mono (fun r h c => ?_) (refRun m' g')
    obtain ⟨h0, hr⟩ := h c
    exact ⟨(h0.trans (congrArg (val_main_v19 (F := Ideal)) (hagree c))).trans (ref _ (real_of_pre _ (hpre c))).symm, hr⟩

end Cert.Proof.PoolF

end
-- ==== Proof.BlockSum.lean ====
/- A sum taken in equal blocks, one block after the other, is the whole sum. -/
module

public import Idealize.ShloMosaic.Lib.Pointwise

@[expose] public section

noncomputable section

namespace Cert.BlockSum

theorem two {n N : ℕ} (hN : n + n = N) (f : Fin N → EReal) :
    (∑ k : Fin n, f ⟨(k : ℕ), by omega⟩) + (∑ k : Fin n, f ⟨n + (k : ℕ), by omega⟩) = ∑ k, f k := by
  subst hN
  exact (Fin.sum_univ_add f).symm

theorem three {n N : ℕ} (hN : n + n + n = N) (f : Fin N → EReal) :
    (∑ k : Fin n, f ⟨(k : ℕ), by omega⟩) + (∑ k : Fin n, f ⟨n + (k : ℕ), by omega⟩) + (∑ k : Fin n, f ⟨n + n + (k : ℕ), by omega⟩)
      = ∑ k, f k := by
  subst hN
  refine (congrArg (· + _) (Fin.sum_univ_add fun k : Fin (n + n) => f ⟨(k : ℕ), by omega⟩).symm).trans ?_
  exact (Fin.sum_univ_add f).symm

end Cert.BlockSum

end
-- ==== Proof.NnClaim.lean ====
/- Two products added, two steps to a result block: their result, and the claim that kernel and reference end with equal results. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.BlockSum
public import Idealize.ShloMosaic.Lib.Pipeline.ValueKit
public import Idealize.ShloMosaic.Lib.Pointwise
public import Idealize.ShloMosaic.Lib.Claim

@[expose] public section

set_option maxRecDepth 16384

noncomputable section

namespace Cert.Proof.Nn

open Idealize.ShloMosaic Idealize.ShloMosaic.TcCoe Idealize.SL.Sem
open Cert.Kernel11Ideal Cert.Kernel11Ideal.Gen
open Cert.Reference11Ideal.Read

/-- Row `i` of an array against column `j` of another. -/
def dot (A : FVec Ideal S4096x5632 .bf16) (B : FVec Ideal S5632x2048 .bf16) (i : S4096x2048.Idx) : EReal :=
  ∑ k : Fin 5632, A (ix2 (i 0) k) * B (ix2 k (i 1))

/-- The sum of two such products. -/
def PROD (A A' : FVec Ideal S4096x5632 .bf16) (B B' : FVec Ideal S5632x2048 .bf16) : FVec Ideal S4096x2048 .bf16 :=
  fun i => dot A B i + dot A' B' i

variable (m : (ℓ : Loc nD τ sig) → Buf (Elt Ideal) ℓ) (ρ : Dev nD → PrngReg)

abbrev aA (c : Dev nD) : FVec Ideal S4096x5632 .bf16 := m ((c.tc : Thread nD τ).loc main_arg0)
abbrev aA' (c : Dev nD) : FVec Ideal S4096x5632 .bf16 := m ((c.tc : Thread nD τ).loc main_arg1)
abbrev aB (c : Dev nD) : FVec Ideal S5632x2048 .bf16 := m ((c.tc : Thread nD τ).loc main_arg2)
abbrev aB' (c : Dev nD) : FVec Ideal S5632x2048 .bf16 := m ((c.tc : Thread nD τ).loc main_arg3)

theorem idx : ∀ t : Fin cfg0.N, win0_0.index t = ![t.val / 8, t.val % 2] ∧ win0_1.index t = ![t.val / 8, t.val % 2]
    ∧ win0_2.index t = ![t.val % 2, t.val / 2 % 4] ∧ win0_3.index t = ![t.val % 2, t.val / 2 % 4]
    ∧ win0_4.index t = ![t.val / 8, t.val / 2 % 4] :=
  (by decide +kernel : ∀ t : Fin grid0.N, _)

/-- What one step multiplies of the first pair of arrays, at a place of the result block, -/
def part (c : Dev nD) (t : Fin cfg0.N) (y : S1024x512.Idx) : EReal :=
  ∑ k : Fin 2816, (show EReal from iblk m c 0 t (ix2 (y 0) k)) * (show EReal from iblk m c 2 t (ix2 k (y 1)))

/-- and of the second. -/
def part' (c : Dev nD) (t : Fin cfg0.N) (y : S1024x512.Idx) : EReal :=
  ∑ k : Fin 2816, (show EReal from iblk m c 1 t (ix2 (y 0) k)) * (show EReal from iblk m c 3 t (ix2 k (y 1)))

/-- The first step leaves its products in the accumulator, -/
theorem first (c : Dev nD) (t : Fin cfg0.N) (h : t.val % 2 = 0) (y : S1024x512.Idx) :
    (outsAt0 m c t.val t.isLt).2 y = part m c t y + part' m c t y := by
  rw [outsAt0_A m c t h (by omega)]; frame_out
  pointwise [k0_pay1, part, part']

/-- and the second step writes the accumulator and its own. -/
theorem last (c : Dev nD) (t u : Fin cfg0.N) (h : t.val % 2 = 1) (hu : u.val = t.val - 1) (y : S1024x512.Idx) :
    (outsAt0 m c t.val t.isLt).1 y = part m c u y + part' m c u y + (part m c t y + part' m c t y) := by
  rw [← first m c u (by omega)]
  obtain rfl : u = ⟨t.val - 1, Nat.lt_of_le_of_lt (Nat.sub_le _ _) t.isLt⟩ := Fin.ext hu
  rw [outsAt0_B m c t (by omega) h]; frame_out
  pointwise [k0_pay3, part, part']
  exact congrArg (fun p : EReal => p + _) (congrFun ((Memref.isWhole_whole cc0_scratch0).read_unread _) y)

/-- A step's product is a block of the whole one's sum, -/
theorem part_eq (c : Dev nD) (t : Fin cfg0.N) (n : ℕ) (hn : n = 2816 * (t.val % 2)) (y : S1024x512.Idx) (i : S4096x2048.Idx)
    (h0 : (i 0 : ℕ) = t.val / 8 * 1024 + (y 0 : ℕ)) (h1 : (i 1 : ℕ) = t.val / 2 % 4 * 512 + (y 1 : ℕ)) :
    part m c t y = ∑ k : Fin 2816, aA m c (ix2 (i 0) (⟨n + (k : ℕ), by omega⟩ : Fin 5632))
      * aB m c (ix2 (⟨n + (k : ℕ), by omega⟩ : Fin 5632) (i 1)) := by
  unfold part
  refine Finset.sum_congr rfl fun k _ => ?_
  refine congrArg₂ (fun p q : EReal => p * q) ?_ ?_
  · refine Eq.trans ?_ (congrFun (V_main_arg0 m c) _)
    blk_point [iblk, idx t]
  · refine Eq.trans ?_ (congrFun (V_main_arg2 m c) _)
    blk_point [iblk, idx t]

/-- of either pair. -/
theorem part_eq' (c : Dev nD) (t : Fin cfg0.N) (n : ℕ) (hn : n = 2816 * (t.val % 2)) (y : S1024x512.Idx) (i : S4096x2048.Idx)
    (h0 : (i 0 : ℕ) = t.val / 8 * 1024 + (y 0 : ℕ)) (h1 : (i 1 : ℕ) = t.val / 2 % 4 * 512 + (y 1 : ℕ)) :
    part' m c t y = ∑ k : Fin 2816, aA' m c (ix2 (i 0) (⟨n + (k : ℕ), by omega⟩ : Fin 5632))
      * aB' m c (ix2 (⟨n + (k : ℕ), by omega⟩ : Fin 5632) (i 1)) := by
  unfold part'
  refine Finset.sum_congr rfl fun k _ => ?_
  refine congrArg₂ (fun p q : EReal => p * q) ?_ ?_
  · refine Eq.trans ?_ (congrFun (V_main_arg1 m c) _)
    blk_point [iblk, idx t]
  · refine Eq.trans ?_ (congrFun (V_main_arg3 m c) _)
    blk_point [iblk, idx t]

/-- Two blocks of a row against a column are the whole one. -/
theorem halves (A : FVec Ideal S4096x5632 .bf16) (B : FVec Ideal S5632x2048 .bf16) (i : S4096x2048.Idx) :
    (∑ k : Fin 2816, A (ix2 (i 0) (⟨0 + (k : ℕ), by omega⟩ : Fin 5632)) * B (ix2 (⟨0 + (k : ℕ), by omega⟩ : Fin 5632) (i 1)))
      + (∑ k : Fin 2816, A (ix2 (i 0) (⟨2816 + (k : ℕ), by omega⟩ : Fin 5632)) * B (ix2 (⟨2816 + (k : ℕ), by omega⟩ : Fin 5632) (i 1)))
      = dot A B i := by
  refine Eq.trans ?_ (Cert.BlockSum.two (n := 2816) (N := 5632) rfl fun k : Fin 5632 => A (ix2 (i 0) k) * B (ix2 k (i 1)))
  refine congrArg (fun p : EReal => p + _) (Finset.sum_congr rfl fun k _ => ?_)
  have e : (⟨0 + (k : ℕ), by omega⟩ : Fin 5632) = ⟨(k : ℕ), by omega⟩ := Fin.ext (Nat.zero_add _)
  rw [e]

/-- The two steps' products are the whole ones. -/
theorem whole (c : Dev nD) (t u : Fin cfg0.N) (h : t.val % 2 = 1) (hu : u.val = t.val - 1) (y : S1024x512.Idx) (i : S4096x2048.Idx)
    (h0 : (i 0 : ℕ) = t.val / 8 * 1024 + (y 0 : ℕ)) (h1 : (i 1 : ℕ) = t.val / 2 % 4 * 512 + (y 1 : ℕ)) :
    part m c u y + part' m c u y + (part m c t y + part' m c t y) = PROD (aA m c) (aA' m c) (aB m c) (aB' m c) i := by
  rw [add_add_add_comm, part_eq m c u 0 (by omega) y i (by omega) (by omega), part_eq m c t 2816 (by omega) y i h0 h1,
    part_eq' m c u 0 (by omega) y i (by omega) (by omega), part_eq' m c t 2816 (by omega) y i h0 h1, halves, halves]
  rfl

theorem prod (c : Dev nD) : (dats m 0 c).arrAt 4 cfg0.N = PROD (aA m c) (aA' m c) (aB m c) (aB' m c) := by
  refine (dats m 0 c).arrAt_eq_of_covers 4 _ (by decide +kernel) fun t hf y => ?_
  have hm : t.val % 2 = 1 := (flush0_4 t).mp hf
  have hu := Nat.lt_of_le_of_lt (Nat.sub_le t.val 1) t.isLt
  blk_simp
  rw [after0_4, last m c t ⟨t.val - 1, hu⟩ hm rfl]
  refine whole m c t ⟨t.val - 1, hu⟩ hm rfl y _ ?_ ?_
  all_goals (blk_simp [idx t] <;> try omega)

theorem ref (A A' : FVec Ideal S4096x5632 .bf16) (B B' : FVec Ideal S5632x2048 .bf16) :
    PROD A A' B B' = val_main_v7 (F := Ideal) A A' B B' := by
  funext y
  pointwise [PROD, dot, val_main_v7, val_main_v6, val_main_v5, val_main_v4, val_main_v3, val_main_v2, val_main_v1, val_main_v0]

/-- The kernel's run, its result in plain terms of its arguments. -/
theorem run : θ_run defs (onTc (τ := τ) (main (F := Ideal))) ⟨m, fun _ => 0, ρ⟩ (fun r => ∀ c : Dev nD,
      r.2.mem ((c.tc : Thread nD τ).loc main_v0) = PROD (aA m c) (aA' m c) (aB m c) (aB' m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.Kernel11Ideal.Value.run_blocks m ρ)
  obtain ⟨h0, hr⟩ := h c
  exact ⟨h0.trans (prod m c), hr⟩

theorem algebraic : Cert.algebraic_Kernel11Ideal_Reference11Ideal := by
  pair_intro
  · run_from Cert.Proof.Nn.run m g
  · run_from Cert.Reference11Ideal.Value.run m' g'
    rw [val_main_v7_eq]
    exact (ref _ _ _ _).symm

end Cert.Proof.Nn

end
-- ==== Proof.NtClaim.lean ====
/- The product `a bᵀ` against a weight, three steps to a result block: its result, and the claim that kernel and reference end with equal results. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.BlockSum
public import Idealize.ShloMosaic.Lib.Pipeline.ValueKit
public import Idealize.ShloMosaic.Lib.Pointwise
public import Idealize.ShloMosaic.Lib.Claim

@[expose] public section

set_option maxRecDepth 16384

noncomputable section

namespace Cert.Proof.Nt

open Idealize.ShloMosaic Idealize.ShloMosaic.TcCoe Idealize.SL.Sem
open Cert.Kernel12Ideal Cert.Kernel12Ideal.Gen
open Cert.Reference12Ideal.Read

/-- Row `i` of the first array against row `j` of the second. -/
def PROD (A : FVec Ideal S4096x6144 .bf16) (B : FVec Ideal S2048x6144 .bf16) : FVec Ideal S4096x2048 .bf16 :=
  fun y => ∑ k : Fin 6144, A (ix2 (y 0) k) * B (ix2 (y 1) k)

variable (m : (ℓ : Loc nD τ sig) → Buf (Elt Ideal) ℓ) (ρ : Dev nD → PrngReg)

abbrev aA (c : Dev nD) : FVec Ideal S4096x6144 .bf16 := m ((c.tc : Thread nD τ).loc main_arg0)
abbrev aB (c : Dev nD) : FVec Ideal S2048x6144 .bf16 := m ((c.tc : Thread nD τ).loc main_arg1)

theorem idx : ∀ t : Fin cfg0.N, win0_0.index t = ![t.val / 6, t.val % 3] ∧ win0_1.index t = ![t.val / 3 % 2, t.val % 3]
    ∧ win0_2.index t = ![t.val / 6, t.val / 3 % 2] :=
  (by decide +kernel : ∀ t : Fin grid0.N, _)

/-- What one step multiplies, at a place of the result block. -/
def part (c : Dev nD) (t : Fin cfg0.N) (y : S1024x1024.Idx) : EReal :=
  ∑ k : Fin 2048, (show EReal from iblk m c 0 t (ix2 (y 0) k)) * (show EReal from iblk m c 1 t (ix2 (y 1) k))

/-- The first step leaves its product in the accumulator, -/
theorem first (c : Dev nD) (t : Fin cfg0.N) (h : t.val % 3 = 0) (y : S1024x1024.Idx) :
    (outsAt0 m c t.val t.isLt).2 y = part m c t y := by
  rw [outsAt0_A m c t h (by omega) (by omega)]; frame_out
  pointwise [k0_pay1, part]

/-- the second adds its own to it, -/
theorem middle (c : Dev nD) (t u : Fin cfg0.N) (h : t.val % 3 = 1) (hu : u.val = t.val - 1) (y : S1024x1024.Idx) :
    (outsAt0 m c t.val t.isLt).2 y = part m c u y + part m c t y := by
  rw [← first m c u (by omega)]
  obtain rfl : u = ⟨t.val - 1, Nat.lt_of_le_of_lt (Nat.sub_le _ _) t.isLt⟩ := Fin.ext hu
  rw [outsAt0_B m c t (by omega) h (by omega)]; frame_out
  pointwise [k0_pay2, part]
  exact congrArg (fun p : EReal => p + _) (congrFun ((Memref.isWhole_whole cc0_scratch0).read_unread _) y)

/-- and the third writes the accumulator and its own. -/
theorem last (c : Dev nD) (t u v : Fin cfg0.N) (h : t.val % 3 = 2) (hu : u.val = t.val - 1) (hv : v.val = u.val - 1) (y : S1024x1024.Idx) :
    (outsAt0 m c t.val t.isLt).1 y = part m c v y + part m c u y + part m c t y := by
  rw [← middle m c u v (by omega) hv]
  obtain rfl : u = ⟨t.val - 1, Nat.lt_of_le_of_lt (Nat.sub_le _ _) t.isLt⟩ := Fin.ext hu
  rw [outsAt0_C m c t (by omega) (by omega) h]; frame_out
  pointwise [k0_pay3, part]
  exact congrArg (fun p : EReal => p + _) (congrFun ((Memref.isWhole_whole cc0_scratch0).read_unread _) y)

/-- A step's product is a block of the whole one's sum. -/
theorem part_eq (c : Dev nD) (t : Fin cfg0.N) (n : ℕ) (hn : n = 2048 * (t.val % 3)) (y : S1024x1024.Idx) (i : S4096x2048.Idx)
    (h0 : (i 0 : ℕ) = t.val / 6 * 1024 + (y 0 : ℕ)) (h1 : (i 1 : ℕ) = t.val / 3 % 2 * 1024 + (y 1 : ℕ)) :
    part m c t y = ∑ k : Fin 2048, aA m c (ix2 (i 0) (⟨n + (k : ℕ), by omega⟩ : Fin 6144))
      * aB m c (ix2 (i 1) (⟨n + (k : ℕ), by omega⟩ : Fin 6144)) := by
  unfold part
  refine Finset.sum_congr rfl fun k _ => ?_
  refine congrArg₂ (fun p q : EReal => p * q) ?_ ?_
  · refine Eq.trans ?_ (congrFun (V_main_arg0 m c) _)
    blk_point [iblk, idx t]
  · refine Eq.trans ?_ (congrFun (V_main_arg1 m c) _)
    blk_point [iblk, idx t]

/-- The three steps' products are the whole one. -/
theorem whole (c : Dev nD) (t u v : Fin cfg0.N) (h : t.val % 3 = 2) (hu : u.val = t.val - 1) (hv : v.val = u.val - 1)
    (y : S1024x1024.Idx) (i : S4096x2048.Idx)
    (h0 : (i 0 : ℕ) = t.val / 6 * 1024 + (y 0 : ℕ)) (h1 : (i 1 : ℕ) = t.val / 3 % 2 * 1024 + (y 1 : ℕ)) :
    part m c v y + part m c u y + part m c t y = PROD (aA m c) (aB m c) i := by
  rw [part_eq m c v 0 (by omega) y i (by omega) (by omega), part_eq m c u 2048 (by omega) y i (by omega) (by omega),
    part_eq m c t (2048 + 2048) (by omega) y i h0 h1]
  unfold PROD
  generalize aA m c = A
  generalize aB m c = B
  refine Eq.trans ?_ (Cert.BlockSum.three (n := 2048) (N := 6144) rfl fun k : Fin 6144 => A (ix2 (i 0) k) * B (ix2 (i 1) k))
  refine congrArg (fun p : EReal => p + _ + _) (Finset.sum_congr rfl fun k _ => ?_)
  have e : (⟨0 + (k : ℕ), by omega⟩ : Fin 6144) = ⟨(k : ℕ), by omega⟩ := Fin.ext (Nat.zero_add _)
  rw [e]

theorem prod (c : Dev nD) : (dats m 0 c).arrAt 2 cfg0.N = PROD (aA m c) (aB m c) := by
  refine (dats m 0 c).arrAt_eq_of_covers 2 _ (by decide +kernel) fun t hf y => ?_
  have hm : t.val % 3 = 2 := (flush0_2 t).mp hf
  have hu := Nat.lt_of_le_of_lt (Nat.sub_le t.val 1) t.isLt
  have hv := Nat.lt_of_le_of_lt (Nat.sub_le (t.val - 1) 1) hu
  blk_simp
  rw [after0_2, last m c t ⟨t.val - 1, hu⟩ ⟨t.val - 1 - 1, hv⟩ hm rfl rfl]
  refine whole m c t ⟨t.val - 1, hu⟩ ⟨t.val - 1 - 1, hv⟩ hm rfl rfl y _ ?_ ?_
  all_goals (blk_simp [idx t] <;> try omega)

theorem ref (A : FVec Ideal S4096x6144 .bf16) (B : FVec Ideal S2048x6144 .bf16) : PROD A B = val_main_v4 (F := Ideal) A B := by
  funext y
  pointwise [PROD, val_main_v4, val_main_v3, val_main_v2, val_main_v1, val_main_v0]

/-- The kernel's run, its result in plain terms of its arguments. -/
theorem run : θ_run defs (onTc (τ := τ) (main (F := Ideal))) ⟨m, fun _ => 0, ρ⟩ (fun r => ∀ c : Dev nD,
      r.2.mem ((c.tc : Thread nD τ).loc main_v0) = PROD (aA m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (Cert.Kernel12Ideal.Value.run_blocks m ρ)
  obtain ⟨h0, hr⟩ := h c
  exact ⟨h0.trans (prod m c), hr⟩

theorem algebraic : Cert.algebraic_Kernel12Ideal_Reference12Ideal := by
  pair_intro
  · run_from Cert.Proof.Nt.run m g
  · run_from Cert.Reference12Ideal.Value.run m' g'
    rw [val_main_v4_eq]
    exact (ref _ _).symm

end Cert.Proof.Nt

end
-- ==== Proof.TnClaim.lean ====
/- The product `aᵀ b` of a weight's gradient, two steps to a result block: its result, and the claim that kernel and reference end with equal results. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.BlockSum
public import Idealize.ShloMosaic.Lib.Pipeline.ValueKit
public import Idealize.ShloMosaic.Lib.Pointwise
public import Idealize.ShloMosaic.Lib.Claim

@[expose] public section

set_option maxRecDepth 16384

noncomputable section

namespace Cert.Proof.Tn

open Idealize.ShloMosaic Idealize.ShloMosaic.TcCoe Idealize.SL.Sem
open Cert.Kernel13Ideal Cert.Kernel13Ideal.Gen
open Cert.Reference13Ideal.Read

/-- Column `i` of the first array against column `j` of the second. -/
def PROD (A : FVec Ideal S4096x5632 .bf16) (B : FVec Ideal S4096x2048 .bf16) : FVec Ideal S5632x2048 .bf16 :=
  fun y => ∑ k : Fin 4096, A (ix2 k (y 0)) * B (ix2 k (y 1))

variable (m : (ℓ : Loc nD τ sig) → Buf (Elt Ideal) ℓ) (ρ : Dev nD → PrngReg)

abbrev aA (c : Dev nD) : FVec Ideal S4096x5632 .bf16 := m ((c.tc : Thread nD τ).loc main_arg0)
abbrev aB (c : Dev nD) : FVec Ideal S4096x2048 .bf16 := m ((c.tc : Thread nD τ).loc main_arg1)

theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- What one step multiplies, at a place of the result block. -/
def part (c : Dev nD) (t : Fin cfg0.N) (y : S1408x1024.Idx) : EReal :=
  ∑ k : Fin 2048, (show EReal from iblk m c 0 t (ix2 k (y 0))) * (show EReal from iblk m c 1 t (ix2 k (y 1)))

/-- The first step leaves its product in the accumulator, -/
theorem first (c : Dev nD) (t : Fin cfg0.N) (h : t.val % 2 = 0) (y : S1408x1024.Idx) :
    (outsAt0 m c t.val t.isLt).2 y = part m c t y := by
  rw [outsAt0_A m c t h (by omega)]; frame_out
  pointwise [k0_pay1, part]

/-- and the second step writes the accumulator and its own. -/
theorem last (c : Dev nD) (t u : Fin cfg0.N) (h : t.val % 2 = 1) (hu : u.val = t.val - 1) (y : S1408x1024.Idx) :
    (outsAt0 m c t.val t.isLt).1 y = part m c u y + part m c t y := by
  rw [← first m c u (by omega)]
  obtain rfl : u = ⟨t.val - 1, Nat.lt_of_le_of_lt (Nat.sub_le _ _) t.isLt⟩ := Fin.ext hu
  rw [outsAt0_B m c t (by omega) h]; frame_out
  pointwise [k0_pay3, part]
  exact congrArg (fun p : EReal => p + _) (congrFun ((Memref.isWhole_whole cc0_scratch0).read_unread _) y)

/-- A step's product is a block of the whole one's sum. -/
theorem part_eq (c : Dev nD) (t : Fin cfg0.N) (n : ℕ) (hn : n = t.val % 2) (y : S1408x1024.Idx) (i : S5632x2048.Idx)
    (h0 : (i 0 : ℕ) = t.val / 4 * 1408 + (y 0 : ℕ)) (h1 : (i 1 : ℕ) = t.val / 2 % 2 * 1024 + (y 1 : ℕ)) :
    part m c t y = ∑ k : Fin 2048, aA m c (ix2 (⟨2048 * n + (k : ℕ), by omega⟩ : Fin 4096) (i 0))
      * aB m c (ix2 (⟨2048 * n + (k : ℕ), by omega⟩ : Fin 4096) (i 1)) := by
  unfold part
  refine Finset.sum_congr rfl fun k _ => ?_
  refine congrArg₂ (fun p q : EReal => p * q) ?_ ?_
  · refine Eq.trans ?_ (congrFun (V_main_arg0 m c) _)
    blk_point [iblk, idx t]
  · refine Eq.trans ?_ (congrFun (V_main_arg1 m c) _)
    blk_point [iblk, idx t]

/-- The two steps' products are the whole one. -/
theorem whole (c : Dev nD) (t u : Fin cfg0.N) (h : t.val % 2 = 1) (hu : u.val = t.val - 1) (y : S1408x1024.Idx) (i : S5632x2048.Idx)
    (h0 : (i 0 : ℕ) = t.val / 4 * 1408 + (y 0 : ℕ)) (h1 : (i 1 : ℕ) = t.val / 2 % 2 * 1024 + (y 1 : ℕ)) :
    part m c u y + part m c t y = PROD (aA m c) (aB m c) i := by
  rw [part_eq m c u 0 (by omega) y i (by omega) (by omega), part_eq m c t 1 (by omega) y i h0 h1]
  unfold PROD
  generalize aA m c = A
  generalize aB m c = B
  refine Eq.trans ?_ (Cert.BlockSum.two (n := 2048) (N := 4096) rfl fun k : Fin 4096 => A (ix2 k (i 0)) * B (ix2 k (i 1)))
  refine congrArg (fun p : EReal => p + _) (Finset.sum_congr rfl fun k _ => ?_)
  have e : (⟨2048 * 0 + (k : ℕ), by omega⟩ : Fin 4096) = ⟨(k : ℕ), by omega⟩ := Fin.ext (by dsimp only; omega)
  rw [e]

theorem prod (c : Dev nD) : (dats m 0 c).arrAt 2 cfg0.N = PROD (aA m c) (aB m c) := by
  refine (dats m 0 c).arrAt_eq_of_covers 2 _ (by decide +kernel) fun t hf y => ?_
  have hm : t.val % 2 = 1 := (flush0_2 t).mp hf
  have hu := Nat.lt_of_le_of_lt (Nat.sub_le t.val 1) t.isLt
  blk_simp
  rw [after0_2, last m c t ⟨t.val - 1, hu⟩ hm rfl]
  refine whole m c t ⟨t.val - 1, hu⟩ hm rfl y _ ?_ ?_
  all_goals (blk_simp [idx t] <;> try omega)

theorem ref (A : FVec Ideal S4096x5632 .bf16) (B : FVec Ideal S4096x2048 .bf16) : PROD A B = val_main_v4 (F := Ideal) A B := by
  funext y
  pointwise [PROD, val_main_v4, val_main_v3, val_main_v2, val_main_v1, val_main_v0]

/-- The kernel's run, its result in plain terms of its arguments. -/
theorem run : θ_run defs (onTc (τ := τ) (main (F := Ideal))) ⟨m, fun _ => 0, ρ⟩ (fun r => ∀ c : Dev nD,
      r.2.mem ((c.tc : Thread nD τ).loc main_v0) = PROD (aA m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (Cert.Kernel13Ideal.Value.run_blocks m ρ)
  obtain ⟨h0, hr⟩ := h c
  exact ⟨h0.trans (prod m c), hr⟩

theorem algebraic : Cert.algebraic_Kernel13Ideal_Reference13Ideal := by
  pair_intro
  · run_from Cert.Proof.Tn.run m g
  · run_from Cert.Reference13Ideal.Value.run m' g'
    rw [val_main_v4_eq]
    exact (ref _ _).symm

end Cert.Proof.Tn

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Pre_finite6
public import proofs.«01_k».proof.Proof.Gen.Kernel7.Launch
public import proofs.«01_k».proof.Proof.Gen.Kernel7Ideal.Launch
public import proofs.«01_k».proof.Proof.Gen.Kernel7Ideal.Points
public import proofs.«01_k».proof.Proof.Gen.Kernel7Ideal.Skeleton
public import proofs.«01_k».proof.Proof.EvenRun
public import proofs.«01_k».proof.Proof.Gen.Reference7Ideal.Run
public import proofs.«01_k».proof.Proof.Gen.Reference7Ideal.Read
public import proofs.«01_k».proof.Proof.Gen.Pre_finite7
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Pre_finite10
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.FfnClaim
public import proofs.«01_k».proof.Proof.RmsClaim
public import proofs.«01_k».proof.Proof.LossClaim
public import proofs.«01_k».proof.Proof.OddClaim
public import proofs.«01_k».proof.Proof.ConvEClaim
public import proofs.«01_k».proof.Proof.PoolClaim
public import proofs.«01_k».proof.Proof.EvenClaim
public import proofs.«01_k».proof.Proof.RmsFClaim
public import proofs.«01_k».proof.Proof.ConvFClaim
public import proofs.«01_k».proof.Proof.PoolFClaim
public import proofs.«01_k».proof.Proof.NnClaim
public import proofs.«01_k».proof.Proof.NtClaim
public import proofs.«01_k».proof.Proof.TnClaim
public import Idealize.ShloMosaic.Lib.Claim

@[expose] public section

noncomputable section

namespace Cert.Proof

open Idealize.ShloMosaic Idealize.SL.Sem

theorem frame_kernel : Cert.quiescent_Kernel := fun m ρ _ => Cert.Kernel.Gen.frame m ρ
theorem frame_kernelIdeal : Cert.quiescent_KernelIdeal := fun m ρ _ => Cert.KernelIdeal.Gen.frame m ρ
theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ
theorem frame_reference2Ideal : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run m ρ)

theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_reference3Ideal : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run m ρ)

theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ
theorem frame_reference4Ideal : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run m ρ)

theorem frame_kernel5 : Cert.quiescent_Kernel5 := fun m ρ _ => Cert.Kernel5.Gen.frame m ρ
theorem frame_kernel5Ideal : Cert.quiescent_Kernel5Ideal := fun m ρ _ => Cert.Kernel5Ideal.Gen.frame m ρ
theorem frame_reference5Ideal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

theorem frame_kernel6 : Cert.quiescent_Kernel6 := fun m ρ _ => Cert.Kernel6.Gen.frame m ρ
theorem frame_kernel6Ideal : Cert.quiescent_Kernel6Ideal := fun m ρ _ => Cert.Kernel6Ideal.Gen.frame m ρ
theorem frame_reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem frame_kernel7Ideal : Cert.quiescent_Kernel7Ideal := fun m ρ _ => Cert.Kernel7Ideal.Even.frame (F := Ideal) m ρ
theorem frame_kernel7 : Cert.quiescent_Kernel7 := fun m ρ _ => by
  have h := Cert.Kernel7Ideal.Even.frame (F := Bits) m ρ
  refine Eq.mp ?_ h
  sl_kernel_rfl
theorem frame_reference7Ideal : Cert.quiescent_Reference7Ideal := fun m ρ _ =>
  (θ_run Cert.Reference7Ideal.defs _ _).mono (fun r h => ⟨fun c => (h c).2.2.2.2.2.2, sem_eq_zero_of_no_sems (by decide) r.2⟩)
    (Cert.Reference7Ideal.Value.run m ρ)

theorem frame_kernel8 : Cert.quiescent_Kernel8 := fun m ρ _ => Cert.Kernel8.Gen.frame m ρ
theorem frame_kernel8Ideal : Cert.quiescent_Kernel8Ideal := fun m ρ _ => Cert.Kernel8Ideal.Gen.frame m ρ
theorem frame_reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

theorem frame_kernel9 : Cert.quiescent_Kernel9 := fun m ρ _ => Cert.Kernel9.Gen.frame m ρ
theorem frame_kernel9Ideal : Cert.quiescent_Kernel9Ideal := fun m ρ _ => Cert.Kernel9Ideal.Gen.frame m ρ
theorem frame_reference9Ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem frame_kernel10 : Cert.quiescent_Kernel10 := fun m ρ _ => Cert.Kernel10.Gen.frame m ρ
theorem frame_kernel10Ideal : Cert.quiescent_Kernel10Ideal := fun m ρ _ => Cert.Kernel10Ideal.Gen.frame m ρ
theorem frame_reference10Ideal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem frame_kernel11 : Cert.quiescent_Kernel11 := fun m ρ _ => Cert.Kernel11.Gen.frame m ρ
theorem frame_kernel11Ideal : Cert.quiescent_Kernel11Ideal := fun m ρ _ => Cert.Kernel11Ideal.Gen.frame m ρ
theorem frame_reference11Ideal : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

theorem frame_kernel12 : Cert.quiescent_Kernel12 := fun m ρ _ => Cert.Kernel12.Gen.frame m ρ
theorem frame_kernel12Ideal : Cert.quiescent_Kernel12Ideal := fun m ρ _ => Cert.Kernel12Ideal.Gen.frame m ρ
theorem frame_reference12Ideal : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

theorem frame_kernel13 : Cert.quiescent_Kernel13 := fun m ρ _ => Cert.Kernel13.Gen.frame m ρ
theorem frame_kernel13Ideal : Cert.quiescent_Kernel13Ideal := fun m ρ _ => Cert.Kernel13Ideal.Gen.frame m ρ
theorem frame_reference13Ideal : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts, Cert.Kernel13.Gen.facts, Cert.Kernel13Ideal.Gen.facts,
    Cert.Reference13Ideal.Gen.facts, Cert.Pre_finite.Gen.facts, Cert.Pre_finite6.Gen.facts,
    Cert.Pre_finite7.Gen.facts, Cert.Pre_finite10.Gen.facts, frame_kernel, frame_kernelIdeal,
    fun m ρ _ => frame_kernelIdeal m ρ trivial, frame_referenceIdeal, fun m ρ _ => frame_referenceIdeal m ρ trivial,
    frame_kernel2, frame_kernel2Ideal, frame_reference2Ideal, frame_kernel3, frame_kernel3Ideal,
    frame_reference3Ideal, frame_kernel4, frame_kernel4Ideal, frame_reference4Ideal, frame_kernel5,
    frame_kernel5Ideal, frame_reference5Ideal, frame_kernel6, frame_kernel6Ideal,
    fun m ρ _ => frame_kernel6Ideal m ρ trivial, frame_reference6Ideal,
    fun m ρ _ => frame_reference6Ideal m ρ trivial, frame_kernel7, frame_kernel7Ideal,
    fun m ρ _ => frame_kernel7Ideal m ρ trivial, frame_reference7Ideal,
    fun m ρ _ => frame_reference7Ideal m ρ trivial, frame_kernel8, frame_kernel8Ideal, frame_reference8Ideal,
    frame_kernel9, frame_kernel9Ideal, frame_reference9Ideal, frame_kernel10, frame_kernel10Ideal,
    fun m ρ _ => frame_kernel10Ideal m ρ trivial, frame_reference10Ideal,
    fun m ρ _ => frame_reference10Ideal m ρ trivial, frame_kernel11, frame_kernel11Ideal, frame_reference11Ideal,
    frame_kernel12, frame_kernel12Ideal, frame_reference12Ideal, frame_kernel13, frame_kernel13Ideal,
    frame_reference13Ideal, trivial, Ffn.algebraic, trivial, Rms.algebraic, trivial, Loss.algebraic, trivial,
    Odd.algebraic, trivial, ConvE.algebraic, trivial, Pool.algebraic, trivial, Even.algebraic, trivial,
    RmsF.algebraic, trivial, ConvF.algebraic, trivial, PoolF.algebraic, trivial, Nn.algebraic, trivial, Nt.algebraic,
    trivial, Tn.algebraic⟩

end Cert.Proof

end
